-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2 = (fun _ => 1#1)

def Pre_In0 (m : (ℓ : Loc Cert.In0.nD Cert.In0.τ Cert.In0.sig) → Buf (Elt Bits) ℓ) : Prop :=
  True

def Pre_In0Ideal (m : (ℓ : Loc Cert.In0Ideal.nD Cert.In0Ideal.τ Cert.In0Ideal.sig) → Buf (Elt Ideal) ℓ) : Prop :=
  True

def Pre_In0RefIdeal (m : (ℓ : Loc Cert.In0RefIdeal.nD Cert.In0RefIdeal.τ Cert.In0RefIdeal.sig) → Buf (Elt Ideal) ℓ) : Prop :=
  True

def Pre_Mix0 (m : (ℓ : Loc Cert.Mix0.nD Cert.Mix0.τ Cert.Mix0.sig) → Buf (Elt Bits) ℓ) : Prop :=
  True

def Pre_Mix0Ideal (m : (ℓ : Loc Cert.Mix0Ideal.nD Cert.Mix0Ideal.τ Cert.Mix0Ideal.sig) → Buf (Elt Ideal) ℓ) : Prop :=
  True

def Pre_Mix0Ideal_finite_gates0 [hPre_finite_gates0 : Cert.Pre_finite_gates0.Facts] (m : (ℓ : Loc Cert.Mix0Ideal.nD Cert.Mix0Ideal.τ Cert.Mix0Ideal.sig) → Buf (Elt Ideal) ℓ) : Prop :=
  ∀ c : Dev Cert.Mix0Ideal.nD,
    (Cert.Pre_finite_gates0.fn (F := Ideal) (m ((c.tc : Thread Cert.Mix0Ideal.nD Cert.Mix0Ideal.τ).loc Cert.Mix0Ideal.main_arg0)) (m ((c.tc : Thread Cert.Mix0Ideal.nD Cert.Mix0Ideal.τ).loc Cert.Mix0Ideal.main_arg1)) (m ((c.tc : Thread Cert.Mix0Ideal.nD Cert.Mix0Ideal.τ).loc Cert.Mix0Ideal.main_arg2)) (m ((c.tc : Thread Cert.Mix0Ideal.nD Cert.Mix0Ideal.τ).loc Cert.Mix0Ideal.main_arg3)) (m ((c.tc : Thread Cert.Mix0Ideal.nD Cert.Mix0Ideal.τ).loc Cert.Mix0Ideal.main_arg4)) (m ((c.tc : Thread Cert.Mix0Ideal.nD Cert.Mix0Ideal.τ).loc Cert.Mix0Ideal.main_arg5)) (m ((c.tc : Thread Cert.Mix0Ideal.nD Cert.Mix0Ideal.τ).loc Cert.Mix0Ideal.main_arg6)) (m ((c.tc : Thread Cert.Mix0Ideal.nD Cert.Mix0Ideal.τ).loc Cert.Mix0Ideal.main_arg7))).1 = (fun _ => 1#1)
    ∧ (Cert.Pre_finite_gates0.fn (F := Ideal) (m ((c.tc : Thread Cert.Mix0Ideal.nD Cert.Mix0Ideal.τ).loc Cert.Mix0Ideal.main_arg0)) (m ((c.tc : Thread Cert.Mix0Ideal.nD Cert.Mix0Ideal.τ).loc Cert.Mix0Ideal.main_arg1)) (m ((c.tc : Thread Cert.Mix0Ideal.nD Cert.Mix0Ideal.τ).loc Cert.Mix0Ideal.main_arg2)) (m ((c.tc : Thread Cert.Mix0Ideal.nD Cert.Mix0Ideal.τ).loc Cert.Mix0Ideal.main_arg3)) (m ((c.tc : Thread Cert.Mix0Ideal.nD Cert.Mix0Ideal.τ).loc Cert.Mix0Ideal.main_arg4)) (m ((c.tc : Thread Cert.Mix0Ideal.nD Cert.Mix0Ideal.τ).loc Cert.Mix0Ideal.main_arg5)) (m ((c.tc : Thread Cert.Mix0Ideal.nD Cert.Mix0Ideal.τ).loc Cert.Mix0Ideal.main_arg6)) (m ((c.tc : Thread Cert.Mix0Ideal.nD Cert.Mix0Ideal.τ).loc Cert.Mix0Ideal.main_arg7))).2 = (fun _ => 1#1)

def Pre_Mix0RefIdeal (m : (ℓ : Loc Cert.Mix0RefIdeal.nD Cert.Mix0RefIdeal.τ Cert.Mix0RefIdeal.sig) → Buf (Elt Ideal) ℓ) : Prop :=
  True

def Pre_Mix0RefIdeal_finite_gates0 [hPre_finite_gates0 : Cert.Pre_finite_gates0.Facts] (m : (ℓ : Loc Cert.Mix0RefIdeal.nD Cert.Mix0RefIdeal.τ Cert.Mix0RefIdeal.sig) → Buf (Elt Ideal) ℓ) : Prop :=
  ∀ c : Dev Cert.Mix0RefIdeal.nD,
    (Cert.Pre_finite_gates0.fn (F := Ideal) (m ((c.tc : Thread Cert.Mix0RefIdeal.nD Cert.Mix0RefIdeal.τ).loc Cert.Mix0RefIdeal.main_arg0)) (m ((c.tc : Thread Cert.Mix0RefIdeal.nD Cert.Mix0RefIdeal.τ).loc Cert.Mix0RefIdeal.main_arg1)) (m ((c.tc : Thread Cert.Mix0RefIdeal.nD Cert.Mix0RefIdeal.τ).loc Cert.Mix0RefIdeal.main_arg2)) (m ((c.tc : Thread Cert.Mix0RefIdeal.nD Cert.Mix0RefIdeal.τ).loc Cert.Mix0RefIdeal.main_arg3)) (m ((c.tc : Thread Cert.Mix0RefIdeal.nD Cert.Mix0RefIdeal.τ).loc Cert.Mix0RefIdeal.main_arg4)) (m ((c.tc : Thread Cert.Mix0RefIdeal.nD Cert.Mix0RefIdeal.τ).loc Cert.Mix0RefIdeal.main_arg5)) (m ((c.tc : Thread Cert.Mix0RefIdeal.nD Cert.Mix0RefIdeal.τ).loc Cert.Mix0RefIdeal.main_arg6)) (m ((c.tc : Thread Cert.Mix0RefIdeal.nD Cert.Mix0RefIdeal.τ).loc Cert.Mix0RefIdeal.main_arg7))).1 = (fun _ => 1#1)
    ∧ (Cert.Pre_finite_gates0.fn (F := Ideal) (m ((c.tc : Thread Cert.Mix0RefIdeal.nD Cert.Mix0RefIdeal.τ).loc Cert.Mix0RefIdeal.main_arg0)) (m ((c.tc : Thread Cert.Mix0RefIdeal.nD Cert.Mix0RefIdeal.τ).loc Cert.Mix0RefIdeal.main_arg1)) (m ((c.tc : Thread Cert.Mix0RefIdeal.nD Cert.Mix0RefIdeal.τ).loc Cert.Mix0RefIdeal.main_arg2)) (m ((c.tc : Thread Cert.Mix0RefIdeal.nD Cert.Mix0RefIdeal.τ).loc Cert.Mix0RefIdeal.main_arg3)) (m ((c.tc : Thread Cert.Mix0RefIdeal.nD Cert.Mix0RefIdeal.τ).loc Cert.Mix0RefIdeal.main_arg4)) (m ((c.tc : Thread Cert.Mix0RefIdeal.nD Cert.Mix0RefIdeal.τ).loc Cert.Mix0RefIdeal.main_arg5)) (m ((c.tc : Thread Cert.Mix0RefIdeal.nD Cert.Mix0RefIdeal.τ).loc Cert.Mix0RefIdeal.main_arg6)) (m ((c.tc : Thread Cert.Mix0RefIdeal.nD Cert.Mix0RefIdeal.τ).loc Cert.Mix0RefIdeal.main_arg7))).2 = (fun _ => 1#1)

def Pre_Mix1 (m : (ℓ : Loc Cert.Mix1.nD Cert.Mix1.τ Cert.Mix1.sig) → Buf (Elt Bits) ℓ) : Prop :=
  True

def Pre_Mix1Ideal (m : (ℓ : Loc Cert.Mix1Ideal.nD Cert.Mix1Ideal.τ Cert.Mix1Ideal.sig) → Buf (Elt Ideal) ℓ) : Prop :=
  True

def Pre_Mix1Ideal_finite_gates1 [hPre_finite_gates1 : Cert.Pre_finite_gates1.Facts] (m : (ℓ : Loc Cert.Mix1Ideal.nD Cert.Mix1Ideal.τ Cert.Mix1Ideal.sig) → Buf (Elt Ideal) ℓ) : Prop :=
  ∀ c : Dev Cert.Mix1Ideal.nD,
    (Cert.Pre_finite_gates1.fn (F := Ideal) (m ((c.tc : Thread Cert.Mix1Ideal.nD Cert.Mix1Ideal.τ).loc Cert.Mix1Ideal.main_arg0)) (m ((c.tc : Thread Cert.Mix1Ideal.nD Cert.Mix1Ideal.τ).loc Cert.Mix1Ideal.main_arg1)) (m ((c.tc : Thread Cert.Mix1Ideal.nD Cert.Mix1Ideal.τ).loc Cert.Mix1Ideal.main_arg2)) (m ((c.tc : Thread Cert.Mix1Ideal.nD Cert.Mix1Ideal.τ).loc Cert.Mix1Ideal.main_arg3)) (m ((c.tc : Thread Cert.Mix1Ideal.nD Cert.Mix1Ideal.τ).loc Cert.Mix1Ideal.main_arg4)) (m ((c.tc : Thread Cert.Mix1Ideal.nD Cert.Mix1Ideal.τ).loc Cert.Mix1Ideal.main_arg5)) (m ((c.tc : Thread Cert.Mix1Ideal.nD Cert.Mix1Ideal.τ).loc Cert.Mix1Ideal.main_arg6)) (m ((c.tc : Thread Cert.Mix1Ideal.nD Cert.Mix1Ideal.τ).loc Cert.Mix1Ideal.main_arg7))).1 = (fun _ => 1#1)
    ∧ (Cert.Pre_finite_gates1.fn (F := Ideal) (m ((c.tc : Thread Cert.Mix1Ideal.nD Cert.Mix1Ideal.τ).loc Cert.Mix1Ideal.main_arg0)) (m ((c.tc : Thread Cert.Mix1Ideal.nD Cert.Mix1Ideal.τ).loc Cert.Mix1Ideal.main_arg1)) (m ((c.tc : Thread Cert.Mix1Ideal.nD Cert.Mix1Ideal.τ).loc Cert.Mix1Ideal.main_arg2)) (m ((c.tc : Thread Cert.Mix1Ideal.nD Cert.Mix1Ideal.τ).loc Cert.Mix1Ideal.main_arg3)) (m ((c.tc : Thread Cert.Mix1Ideal.nD Cert.Mix1Ideal.τ).loc Cert.Mix1Ideal.main_arg4)) (m ((c.tc : Thread Cert.Mix1Ideal.nD Cert.Mix1Ideal.τ).loc Cert.Mix1Ideal.main_arg5)) (m ((c.tc : Thread Cert.Mix1Ideal.nD Cert.Mix1Ideal.τ).loc Cert.Mix1Ideal.main_arg6)) (m ((c.tc : Thread Cert.Mix1Ideal.nD Cert.Mix1Ideal.τ).loc Cert.Mix1Ideal.main_arg7))).2 = (fun _ => 1#1)

def Pre_Mix1RefIdeal (m : (ℓ : Loc Cert.Mix1RefIdeal.nD Cert.Mix1RefIdeal.τ Cert.Mix1RefIdeal.sig) → Buf (Elt Ideal) ℓ) : Prop :=
  True

def Pre_Mix1RefIdeal_finite_gates1 [hPre_finite_gates1 : Cert.Pre_finite_gates1.Facts] (m : (ℓ : Loc Cert.Mix1RefIdeal.nD Cert.Mix1RefIdeal.τ Cert.Mix1RefIdeal.sig) → Buf (Elt Ideal) ℓ) : Prop :=
  ∀ c : Dev Cert.Mix1RefIdeal.nD,
    (Cert.Pre_finite_gates1.fn (F := Ideal) (m ((c.tc : Thread Cert.Mix1RefIdeal.nD Cert.Mix1RefIdeal.τ).loc Cert.Mix1RefIdeal.main_arg0)) (m ((c.tc : Thread Cert.Mix1RefIdeal.nD Cert.Mix1RefIdeal.τ).loc Cert.Mix1RefIdeal.main_arg1)) (m ((c.tc : Thread Cert.Mix1RefIdeal.nD Cert.Mix1RefIdeal.τ).loc Cert.Mix1RefIdeal.main_arg2)) (m ((c.tc : Thread Cert.Mix1RefIdeal.nD Cert.Mix1RefIdeal.τ).loc Cert.Mix1RefIdeal.main_arg3)) (m ((c.tc : Thread Cert.Mix1RefIdeal.nD Cert.Mix1RefIdeal.τ).loc Cert.Mix1RefIdeal.main_arg4)) (m ((c.tc : Thread Cert.Mix1RefIdeal.nD Cert.Mix1RefIdeal.τ).loc Cert.Mix1RefIdeal.main_arg5)) (m ((c.tc : Thread Cert.Mix1RefIdeal.nD Cert.Mix1RefIdeal.τ).loc Cert.Mix1RefIdeal.main_arg6)) (m ((c.tc : Thread Cert.Mix1RefIdeal.nD Cert.Mix1RefIdeal.τ).loc Cert.Mix1RefIdeal.main_arg7))).1 = (fun _ => 1#1)
    ∧ (Cert.Pre_finite_gates1.fn (F := Ideal) (m ((c.tc : Thread Cert.Mix1RefIdeal.nD Cert.Mix1RefIdeal.τ).loc Cert.Mix1RefIdeal.main_arg0)) (m ((c.tc : Thread Cert.Mix1RefIdeal.nD Cert.Mix1RefIdeal.τ).loc Cert.Mix1RefIdeal.main_arg1)) (m ((c.tc : Thread Cert.Mix1RefIdeal.nD Cert.Mix1RefIdeal.τ).loc Cert.Mix1RefIdeal.main_arg2)) (m ((c.tc : Thread Cert.Mix1RefIdeal.nD Cert.Mix1RefIdeal.τ).loc Cert.Mix1RefIdeal.main_arg3)) (m ((c.tc : Thread Cert.Mix1RefIdeal.nD Cert.Mix1RefIdeal.τ).loc Cert.Mix1RefIdeal.main_arg4)) (m ((c.tc : Thread Cert.Mix1RefIdeal.nD Cert.Mix1RefIdeal.τ).loc Cert.Mix1RefIdeal.main_arg5)) (m ((c.tc : Thread Cert.Mix1RefIdeal.nD Cert.Mix1RefIdeal.τ).loc Cert.Mix1RefIdeal.main_arg6)) (m ((c.tc : Thread Cert.Mix1RefIdeal.nD Cert.Mix1RefIdeal.τ).loc Cert.Mix1RefIdeal.main_arg7))).2 = (fun _ => 1#1)

def Pre_RwIn (m : (ℓ : Loc Cert.RwIn.nD Cert.RwIn.τ Cert.RwIn.sig) → Buf (Elt Bits) ℓ) : Prop :=
  True

def Pre_RwInIdeal (m : (ℓ : Loc Cert.RwInIdeal.nD Cert.RwInIdeal.τ Cert.RwInIdeal.sig) → Buf (Elt Ideal) ℓ) : Prop :=
  True

def Pre_RwInRefIdeal (m : (ℓ : Loc Cert.RwInRefIdeal.nD Cert.RwInRefIdeal.τ Cert.RwInRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_In0 [hIn0 : Cert.In0.Facts] : Prop :=
  ∀ (m : (ℓ : Loc Cert.In0.nD Cert.In0.τ Cert.In0.sig) → Buf (Elt Bits) ℓ) (g : Dev Cert.In0.nD → PrngReg), Pre_In0 m →
    θ_run (Cert.In0.defs (F := Bits)) (onTc (τ := Cert.In0.τ) (Cert.In0.main (F := Bits))) ⟨m, fun _ => 0, g⟩ (fun r => (∀ c : Dev Cert.In0.nD,
      r.2.mem ((c.tc : Thread Cert.In0.nD Cert.In0.τ).loc Cert.In0.main_arg0) = m ((c.tc : Thread Cert.In0.nD Cert.In0.τ).loc Cert.In0.main_arg0)
      ∧ r.2.mem ((c.tc : Thread Cert.In0.nD Cert.In0.τ).loc Cert.In0.main_arg1) = m ((c.tc : Thread Cert.In0.nD Cert.In0.τ).loc Cert.In0.main_arg1)
      ∧ r.2.mem ((c.tc : Thread Cert.In0.nD Cert.In0.τ).loc Cert.In0.main_arg2) = m ((c.tc : Thread Cert.In0.nD Cert.In0.τ).loc Cert.In0.main_arg2))
      ∧ r.2.sem = fun _ => 0)

def quiescent_In0Ideal [hIn0Ideal : Cert.In0Ideal.Facts] : Prop :=
  ∀ (m : (ℓ : Loc Cert.In0Ideal.nD Cert.In0Ideal.τ Cert.In0Ideal.sig) → Buf (Elt Ideal) ℓ) (g : Dev Cert.In0Ideal.nD → PrngReg), Pre_In0Ideal m →
    θ_run (Cert.In0Ideal.defs (F := Ideal)) (onTc (τ := Cert.In0Ideal.τ) (Cert.In0Ideal.main (F := Ideal))) ⟨m, fun _ => 0, g⟩ (fun r => (∀ c : Dev Cert.In0Ideal.nD,
      r.2.mem ((c.tc : Thread Cert.In0Ideal.nD Cert.In0Ideal.τ).loc Cert.In0Ideal.main_arg0) = m ((c.tc : Thread Cert.In0Ideal.nD Cert.In0Ideal.τ).loc Cert.In0Ideal.main_arg0)
      ∧ r.2.mem ((c.tc : Thread Cert.In0Ideal.nD Cert.In0Ideal.τ).loc Cert.In0Ideal.main_arg1) = m ((c.tc : Thread Cert.In0Ideal.nD Cert.In0Ideal.τ).loc Cert.In0Ideal.main_arg1)
      ∧ r.2.mem ((c.tc : Thread Cert.In0Ideal.nD Cert.In0Ideal.τ).loc Cert.In0Ideal.main_arg2) = m ((c.tc : Thread Cert.In0Ideal.nD Cert.In0Ideal.τ).loc Cert.In0Ideal.main_arg2))
      ∧ r.2.sem = fun _ => 0)

def quiescent_In0RefIdeal [hIn0RefIdeal : Cert.In0RefIdeal.Facts] : Prop :=
  ∀ (m : (ℓ : Loc Cert.In0RefIdeal.nD Cert.In0RefIdeal.τ Cert.In0RefIdeal.sig) → Buf (Elt Ideal) ℓ) (g : Dev Cert.In0RefIdeal.nD → PrngReg), Pre_In0RefIdeal m →
    θ_run (Cert.In0RefIdeal.defs (F := Ideal)) (onTc (τ := Cert.In0RefIdeal.τ) (Cert.In0RefIdeal.main (F := Ideal))) ⟨m, fun _ => 0, g⟩ (fun r => (∀ c : Dev Cert.In0RefIdeal.nD,
      r.2.mem ((c.tc : Thread Cert.In0RefIdeal.nD Cert.In0RefIdeal.τ).loc Cert.In0RefIdeal.main_arg0) = m ((c.tc : Thread Cert.In0RefIdeal.nD Cert.In0RefIdeal.τ).loc Cert.In0RefIdeal.main_arg0)
      ∧ r.2.mem ((c.tc : Thread Cert.In0RefIdeal.nD Cert.In0RefIdeal.τ).loc Cert.In0RefIdeal.main_arg1) = m ((c.tc : Thread Cert.In0RefIdeal.nD Cert.In0RefIdeal.τ).loc Cert.In0RefIdeal.main_arg1)
      ∧ r.2.mem ((c.tc : Thread Cert.In0RefIdeal.nD Cert.In0RefIdeal.τ).loc Cert.In0RefIdeal.main_arg2) = m ((c.tc : Thread Cert.In0RefIdeal.nD Cert.In0RefIdeal.τ).loc Cert.In0RefIdeal.main_arg2))
      ∧ r.2.sem = fun _ => 0)

def quiescent_Mix0 [hMix0 : Cert.Mix0.Facts] : Prop :=
  ∀ (m : (ℓ : Loc Cert.Mix0.nD Cert.Mix0.τ Cert.Mix0.sig) → Buf (Elt Bits) ℓ) (g : Dev Cert.Mix0.nD → PrngReg), Pre_Mix0 m →
    θ_run (Cert.Mix0.defs (F := Bits)) (onTc (τ := Cert.Mix0.τ) (Cert.Mix0.main (F := Bits))) ⟨m, fun _ => 0, g⟩ (fun r => (∀ c : Dev Cert.Mix0.nD,
      r.2.mem ((c.tc : Thread Cert.Mix0.nD Cert.Mix0.τ).loc Cert.Mix0.main_arg0) = m ((c.tc : Thread Cert.Mix0.nD Cert.Mix0.τ).loc Cert.Mix0.main_arg0)
      ∧ r.2.mem ((c.tc : Thread Cert.Mix0.nD Cert.Mix0.τ).loc Cert.Mix0.main_arg1) = m ((c.tc : Thread Cert.Mix0.nD Cert.Mix0.τ).loc Cert.Mix0.main_arg1)
      ∧ r.2.mem ((c.tc : Thread Cert.Mix0.nD Cert.Mix0.τ).loc Cert.Mix0.main_arg2) = m ((c.tc : Thread Cert.Mix0.nD Cert.Mix0.τ).loc Cert.Mix0.main_arg2)
      ∧ r.2.mem ((c.tc : Thread Cert.Mix0.nD Cert.Mix0.τ).loc Cert.Mix0.main_arg3) = m ((c.tc : Thread Cert.Mix0.nD Cert.Mix0.τ).loc Cert.Mix0.main_arg3)
      ∧ r.2.mem ((c.tc : Thread Cert.Mix0.nD Cert.Mix0.τ).loc Cert.Mix0.main_arg4) = m ((c.tc : Thread Cert.Mix0.nD Cert.Mix0.τ).loc Cert.Mix0.main_arg4)
      ∧ r.2.mem ((c.tc : Thread Cert.Mix0.nD Cert.Mix0.τ).loc Cert.Mix0.main_arg5) = m ((c.tc : Thread Cert.Mix0.nD Cert.Mix0.τ).loc Cert.Mix0.main_arg5)
      ∧ r.2.mem ((c.tc : Thread Cert.Mix0.nD Cert.Mix0.τ).loc Cert.Mix0.main_arg6) = m ((c.tc : Thread Cert.Mix0.nD Cert.Mix0.τ).loc Cert.Mix0.main_arg6)
      ∧ r.2.mem ((c.tc : Thread Cert.Mix0.nD Cert.Mix0.τ).loc Cert.Mix0.main_arg7) = m ((c.tc : Thread Cert.Mix0.nD Cert.Mix0.τ).loc Cert.Mix0.main_arg7))
      ∧ r.2.sem = fun _ => 0)

def quiescent_Mix0Ideal [hMix0Ideal : Cert.Mix0Ideal.Facts] : Prop :=
  ∀ (m : (ℓ : Loc Cert.Mix0Ideal.nD Cert.Mix0Ideal.τ Cert.Mix0Ideal.sig) → Buf (Elt Ideal) ℓ) (g : Dev Cert.Mix0Ideal.nD → PrngReg), Pre_Mix0Ideal m →
    θ_run (Cert.Mix0Ideal.defs (F := Ideal)) (onTc (τ := Cert.Mix0Ideal.τ) (Cert.Mix0Ideal.main (F := Ideal))) ⟨m, fun _ => 0, g⟩ (fun r => (∀ c : Dev Cert.Mix0Ideal.nD,
      r.2.mem ((c.tc : Thread Cert.Mix0Ideal.nD Cert.Mix0Ideal.τ).loc Cert.Mix0Ideal.main_arg0) = m ((c.tc : Thread Cert.Mix0Ideal.nD Cert.Mix0Ideal.τ).loc Cert.Mix0Ideal.main_arg0)
      ∧ r.2.mem ((c.tc : Thread Cert.Mix0Ideal.nD Cert.Mix0Ideal.τ).loc Cert.Mix0Ideal.main_arg1) = m ((c.tc : Thread Cert.Mix0Ideal.nD Cert.Mix0Ideal.τ).loc Cert.Mix0Ideal.main_arg1)
      ∧ r.2.mem ((c.tc : Thread Cert.Mix0Ideal.nD Cert.Mix0Ideal.τ).loc Cert.Mix0Ideal.main_arg2) = m ((c.tc : Thread Cert.Mix0Ideal.nD Cert.Mix0Ideal.τ).loc Cert.Mix0Ideal.main_arg2)
      ∧ r.2.mem ((c.tc : Thread Cert.Mix0Ideal.nD Cert.Mix0Ideal.τ).loc Cert.Mix0Ideal.main_arg3) = m ((c.tc : Thread Cert.Mix0Ideal.nD Cert.Mix0Ideal.τ).loc Cert.Mix0Ideal.main_arg3)
      ∧ r.2.mem ((c.tc : Thread Cert.Mix0Ideal.nD Cert.Mix0Ideal.τ).loc Cert.Mix0Ideal.main_arg4) = m ((c.tc : Thread Cert.Mix0Ideal.nD Cert.Mix0Ideal.τ).loc Cert.Mix0Ideal.main_arg4)
      ∧ r.2.mem ((c.tc : Thread Cert.Mix0Ideal.nD Cert.Mix0Ideal.τ).loc Cert.Mix0Ideal.main_arg5) = m ((c.tc : Thread Cert.Mix0Ideal.nD Cert.Mix0Ideal.τ).loc Cert.Mix0Ideal.main_arg5)
      ∧ r.2.mem ((c.tc : Thread Cert.Mix0Ideal.nD Cert.Mix0Ideal.τ).loc Cert.Mix0Ideal.main_arg6) = m ((c.tc : Thread Cert.Mix0Ideal.nD Cert.Mix0Ideal.τ).loc Cert.Mix0Ideal.main_arg6)
      ∧ r.2.mem ((c.tc : Thread Cert.Mix0Ideal.nD Cert.Mix0Ideal.τ).loc Cert.Mix0Ideal.main_arg7) = m ((c.tc : Thread Cert.Mix0Ideal.nD Cert.Mix0Ideal.τ).loc Cert.Mix0Ideal.main_arg7))
      ∧ r.2.sem = fun _ => 0)

def quiescent_Mix0Ideal_pre_finite_gates0 [hMix0Ideal : Cert.Mix0Ideal.Facts] [hPre_finite_gates0 : Cert.Pre_finite_gates0.Facts] : Prop :=
  ∀ (m : (ℓ : Loc Cert.Mix0Ideal.nD Cert.Mix0Ideal.τ Cert.Mix0Ideal.sig) → Buf (Elt Ideal) ℓ) (g : Dev Cert.Mix0Ideal.nD → PrngReg), Pre_Mix0Ideal_finite_gates0 m →
    θ_run (Cert.Mix0Ideal.defs (F := Ideal)) (onTc (τ := Cert.Mix0Ideal.τ) (Cert.Mix0Ideal.main (F := Ideal))) ⟨m, fun _ => 0, g⟩ (fun r => (∀ c : Dev Cert.Mix0Ideal.nD,
      r.2.mem ((c.tc : Thread Cert.Mix0Ideal.nD Cert.Mix0Ideal.τ).loc Cert.Mix0Ideal.main_arg0) = m ((c.tc : Thread Cert.Mix0Ideal.nD Cert.Mix0Ideal.τ).loc Cert.Mix0Ideal.main_arg0)
      ∧ r.2.mem ((c.tc : Thread Cert.Mix0Ideal.nD Cert.Mix0Ideal.τ).loc Cert.Mix0Ideal.main_arg1) = m ((c.tc : Thread Cert.Mix0Ideal.nD Cert.Mix0Ideal.τ).loc Cert.Mix0Ideal.main_arg1)
      ∧ r.2.mem ((c.tc : Thread Cert.Mix0Ideal.nD Cert.Mix0Ideal.τ).loc Cert.Mix0Ideal.main_arg2) = m ((c.tc : Thread Cert.Mix0Ideal.nD Cert.Mix0Ideal.τ).loc Cert.Mix0Ideal.main_arg2)
      ∧ r.2.mem ((c.tc : Thread Cert.Mix0Ideal.nD Cert.Mix0Ideal.τ).loc Cert.Mix0Ideal.main_arg3) = m ((c.tc : Thread Cert.Mix0Ideal.nD Cert.Mix0Ideal.τ).loc Cert.Mix0Ideal.main_arg3)
      ∧ r.2.mem ((c.tc : Thread Cert.Mix0Ideal.nD Cert.Mix0Ideal.τ).loc Cert.Mix0Ideal.main_arg4) = m ((c.tc : Thread Cert.Mix0Ideal.nD Cert.Mix0Ideal.τ).loc Cert.Mix0Ideal.main_arg4)
      ∧ r.2.mem ((c.tc : Thread Cert.Mix0Ideal.nD Cert.Mix0Ideal.τ).loc Cert.Mix0Ideal.main_arg5) = m ((c.tc : Thread Cert.Mix0Ideal.nD Cert.Mix0Ideal.τ).loc Cert.Mix0Ideal.main_arg5)
      ∧ r.2.mem ((c.tc : Thread Cert.Mix0Ideal.nD Cert.Mix0Ideal.τ).loc Cert.Mix0Ideal.main_arg6) = m ((c.tc : Thread Cert.Mix0Ideal.nD Cert.Mix0Ideal.τ).loc Cert.Mix0Ideal.main_arg6)
      ∧ r.2.mem ((c.tc : Thread Cert.Mix0Ideal.nD Cert.Mix0Ideal.τ).loc Cert.Mix0Ideal.main_arg7) = m ((c.tc : Thread Cert.Mix0Ideal.nD Cert.Mix0Ideal.τ).loc Cert.Mix0Ideal.main_arg7))
      ∧ r.2.sem = fun _ => 0)

def quiescent_Mix0RefIdeal [hMix0RefIdeal : Cert.Mix0RefIdeal.Facts] : Prop :=
  ∀ (m : (ℓ : Loc Cert.Mix0RefIdeal.nD Cert.Mix0RefIdeal.τ Cert.Mix0RefIdeal.sig) → Buf (Elt Ideal) ℓ) (g : Dev Cert.Mix0RefIdeal.nD → PrngReg), Pre_Mix0RefIdeal m →
    θ_run (Cert.Mix0RefIdeal.defs (F := Ideal)) (onTc (τ := Cert.Mix0RefIdeal.τ) (Cert.Mix0RefIdeal.main (F := Ideal))) ⟨m, fun _ => 0, g⟩ (fun r => (∀ c : Dev Cert.Mix0RefIdeal.nD,
      r.2.mem ((c.tc : Thread Cert.Mix0RefIdeal.nD Cert.Mix0RefIdeal.τ).loc Cert.Mix0RefIdeal.main_arg0) = m ((c.tc : Thread Cert.Mix0RefIdeal.nD Cert.Mix0RefIdeal.τ).loc Cert.Mix0RefIdeal.main_arg0)
      ∧ r.2.mem ((c.tc : Thread Cert.Mix0RefIdeal.nD Cert.Mix0RefIdeal.τ).loc Cert.Mix0RefIdeal.main_arg1) = m ((c.tc : Thread Cert.Mix0RefIdeal.nD Cert.Mix0RefIdeal.τ).loc Cert.Mix0RefIdeal.main_arg1)
      ∧ r.2.mem ((c.tc : Thread Cert.Mix0RefIdeal.nD Cert.Mix0RefIdeal.τ).loc Cert.Mix0RefIdeal.main_arg2) = m ((c.tc : Thread Cert.Mix0RefIdeal.nD Cert.Mix0RefIdeal.τ).loc Cert.Mix0RefIdeal.main_arg2)
      ∧ r.2.mem ((c.tc : Thread Cert.Mix0RefIdeal.nD Cert.Mix0RefIdeal.τ).loc Cert.Mix0RefIdeal.main_arg3) = m ((c.tc : Thread Cert.Mix0RefIdeal.nD Cert.Mix0RefIdeal.τ).loc Cert.Mix0RefIdeal.main_arg3)
      ∧ r.2.mem ((c.tc : Thread Cert.Mix0RefIdeal.nD Cert.Mix0RefIdeal.τ).loc Cert.Mix0RefIdeal.main_arg4) = m ((c.tc : Thread Cert.Mix0RefIdeal.nD Cert.Mix0RefIdeal.τ).loc Cert.Mix0RefIdeal.main_arg4)
      ∧ r.2.mem ((c.tc : Thread Cert.Mix0RefIdeal.nD Cert.Mix0RefIdeal.τ).loc Cert.Mix0RefIdeal.main_arg5) = m ((c.tc : Thread Cert.Mix0RefIdeal.nD Cert.Mix0RefIdeal.τ).loc Cert.Mix0RefIdeal.main_arg5)
      ∧ r.2.mem ((c.tc : Thread Cert.Mix0RefIdeal.nD Cert.Mix0RefIdeal.τ).loc Cert.Mix0RefIdeal.main_arg6) = m ((c.tc : Thread Cert.Mix0RefIdeal.nD Cert.Mix0RefIdeal.τ).loc Cert.Mix0RefIdeal.main_arg6)
      ∧ r.2.mem ((c.tc : Thread Cert.Mix0RefIdeal.nD Cert.Mix0RefIdeal.τ).loc Cert.Mix0RefIdeal.main_arg7) = m ((c.tc : Thread Cert.Mix0RefIdeal.nD Cert.Mix0RefIdeal.τ).loc Cert.Mix0RefIdeal.main_arg7))
      ∧ r.2.sem = fun _ => 0)

def quiescent_Mix0RefIdeal_pre_finite_gates0 [hMix0RefIdeal : Cert.Mix0RefIdeal.Facts] [hPre_finite_gates0 : Cert.Pre_finite_gates0.Facts] : Prop :=
  ∀ (m : (ℓ : Loc Cert.Mix0RefIdeal.nD Cert.Mix0RefIdeal.τ Cert.Mix0RefIdeal.sig) → Buf (Elt Ideal) ℓ) (g : Dev Cert.Mix0RefIdeal.nD → PrngReg), Pre_Mix0RefIdeal_finite_gates0 m →
    θ_run (Cert.Mix0RefIdeal.defs (F := Ideal)) (onTc (τ := Cert.Mix0RefIdeal.τ) (Cert.Mix0RefIdeal.main (F := Ideal))) ⟨m, fun _ => 0, g⟩ (fun r => (∀ c : Dev Cert.Mix0RefIdeal.nD,
      r.2.mem ((c.tc : Thread Cert.Mix0RefIdeal.nD Cert.Mix0RefIdeal.τ).loc Cert.Mix0RefIdeal.main_arg0) = m ((c.tc : Thread Cert.Mix0RefIdeal.nD Cert.Mix0RefIdeal.τ).loc Cert.Mix0RefIdeal.main_arg0)
      ∧ r.2.mem ((c.tc : Thread Cert.Mix0RefIdeal.nD Cert.Mix0RefIdeal.τ).loc Cert.Mix0RefIdeal.main_arg1) = m ((c.tc : Thread Cert.Mix0RefIdeal.nD Cert.Mix0RefIdeal.τ).loc Cert.Mix0RefIdeal.main_arg1)
      ∧ r.2.mem ((c.tc : Thread Cert.Mix0RefIdeal.nD Cert.Mix0RefIdeal.τ).loc Cert.Mix0RefIdeal.main_arg2) = m ((c.tc : Thread Cert.Mix0RefIdeal.nD Cert.Mix0RefIdeal.τ).loc Cert.Mix0RefIdeal.main_arg2)
      ∧ r.2.mem ((c.tc : Thread Cert.Mix0RefIdeal.nD Cert.Mix0RefIdeal.τ).loc Cert.Mix0RefIdeal.main_arg3) = m ((c.tc : Thread Cert.Mix0RefIdeal.nD Cert.Mix0RefIdeal.τ).loc Cert.Mix0RefIdeal.main_arg3)
      ∧ r.2.mem ((c.tc : Thread Cert.Mix0RefIdeal.nD Cert.Mix0RefIdeal.τ).loc Cert.Mix0RefIdeal.main_arg4) = m ((c.tc : Thread Cert.Mix0RefIdeal.nD Cert.Mix0RefIdeal.τ).loc Cert.Mix0RefIdeal.main_arg4)
      ∧ r.2.mem ((c.tc : Thread Cert.Mix0RefIdeal.nD Cert.Mix0RefIdeal.τ).loc Cert.Mix0RefIdeal.main_arg5) = m ((c.tc : Thread Cert.Mix0RefIdeal.nD Cert.Mix0RefIdeal.τ).loc Cert.Mix0RefIdeal.main_arg5)
      ∧ r.2.mem ((c.tc : Thread Cert.Mix0RefIdeal.nD Cert.Mix0RefIdeal.τ).loc Cert.Mix0RefIdeal.main_arg6) = m ((c.tc : Thread Cert.Mix0RefIdeal.nD Cert.Mix0RefIdeal.τ).loc Cert.Mix0RefIdeal.main_arg6)
      ∧ r.2.mem ((c.tc : Thread Cert.Mix0RefIdeal.nD Cert.Mix0RefIdeal.τ).loc Cert.Mix0RefIdeal.main_arg7) = m ((c.tc : Thread Cert.Mix0RefIdeal.nD Cert.Mix0RefIdeal.τ).loc Cert.Mix0RefIdeal.main_arg7))
      ∧ r.2.sem = fun _ => 0)

def quiescent_Mix1 [hMix1 : Cert.Mix1.Facts] : Prop :=
  ∀ (m : (ℓ : Loc Cert.Mix1.nD Cert.Mix1.τ Cert.Mix1.sig) → Buf (Elt Bits) ℓ) (g : Dev Cert.Mix1.nD → PrngReg), Pre_Mix1 m →
    θ_run (Cert.Mix1.defs (F := Bits)) (onTc (τ := Cert.Mix1.τ) (Cert.Mix1.main (F := Bits))) ⟨m, fun _ => 0, g⟩ (fun r => (∀ c : Dev Cert.Mix1.nD,
      r.2.mem ((c.tc : Thread Cert.Mix1.nD Cert.Mix1.τ).loc Cert.Mix1.main_arg0) = m ((c.tc : Thread Cert.Mix1.nD Cert.Mix1.τ).loc Cert.Mix1.main_arg0)
      ∧ r.2.mem ((c.tc : Thread Cert.Mix1.nD Cert.Mix1.τ).loc Cert.Mix1.main_arg1) = m ((c.tc : Thread Cert.Mix1.nD Cert.Mix1.τ).loc Cert.Mix1.main_arg1)
      ∧ r.2.mem ((c.tc : Thread Cert.Mix1.nD Cert.Mix1.τ).loc Cert.Mix1.main_arg2) = m ((c.tc : Thread Cert.Mix1.nD Cert.Mix1.τ).loc Cert.Mix1.main_arg2)
      ∧ r.2.mem ((c.tc : Thread Cert.Mix1.nD Cert.Mix1.τ).loc Cert.Mix1.main_arg3) = m ((c.tc : Thread Cert.Mix1.nD Cert.Mix1.τ).loc Cert.Mix1.main_arg3)
      ∧ r.2.mem ((c.tc : Thread Cert.Mix1.nD Cert.Mix1.τ).loc Cert.Mix1.main_arg4) = m ((c.tc : Thread Cert.Mix1.nD Cert.Mix1.τ).loc Cert.Mix1.main_arg4)
      ∧ r.2.mem ((c.tc : Thread Cert.Mix1.nD Cert.Mix1.τ).loc Cert.Mix1.main_arg5) = m ((c.tc : Thread Cert.Mix1.nD Cert.Mix1.τ).loc Cert.Mix1.main_arg5)
      ∧ r.2.mem ((c.tc : Thread Cert.Mix1.nD Cert.Mix1.τ).loc Cert.Mix1.main_arg6) = m ((c.tc : Thread Cert.Mix1.nD Cert.Mix1.τ).loc Cert.Mix1.main_arg6)
      ∧ r.2.mem ((c.tc : Thread Cert.Mix1.nD Cert.Mix1.τ).loc Cert.Mix1.main_arg7) = m ((c.tc : Thread Cert.Mix1.nD Cert.Mix1.τ).loc Cert.Mix1.main_arg7))
      ∧ r.2.sem = fun _ => 0)

def quiescent_Mix1Ideal [hMix1Ideal : Cert.Mix1Ideal.Facts] : Prop :=
  ∀ (m : (ℓ : Loc Cert.Mix1Ideal.nD Cert.Mix1Ideal.τ Cert.Mix1Ideal.sig) → Buf (Elt Ideal) ℓ) (g : Dev Cert.Mix1Ideal.nD → PrngReg), Pre_Mix1Ideal m →
    θ_run (Cert.Mix1Ideal.defs (F := Ideal)) (onTc (τ := Cert.Mix1Ideal.τ) (Cert.Mix1Ideal.main (F := Ideal))) ⟨m, fun _ => 0, g⟩ (fun r => (∀ c : Dev Cert.Mix1Ideal.nD,
      r.2.mem ((c.tc : Thread Cert.Mix1Ideal.nD Cert.Mix1Ideal.τ).loc Cert.Mix1Ideal.main_arg0) = m ((c.tc : Thread Cert.Mix1Ideal.nD Cert.Mix1Ideal.τ).loc Cert.Mix1Ideal.main_arg0)
      ∧ r.2.mem ((c.tc : Thread Cert.Mix1Ideal.nD Cert.Mix1Ideal.τ).loc Cert.Mix1Ideal.main_arg1) = m ((c.tc : Thread Cert.Mix1Ideal.nD Cert.Mix1Ideal.τ).loc Cert.Mix1Ideal.main_arg1)
      ∧ r.2.mem ((c.tc : Thread Cert.Mix1Ideal.nD Cert.Mix1Ideal.τ).loc Cert.Mix1Ideal.main_arg2) = m ((c.tc : Thread Cert.Mix1Ideal.nD Cert.Mix1Ideal.τ).loc Cert.Mix1Ideal.main_arg2)
      ∧ r.2.mem ((c.tc : Thread Cert.Mix1Ideal.nD Cert.Mix1Ideal.τ).loc Cert.Mix1Ideal.main_arg3) = m ((c.tc : Thread Cert.Mix1Ideal.nD Cert.Mix1Ideal.τ).loc Cert.Mix1Ideal.main_arg3)
      ∧ r.2.mem ((c.tc : Thread Cert.Mix1Ideal.nD Cert.Mix1Ideal.τ).loc Cert.Mix1Ideal.main_arg4) = m ((c.tc : Thread Cert.Mix1Ideal.nD Cert.Mix1Ideal.τ).loc Cert.Mix1Ideal.main_arg4)
      ∧ r.2.mem ((c.tc : Thread Cert.Mix1Ideal.nD Cert.Mix1Ideal.τ).loc Cert.Mix1Ideal.main_arg5) = m ((c.tc : Thread Cert.Mix1Ideal.nD Cert.Mix1Ideal.τ).loc Cert.Mix1Ideal.main_arg5)
      ∧ r.2.mem ((c.tc : Thread Cert.Mix1Ideal.nD Cert.Mix1Ideal.τ).loc Cert.Mix1Ideal.main_arg6) = m ((c.tc : Thread Cert.Mix1Ideal.nD Cert.Mix1Ideal.τ).loc Cert.Mix1Ideal.main_arg6)
      ∧ r.2.mem ((c.tc : Thread Cert.Mix1Ideal.nD Cert.Mix1Ideal.τ).loc Cert.Mix1Ideal.main_arg7) = m ((c.tc : Thread Cert.Mix1Ideal.nD Cert.Mix1Ideal.τ).loc Cert.Mix1Ideal.main_arg7))
      ∧ r.2.sem = fun _ => 0)

def quiescent_Mix1Ideal_pre_finite_gates1 [hMix1Ideal : Cert.Mix1Ideal.Facts] [hPre_finite_gates1 : Cert.Pre_finite_gates1.Facts] : Prop :=
  ∀ (m : (ℓ : Loc Cert.Mix1Ideal.nD Cert.Mix1Ideal.τ Cert.Mix1Ideal.sig) → Buf (Elt Ideal) ℓ) (g : Dev Cert.Mix1Ideal.nD → PrngReg), Pre_Mix1Ideal_finite_gates1 m →
    θ_run (Cert.Mix1Ideal.defs (F := Ideal)) (onTc (τ := Cert.Mix1Ideal.τ) (Cert.Mix1Ideal.main (F := Ideal))) ⟨m, fun _ => 0, g⟩ (fun r => (∀ c : Dev Cert.Mix1Ideal.nD,
      r.2.mem ((c.tc : Thread Cert.Mix1Ideal.nD Cert.Mix1Ideal.τ).loc Cert.Mix1Ideal.main_arg0) = m ((c.tc : Thread Cert.Mix1Ideal.nD Cert.Mix1Ideal.τ).loc Cert.Mix1Ideal.main_arg0)
      ∧ r.2.mem ((c.tc : Thread Cert.Mix1Ideal.nD Cert.Mix1Ideal.τ).loc Cert.Mix1Ideal.main_arg1) = m ((c.tc : Thread Cert.Mix1Ideal.nD Cert.Mix1Ideal.τ).loc Cert.Mix1Ideal.main_arg1)
      ∧ r.2.mem ((c.tc : Thread Cert.Mix1Ideal.nD Cert.Mix1Ideal.τ).loc Cert.Mix1Ideal.main_arg2) = m ((c.tc : Thread Cert.Mix1Ideal.nD Cert.Mix1Ideal.τ).loc Cert.Mix1Ideal.main_arg2)
      ∧ r.2.mem ((c.tc : Thread Cert.Mix1Ideal.nD Cert.Mix1Ideal.τ).loc Cert.Mix1Ideal.main_arg3) = m ((c.tc : Thread Cert.Mix1Ideal.nD Cert.Mix1Ideal.τ).loc Cert.Mix1Ideal.main_arg3)
      ∧ r.2.mem ((c.tc : Thread Cert.Mix1Ideal.nD Cert.Mix1Ideal.τ).loc Cert.Mix1Ideal.main_arg4) = m ((c.tc : Thread Cert.Mix1Ideal.nD Cert.Mix1Ideal.τ).loc Cert.Mix1Ideal.main_arg4)
      ∧ r.2.mem ((c.tc : Thread Cert.Mix1Ideal.nD Cert.Mix1Ideal.τ).loc Cert.Mix1Ideal.main_arg5) = m ((c.tc : Thread Cert.Mix1Ideal.nD Cert.Mix1Ideal.τ).loc Cert.Mix1Ideal.main_arg5)
      ∧ r.2.mem ((c.tc : Thread Cert.Mix1Ideal.nD Cert.Mix1Ideal.τ).loc Cert.Mix1Ideal.main_arg6) = m ((c.tc : Thread Cert.Mix1Ideal.nD Cert.Mix1Ideal.τ).loc Cert.Mix1Ideal.main_arg6)
      ∧ r.2.mem ((c.tc : Thread Cert.Mix1Ideal.nD Cert.Mix1Ideal.τ).loc Cert.Mix1Ideal.main_arg7) = m ((c.tc : Thread Cert.Mix1Ideal.nD Cert.Mix1Ideal.τ).loc Cert.Mix1Ideal.main_arg7))
      ∧ r.2.sem = fun _ => 0)

def quiescent_Mix1RefIdeal [hMix1RefIdeal : Cert.Mix1RefIdeal.Facts] : Prop :=
  ∀ (m : (ℓ : Loc Cert.Mix1RefIdeal.nD Cert.Mix1RefIdeal.τ Cert.Mix1RefIdeal.sig) → Buf (Elt Ideal) ℓ) (g : Dev Cert.Mix1RefIdeal.nD → PrngReg), Pre_Mix1RefIdeal m →
    θ_run (Cert.Mix1RefIdeal.defs (F := Ideal)) (onTc (τ := Cert.Mix1RefIdeal.τ) (Cert.Mix1RefIdeal.main (F := Ideal))) ⟨m, fun _ => 0, g⟩ (fun r => (∀ c : Dev Cert.Mix1RefIdeal.nD,
      r.2.mem ((c.tc : Thread Cert.Mix1RefIdeal.nD Cert.Mix1RefIdeal.τ).loc Cert.Mix1RefIdeal.main_arg0) = m ((c.tc : Thread Cert.Mix1RefIdeal.nD Cert.Mix1RefIdeal.τ).loc Cert.Mix1RefIdeal.main_arg0)
      ∧ r.2.mem ((c.tc : Thread Cert.Mix1RefIdeal.nD Cert.Mix1RefIdeal.τ).loc Cert.Mix1RefIdeal.main_arg1) = m ((c.tc : Thread Cert.Mix1RefIdeal.nD Cert.Mix1RefIdeal.τ).loc Cert.Mix1RefIdeal.main_arg1)
      ∧ r.2.mem ((c.tc : Thread Cert.Mix1RefIdeal.nD Cert.Mix1RefIdeal.τ).loc Cert.Mix1RefIdeal.main_arg2) = m ((c.tc : Thread Cert.Mix1RefIdeal.nD Cert.Mix1RefIdeal.τ).loc Cert.Mix1RefIdeal.main_arg2)
      ∧ r.2.mem ((c.tc : Thread Cert.Mix1RefIdeal.nD Cert.Mix1RefIdeal.τ).loc Cert.Mix1RefIdeal.main_arg3) = m ((c.tc : Thread Cert.Mix1RefIdeal.nD Cert.Mix1RefIdeal.τ).loc Cert.Mix1RefIdeal.main_arg3)
      ∧ r.2.mem ((c.tc : Thread Cert.Mix1RefIdeal.nD Cert.Mix1RefIdeal.τ).loc Cert.Mix1RefIdeal.main_arg4) = m ((c.tc : Thread Cert.Mix1RefIdeal.nD Cert.Mix1RefIdeal.τ).loc Cert.Mix1RefIdeal.main_arg4)
      ∧ r.2.mem ((c.tc : Thread Cert.Mix1RefIdeal.nD Cert.Mix1RefIdeal.τ).loc Cert.Mix1RefIdeal.main_arg5) = m ((c.tc : Thread Cert.Mix1RefIdeal.nD Cert.Mix1RefIdeal.τ).loc Cert.Mix1RefIdeal.main_arg5)
      ∧ r.2.mem ((c.tc : Thread Cert.Mix1RefIdeal.nD Cert.Mix1RefIdeal.τ).loc Cert.Mix1RefIdeal.main_arg6) = m ((c.tc : Thread Cert.Mix1RefIdeal.nD Cert.Mix1RefIdeal.τ).loc Cert.Mix1RefIdeal.main_arg6)
      ∧ r.2.mem ((c.tc : Thread Cert.Mix1RefIdeal.nD Cert.Mix1RefIdeal.τ).loc Cert.Mix1RefIdeal.main_arg7) = m ((c.tc : Thread Cert.Mix1RefIdeal.nD Cert.Mix1RefIdeal.τ).loc Cert.Mix1RefIdeal.main_arg7))
      ∧ r.2.sem = fun _ => 0)

def quiescent_Mix1RefIdeal_pre_finite_gates1 [hMix1RefIdeal : Cert.Mix1RefIdeal.Facts] [hPre_finite_gates1 : Cert.Pre_finite_gates1.Facts] : Prop :=
  ∀ (m : (ℓ : Loc Cert.Mix1RefIdeal.nD Cert.Mix1RefIdeal.τ Cert.Mix1RefIdeal.sig) → Buf (Elt Ideal) ℓ) (g : Dev Cert.Mix1RefIdeal.nD → PrngReg), Pre_Mix1RefIdeal_finite_gates1 m →
    θ_run (Cert.Mix1RefIdeal.defs (F := Ideal)) (onTc (τ := Cert.Mix1RefIdeal.τ) (Cert.Mix1RefIdeal.main (F := Ideal))) ⟨m, fun _ => 0, g⟩ (fun r => (∀ c : Dev Cert.Mix1RefIdeal.nD,
      r.2.mem ((c.tc : Thread Cert.Mix1RefIdeal.nD Cert.Mix1RefIdeal.τ).loc Cert.Mix1RefIdeal.main_arg0) = m ((c.tc : Thread Cert.Mix1RefIdeal.nD Cert.Mix1RefIdeal.τ).loc Cert.Mix1RefIdeal.main_arg0)
      ∧ r.2.mem ((c.tc : Thread Cert.Mix1RefIdeal.nD Cert.Mix1RefIdeal.τ).loc Cert.Mix1RefIdeal.main_arg1) = m ((c.tc : Thread Cert.Mix1RefIdeal.nD Cert.Mix1RefIdeal.τ).loc Cert.Mix1RefIdeal.main_arg1)
      ∧ r.2.mem ((c.tc : Thread Cert.Mix1RefIdeal.nD Cert.Mix1RefIdeal.τ).loc Cert.Mix1RefIdeal.main_arg2) = m ((c.tc : Thread Cert.Mix1RefIdeal.nD Cert.Mix1RefIdeal.τ).loc Cert.Mix1RefIdeal.main_arg2)
      ∧ r.2.mem ((c.tc : Thread Cert.Mix1RefIdeal.nD Cert.Mix1RefIdeal.τ).loc Cert.Mix1RefIdeal.main_arg3) = m ((c.tc : Thread Cert.Mix1RefIdeal.nD Cert.Mix1RefIdeal.τ).loc Cert.Mix1RefIdeal.main_arg3)
      ∧ r.2.mem ((c.tc : Thread Cert.Mix1RefIdeal.nD Cert.Mix1RefIdeal.τ).loc Cert.Mix1RefIdeal.main_arg4) = m ((c.tc : Thread Cert.Mix1RefIdeal.nD Cert.Mix1RefIdeal.τ).loc Cert.Mix1RefIdeal.main_arg4)
      ∧ r.2.mem ((c.tc : Thread Cert.Mix1RefIdeal.nD Cert.Mix1RefIdeal.τ).loc Cert.Mix1RefIdeal.main_arg5) = m ((c.tc : Thread Cert.Mix1RefIdeal.nD Cert.Mix1RefIdeal.τ).loc Cert.Mix1RefIdeal.main_arg5)
      ∧ r.2.mem ((c.tc : Thread Cert.Mix1RefIdeal.nD Cert.Mix1RefIdeal.τ).loc Cert.Mix1RefIdeal.main_arg6) = m ((c.tc : Thread Cert.Mix1RefIdeal.nD Cert.Mix1RefIdeal.τ).loc Cert.Mix1RefIdeal.main_arg6)
      ∧ r.2.mem ((c.tc : Thread Cert.Mix1RefIdeal.nD Cert.Mix1RefIdeal.τ).loc Cert.Mix1RefIdeal.main_arg7) = m ((c.tc : Thread Cert.Mix1RefIdeal.nD Cert.Mix1RefIdeal.τ).loc Cert.Mix1RefIdeal.main_arg7))
      ∧ r.2.sem = fun _ => 0)

def quiescent_RwIn [hRwIn : Cert.RwIn.Facts] : Prop :=
  ∀ (m : (ℓ : Loc Cert.RwIn.nD Cert.RwIn.τ Cert.RwIn.sig) → Buf (Elt Bits) ℓ) (g : Dev Cert.RwIn.nD → PrngReg), Pre_RwIn m →
    θ_run (Cert.RwIn.defs (F := Bits)) (onTc (τ := Cert.RwIn.τ) (Cert.RwIn.main (F := Bits))) ⟨m, fun _ => 0, g⟩ (fun r => (∀ c : Dev Cert.RwIn.nD,
      r.2.mem ((c.tc : Thread Cert.RwIn.nD Cert.RwIn.τ).loc Cert.RwIn.main_arg0) = m ((c.tc : Thread Cert.RwIn.nD Cert.RwIn.τ).loc Cert.RwIn.main_arg0)
      ∧ r.2.mem ((c.tc : Thread Cert.RwIn.nD Cert.RwIn.τ).loc Cert.RwIn.main_arg1) = m ((c.tc : Thread Cert.RwIn.nD Cert.RwIn.τ).loc Cert.RwIn.main_arg1)
      ∧ r.2.mem ((c.tc : Thread Cert.RwIn.nD Cert.RwIn.τ).loc Cert.RwIn.main_arg2) = m ((c.tc : Thread Cert.RwIn.nD Cert.RwIn.τ).loc Cert.RwIn.main_arg2)
      ∧ r.2.mem ((c.tc : Thread Cert.RwIn.nD Cert.RwIn.τ).loc Cert.RwIn.main_arg3) = m ((c.tc : Thread Cert.RwIn.nD Cert.RwIn.τ).loc Cert.RwIn.main_arg3)
      ∧ r.2.mem ((c.tc : Thread Cert.RwIn.nD Cert.RwIn.τ).loc Cert.RwIn.main_arg4) = m ((c.tc : Thread Cert.RwIn.nD Cert.RwIn.τ).loc Cert.RwIn.main_arg4)
      ∧ r.2.mem ((c.tc : Thread Cert.RwIn.nD Cert.RwIn.τ).loc Cert.RwIn.main_arg5) = m ((c.tc : Thread Cert.RwIn.nD Cert.RwIn.τ).loc Cert.RwIn.main_arg5)
      ∧ r.2.mem ((c.tc : Thread Cert.RwIn.nD Cert.RwIn.τ).loc Cert.RwIn.main_arg6) = m ((c.tc : Thread Cert.RwIn.nD Cert.RwIn.τ).loc Cert.RwIn.main_arg6)
      ∧ r.2.mem ((c.tc : Thread Cert.RwIn.nD Cert.RwIn.τ).loc Cert.RwIn.main_arg7) = m ((c.tc : Thread Cert.RwIn.nD Cert.RwIn.τ).loc Cert.RwIn.main_arg7)
      ∧ r.2.mem ((c.tc : Thread Cert.RwIn.nD Cert.RwIn.τ).loc Cert.RwIn.main_arg8) = m ((c.tc : Thread Cert.RwIn.nD Cert.RwIn.τ).loc Cert.RwIn.main_arg8)
      ∧ r.2.mem ((c.tc : Thread Cert.RwIn.nD Cert.RwIn.τ).loc Cert.RwIn.main_arg9) = m ((c.tc : Thread Cert.RwIn.nD Cert.RwIn.τ).loc Cert.RwIn.main_arg9)
      ∧ r.2.mem ((c.tc : Thread Cert.RwIn.nD Cert.RwIn.τ).loc Cert.RwIn.main_arg10) = m ((c.tc : Thread Cert.RwIn.nD Cert.RwIn.τ).loc Cert.RwIn.main_arg10)
      ∧ r.2.mem ((c.tc : Thread Cert.RwIn.nD Cert.RwIn.τ).loc Cert.RwIn.main_arg11) = m ((c.tc : Thread Cert.RwIn.nD Cert.RwIn.τ).loc Cert.RwIn.main_arg11)
      ∧ r.2.mem ((c.tc : Thread Cert.RwIn.nD Cert.RwIn.τ).loc Cert.RwIn.main_arg12) = m ((c.tc : Thread Cert.RwIn.nD Cert.RwIn.τ).loc Cert.RwIn.main_arg12)
      ∧ r.2.mem ((c.tc : Thread Cert.RwIn.nD Cert.RwIn.τ).loc Cert.RwIn.main_arg13) = m ((c.tc : Thread Cert.RwIn.nD Cert.RwIn.τ).loc Cert.RwIn.main_arg13)
      ∧ r.2.mem ((c.tc : Thread Cert.RwIn.nD Cert.RwIn.τ).loc Cert.RwIn.main_arg14) = m ((c.tc : Thread Cert.RwIn.nD Cert.RwIn.τ).loc Cert.RwIn.main_arg14)
      ∧ r.2.mem ((c.tc : Thread Cert.RwIn.nD Cert.RwIn.τ).loc Cert.RwIn.main_arg15) = m ((c.tc : Thread Cert.RwIn.nD Cert.RwIn.τ).loc Cert.RwIn.main_arg15))
      ∧ r.2.sem = fun _ => 0)

def quiescent_RwInIdeal [hRwInIdeal : Cert.RwInIdeal.Facts] : Prop :=
  ∀ (m : (ℓ : Loc Cert.RwInIdeal.nD Cert.RwInIdeal.τ Cert.RwInIdeal.sig) → Buf (Elt Ideal) ℓ) (g : Dev Cert.RwInIdeal.nD → PrngReg), Pre_RwInIdeal m →
    θ_run (Cert.RwInIdeal.defs (F := Ideal)) (onTc (τ := Cert.RwInIdeal.τ) (Cert.RwInIdeal.main (F := Ideal))) ⟨m, fun _ => 0, g⟩ (fun r => (∀ c : Dev Cert.RwInIdeal.nD,
      r.2.mem ((c.tc : Thread Cert.RwInIdeal.nD Cert.RwInIdeal.τ).loc Cert.RwInIdeal.main_arg0) = m ((c.tc : Thread Cert.RwInIdeal.nD Cert.RwInIdeal.τ).loc Cert.RwInIdeal.main_arg0)
      ∧ r.2.mem ((c.tc : Thread Cert.RwInIdeal.nD Cert.RwInIdeal.τ).loc Cert.RwInIdeal.main_arg1) = m ((c.tc : Thread Cert.RwInIdeal.nD Cert.RwInIdeal.τ).loc Cert.RwInIdeal.main_arg1)
      ∧ r.2.mem ((c.tc : Thread Cert.RwInIdeal.nD Cert.RwInIdeal.τ).loc Cert.RwInIdeal.main_arg2) = m ((c.tc : Thread Cert.RwInIdeal.nD Cert.RwInIdeal.τ).loc Cert.RwInIdeal.main_arg2)
      ∧ r.2.mem ((c.tc : Thread Cert.RwInIdeal.nD Cert.RwInIdeal.τ).loc Cert.RwInIdeal.main_arg3) = m ((c.tc : Thread Cert.RwInIdeal.nD Cert.RwInIdeal.τ).loc Cert.RwInIdeal.main_arg3)
      ∧ r.2.mem ((c.tc : Thread Cert.RwInIdeal.nD Cert.RwInIdeal.τ).loc Cert.RwInIdeal.main_arg4) = m ((c.tc : Thread Cert.RwInIdeal.nD Cert.RwInIdeal.τ).loc Cert.RwInIdeal.main_arg4)
      ∧ r.2.mem ((c.tc : Thread Cert.RwInIdeal.nD Cert.RwInIdeal.τ).loc Cert.RwInIdeal.main_arg5) = m ((c.tc : Thread Cert.RwInIdeal.nD Cert.RwInIdeal.τ).loc Cert.RwInIdeal.main_arg5)
      ∧ r.2.mem ((c.tc : Thread Cert.RwInIdeal.nD Cert.RwInIdeal.τ).loc Cert.RwInIdeal.main_arg6) = m ((c.tc : Thread Cert.RwInIdeal.nD Cert.RwInIdeal.τ).loc Cert.RwInIdeal.main_arg6)
      ∧ r.2.mem ((c.tc : Thread Cert.RwInIdeal.nD Cert.RwInIdeal.τ).loc Cert.RwInIdeal.main_arg7) = m ((c.tc : Thread Cert.RwInIdeal.nD Cert.RwInIdeal.τ).loc Cert.RwInIdeal.main_arg7)
      ∧ r.2.mem ((c.tc : Thread Cert.RwInIdeal.nD Cert.RwInIdeal.τ).loc Cert.RwInIdeal.main_arg8) = m ((c.tc : Thread Cert.RwInIdeal.nD Cert.RwInIdeal.τ).loc Cert.RwInIdeal.main_arg8)
      ∧ r.2.mem ((c.tc : Thread Cert.RwInIdeal.nD Cert.RwInIdeal.τ).loc Cert.RwInIdeal.main_arg9) = m ((c.tc : Thread Cert.RwInIdeal.nD Cert.RwInIdeal.τ).loc Cert.RwInIdeal.main_arg9)
      ∧ r.2.mem ((c.tc : Thread Cert.RwInIdeal.nD Cert.RwInIdeal.τ).loc Cert.RwInIdeal.main_arg10) = m ((c.tc : Thread Cert.RwInIdeal.nD Cert.RwInIdeal.τ).loc Cert.RwInIdeal.main_arg10)
      ∧ r.2.mem ((c.tc : Thread Cert.RwInIdeal.nD Cert.RwInIdeal.τ).loc Cert.RwInIdeal.main_arg11) = m ((c.tc : Thread Cert.RwInIdeal.nD Cert.RwInIdeal.τ).loc Cert.RwInIdeal.main_arg11)
      ∧ r.2.mem ((c.tc : Thread Cert.RwInIdeal.nD Cert.RwInIdeal.τ).loc Cert.RwInIdeal.main_arg12) = m ((c.tc : Thread Cert.RwInIdeal.nD Cert.RwInIdeal.τ).loc Cert.RwInIdeal.main_arg12)
      ∧ r.2.mem ((c.tc : Thread Cert.RwInIdeal.nD Cert.RwInIdeal.τ).loc Cert.RwInIdeal.main_arg13) = m ((c.tc : Thread Cert.RwInIdeal.nD Cert.RwInIdeal.τ).loc Cert.RwInIdeal.main_arg13)
      ∧ r.2.mem ((c.tc : Thread Cert.RwInIdeal.nD Cert.RwInIdeal.τ).loc Cert.RwInIdeal.main_arg14) = m ((c.tc : Thread Cert.RwInIdeal.nD Cert.RwInIdeal.τ).loc Cert.RwInIdeal.main_arg14)
      ∧ r.2.mem ((c.tc : Thread Cert.RwInIdeal.nD Cert.RwInIdeal.τ).loc Cert.RwInIdeal.main_arg15) = m ((c.tc : Thread Cert.RwInIdeal.nD Cert.RwInIdeal.τ).loc Cert.RwInIdeal.main_arg15))
      ∧ r.2.sem = fun _ => 0)

def quiescent_RwInRefIdeal [hRwInRefIdeal : Cert.RwInRefIdeal.Facts] : Prop :=
  ∀ (m : (ℓ : Loc Cert.RwInRefIdeal.nD Cert.RwInRefIdeal.τ Cert.RwInRefIdeal.sig) → Buf (Elt Ideal) ℓ) (g : Dev Cert.RwInRefIdeal.nD → PrngReg), Pre_RwInRefIdeal m →
    θ_run (Cert.RwInRefIdeal.defs (F := Ideal)) (onTc (τ := Cert.RwInRefIdeal.τ) (Cert.RwInRefIdeal.main (F := Ideal))) ⟨m, fun _ => 0, g⟩ (fun r => (∀ c : Dev Cert.RwInRefIdeal.nD,
      r.2.mem ((c.tc : Thread Cert.RwInRefIdeal.nD Cert.RwInRefIdeal.τ).loc Cert.RwInRefIdeal.main_arg0) = m ((c.tc : Thread Cert.RwInRefIdeal.nD Cert.RwInRefIdeal.τ).loc Cert.RwInRefIdeal.main_arg0)
      ∧ r.2.mem ((c.tc : Thread Cert.RwInRefIdeal.nD Cert.RwInRefIdeal.τ).loc Cert.RwInRefIdeal.main_arg1) = m ((c.tc : Thread Cert.RwInRefIdeal.nD Cert.RwInRefIdeal.τ).loc Cert.RwInRefIdeal.main_arg1)
      ∧ r.2.mem ((c.tc : Thread Cert.RwInRefIdeal.nD Cert.RwInRefIdeal.τ).loc Cert.RwInRefIdeal.main_arg2) = m ((c.tc : Thread Cert.RwInRefIdeal.nD Cert.RwInRefIdeal.τ).loc Cert.RwInRefIdeal.main_arg2)
      ∧ r.2.mem ((c.tc : Thread Cert.RwInRefIdeal.nD Cert.RwInRefIdeal.τ).loc Cert.RwInRefIdeal.main_arg3) = m ((c.tc : Thread Cert.RwInRefIdeal.nD Cert.RwInRefIdeal.τ).loc Cert.RwInRefIdeal.main_arg3)
      ∧ r.2.mem ((c.tc : Thread Cert.RwInRefIdeal.nD Cert.RwInRefIdeal.τ).loc Cert.RwInRefIdeal.main_arg4) = m ((c.tc : Thread Cert.RwInRefIdeal.nD Cert.RwInRefIdeal.τ).loc Cert.RwInRefIdeal.main_arg4)
      ∧ r.2.mem ((c.tc : Thread Cert.RwInRefIdeal.nD Cert.RwInRefIdeal.τ).loc Cert.RwInRefIdeal.main_arg5) = m ((c.tc : Thread Cert.RwInRefIdeal.nD Cert.RwInRefIdeal.τ).loc Cert.RwInRefIdeal.main_arg5)
      ∧ r.2.mem ((c.tc : Thread Cert.RwInRefIdeal.nD Cert.RwInRefIdeal.τ).loc Cert.RwInRefIdeal.main_arg6) = m ((c.tc : Thread Cert.RwInRefIdeal.nD Cert.RwInRefIdeal.τ).loc Cert.RwInRefIdeal.main_arg6)
      ∧ r.2.mem ((c.tc : Thread Cert.RwInRefIdeal.nD Cert.RwInRefIdeal.τ).loc Cert.RwInRefIdeal.main_arg7) = m ((c.tc : Thread Cert.RwInRefIdeal.nD Cert.RwInRefIdeal.τ).loc Cert.RwInRefIdeal.main_arg7)
      ∧ r.2.mem ((c.tc : Thread Cert.RwInRefIdeal.nD Cert.RwInRefIdeal.τ).loc Cert.RwInRefIdeal.main_arg8) = m ((c.tc : Thread Cert.RwInRefIdeal.nD Cert.RwInRefIdeal.τ).loc Cert.RwInRefIdeal.main_arg8)
      ∧ r.2.mem ((c.tc : Thread Cert.RwInRefIdeal.nD Cert.RwInRefIdeal.τ).loc Cert.RwInRefIdeal.main_arg9) = m ((c.tc : Thread Cert.RwInRefIdeal.nD Cert.RwInRefIdeal.τ).loc Cert.RwInRefIdeal.main_arg9)
      ∧ r.2.mem ((c.tc : Thread Cert.RwInRefIdeal.nD Cert.RwInRefIdeal.τ).loc Cert.RwInRefIdeal.main_arg10) = m ((c.tc : Thread Cert.RwInRefIdeal.nD Cert.RwInRefIdeal.τ).loc Cert.RwInRefIdeal.main_arg10)
      ∧ r.2.mem ((c.tc : Thread Cert.RwInRefIdeal.nD Cert.RwInRefIdeal.τ).loc Cert.RwInRefIdeal.main_arg11) = m ((c.tc : Thread Cert.RwInRefIdeal.nD Cert.RwInRefIdeal.τ).loc Cert.RwInRefIdeal.main_arg11)
      ∧ r.2.mem ((c.tc : Thread Cert.RwInRefIdeal.nD Cert.RwInRefIdeal.τ).loc Cert.RwInRefIdeal.main_arg12) = m ((c.tc : Thread Cert.RwInRefIdeal.nD Cert.RwInRefIdeal.τ).loc Cert.RwInRefIdeal.main_arg12)
      ∧ r.2.mem ((c.tc : Thread Cert.RwInRefIdeal.nD Cert.RwInRefIdeal.τ).loc Cert.RwInRefIdeal.main_arg13) = m ((c.tc : Thread Cert.RwInRefIdeal.nD Cert.RwInRefIdeal.τ).loc Cert.RwInRefIdeal.main_arg13)
      ∧ r.2.mem ((c.tc : Thread Cert.RwInRefIdeal.nD Cert.RwInRefIdeal.τ).loc Cert.RwInRefIdeal.main_arg14) = m ((c.tc : Thread Cert.RwInRefIdeal.nD Cert.RwInRefIdeal.τ).loc Cert.RwInRefIdeal.main_arg14)
      ∧ r.2.mem ((c.tc : Thread Cert.RwInRefIdeal.nD Cert.RwInRefIdeal.τ).loc Cert.RwInRefIdeal.main_arg15) = m ((c.tc : Thread Cert.RwInRefIdeal.nD Cert.RwInRefIdeal.τ).loc Cert.RwInRefIdeal.main_arg15))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_In0_In0Ideal : Prop :=
  True

def algebraic_In0Ideal_In0RefIdeal [hIn0Ideal : Cert.In0Ideal.Facts] [hIn0RefIdeal : Cert.In0RefIdeal.Facts] : Prop :=
  ∀ (m : (ℓ : Loc Cert.In0Ideal.nD Cert.In0Ideal.τ Cert.In0Ideal.sig) → Buf (Elt Ideal) ℓ) (g : Dev Cert.In0Ideal.nD → PrngReg)
    (m' : (ℓ : Loc Cert.In0RefIdeal.nD Cert.In0RefIdeal.τ Cert.In0RefIdeal.sig) → Buf (Elt Ideal) ℓ) (g' : Dev Cert.In0RefIdeal.nD → PrngReg), Pre_In0Ideal m →
    (∀ c : Dev Cert.In0Ideal.nD,
      m' ((c.tc : Thread Cert.In0RefIdeal.nD Cert.In0RefIdeal.τ).loc Cert.In0RefIdeal.main_arg0) = m ((c.tc : Thread Cert.In0Ideal.nD Cert.In0Ideal.τ).loc Cert.In0Ideal.main_arg0)
      ∧ m' ((c.tc : Thread Cert.In0RefIdeal.nD Cert.In0RefIdeal.τ).loc Cert.In0RefIdeal.main_arg1) = m ((c.tc : Thread Cert.In0Ideal.nD Cert.In0Ideal.τ).loc Cert.In0Ideal.main_arg1)
      ∧ m' ((c.tc : Thread Cert.In0RefIdeal.nD Cert.In0RefIdeal.τ).loc Cert.In0RefIdeal.main_arg2) = m ((c.tc : Thread Cert.In0Ideal.nD Cert.In0Ideal.τ).loc Cert.In0Ideal.main_arg2)) →
    ∃ (v0 : (c : Dev Cert.In0Ideal.nD) → Buf (Elt Ideal) ((c.tc : Thread Cert.In0Ideal.nD Cert.In0Ideal.τ).loc Cert.In0Ideal.main_v10_0)) (v1 : (c : Dev Cert.In0Ideal.nD) → Buf (Elt Ideal) ((c.tc : Thread Cert.In0Ideal.nD Cert.In0Ideal.τ).loc Cert.In0Ideal.main_v10_1)) (v2 : (c : Dev Cert.In0Ideal.nD) → Buf (Elt Ideal) ((c.tc : Thread Cert.In0Ideal.nD Cert.In0Ideal.τ).loc Cert.In0Ideal.main_v10_2)) (v3 : (c : Dev Cert.In0Ideal.nD) → Buf (Elt Ideal) ((c.tc : Thread Cert.In0Ideal.nD Cert.In0Ideal.τ).loc Cert.In0Ideal.main_v10_3)) (v4 : (c : Dev Cert.In0Ideal.nD) → Buf (Elt Ideal) ((c.tc : Thread Cert.In0Ideal.nD Cert.In0Ideal.τ).loc Cert.In0Ideal.main_v10_4)),
      θ_run (Cert.In0Ideal.defs (F := Ideal)) (onTc (τ := Cert.In0Ideal.τ) (Cert.In0Ideal.main (F := Ideal))) ⟨m, fun _ => 0, g⟩ (fun r => ∀ c : Dev Cert.In0Ideal.nD,
          r.2.mem ((c.tc : Thread Cert.In0Ideal.nD Cert.In0Ideal.τ).loc Cert.In0Ideal.main_v10_0) = v0 c
          ∧ r.2.mem ((c.tc : Thread Cert.In0Ideal.nD Cert.In0Ideal.τ).loc Cert.In0Ideal.main_v10_1) = v1 c
          ∧ r.2.mem ((c.tc : Thread Cert.In0Ideal.nD Cert.In0Ideal.τ).loc Cert.In0Ideal.main_v10_2) = v2 c
          ∧ r.2.mem ((c.tc : Thread Cert.In0Ideal.nD Cert.In0Ideal.τ).loc Cert.In0Ideal.main_v10_3) = v3 c
          ∧ r.2.mem ((c.tc : Thread Cert.In0Ideal.nD Cert.In0Ideal.τ).loc Cert.In0Ideal.main_v10_4) = v4 c
          ∧ r.2.mem ((c.tc : Thread Cert.In0Ideal.nD Cert.In0Ideal.τ).loc Cert.In0Ideal.main_arg0) = m ((c.tc : Thread Cert.In0Ideal.nD Cert.In0Ideal.τ).loc Cert.In0Ideal.main_arg0)
          ∧ r.2.mem ((c.tc : Thread Cert.In0Ideal.nD Cert.In0Ideal.τ).loc Cert.In0Ideal.main_arg1) = m ((c.tc : Thread Cert.In0Ideal.nD Cert.In0Ideal.τ).loc Cert.In0Ideal.main_arg1)
          ∧ r.2.mem ((c.tc : Thread Cert.In0Ideal.nD Cert.In0Ideal.τ).loc Cert.In0Ideal.main_arg2) = m ((c.tc : Thread Cert.In0Ideal.nD Cert.In0Ideal.τ).loc Cert.In0Ideal.main_arg2))
      ∧ θ_run (Cert.In0RefIdeal.defs (F := Ideal)) (onTc (τ := Cert.In0RefIdeal.τ) (Cert.In0RefIdeal.main (F := Ideal))) ⟨m', fun _ => 0, g'⟩ (fun r => ∀ c : Dev Cert.In0RefIdeal.nD,
          r.2.mem ((c.tc : Thread Cert.In0RefIdeal.nD Cert.In0RefIdeal.τ).loc Cert.In0RefIdeal.main_v22) = v0 c
          ∧ r.2.mem ((c.tc : Thread Cert.In0RefIdeal.nD Cert.In0RefIdeal.τ).loc Cert.In0RefIdeal.main_v24) = v1 c
          ∧ r.2.mem ((c.tc : Thread Cert.In0RefIdeal.nD Cert.In0RefIdeal.τ).loc Cert.In0RefIdeal.main_v26) = v2 c
          ∧ r.2.mem ((c.tc : Thread Cert.In0RefIdeal.nD Cert.In0RefIdeal.τ).loc Cert.In0RefIdeal.main_v27) = v3 c
          ∧ r.2.mem ((c.tc : Thread Cert.In0RefIdeal.nD Cert.In0RefIdeal.τ).loc Cert.In0RefIdeal.main_v21) = v4 c
          ∧ r.2.mem ((c.tc : Thread Cert.In0RefIdeal.nD Cert.In0RefIdeal.τ).loc Cert.In0RefIdeal.main_arg0) = m' ((c.tc : Thread Cert.In0RefIdeal.nD Cert.In0RefIdeal.τ).loc Cert.In0RefIdeal.main_arg0)
          ∧ r.2.mem ((c.tc : Thread Cert.In0RefIdeal.nD Cert.In0RefIdeal.τ).loc Cert.In0RefIdeal.main_arg1) = m' ((c.tc : Thread Cert.In0RefIdeal.nD Cert.In0RefIdeal.τ).loc Cert.In0RefIdeal.main_arg1)
          ∧ r.2.mem ((c.tc : Thread Cert.In0RefIdeal.nD Cert.In0RefIdeal.τ).loc Cert.In0RefIdeal.main_arg2) = m' ((c.tc : Thread Cert.In0RefIdeal.nD Cert.In0RefIdeal.τ).loc Cert.In0RefIdeal.main_arg2))

def preserves_Mix0_Mix0Ideal : Prop :=
  True

def algebraic_Mix0Ideal_Mix0RefIdeal_pre_finite_gates0 [hMix0Ideal : Cert.Mix0Ideal.Facts] [hMix0RefIdeal : Cert.Mix0RefIdeal.Facts] [hPre_finite_gates0 : Cert.Pre_finite_gates0.Facts] : Prop :=
  ∀ (m : (ℓ : Loc Cert.Mix0Ideal.nD Cert.Mix0Ideal.τ Cert.Mix0Ideal.sig) → Buf (Elt Ideal) ℓ) (g : Dev Cert.Mix0Ideal.nD → PrngReg)
    (m' : (ℓ : Loc Cert.Mix0RefIdeal.nD Cert.Mix0RefIdeal.τ Cert.Mix0RefIdeal.sig) → Buf (Elt Ideal) ℓ) (g' : Dev Cert.Mix0RefIdeal.nD → PrngReg), Pre_Mix0Ideal_finite_gates0 m →
    (∀ c : Dev Cert.Mix0Ideal.nD,
      m' ((c.tc : Thread Cert.Mix0RefIdeal.nD Cert.Mix0RefIdeal.τ).loc Cert.Mix0RefIdeal.main_arg0) = m ((c.tc : Thread Cert.Mix0Ideal.nD Cert.Mix0Ideal.τ).loc Cert.Mix0Ideal.main_arg0)
      ∧ m' ((c.tc : Thread Cert.Mix0RefIdeal.nD Cert.Mix0RefIdeal.τ).loc Cert.Mix0RefIdeal.main_arg1) = m ((c.tc : Thread Cert.Mix0Ideal.nD Cert.Mix0Ideal.τ).loc Cert.Mix0Ideal.main_arg1)
      ∧ m' ((c.tc : Thread Cert.Mix0RefIdeal.nD Cert.Mix0RefIdeal.τ).loc Cert.Mix0RefIdeal.main_arg2) = m ((c.tc : Thread Cert.Mix0Ideal.nD Cert.Mix0Ideal.τ).loc Cert.Mix0Ideal.main_arg2)
      ∧ m' ((c.tc : Thread Cert.Mix0RefIdeal.nD Cert.Mix0RefIdeal.τ).loc Cert.Mix0RefIdeal.main_arg3) = m ((c.tc : Thread Cert.Mix0Ideal.nD Cert.Mix0Ideal.τ).loc Cert.Mix0Ideal.main_arg3)
      ∧ m' ((c.tc : Thread Cert.Mix0RefIdeal.nD Cert.Mix0RefIdeal.τ).loc Cert.Mix0RefIdeal.main_arg4) = m ((c.tc : Thread Cert.Mix0Ideal.nD Cert.Mix0Ideal.τ).loc Cert.Mix0Ideal.main_arg4)
      ∧ m' ((c.tc : Thread Cert.Mix0RefIdeal.nD Cert.Mix0RefIdeal.τ).loc Cert.Mix0RefIdeal.main_arg5) = m ((c.tc : Thread Cert.Mix0Ideal.nD Cert.Mix0Ideal.τ).loc Cert.Mix0Ideal.main_arg5)
      ∧ m' ((c.tc : Thread Cert.Mix0RefIdeal.nD Cert.Mix0RefIdeal.τ).loc Cert.Mix0RefIdeal.main_arg6) = m ((c.tc : Thread Cert.Mix0Ideal.nD Cert.Mix0Ideal.τ).loc Cert.Mix0Ideal.main_arg6)
      ∧ m' ((c.tc : Thread Cert.Mix0RefIdeal.nD Cert.Mix0RefIdeal.τ).loc Cert.Mix0RefIdeal.main_arg7) = m ((c.tc : Thread Cert.Mix0Ideal.nD Cert.Mix0Ideal.τ).loc Cert.Mix0Ideal.main_arg7)) →
    ∃ (v0 : (c : Dev Cert.Mix0Ideal.nD) → Buf (Elt Ideal) ((c.tc : Thread Cert.Mix0Ideal.nD Cert.Mix0Ideal.τ).loc Cert.Mix0Ideal.main_v9_0)) (v1 : (c : Dev Cert.Mix0Ideal.nD) → Buf (Elt Ideal) ((c.tc : Thread Cert.Mix0Ideal.nD Cert.Mix0Ideal.τ).loc Cert.Mix0Ideal.main_v9_1)),
      θ_run (Cert.Mix0Ideal.defs (F := Ideal)) (onTc (τ := Cert.Mix0Ideal.τ) (Cert.Mix0Ideal.main (F := Ideal))) ⟨m, fun _ => 0, g⟩ (fun r => ∀ c : Dev Cert.Mix0Ideal.nD,
          r.2.mem ((c.tc : Thread Cert.Mix0Ideal.nD Cert.Mix0Ideal.τ).loc Cert.Mix0Ideal.main_v9_0) = v0 c
          ∧ r.2.mem ((c.tc : Thread Cert.Mix0Ideal.nD Cert.Mix0Ideal.τ).loc Cert.Mix0Ideal.main_v9_1) = v1 c
          ∧ r.2.mem ((c.tc : Thread Cert.Mix0Ideal.nD Cert.Mix0Ideal.τ).loc Cert.Mix0Ideal.main_arg0) = m ((c.tc : Thread Cert.Mix0Ideal.nD Cert.Mix0Ideal.τ).loc Cert.Mix0Ideal.main_arg0)
          ∧ r.2.mem ((c.tc : Thread Cert.Mix0Ideal.nD Cert.Mix0Ideal.τ).loc Cert.Mix0Ideal.main_arg1) = m ((c.tc : Thread Cert.Mix0Ideal.nD Cert.Mix0Ideal.τ).loc Cert.Mix0Ideal.main_arg1)
          ∧ r.2.mem ((c.tc : Thread Cert.Mix0Ideal.nD Cert.Mix0Ideal.τ).loc Cert.Mix0Ideal.main_arg2) = m ((c.tc : Thread Cert.Mix0Ideal.nD Cert.Mix0Ideal.τ).loc Cert.Mix0Ideal.main_arg2)
          ∧ r.2.mem ((c.tc : Thread Cert.Mix0Ideal.nD Cert.Mix0Ideal.τ).loc Cert.Mix0Ideal.main_arg3) = m ((c.tc : Thread Cert.Mix0Ideal.nD Cert.Mix0Ideal.τ).loc Cert.Mix0Ideal.main_arg3)
          ∧ r.2.mem ((c.tc : Thread Cert.Mix0Ideal.nD Cert.Mix0Ideal.τ).loc Cert.Mix0Ideal.main_arg4) = m ((c.tc : Thread Cert.Mix0Ideal.nD Cert.Mix0Ideal.τ).loc Cert.Mix0Ideal.main_arg4)
          ∧ r.2.mem ((c.tc : Thread Cert.Mix0Ideal.nD Cert.Mix0Ideal.τ).loc Cert.Mix0Ideal.main_arg5) = m ((c.tc : Thread Cert.Mix0Ideal.nD Cert.Mix0Ideal.τ).loc Cert.Mix0Ideal.main_arg5)
          ∧ r.2.mem ((c.tc : Thread Cert.Mix0Ideal.nD Cert.Mix0Ideal.τ).loc Cert.Mix0Ideal.main_arg6) = m ((c.tc : Thread Cert.Mix0Ideal.nD Cert.Mix0Ideal.τ).loc Cert.Mix0Ideal.main_arg6)
          ∧ r.2.mem ((c.tc : Thread Cert.Mix0Ideal.nD Cert.Mix0Ideal.τ).loc Cert.Mix0Ideal.main_arg7) = m ((c.tc : Thread Cert.Mix0Ideal.nD Cert.Mix0Ideal.τ).loc Cert.Mix0Ideal.main_arg7))
      ∧ θ_run (Cert.Mix0RefIdeal.defs (F := Ideal)) (onTc (τ := Cert.Mix0RefIdeal.τ) (Cert.Mix0RefIdeal.main (F := Ideal))) ⟨m', fun _ => 0, g'⟩ (fun r => ∀ c : Dev Cert.Mix0RefIdeal.nD,
          r.2.mem ((c.tc : Thread Cert.Mix0RefIdeal.nD Cert.Mix0RefIdeal.τ).loc Cert.Mix0RefIdeal.main_v45) = v0 c
          ∧ r.2.mem ((c.tc : Thread Cert.Mix0RefIdeal.nD Cert.Mix0RefIdeal.τ).loc Cert.Mix0RefIdeal.main_v29) = v1 c
          ∧ r.2.mem ((c.tc : Thread Cert.Mix0RefIdeal.nD Cert.Mix0RefIdeal.τ).loc Cert.Mix0RefIdeal.main_arg0) = m' ((c.tc : Thread Cert.Mix0RefIdeal.nD Cert.Mix0RefIdeal.τ).loc Cert.Mix0RefIdeal.main_arg0)
          ∧ r.2.mem ((c.tc : Thread Cert.Mix0RefIdeal.nD Cert.Mix0RefIdeal.τ).loc Cert.Mix0RefIdeal.main_arg1) = m' ((c.tc : Thread Cert.Mix0RefIdeal.nD Cert.Mix0RefIdeal.τ).loc Cert.Mix0RefIdeal.main_arg1)
          ∧ r.2.mem ((c.tc : Thread Cert.Mix0RefIdeal.nD Cert.Mix0RefIdeal.τ).loc Cert.Mix0RefIdeal.main_arg2) = m' ((c.tc : Thread Cert.Mix0RefIdeal.nD Cert.Mix0RefIdeal.τ).loc Cert.Mix0RefIdeal.main_arg2)
          ∧ r.2.mem ((c.tc : Thread Cert.Mix0RefIdeal.nD Cert.Mix0RefIdeal.τ).loc Cert.Mix0RefIdeal.main_arg3) = m' ((c.tc : Thread Cert.Mix0RefIdeal.nD Cert.Mix0RefIdeal.τ).loc Cert.Mix0RefIdeal.main_arg3)
          ∧ r.2.mem ((c.tc : Thread Cert.Mix0RefIdeal.nD Cert.Mix0RefIdeal.τ).loc Cert.Mix0RefIdeal.main_arg4) = m' ((c.tc : Thread Cert.Mix0RefIdeal.nD Cert.Mix0RefIdeal.τ).loc Cert.Mix0RefIdeal.main_arg4)
          ∧ r.2.mem ((c.tc : Thread Cert.Mix0RefIdeal.nD Cert.Mix0RefIdeal.τ).loc Cert.Mix0RefIdeal.main_arg5) = m' ((c.tc : Thread Cert.Mix0RefIdeal.nD Cert.Mix0RefIdeal.τ).loc Cert.Mix0RefIdeal.main_arg5)
          ∧ r.2.mem ((c.tc : Thread Cert.Mix0RefIdeal.nD Cert.Mix0RefIdeal.τ).loc Cert.Mix0RefIdeal.main_arg6) = m' ((c.tc : Thread Cert.Mix0RefIdeal.nD Cert.Mix0RefIdeal.τ).loc Cert.Mix0RefIdeal.main_arg6)
          ∧ r.2.mem ((c.tc : Thread Cert.Mix0RefIdeal.nD Cert.Mix0RefIdeal.τ).loc Cert.Mix0RefIdeal.main_arg7) = m' ((c.tc : Thread Cert.Mix0RefIdeal.nD Cert.Mix0RefIdeal.τ).loc Cert.Mix0RefIdeal.main_arg7))

def preserves_Mix1_Mix1Ideal : Prop :=
  True

def algebraic_Mix1Ideal_Mix1RefIdeal_pre_finite_gates1 [hMix1Ideal : Cert.Mix1Ideal.Facts] [hMix1RefIdeal : Cert.Mix1RefIdeal.Facts] [hPre_finite_gates1 : Cert.Pre_finite_gates1.Facts] : Prop :=
  ∀ (m : (ℓ : Loc Cert.Mix1Ideal.nD Cert.Mix1Ideal.τ Cert.Mix1Ideal.sig) → Buf (Elt Ideal) ℓ) (g : Dev Cert.Mix1Ideal.nD → PrngReg)
    (m' : (ℓ : Loc Cert.Mix1RefIdeal.nD Cert.Mix1RefIdeal.τ Cert.Mix1RefIdeal.sig) → Buf (Elt Ideal) ℓ) (g' : Dev Cert.Mix1RefIdeal.nD → PrngReg), Pre_Mix1Ideal_finite_gates1 m →
    (∀ c : Dev Cert.Mix1Ideal.nD,
      m' ((c.tc : Thread Cert.Mix1RefIdeal.nD Cert.Mix1RefIdeal.τ).loc Cert.Mix1RefIdeal.main_arg0) = m ((c.tc : Thread Cert.Mix1Ideal.nD Cert.Mix1Ideal.τ).loc Cert.Mix1Ideal.main_arg0)
      ∧ m' ((c.tc : Thread Cert.Mix1RefIdeal.nD Cert.Mix1RefIdeal.τ).loc Cert.Mix1RefIdeal.main_arg1) = m ((c.tc : Thread Cert.Mix1Ideal.nD Cert.Mix1Ideal.τ).loc Cert.Mix1Ideal.main_arg1)
      ∧ m' ((c.tc : Thread Cert.Mix1RefIdeal.nD Cert.Mix1RefIdeal.τ).loc Cert.Mix1RefIdeal.main_arg2) = m ((c.tc : Thread Cert.Mix1Ideal.nD Cert.Mix1Ideal.τ).loc Cert.Mix1Ideal.main_arg2)
      ∧ m' ((c.tc : Thread Cert.Mix1RefIdeal.nD Cert.Mix1RefIdeal.τ).loc Cert.Mix1RefIdeal.main_arg3) = m ((c.tc : Thread Cert.Mix1Ideal.nD Cert.Mix1Ideal.τ).loc Cert.Mix1Ideal.main_arg3)
      ∧ m' ((c.tc : Thread Cert.Mix1RefIdeal.nD Cert.Mix1RefIdeal.τ).loc Cert.Mix1RefIdeal.main_arg4) = m ((c.tc : Thread Cert.Mix1Ideal.nD Cert.Mix1Ideal.τ).loc Cert.Mix1Ideal.main_arg4)
      ∧ m' ((c.tc : Thread Cert.Mix1RefIdeal.nD Cert.Mix1RefIdeal.τ).loc Cert.Mix1RefIdeal.main_arg5) = m ((c.tc : Thread Cert.Mix1Ideal.nD Cert.Mix1Ideal.τ).loc Cert.Mix1Ideal.main_arg5)
      ∧ m' ((c.tc : Thread Cert.Mix1RefIdeal.nD Cert.Mix1RefIdeal.τ).loc Cert.Mix1RefIdeal.main_arg6) = m ((c.tc : Thread Cert.Mix1Ideal.nD Cert.Mix1Ideal.τ).loc Cert.Mix1Ideal.main_arg6)
      ∧ m' ((c.tc : Thread Cert.Mix1RefIdeal.nD Cert.Mix1RefIdeal.τ).loc Cert.Mix1RefIdeal.main_arg7) = m ((c.tc : Thread Cert.Mix1Ideal.nD Cert.Mix1Ideal.τ).loc Cert.Mix1Ideal.main_arg7)) →
    ∃ (v0 : (c : Dev Cert.Mix1Ideal.nD) → Buf (Elt Ideal) ((c.tc : Thread Cert.Mix1Ideal.nD Cert.Mix1Ideal.τ).loc Cert.Mix1Ideal.main_v7)),
      θ_run (Cert.Mix1Ideal.defs (F := Ideal)) (onTc (τ := Cert.Mix1Ideal.τ) (Cert.Mix1Ideal.main (F := Ideal))) ⟨m, fun _ => 0, g⟩ (fun r => ∀ c : Dev Cert.Mix1Ideal.nD,
          r.2.mem ((c.tc : Thread Cert.Mix1Ideal.nD Cert.Mix1Ideal.τ).loc Cert.Mix1Ideal.main_v7) = v0 c
          ∧ r.2.mem ((c.tc : Thread Cert.Mix1Ideal.nD Cert.Mix1Ideal.τ).loc Cert.Mix1Ideal.main_arg0) = m ((c.tc : Thread Cert.Mix1Ideal.nD Cert.Mix1Ideal.τ).loc Cert.Mix1Ideal.main_arg0)
          ∧ r.2.mem ((c.tc : Thread Cert.Mix1Ideal.nD Cert.Mix1Ideal.τ).loc Cert.Mix1Ideal.main_arg1) = m ((c.tc : Thread Cert.Mix1Ideal.nD Cert.Mix1Ideal.τ).loc Cert.Mix1Ideal.main_arg1)
          ∧ r.2.mem ((c.tc : Thread Cert.Mix1Ideal.nD Cert.Mix1Ideal.τ).loc Cert.Mix1Ideal.main_arg2) = m ((c.tc : Thread Cert.Mix1Ideal.nD Cert.Mix1Ideal.τ).loc Cert.Mix1Ideal.main_arg2)
          ∧ r.2.mem ((c.tc : Thread Cert.Mix1Ideal.nD Cert.Mix1Ideal.τ).loc Cert.Mix1Ideal.main_arg3) = m ((c.tc : Thread Cert.Mix1Ideal.nD Cert.Mix1Ideal.τ).loc Cert.Mix1Ideal.main_arg3)
          ∧ r.2.mem ((c.tc : Thread Cert.Mix1Ideal.nD Cert.Mix1Ideal.τ).loc Cert.Mix1Ideal.main_arg4) = m ((c.tc : Thread Cert.Mix1Ideal.nD Cert.Mix1Ideal.τ).loc Cert.Mix1Ideal.main_arg4)
          ∧ r.2.mem ((c.tc : Thread Cert.Mix1Ideal.nD Cert.Mix1Ideal.τ).loc Cert.Mix1Ideal.main_arg5) = m ((c.tc : Thread Cert.Mix1Ideal.nD Cert.Mix1Ideal.τ).loc Cert.Mix1Ideal.main_arg5)
          ∧ r.2.mem ((c.tc : Thread Cert.Mix1Ideal.nD Cert.Mix1Ideal.τ).loc Cert.Mix1Ideal.main_arg6) = m ((c.tc : Thread Cert.Mix1Ideal.nD Cert.Mix1Ideal.τ).loc Cert.Mix1Ideal.main_arg6)
          ∧ r.2.mem ((c.tc : Thread Cert.Mix1Ideal.nD Cert.Mix1Ideal.τ).loc Cert.Mix1Ideal.main_arg7) = m ((c.tc : Thread Cert.Mix1Ideal.nD Cert.Mix1Ideal.τ).loc Cert.Mix1Ideal.main_arg7))
      ∧ θ_run (Cert.Mix1RefIdeal.defs (F := Ideal)) (onTc (τ := Cert.Mix1RefIdeal.τ) (Cert.Mix1RefIdeal.main (F := Ideal))) ⟨m', fun _ => 0, g'⟩ (fun r => ∀ c : Dev Cert.Mix1RefIdeal.nD,
          r.2.mem ((c.tc : Thread Cert.Mix1RefIdeal.nD Cert.Mix1RefIdeal.τ).loc Cert.Mix1RefIdeal.main_v43) = v0 c
          ∧ r.2.mem ((c.tc : Thread Cert.Mix1RefIdeal.nD Cert.Mix1RefIdeal.τ).loc Cert.Mix1RefIdeal.main_arg0) = m' ((c.tc : Thread Cert.Mix1RefIdeal.nD Cert.Mix1RefIdeal.τ).loc Cert.Mix1RefIdeal.main_arg0)
          ∧ r.2.mem ((c.tc : Thread Cert.Mix1RefIdeal.nD Cert.Mix1RefIdeal.τ).loc Cert.Mix1RefIdeal.main_arg1) = m' ((c.tc : Thread Cert.Mix1RefIdeal.nD Cert.Mix1RefIdeal.τ).loc Cert.Mix1RefIdeal.main_arg1)
          ∧ r.2.mem ((c.tc : Thread Cert.Mix1RefIdeal.nD Cert.Mix1RefIdeal.τ).loc Cert.Mix1RefIdeal.main_arg2) = m' ((c.tc : Thread Cert.Mix1RefIdeal.nD Cert.Mix1RefIdeal.τ).loc Cert.Mix1RefIdeal.main_arg2)
          ∧ r.2.mem ((c.tc : Thread Cert.Mix1RefIdeal.nD Cert.Mix1RefIdeal.τ).loc Cert.Mix1RefIdeal.main_arg3) = m' ((c.tc : Thread Cert.Mix1RefIdeal.nD Cert.Mix1RefIdeal.τ).loc Cert.Mix1RefIdeal.main_arg3)
          ∧ r.2.mem ((c.tc : Thread Cert.Mix1RefIdeal.nD Cert.Mix1RefIdeal.τ).loc Cert.Mix1RefIdeal.main_arg4) = m' ((c.tc : Thread Cert.Mix1RefIdeal.nD Cert.Mix1RefIdeal.τ).loc Cert.Mix1RefIdeal.main_arg4)
          ∧ r.2.mem ((c.tc : Thread Cert.Mix1RefIdeal.nD Cert.Mix1RefIdeal.τ).loc Cert.Mix1RefIdeal.main_arg5) = m' ((c.tc : Thread Cert.Mix1RefIdeal.nD Cert.Mix1RefIdeal.τ).loc Cert.Mix1RefIdeal.main_arg5)
          ∧ r.2.mem ((c.tc : Thread Cert.Mix1RefIdeal.nD Cert.Mix1RefIdeal.τ).loc Cert.Mix1RefIdeal.main_arg6) = m' ((c.tc : Thread Cert.Mix1RefIdeal.nD Cert.Mix1RefIdeal.τ).loc Cert.Mix1RefIdeal.main_arg6)
          ∧ r.2.mem ((c.tc : Thread Cert.Mix1RefIdeal.nD Cert.Mix1RefIdeal.τ).loc Cert.Mix1RefIdeal.main_arg7) = m' ((c.tc : Thread Cert.Mix1RefIdeal.nD Cert.Mix1RefIdeal.τ).loc Cert.Mix1RefIdeal.main_arg7))

def preserves_RwIn_RwInIdeal : Prop :=
  IdealRules.named_const.Statement Cert.RwInIdeal.κ "tiny_sq" .f32 0x179ABE15#32 ((5316911940649 / 5316911983139663491615228241121378304 : ℝ) : EReal)

def algebraic_RwInIdeal_RwInRefIdeal [hRwInIdeal : Cert.RwInIdeal.Facts] [hRwInRefIdeal : Cert.RwInRefIdeal.Facts] : Prop :=
  ∀ (m : (ℓ : Loc Cert.RwInIdeal.nD Cert.RwInIdeal.τ Cert.RwInIdeal.sig) → Buf (Elt Ideal) ℓ) (g : Dev Cert.RwInIdeal.nD → PrngReg)
    (m' : (ℓ : Loc Cert.RwInRefIdeal.nD Cert.RwInRefIdeal.τ Cert.RwInRefIdeal.sig) → Buf (Elt Ideal) ℓ) (g' : Dev Cert.RwInRefIdeal.nD → PrngReg), Pre_RwInIdeal m →
    (∀ c : Dev Cert.RwInIdeal.nD,
      m' ((c.tc : Thread Cert.RwInRefIdeal.nD Cert.RwInRefIdeal.τ).loc Cert.RwInRefIdeal.main_arg0) = m ((c.tc : Thread Cert.RwInIdeal.nD Cert.RwInIdeal.τ).loc Cert.RwInIdeal.main_arg0)
      ∧ m' ((c.tc : Thread Cert.RwInRefIdeal.nD Cert.RwInRefIdeal.τ).loc Cert.RwInRefIdeal.main_arg1) = m ((c.tc : Thread Cert.RwInIdeal.nD Cert.RwInIdeal.τ).loc Cert.RwInIdeal.main_arg1)
      ∧ m' ((c.tc : Thread Cert.RwInRefIdeal.nD Cert.RwInRefIdeal.τ).loc Cert.RwInRefIdeal.main_arg2) = m ((c.tc : Thread Cert.RwInIdeal.nD Cert.RwInIdeal.τ).loc Cert.RwInIdeal.main_arg2)
      ∧ m' ((c.tc : Thread Cert.RwInRefIdeal.nD Cert.RwInRefIdeal.τ).loc Cert.RwInRefIdeal.main_arg3) = m ((c.tc : Thread Cert.RwInIdeal.nD Cert.RwInIdeal.τ).loc Cert.RwInIdeal.main_arg3)
      ∧ m' ((c.tc : Thread Cert.RwInRefIdeal.nD Cert.RwInRefIdeal.τ).loc Cert.RwInRefIdeal.main_arg4) = m ((c.tc : Thread Cert.RwInIdeal.nD Cert.RwInIdeal.τ).loc Cert.RwInIdeal.main_arg4)
      ∧ m' ((c.tc : Thread Cert.RwInRefIdeal.nD Cert.RwInRefIdeal.τ).loc Cert.RwInRefIdeal.main_arg5) = m ((c.tc : Thread Cert.RwInIdeal.nD Cert.RwInIdeal.τ).loc Cert.RwInIdeal.main_arg5)
      ∧ m' ((c.tc : Thread Cert.RwInRefIdeal.nD Cert.RwInRefIdeal.τ).loc Cert.RwInRefIdeal.main_arg6) = m ((c.tc : Thread Cert.RwInIdeal.nD Cert.RwInIdeal.τ).loc Cert.RwInIdeal.main_arg6)
      ∧ m' ((c.tc : Thread Cert.RwInRefIdeal.nD Cert.RwInRefIdeal.τ).loc Cert.RwInRefIdeal.main_arg7) = m ((c.tc : Thread Cert.RwInIdeal.nD Cert.RwInIdeal.τ).loc Cert.RwInIdeal.main_arg7)
      ∧ m' ((c.tc : Thread Cert.RwInRefIdeal.nD Cert.RwInRefIdeal.τ).loc Cert.RwInRefIdeal.main_arg8) = m ((c.tc : Thread Cert.RwInIdeal.nD Cert.RwInIdeal.τ).loc Cert.RwInIdeal.main_arg8)
      ∧ m' ((c.tc : Thread Cert.RwInRefIdeal.nD Cert.RwInRefIdeal.τ).loc Cert.RwInRefIdeal.main_arg9) = m ((c.tc : Thread Cert.RwInIdeal.nD Cert.RwInIdeal.τ).loc Cert.RwInIdeal.main_arg9)
      ∧ m' ((c.tc : Thread Cert.RwInRefIdeal.nD Cert.RwInRefIdeal.τ).loc Cert.RwInRefIdeal.main_arg10) = m ((c.tc : Thread Cert.RwInIdeal.nD Cert.RwInIdeal.τ).loc Cert.RwInIdeal.main_arg10)
      ∧ m' ((c.tc : Thread Cert.RwInRefIdeal.nD Cert.RwInRefIdeal.τ).loc Cert.RwInRefIdeal.main_arg11) = m ((c.tc : Thread Cert.RwInIdeal.nD Cert.RwInIdeal.τ).loc Cert.RwInIdeal.main_arg11)
      ∧ m' ((c.tc : Thread Cert.RwInRefIdeal.nD Cert.RwInRefIdeal.τ).loc Cert.RwInRefIdeal.main_arg12) = m ((c.tc : Thread Cert.RwInIdeal.nD Cert.RwInIdeal.τ).loc Cert.RwInIdeal.main_arg12)
      ∧ m' ((c.tc : Thread Cert.RwInRefIdeal.nD Cert.RwInRefIdeal.τ).loc Cert.RwInRefIdeal.main_arg13) = m ((c.tc : Thread Cert.RwInIdeal.nD Cert.RwInIdeal.τ).loc Cert.RwInIdeal.main_arg13)
      ∧ m' ((c.tc : Thread Cert.RwInRefIdeal.nD Cert.RwInRefIdeal.τ).loc Cert.RwInRefIdeal.main_arg14) = m ((c.tc : Thread Cert.RwInIdeal.nD Cert.RwInIdeal.τ).loc Cert.RwInIdeal.main_arg14)
      ∧ m' ((c.tc : Thread Cert.RwInRefIdeal.nD Cert.RwInRefIdeal.τ).loc Cert.RwInRefIdeal.main_arg15) = m ((c.tc : Thread Cert.RwInIdeal.nD Cert.RwInIdeal.τ).loc Cert.RwInIdeal.main_arg15)) →
    ∃ (v0 : (c : Dev Cert.RwInIdeal.nD) → Buf (Elt Ideal) ((c.tc : Thread Cert.RwInIdeal.nD Cert.RwInIdeal.τ).loc Cert.RwInIdeal.main_v21_0)) (v1 : (c : Dev Cert.RwInIdeal.nD) → Buf (Elt Ideal) ((c.tc : Thread Cert.RwInIdeal.nD Cert.RwInIdeal.τ).loc Cert.RwInIdeal.main_v21_2)) (v2 : (c : Dev Cert.RwInIdeal.nD) → Buf (Elt Ideal) ((c.tc : Thread Cert.RwInIdeal.nD Cert.RwInIdeal.τ).loc Cert.RwInIdeal.main_v21_3)) (v3 : (c : Dev Cert.RwInIdeal.nD) → Buf (Elt Ideal) ((c.tc : Thread Cert.RwInIdeal.nD Cert.RwInIdeal.τ).loc Cert.RwInIdeal.main_v21_4)) (v4 : (c : Dev Cert.RwInIdeal.nD) → Buf (Elt Ideal) ((c.tc : Thread Cert.RwInIdeal.nD Cert.RwInIdeal.τ).loc Cert.RwInIdeal.main_v21_5)) (v5 : (c : Dev Cert.RwInIdeal.nD) → Buf (Elt Ideal) ((c.tc : Thread Cert.RwInIdeal.nD Cert.RwInIdeal.τ).loc Cert.RwInIdeal.main_v21_6)),
      θ_run (Cert.RwInIdeal.defs (F := Ideal)) (onTc (τ := Cert.RwInIdeal.τ) (Cert.RwInIdeal.main (F := Ideal))) ⟨m, fun _ => 0, g⟩ (fun r => ∀ c : Dev Cert.RwInIdeal.nD,
          r.2.mem ((c.tc : Thread Cert.RwInIdeal.nD Cert.RwInIdeal.τ).loc Cert.RwInIdeal.main_v21_0) = v0 c
          ∧ r.2.mem ((c.tc : Thread Cert.RwInIdeal.nD Cert.RwInIdeal.τ).loc Cert.RwInIdeal.main_v21_2) = v1 c
          ∧ r.2.mem ((c.tc : Thread Cert.RwInIdeal.nD Cert.RwInIdeal.τ).loc Cert.RwInIdeal.main_v21_3) = v2 c
          ∧ r.2.mem ((c.tc : Thread Cert.RwInIdeal.nD Cert.RwInIdeal.τ).loc Cert.RwInIdeal.main_v21_4) = v3 c
          ∧ r.2.mem ((c.tc : Thread Cert.RwInIdeal.nD Cert.RwInIdeal.τ).loc Cert.RwInIdeal.main_v21_5) = v4 c
          ∧ r.2.mem ((c.tc : Thread Cert.RwInIdeal.nD Cert.RwInIdeal.τ).loc Cert.RwInIdeal.main_v21_6) = v5 c
          ∧ r.2.mem ((c.tc : Thread Cert.RwInIdeal.nD Cert.RwInIdeal.τ).loc Cert.RwInIdeal.main_arg0) = m ((c.tc : Thread Cert.RwInIdeal.nD Cert.RwInIdeal.τ).loc Cert.RwInIdeal.main_arg0)
          ∧ r.2.mem ((c.tc : Thread Cert.RwInIdeal.nD Cert.RwInIdeal.τ).loc Cert.RwInIdeal.main_arg1) = m ((c.tc : Thread Cert.RwInIdeal.nD Cert.RwInIdeal.τ).loc Cert.RwInIdeal.main_arg1)
          ∧ r.2.mem ((c.tc : Thread Cert.RwInIdeal.nD Cert.RwInIdeal.τ).loc Cert.RwInIdeal.main_arg2) = m ((c.tc : Thread Cert.RwInIdeal.nD Cert.RwInIdeal.τ).loc Cert.RwInIdeal.main_arg2)
          ∧ r.2.mem ((c.tc : Thread Cert.RwInIdeal.nD Cert.RwInIdeal.τ).loc Cert.RwInIdeal.main_arg3) = m ((c.tc : Thread Cert.RwInIdeal.nD Cert.RwInIdeal.τ).loc Cert.RwInIdeal.main_arg3)
          ∧ r.2.mem ((c.tc : Thread Cert.RwInIdeal.nD Cert.RwInIdeal.τ).loc Cert.RwInIdeal.main_arg4) = m ((c.tc : Thread Cert.RwInIdeal.nD Cert.RwInIdeal.τ).loc Cert.RwInIdeal.main_arg4)
          ∧ r.2.mem ((c.tc : Thread Cert.RwInIdeal.nD Cert.RwInIdeal.τ).loc Cert.RwInIdeal.main_arg5) = m ((c.tc : Thread Cert.RwInIdeal.nD Cert.RwInIdeal.τ).loc Cert.RwInIdeal.main_arg5)
          ∧ r.2.mem ((c.tc : Thread Cert.RwInIdeal.nD Cert.RwInIdeal.τ).loc Cert.RwInIdeal.main_arg6) = m ((c.tc : Thread Cert.RwInIdeal.nD Cert.RwInIdeal.τ).loc Cert.RwInIdeal.main_arg6)
          ∧ r.2.mem ((c.tc : Thread Cert.RwInIdeal.nD Cert.RwInIdeal.τ).loc Cert.RwInIdeal.main_arg7) = m ((c.tc : Thread Cert.RwInIdeal.nD Cert.RwInIdeal.τ).loc Cert.RwInIdeal.main_arg7)
          ∧ r.2.mem ((c.tc : Thread Cert.RwInIdeal.nD Cert.RwInIdeal.τ).loc Cert.RwInIdeal.main_arg8) = m ((c.tc : Thread Cert.RwInIdeal.nD Cert.RwInIdeal.τ).loc Cert.RwInIdeal.main_arg8)
          ∧ r.2.mem ((c.tc : Thread Cert.RwInIdeal.nD Cert.RwInIdeal.τ).loc Cert.RwInIdeal.main_arg9) = m ((c.tc : Thread Cert.RwInIdeal.nD Cert.RwInIdeal.τ).loc Cert.RwInIdeal.main_arg9)
          ∧ r.2.mem ((c.tc : Thread Cert.RwInIdeal.nD Cert.RwInIdeal.τ).loc Cert.RwInIdeal.main_arg10) = m ((c.tc : Thread Cert.RwInIdeal.nD Cert.RwInIdeal.τ).loc Cert.RwInIdeal.main_arg10)
          ∧ r.2.mem ((c.tc : Thread Cert.RwInIdeal.nD Cert.RwInIdeal.τ).loc Cert.RwInIdeal.main_arg11) = m ((c.tc : Thread Cert.RwInIdeal.nD Cert.RwInIdeal.τ).loc Cert.RwInIdeal.main_arg11)
          ∧ r.2.mem ((c.tc : Thread Cert.RwInIdeal.nD Cert.RwInIdeal.τ).loc Cert.RwInIdeal.main_arg12) = m ((c.tc : Thread Cert.RwInIdeal.nD Cert.RwInIdeal.τ).loc Cert.RwInIdeal.main_arg12)
          ∧ r.2.mem ((c.tc : Thread Cert.RwInIdeal.nD Cert.RwInIdeal.τ).loc Cert.RwInIdeal.main_arg13) = m ((c.tc : Thread Cert.RwInIdeal.nD Cert.RwInIdeal.τ).loc Cert.RwInIdeal.main_arg13)
          ∧ r.2.mem ((c.tc : Thread Cert.RwInIdeal.nD Cert.RwInIdeal.τ).loc Cert.RwInIdeal.main_arg14) = m ((c.tc : Thread Cert.RwInIdeal.nD Cert.RwInIdeal.τ).loc Cert.RwInIdeal.main_arg14)
          ∧ r.2.mem ((c.tc : Thread Cert.RwInIdeal.nD Cert.RwInIdeal.τ).loc Cert.RwInIdeal.main_arg15) = m ((c.tc : Thread Cert.RwInIdeal.nD Cert.RwInIdeal.τ).loc Cert.RwInIdeal.main_arg15))
      ∧ θ_run (Cert.RwInRefIdeal.defs (F := Ideal)) (onTc (τ := Cert.RwInRefIdeal.τ) (Cert.RwInRefIdeal.main (F := Ideal))) ⟨m', fun _ => 0, g'⟩ (fun r => ∀ c : Dev Cert.RwInRefIdeal.nD,
          r.2.mem ((c.tc : Thread Cert.RwInRefIdeal.nD Cert.RwInRefIdeal.τ).loc Cert.RwInRefIdeal.main_v86) = v0 c
          ∧ r.2.mem ((c.tc : Thread Cert.RwInRefIdeal.nD Cert.RwInRefIdeal.τ).loc Cert.RwInRefIdeal.main_v87) = v1 c
          ∧ r.2.mem ((c.tc : Thread Cert.RwInRefIdeal.nD Cert.RwInRefIdeal.τ).loc Cert.RwInRefIdeal.main_v88) = v2 c
          ∧ r.2.mem ((c.tc : Thread Cert.RwInRefIdeal.nD Cert.RwInRefIdeal.τ).loc Cert.RwInRefIdeal.main_v89) = v3 c
          ∧ r.2.mem ((c.tc : Thread Cert.RwInRefIdeal.nD Cert.RwInRefIdeal.τ).loc Cert.RwInRefIdeal.main_v90) = v4 c
          ∧ r.2.mem ((c.tc : Thread Cert.RwInRefIdeal.nD Cert.RwInRefIdeal.τ).loc Cert.RwInRefIdeal.main_v91) = v5 c
          ∧ r.2.mem ((c.tc : Thread Cert.RwInRefIdeal.nD Cert.RwInRefIdeal.τ).loc Cert.RwInRefIdeal.main_arg0) = m' ((c.tc : Thread Cert.RwInRefIdeal.nD Cert.RwInRefIdeal.τ).loc Cert.RwInRefIdeal.main_arg0)
          ∧ r.2.mem ((c.tc : Thread Cert.RwInRefIdeal.nD Cert.RwInRefIdeal.τ).loc Cert.RwInRefIdeal.main_arg1) = m' ((c.tc : Thread Cert.RwInRefIdeal.nD Cert.RwInRefIdeal.τ).loc Cert.RwInRefIdeal.main_arg1)
          ∧ r.2.mem ((c.tc : Thread Cert.RwInRefIdeal.nD Cert.RwInRefIdeal.τ).loc Cert.RwInRefIdeal.main_arg2) = m' ((c.tc : Thread Cert.RwInRefIdeal.nD Cert.RwInRefIdeal.τ).loc Cert.RwInRefIdeal.main_arg2)
          ∧ r.2.mem ((c.tc : Thread Cert.RwInRefIdeal.nD Cert.RwInRefIdeal.τ).loc Cert.RwInRefIdeal.main_arg3) = m' ((c.tc : Thread Cert.RwInRefIdeal.nD Cert.RwInRefIdeal.τ).loc Cert.RwInRefIdeal.main_arg3)
          ∧ r.2.mem ((c.tc : Thread Cert.RwInRefIdeal.nD Cert.RwInRefIdeal.τ).loc Cert.RwInRefIdeal.main_arg4) = m' ((c.tc : Thread Cert.RwInRefIdeal.nD Cert.RwInRefIdeal.τ).loc Cert.RwInRefIdeal.main_arg4)
          ∧ r.2.mem ((c.tc : Thread Cert.RwInRefIdeal.nD Cert.RwInRefIdeal.τ).loc Cert.RwInRefIdeal.main_arg5) = m' ((c.tc : Thread Cert.RwInRefIdeal.nD Cert.RwInRefIdeal.τ).loc Cert.RwInRefIdeal.main_arg5)
          ∧ r.2.mem ((c.tc : Thread Cert.RwInRefIdeal.nD Cert.RwInRefIdeal.τ).loc Cert.RwInRefIdeal.main_arg6) = m' ((c.tc : Thread Cert.RwInRefIdeal.nD Cert.RwInRefIdeal.τ).loc Cert.RwInRefIdeal.main_arg6)
          ∧ r.2.mem ((c.tc : Thread Cert.RwInRefIdeal.nD Cert.RwInRefIdeal.τ).loc Cert.RwInRefIdeal.main_arg7) = m' ((c.tc : Thread Cert.RwInRefIdeal.nD Cert.RwInRefIdeal.τ).loc Cert.RwInRefIdeal.main_arg7)
          ∧ r.2.mem ((c.tc : Thread Cert.RwInRefIdeal.nD Cert.RwInRefIdeal.τ).loc Cert.RwInRefIdeal.main_arg8) = m' ((c.tc : Thread Cert.RwInRefIdeal.nD Cert.RwInRefIdeal.τ).loc Cert.RwInRefIdeal.main_arg8)
          ∧ r.2.mem ((c.tc : Thread Cert.RwInRefIdeal.nD Cert.RwInRefIdeal.τ).loc Cert.RwInRefIdeal.main_arg9) = m' ((c.tc : Thread Cert.RwInRefIdeal.nD Cert.RwInRefIdeal.τ).loc Cert.RwInRefIdeal.main_arg9)
          ∧ r.2.mem ((c.tc : Thread Cert.RwInRefIdeal.nD Cert.RwInRefIdeal.τ).loc Cert.RwInRefIdeal.main_arg10) = m' ((c.tc : Thread Cert.RwInRefIdeal.nD Cert.RwInRefIdeal.τ).loc Cert.RwInRefIdeal.main_arg10)
          ∧ r.2.mem ((c.tc : Thread Cert.RwInRefIdeal.nD Cert.RwInRefIdeal.τ).loc Cert.RwInRefIdeal.main_arg11) = m' ((c.tc : Thread Cert.RwInRefIdeal.nD Cert.RwInRefIdeal.τ).loc Cert.RwInRefIdeal.main_arg11)
          ∧ r.2.mem ((c.tc : Thread Cert.RwInRefIdeal.nD Cert.RwInRefIdeal.τ).loc Cert.RwInRefIdeal.main_arg12) = m' ((c.tc : Thread Cert.RwInRefIdeal.nD Cert.RwInRefIdeal.τ).loc Cert.RwInRefIdeal.main_arg12)
          ∧ r.2.mem ((c.tc : Thread Cert.RwInRefIdeal.nD Cert.RwInRefIdeal.τ).loc Cert.RwInRefIdeal.main_arg13) = m' ((c.tc : Thread Cert.RwInRefIdeal.nD Cert.RwInRefIdeal.τ).loc Cert.RwInRefIdeal.main_arg13)
          ∧ r.2.mem ((c.tc : Thread Cert.RwInRefIdeal.nD Cert.RwInRefIdeal.τ).loc Cert.RwInRefIdeal.main_arg14) = m' ((c.tc : Thread Cert.RwInRefIdeal.nD Cert.RwInRefIdeal.τ).loc Cert.RwInRefIdeal.main_arg14)
          ∧ r.2.mem ((c.tc : Thread Cert.RwInRefIdeal.nD Cert.RwInRefIdeal.τ).loc Cert.RwInRefIdeal.main_arg15) = m' ((c.tc : Thread Cert.RwInRefIdeal.nD Cert.RwInRefIdeal.τ).loc Cert.RwInRefIdeal.main_arg15))

def Claim : Prop :=
  ∃ (hKernel : Cert.Kernel.Facts) (hKernelIdeal : Cert.KernelIdeal.Facts) (hReferenceIdeal : Cert.ReferenceIdeal.Facts) (hIn0 : Cert.In0.Facts) (hIn0Ideal : Cert.In0Ideal.Facts) (hIn0RefIdeal : Cert.In0RefIdeal.Facts) (hMix0 : Cert.Mix0.Facts) (hMix0Ideal : Cert.Mix0Ideal.Facts) (hMix0RefIdeal : Cert.Mix0RefIdeal.Facts) (hMix1 : Cert.Mix1.Facts) (hMix1Ideal : Cert.Mix1Ideal.Facts) (hMix1RefIdeal : Cert.Mix1RefIdeal.Facts) (hRwIn : Cert.RwIn.Facts) (hRwInIdeal : Cert.RwInIdeal.Facts) (hRwInRefIdeal : Cert.RwInRefIdeal.Facts) (hPre_finite_inputs : Cert.Pre_finite_inputs.Facts) (hPre_finite_gates0 : Cert.Pre_finite_gates0.Facts) (hPre_finite_gates1 : Cert.Pre_finite_gates1.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_In0 (hIn0 := hIn0)
    ∧ quiescent_In0Ideal (hIn0Ideal := hIn0Ideal)
    ∧ quiescent_In0RefIdeal (hIn0RefIdeal := hIn0RefIdeal)
    ∧ quiescent_Mix0 (hMix0 := hMix0)
    ∧ quiescent_Mix0Ideal (hMix0Ideal := hMix0Ideal)
    ∧ quiescent_Mix0Ideal_pre_finite_gates0 (hMix0Ideal := hMix0Ideal) (hPre_finite_gates0 := hPre_finite_gates0)
    ∧ quiescent_Mix0RefIdeal (hMix0RefIdeal := hMix0RefIdeal)
    ∧ quiescent_Mix0RefIdeal_pre_finite_gates0 (hMix0RefIdeal := hMix0RefIdeal) (hPre_finite_gates0 := hPre_finite_gates0)
    ∧ quiescent_Mix1 (hMix1 := hMix1)
    ∧ quiescent_Mix1Ideal (hMix1Ideal := hMix1Ideal)
    ∧ quiescent_Mix1Ideal_pre_finite_gates1 (hMix1Ideal := hMix1Ideal) (hPre_finite_gates1 := hPre_finite_gates1)
    ∧ quiescent_Mix1RefIdeal (hMix1RefIdeal := hMix1RefIdeal)
    ∧ quiescent_Mix1RefIdeal_pre_finite_gates1 (hMix1RefIdeal := hMix1RefIdeal) (hPre_finite_gates1 := hPre_finite_gates1)
    ∧ quiescent_RwIn (hRwIn := hRwIn)
    ∧ quiescent_RwInIdeal (hRwInIdeal := hRwInIdeal)
    ∧ quiescent_RwInRefIdeal (hRwInRefIdeal := hRwInRefIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_In0_In0Ideal
    ∧ algebraic_In0Ideal_In0RefIdeal (hIn0Ideal := hIn0Ideal) (hIn0RefIdeal := hIn0RefIdeal)
    ∧ preserves_Mix0_Mix0Ideal
    ∧ algebraic_Mix0Ideal_Mix0RefIdeal_pre_finite_gates0 (hMix0Ideal := hMix0Ideal) (hMix0RefIdeal := hMix0RefIdeal) (hPre_finite_gates0 := hPre_finite_gates0)
    ∧ preserves_Mix1_Mix1Ideal
    ∧ algebraic_Mix1Ideal_Mix1RefIdeal_pre_finite_gates1 (hMix1Ideal := hMix1Ideal) (hMix1RefIdeal := hMix1RefIdeal) (hPre_finite_gates1 := hPre_finite_gates1)
    ∧ preserves_RwIn_RwInIdeal
    ∧ algebraic_RwInIdeal_RwInRefIdeal (hRwInIdeal := hRwInIdeal) (hRwInRefIdeal := hRwInRefIdeal)
-- ==== Pre_finite_gates0.lean ====
abbrev S16384x1024 : Shape := ⟨2, ![16384, 1024]⟩
abbrev S2048x1024 : Shape := ⟨2, ![2048, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S1x1024x5632 : Shape := ⟨3, ![1, 1024, 5632]⟩
abbrev S1024x5632 : Shape := ⟨2, ![1024, 5632]⟩

class Facts : Prop where
  slices_S2x1024_S1x1024_0_0 : S2x1024.Slices ![0, 0] S1x1024
  shapeCasts_S1x1024_S1024 : S1x1024.ShapeCasts S1024
  bcast_S_S1024 : S_.BroadcastsInDim S1024 (![] : Fin 0 → Fin S1024.rank)
  slices_S2x1024x5632_S1x1024x5632_0_0_0 : S2x1024x5632.Slices ![0, 0, 0] S1x1024x5632
  shapeCasts_S1x1024x5632_S1024x5632 : S1x1024x5632.ShapeCasts S1024x5632
  bcast_S_S1024x5632 : S_.BroadcastsInDim S1024x5632 (![] : Fin 0 → Fin S1024x5632.rank)

variable [Facts]

def fn {F : FTy → Type} [FloatOps F] (main_arg0 : FVec F S16384x1024 .bf16) (main_arg1 : FVec F S16384x1024 .bf16) (main_arg2 : FVec F S16384x1024 .f32) (main_arg3 : FVec F S2048x1024 .f32) (main_arg4 : FVec F S2x1024 .f32) (main_arg5 : FVec F S2x1024x5632 .f32) (main_arg6 : FVec F S2x2816x1024 .f32) (main_arg7 : FVec F S2x1024 .f32) : IVec S1024 1 × IVec S1024x5632 1 :=
  let main_v0 : FVec F S1x1024 .f32 := (extractStridedSlice S1x1024 ![0, 0] · slices_S2x1024_S1x1024_0_0) main_arg4
  let main_v1 : FVec F S1024 .f32 := shapeCast S1024 main_v0 shapeCasts_S1x1024_S1024
  let main_v2 : FVec F S1024 .f32 := Host.absf main_v1
  let main_cst : FVec F S_ .f32 := constant S_ .f32 0x7F800000#32
  let main_v3 : FVec F S1024 .f32 := broadcastInDim S1024 ![] bcast_S_S1024 main_cst
  let main_v4 : IVec S1024 1 := cmpf .olt main_v2 main_v3
  let main_v5 : FVec F S1x1024x5632 .f32 := (extractStridedSlice S1x1024x5632 ![0, 0, 0] · slices_S2x1024x5632_S1x1024x5632_0_0_0) main_arg5
  let main_v6 : FVec F S1024x5632 .f32 := shapeCast S1024x5632 main_v5 shapeCasts_S1x1024x5632_S1024x5632
  let main_v7 : FVec F S1024x5632 .f32 := Host.absf main_v6
  let main_cst_0 : FVec F S_ .f32 := constant S_ .f32 0x7F800000#32
  let main_v8 : FVec F S1024x5632 .f32 := broadcastInDim S1024x5632 ![] bcast_S_S1024x5632 main_cst_0
  let main_v9 : IVec S1024x5632 1 := cmpf .olt main_v7 main_v8
  (main_v4, main_v9)
-- ==== Pre_finite_gates1.lean ====
abbrev S16384x1024 : Shape := ⟨2, ![16384, 1024]⟩
abbrev S1024x1024 : Shape := ⟨2, ![1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1x1024 : Shape := ⟨2, ![1, 1024]⟩
abbrev S_ : Shape := ⟨0, ![]⟩
abbrev S1x1024x5632 : Shape := ⟨3, ![1, 1024, 5632]⟩
abbrev S1024x5632 : Shape := ⟨2, ![1024, 5632]⟩

class Facts : Prop where
  slices_S2x1024_S1x1024_1_0 : S2x1024.Slices ![1, 0] S1x1024
  shapeCasts_S1x1024_S1024 : S1x1024.ShapeCasts S1024
  bcast_S_S1024 : S_.BroadcastsInDim S1024 (![] : Fin 0 → Fin S1024.rank)
  slices_S2x1024x5632_S1x1024x5632_1_0_0 : S2x1024x5632.Slices ![1, 0, 0] S1x1024x5632
  shapeCasts_S1x1024x5632_S1024x5632 : S1x1024x5632.ShapeCasts S1024x5632
  bcast_S_S1024x5632 : S_.BroadcastsInDim S1024x5632 (![] : Fin 0 → Fin S1024x5632.rank)

variable [Facts]

def fn {F : FTy → Type} [FloatOps F] (main_arg0 : FVec F S16384x1024 .bf16) (main_arg1 : FVec F S16384x1024 .bf16) (main_arg2 : FVec F S16384x1024 .f32) (main_arg3 : FVec F S1024x1024 .f32) (main_arg4 : FVec F S2x1024 .f32) (main_arg5 : FVec F S2x1024x5632 .f32) (main_arg6 : FVec F S2x2816x1024 .f32) (main_arg7 : FVec F S1024 .f32) : IVec S1024 1 × IVec S1024x5632 1 :=
  let main_v0 : FVec F S1x1024 .f32 := (extractStridedSlice S1x1024 ![1, 0] · slices_S2x1024_S1x1024_1_0) main_arg4
  let main_v1 : FVec F S1024 .f32 := shapeCast S1024 main_v0 shapeCasts_S1x1024_S1024
  let main_v2 : FVec F S1024 .f32 := Host.absf main_v1
  let main_cst : FVec F S_ .f32 := constant S_ .f32 0x7F800000#32
  let main_v3 : FVec F S1024 .f32 := broadcastInDim S1024 ![] bcast_S_S1024 main_cst
  let main_v4 : IVec S1024 1 := cmpf .olt main_v2 main_v3
  let main_v5 : FVec F S1x1024x5632 .f32 := (extractStridedSlice S1x1024x5632 ![1, 0, 0] · slices_S2x1024x5632_S1x1024x5632_1_0_0) main_arg5
  let main_v6 : FVec F S1024x5632 .f32 := shapeCast S1024x5632 main_v5 shapeCasts_S1x1024x5632_S1024x5632
  let main_v7 : FVec F S1024x5632 .f32 := Host.absf main_v6
  let main_cst_0 : FVec F S_ .f32 := constant S_ .f32 0x7F800000#32
  let main_v8 : FVec F S1024x5632 .f32 := broadcastInDim S1024x5632 ![] bcast_S_S1024x5632 main_cst_0
  let main_v9 : IVec S1024x5632 1 := cmpf .olt main_v7 main_v8
  (main_v4, main_v9)
-- ==== Pre_finite_inputs.lean ====
abbrev S8x2048x1536 : Shape := ⟨3, ![8, 2048, 1536]⟩
abbrev S8x2048x1024 : Shape := ⟨3, ![8, 2048, 1024]⟩
abbrev S8x2048x128 : Shape := ⟨3, ![8, 2048, 128]⟩
abbrev S8x3x1536 : Shape := ⟨3, ![8, 3, 1536]⟩
abbrev S8x16x64x128 : Shape := ⟨4, ![8, 16, 64, 128]⟩
abbrev S4x1536 : Shape := ⟨2, ![4, 1536]⟩
abbrev S1536 : Shape := ⟨1, ![1536]⟩
abbrev S16 : Shape := ⟨1, ![16]⟩
abbrev S4 : Shape := ⟨1, ![4]⟩
abbrev S1024 : Shape := ⟨1, ![1024]⟩
abbrev S_ : Shape := ⟨0, ![]⟩

class Facts : Prop where
  bitsLt_bf16_f32 : FTy.bits .bf16 < FTy.bits .f32
  bcast_S_S8x2048x1536 : S_.BroadcastsInDim S8x2048x1536 (![] : Fin 0 → Fin S8x2048x1536.rank)
  bcast_S_S8x2048x1024 : S_.BroadcastsInDim S8x2048x1024 (![] : Fin 0 → Fin S8x2048x1024.rank)
  bcast_S_S8x2048x128 : S_.BroadcastsInDim S8x2048x128 (![] : Fin 0 → Fin S8x2048x128.rank)
  bcast_S_S8x3x1536 : S_.BroadcastsInDim S8x3x1536 (![] : Fin 0 → Fin S8x3x1536.rank)
  bcast_S_S4x1536 : S_.BroadcastsInDim S4x1536 (![] : Fin 0 → Fin S4x1536.rank)
  bcast_S_S1536 : S_.BroadcastsInDim S1536 (![] : Fin 0 → Fin S1536.rank)
  bcast_S_S16 : S_.BroadcastsInDim S16 (![] : Fin 0 → Fin S16.rank)

variable [Facts]

def fn_part1 {F : FTy → Type} [FloatOps F] (main_arg7 : FVec F S16 .f32) (main_arg10 : FVec F S16 .f32) (main_v3 : IVec S8x2048x1536 1) (main_v7 : IVec S8x2048x1024 1) (main_v10 : IVec S8x2048x128 1) (main_v13 : IVec S8x3x1536 1) (main_v16 : IVec S4x1536 1) (main_v17 : FVec F S1536 .f32) (main_cst_4 : FVec F S_ .f32) : IVec S8x2048x1536 1 × IVec S8x2048x1024 1 × IVec S8x2048x128 1 × IVec S8x3x1536 1 × IVec S4x1536 1 × IVec S1536 1 × IVec S16 1 × IVec S16 1 :=
  let main_v18 : FVec F S1536 .f32 := broadcastInDim S1536 ![] bcast_S_S1536 main_cst_4
  let main_v19 : IVec S1536 1 := cmpf .olt main_v17 main_v18
  let main_v20 : FVec F S16 .f32 := Host.absf main_arg7
  let main_cst_5 : FVec F S_ .f32 := constant S_ .f32 0x7F800000#32
  let main_v21 : FVec F S16 .f32 := broadcastInDim S16 ![] bcast_S_S16 main_cst_5
  let main_v22 : IVec S16 1 := cmpf .olt main_v20 main_v21
  let main_v23 : FVec F S16 .f32 := Host.absf main_arg10
  let main_cst_6 : FVec F S_ .f32 := constant S_ .f32 0x7F800000#32
  let main_v24 : FVec F S16 .f32 := broadcastInDim S16 ![] bcast_S_S16 main_cst_6
  let main_v25 : IVec S16 1 := cmpf .olt main_v23 main_v24
  (main_v3, main_v7, main_v10, main_v13, main_v16, main_v19, main_v22, main_v25)

def fn {F : FTy → Type} [FloatOps F] (main_arg0 : FVec F S8x2048x1536 .bf16) (main_arg1 : FVec F S8x2048x1024 .bf16) (main_arg2 : FVec F S8x2048x128 .f32) (main_arg3 : FVec F S8x3x1536 .f32) (main_arg4 : FVec F S8x16x64x128 .f32) (main_arg5 : FVec F S4x1536 .f32) (main_arg6 : FVec F S1536 .f32) (main_arg7 : FVec F S16 .f32) (main_arg8 : FVec F S4 .f32) (main_arg9 : FVec F S4 .f32) (main_arg10 : FVec F S16 .f32) (main_arg11 : FVec F S16 .f32) (main_arg12 : FVec F S1024 .f32) : IVec S8x2048x1536 1 × IVec S8x2048x1024 1 × IVec S8x2048x128 1 × IVec S8x3x1536 1 × IVec S4x1536 1 × IVec S1536 1 × IVec S16 1 × IVec S16 1 :=
  let main_v0 : FVec F S8x2048x1536 .f32 := (extf .f32 · bitsLt_bf16_f32) main_arg0
  let main_v1 : FVec F S8x2048x1536 .f32 := Host.absf main_v0
  let main_cst : FVec F S_ .f32 := constant S_ .f32 0x7F800000#32
  let main_v2 : FVec F S8x2048x1536 .f32 := broadcastInDim S8x2048x1536 ![] bcast_S_S8x2048x1536 main_cst
  let main_v3 : IVec S8x2048x1536 1 := cmpf .olt main_v1 main_v2
  let main_v4 : FVec F S8x2048x1024 .f32 := (extf .f32 · bitsLt_bf16_f32) main_arg1
  let main_v5 : FVec F S8x2048x1024 .f32 := Host.absf main_v4
  let main_cst_0 : FVec F S_ .f32 := constant S_ .f32 0x7F800000#32
  let main_v6 : FVec F S8x2048x1024 .f32 := broadcastInDim S8x2048x1024 ![] bcast_S_S8x2048x1024 main_cst_0
  let main_v7 : IVec S8x2048x1024 1 := cmpf .olt main_v5 main_v6
  let main_v8 : FVec F S8x2048x128 .f32 := Host.absf main_arg2
  let main_cst_1 : FVec F S_ .f32 := constant S_ .f32 0x7F800000#32
  let main_v9 : FVec F S8x2048x128 .f32 := broadcastInDim S8x2048x128 ![] bcast_S_S8x2048x128 main_cst_1
  let main_v10 : IVec S8x2048x128 1 := cmpf .olt main_v8 main_v9
  let main_v11 : FVec F S8x3x1536 .f32 := Host.absf main_arg3
  let main_cst_2 : FVec F S_ .f32 := constant S_ .f32 0x7F800000#32
  let main_v12 : FVec F S8x3x1536 .f32 := broadcastInDim S8x3x1536 ![] bcast_S_S8x3x1536 main_cst_2
  let main_v13 : IVec S8x3x1536 1 := cmpf .olt main_v11 main_v12
  let main_v14 : FVec F S4x1536 .f32 := Host.absf main_arg5
  let main_cst_3 : FVec F S_ .f32 := constant S_ .f32 0x7F800000#32
  let main_v15 : FVec F S4x1536 .f32 := broadcastInDim S4x1536 ![] bcast_S_S4x1536 main_cst_3
  let main_v16 : IVec S4x1536 1 := cmpf .olt main_v14 main_v15
  let main_v17 : FVec F S1536 .f32 := Host.absf main_arg6
  let main_cst_4 : FVec F S_ .f32 := constant S_ .f32 0x7F800000#32
  fn_part1 (F := F) main_arg7 main_arg10 main_v3 main_v7 main_v10 main_v13 main_v16 main_v17 main_cst_4
-- ==== Kernel.lean ====
abbrev S8x2048x1536 : Shape := ⟨3, ![8, 2048, 1536]⟩
abbrev S8x2048x1024 : Shape := ⟨3, ![8, 2048, 1024]⟩
abbrev S8x2048x128 : Shape := ⟨3, ![8, 2048, 128]⟩
abbrev S8x3x1536 : Shape := ⟨3, ![8, 3, 1536]⟩
abbrev S8x16x64x128 : Shape := ⟨4, ![8, 16, 64, 128]⟩
abbrev S4x1536 : Shape := ⟨2, ![4, 1536]⟩
abbrev S1536 : Shape := ⟨1, ![1536]⟩
abbrev S16 : Shape := ⟨1, ![16]⟩
abbrev S4 : Shape := ⟨1, ![4]⟩
abbrev S1024 : Shape := ⟨1, ![1024]⟩
abbrev S_ : Shape := ⟨0, ![]⟩
abbrev S8x8x1536 : Shape := ⟨3, ![8, 8, 1536]⟩
abbrev S1x16 : Shape := ⟨2, ![1, 16]⟩
abbrev S1x4 : Shape := ⟨2, ![1, 4]⟩
abbrev S1x24 : Shape := ⟨2, ![1, 24]⟩
abbrev S1x128 : Shape := ⟨2, ![1, 128]⟩
abbrev S1x1536 : Shape := ⟨2, ![1, 1536]⟩
abbrev S16x64 : Shape := ⟨2, ![16, 64]⟩
abbrev S1x1024 : Shape := ⟨2, ![1, 1024]⟩
abbrev S128 : Shape := ⟨1, ![128]⟩
abbrev S128x1 : Shape := ⟨2, ![128, 1]⟩
abbrev S128x1024 : Shape := ⟨2, ![128, 1024]⟩
abbrev S8x1024x128 : Shape := ⟨3, ![8, 1024, 128]⟩
abbrev S1x128x1536 : Shape := ⟨3, ![1, 128, 1536]⟩
abbrev S1x128x1024 : Shape := ⟨3, ![1, 128, 1024]⟩
abbrev S1x128x128 : Shape := ⟨3, ![1, 128, 128]⟩
abbrev S1x8x1536 : Shape := ⟨3, ![1, 8, 1536]⟩
abbrev S1x1024x128 : Shape := ⟨3, ![1, 1024, 128]⟩
abbrev S8x1536 : Shape := ⟨2, ![8, 1536]⟩
abbrev S1024x128 : Shape := ⟨2, ![1024, 128]⟩
abbrev S128x1536 : Shape := ⟨2, ![128, 1536]⟩
abbrev S384x128 : Shape := ⟨2, ![384, 128]⟩
abbrev S384x1536 : Shape := ⟨2, ![384, 1536]⟩
abbrev S16x1536 : Shape := ⟨2, ![16, 1536]⟩
abbrev S120x1536 : Shape := ⟨2, ![120, 1536]⟩
abbrev S128x256 : Shape := ⟨2, ![128, 256]⟩
abbrev S128x128 : Shape := ⟨2, ![128, 128]⟩
abbrev S256x128 : Shape := ⟨2, ![256, 128]⟩
abbrev S512x128 : Shape := ⟨2, ![512, 128]⟩
abbrev S128x512 : Shape := ⟨2, ![128, 512]⟩
abbrev S64x128 : Shape := ⟨2, ![64, 128]⟩
abbrev S1x1 : Shape := ⟨2, ![1, 1]⟩

abbrev nBuf : Space → Nat
  | .hbm => 61
  | .vmem => 23
  | .smem => 0
  | _ => 0

abbrev bufTy : (tb : Table) → Fin (tcTables nBuf tb) → BufTy
  | .hbm, ⟨0, _⟩ => ⟨S8x2048x1536, .bf16⟩
  | .hbm, ⟨1, _⟩ => ⟨S8x2048x1024, .bf16⟩
  | .hbm, ⟨2, _⟩ => ⟨S8x2048x128, .f32⟩
  | .hbm, ⟨3, _⟩ => ⟨S8x3x1536, .f32⟩
  | .hbm, ⟨4, _⟩ => ⟨S8x16x64x128, .f32⟩
  | .hbm, ⟨5, _⟩ => ⟨S4x1536, .f32⟩
  | .hbm, ⟨6, _⟩ => ⟨S1536, .f32⟩
  | .hbm, ⟨7, _⟩ => ⟨S16, .f32⟩
  | .hbm, ⟨8, _⟩ => ⟨S4, .f32⟩
  | .hbm, ⟨9, _⟩ => ⟨S4, .f32⟩
  | .hbm, ⟨10, _⟩ => ⟨S16, .f32⟩
  | .hbm, ⟨11, _⟩ => ⟨S16, .f32⟩
  | .hbm, ⟨12, _⟩ => ⟨S1024, .f32⟩
  | .hbm, ⟨13, _⟩ => ⟨S_, .i32⟩
  | .hbm, ⟨14, _⟩ => ⟨S_, .f32⟩
  | .hbm, ⟨15, _⟩ => ⟨S8x8x1536, .f32⟩
  | .hbm, ⟨16, _⟩ => ⟨S1x16, .f32⟩
  | .hbm, ⟨17, _⟩ => ⟨S1x4, .f32⟩
  | .hbm, ⟨18, _⟩ => ⟨S1x4, .f32⟩
  | .hbm, ⟨19, _⟩ => ⟨S1x24, .f32⟩
  | .hbm, ⟨20, _⟩ => ⟨S_, .i32⟩
  | .hbm, ⟨21, _⟩ => ⟨S_, .f32⟩
  | .hbm, ⟨22, _⟩ => ⟨S1x128, .f32⟩
  | .hbm, ⟨23, _⟩ => ⟨S1x1536, .f32⟩
  | .hbm, ⟨24, _⟩ => ⟨S1x16, .f32⟩
  | .hbm, ⟨25, _⟩ => ⟨S_, .i32⟩
  | .hbm, ⟨26, _⟩ => ⟨S_, .f32⟩
  | .hbm, ⟨27, _⟩ => ⟨S1x128, .f32⟩
  | .hbm, ⟨28, _⟩ => ⟨S16x64, .f32⟩
  | .hbm, ⟨29, _⟩ => ⟨S1024, .f32⟩
  | .hbm, ⟨30, _⟩ => ⟨S1x1024, .f32⟩
  | .hbm, ⟨31, _⟩ => ⟨S1x1024, .f32⟩
  | .hbm, ⟨32, _⟩ => ⟨S1024, .i32⟩
  | .hbm, ⟨33, _⟩ => ⟨S_, .i32⟩
  | .hbm, ⟨34, _⟩ => ⟨S_, .i32⟩
  | .hbm, ⟨35, _⟩ => ⟨S1024, .i32⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i32⟩
  | .hbm, ⟨42, _⟩ => ⟨S1024, .i32⟩
  | .hbm, ⟨43, _⟩ => ⟨S_, .i32⟩
  | .hbm, ⟨44, _⟩ => ⟨S1024, .i32⟩
  | .hbm, ⟨45, _⟩ => ⟨S1024, .i1⟩
  | .hbm, ⟨46, _⟩ => ⟨S1024, .i1⟩
  | .hbm, ⟨47, _⟩ => ⟨S_, .i32⟩
  | .hbm, ⟨48, _⟩ => ⟨S1024, .i32⟩
  | .hbm, ⟨49, _⟩ => ⟨S1024, .i32⟩
  | .hbm, ⟨50, _⟩ => ⟨S1024, .i32⟩
  | .hbm, ⟨51, _⟩ => ⟨S128, .i32⟩
  | .hbm, ⟨52, _⟩ => ⟨S128x1, .i32⟩
  | .hbm, ⟨53, _⟩ => ⟨S1x1024, .i32⟩
  | .hbm, ⟨54, _⟩ => ⟨S128x1024, .i32⟩
  | .hbm, ⟨55, _⟩ => ⟨S128x1024, .i32⟩
  | .hbm, ⟨56, _⟩ => ⟨S128x1024, .i1⟩
  | .hbm, ⟨57, _⟩ => ⟨S128x1024, .bf16⟩
  | .hbm, ⟨58, _⟩ => ⟨S8x1024x128, .f32⟩
  | .hbm, ⟨59, _⟩ => ⟨S8x2048x1024, .bf16⟩
  | .hbm, ⟨60, _⟩ => ⟨S8x1024x128, .f32⟩
  | .local _ .vmem, ⟨0, _⟩ => ⟨S1x128x1536, .bf16⟩
  | .local _ .vmem, ⟨1, _⟩ => ⟨S1x128x1536, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x128, .f32⟩
  | .local _ .vmem, ⟨5, _⟩ => ⟨S1x128x128, .f32⟩
  | .local _ .vmem, ⟨6, _⟩ => ⟨S1x8x1536, .f32⟩
  | .local _ .vmem, ⟨7, _⟩ => ⟨S1x8x1536, .f32⟩
  | .local _ .vmem, ⟨8, _⟩ => ⟨S1x1024x128, .f32⟩
  | .local _ .vmem, ⟨9, _⟩ => ⟨S1x1024x128, .f32⟩
  | .local _ .vmem, ⟨10, _⟩ => ⟨S4x1536, .f32⟩
  | .local _ .vmem, ⟨11, _⟩ => ⟨S1x1536, .f32⟩
  | .local _ .vmem, ⟨12, _⟩ => ⟨S1x128, .f32⟩
  | .local _ .vmem, ⟨13, _⟩ => ⟨S1x128, .f32⟩
  | .local _ .vmem, ⟨14, _⟩ => ⟨S1x1024, .f32⟩
  | .local _ .vmem, ⟨15, _⟩ => ⟨S1x1024, .f32⟩
  | .local _ .vmem, ⟨16, _⟩ => ⟨S128x1024, .bf16⟩
  | .local _ .vmem, ⟨17, _⟩ => ⟨S1x128x1024, .bf16⟩
  | .local _ .vmem, ⟨18, _⟩ => ⟨S1x128x1024, .bf16⟩
  | .local _ .vmem, ⟨19, _⟩ => ⟨S1x1024x128, .f32⟩
  | .local _ .vmem, ⟨20, _⟩ => ⟨S1x1024x128, .f32⟩
  | .local _ .vmem, ⟨21, _⟩ => ⟨S8x1536, .f32⟩
  | .local _ .vmem, ⟨22, _⟩ => ⟨S1024x128, .f32⟩
  | _, _ => ⟨S8x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c_0 : Ref sig .tc := ⟨.hbm, 20, rfl⟩
abbrev main_call1_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c_1 : Ref sig .tc := ⟨.hbm, 25, rfl⟩
abbrev main_call2_v0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_2 : Ref sig .tc := ⟨.hbm, 33, rfl⟩
abbrev main_call3_v0 : Ref sig .tc := ⟨.hbm, 34, rfl⟩
abbrev main_call3_v1 : Ref sig .tc := ⟨.hbm, 35, rfl⟩
abbrev main_call3_v2 : Ref sig .tc := ⟨.hbm, 36, rfl⟩
abbrev main_call3_v3 : Ref sig .tc := ⟨.hbm, 37, rfl⟩
abbrev main_call3_v4 : Ref sig .tc := ⟨.hbm, 38, rfl⟩
abbrev main_call3_v5 : Ref sig .tc := ⟨.hbm, 39, rfl⟩
abbrev main_call3_v6 : Ref sig .tc := ⟨.hbm, 40, rfl⟩
abbrev main_call3_v7 : Ref sig .tc := ⟨.hbm, 41, rfl⟩
abbrev main_call3_v8 : Ref sig .tc := ⟨.hbm, 42, rfl⟩
abbrev main_call3_c : Ref sig .tc := ⟨.hbm, 43, rfl⟩
abbrev main_call3_v9 : Ref sig .tc := ⟨.hbm, 44, rfl⟩
abbrev main_call3_v10 : Ref sig .tc := ⟨.hbm, 45, rfl⟩
abbrev main_call3_v11 : Ref sig .tc := ⟨.hbm, 46, rfl⟩
abbrev main_call3_c_0 : Ref sig .tc := ⟨.hbm, 47, rfl⟩
abbrev main_call3_v12 : Ref sig .tc := ⟨.hbm, 48, rfl⟩
abbrev main_call3_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23_0 : Ref sig .tc := ⟨.hbm, 59, rfl⟩
abbrev main_v23_1 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![8, 16], ![false, false]⟩

def k0_cond3 (i : grid0.Coords) : BitVec 1 :=
  let arg1 : BitVec 32 := BitVec.ofNat 32 (i 1).val
  let c15_i32 : BitVec 32 := 15#32
  let v684 : BitVec 1 := Scalar.cmpi .eq arg1 c15_i32
  let v685 : BitVec 32 := Scalar.extui v684
  let c0_i32_143 : BitVec 32 := 0#32
  let v686 : BitVec 1 := Scalar.cmpi .ne v685 c0_i32_143
  v686

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S8x2048x1536 : Shape := ⟨3, ![8, 2048, 1536]⟩
abbrev S8x2048x1024 : Shape := ⟨3, ![8, 2048, 1024]⟩
abbrev S8x2048x128 : Shape := ⟨3, ![8, 2048, 128]⟩
abbrev S8x3x1536 : Shape := ⟨3, ![8, 3, 1536]⟩
abbrev S8x16x64x128 : Shape := ⟨4, ![8, 16, 64, 128]⟩
abbrev S4x1536 : Shape := ⟨2, ![4, 1536]⟩
abbrev S1536 : Shape := ⟨1, ![1536]⟩
abbrev S16 : Shape := ⟨1, ![16]⟩
abbrev S4 : Shape := ⟨1, ![4]⟩
abbrev S1024 : Shape := ⟨1, ![1024]⟩
abbrev S8x2051x1536 : Shape := ⟨3, ![8, 2051, 1536]⟩
abbrev S1x1536 : Shape := ⟨2, ![1, 1536]⟩
abbrev S1x1x1536 : Shape := ⟨3, ![1, 1, 1536]⟩
abbrev S_ : Shape := ⟨0, ![]⟩
abbrev S8x2048x256 : Shape := ⟨3, ![8, 2048, 256]⟩
abbrev S8x2048x2x128 : Shape := ⟨4, ![8, 2048, 2, 128]⟩
abbrev S8x2048x16 : Shape := ⟨3, ![8, 2048, 16]⟩
abbrev S1x1x16 : Shape := ⟨3, ![1, 1, 16]⟩
abbrev S2x8 : Shape := ⟨2, ![2, 8]⟩
abbrev S8x2048x16x64 : Shape := ⟨4, ![8, 2048, 16, 64]⟩
abbrev S128x128 : Shape := ⟨2, ![128, 128]⟩
abbrev S1x128x128x1x1 : Shape := ⟨5, ![1, 128, 128, 1, 1]⟩
abbrev S8x2x8x64x128 : Shape := ⟨5, ![8, 2, 8, 64, 128]⟩
abbrev S8x2048x2x8x64 : Shape := ⟨5, ![8, 2048, 2, 8, 64]⟩
abbrev S8x16x128x2x8x64 : Shape := ⟨6, ![8, 16, 128, 2, 8, 64]⟩
abbrev S16x8x128x2x8x64 : Shape := ⟨6, ![16, 8, 128, 2, 8, 64]⟩
abbrev S8x2048x2x8 : Shape := ⟨4, ![8, 2048, 2, 8]⟩
abbrev S8x16x128x2x8 : Shape := ⟨5, ![8, 16, 128, 2, 8]⟩
abbrev S16x8x128x2x8 : Shape := ⟨5, ![16, 8, 128, 2, 8]⟩
abbrev S8x16x128x2x128 : Shape := ⟨5, ![8, 16, 128, 2, 128]⟩
abbrev S16x8x128x2x128 : Shape := ⟨5, ![16, 8, 128, 2, 128]⟩
abbrev S1x8x128x2x8x64 : Shape := ⟨6, ![1, 8, 128, 2, 8, 64]⟩
abbrev S8x128x2x8x64 : Shape := ⟨5, ![8, 128, 2, 8, 64]⟩
abbrev S1x8x128x2x8 : Shape := ⟨5, ![1, 8, 128, 2, 8]⟩
abbrev S8x128x2x8 : Shape := ⟨4, ![8, 128, 2, 8]⟩
abbrev S1x8x128x2x128 : Shape := ⟨5, ![1, 8, 128, 2, 128]⟩
abbrev S8x128x2x128 : Shape := ⟨4, ![8, 128, 2, 128]⟩
abbrev S1x1x2x8 : Shape := ⟨4, ![1, 1, 2, 8]⟩
abbrev S8x128x1x2x8 : Shape := ⟨5, ![8, 128, 1, 2, 8]⟩
abbrev S8x1x128x2x8 : Shape := ⟨5, ![8, 1, 128, 2, 8]⟩
abbrev S8x128x128x2x8 : Shape := ⟨5, ![8, 128, 128, 2, 8]⟩
abbrev S8x2x128x128 : Shape := ⟨4, ![8, 2, 128, 128]⟩
abbrev S8x128x128x2 : Shape := ⟨4, ![8, 128, 128, 2]⟩
abbrev S8x128x128x2x1 : Shape := ⟨5, ![8, 128, 128, 2, 1]⟩
abbrev S8x128x2x8x1 : Shape := ⟨5, ![8, 128, 2, 8, 1]⟩
abbrev S8x1x2x8 : Shape := ⟨4, ![8, 1, 2, 8]⟩
abbrev S8x2x8 : Shape := ⟨3, ![8, 2, 8]⟩
abbrev S8x2x8x1x1 : Shape := ⟨5, ![8, 2, 8, 1, 1]⟩
abbrev S16x1 : Shape := ⟨2, ![16, 1]⟩
abbrev S1x1x16x1 : Shape := ⟨4, ![1, 1, 16, 1]⟩
abbrev S8x2048x2x512 : Shape := ⟨4, ![8, 2048, 2, 512]⟩
abbrev S8x2048x2 : Shape := ⟨3, ![8, 2048, 2]⟩
abbrev S8x2048x2x1 : Shape := ⟨4, ![8, 2048, 2, 1]⟩
abbrev S1x1x1024 : Shape := ⟨3, ![1, 1, 1024]⟩
abbrev S8x1024x128 : Shape := ⟨3, ![8, 1024, 128]⟩

abbrev nBuf : Space → Nat
  | .hbm => 241
  | .vmem => 0
  | .smem => 0
  | _ => 0

abbrev hbmTy0_0 (i : Nat) : BufTy := match i % 128 with
  | 0 => ⟨S8x2048x1536, .bf16⟩
  | 1 => ⟨S8x2048x1024, .bf16⟩
  | 2 => ⟨S8x2048x128, .f32⟩
  | 3 => ⟨S8x3x1536, .f32⟩
  | 4 => ⟨S8x16x64x128, .f32⟩
  | 5 => ⟨S4x1536, .f32⟩
  | 6 => ⟨S1536, .f32⟩
  | 7 => ⟨S16, .f32⟩
  | 8 => ⟨S4, .f32⟩
  | 9 => ⟨S4, .f32⟩
  | 10 => ⟨S16, .f32⟩
  | 11 => ⟨S16, .f32⟩
  | 12 => ⟨S1024, .f32⟩
  | 13 => ⟨S8x2048x1536, .f32⟩
  | 14 => ⟨S8x2051x1536, .f32⟩
  | 15 => ⟨S8x2048x1536, .f32⟩
  | 16 => ⟨S1x1536, .f32⟩
  | 17 => ⟨S1536, .f32⟩
  | 18 => ⟨S1x1x1536, .f32⟩
  | 19 => ⟨S8x2048x1536, .f32⟩
  | 20 => ⟨S8x2048x1536, .f32⟩
  | 21 => ⟨S1x1x1536, .f32⟩
  | 22 => ⟨S8x2048x1536, .f32⟩
  | 23 => ⟨S8x2048x1536, .f32⟩
  | 24 => ⟨S8x2048x1536, .f32⟩
  | 25 => ⟨S1x1536, .f32⟩
  | 26 => ⟨S1536, .f32⟩
  | 27 => ⟨S1x1x1536, .f32⟩
  | 28 => ⟨S8x2048x1536, .f32⟩
  | 29 => ⟨S8x2048x1536, .f32⟩
  | 30 => ⟨S8x2048x1536, .f32⟩
  | 31 => ⟨S8x2048x1536, .f32⟩
  | 32 => ⟨S1x1536, .f32⟩
  | 33 => ⟨S1536, .f32⟩
  | 34 => ⟨S1x1x1536, .f32⟩
  | 35 => ⟨S8x2048x1536, .f32⟩
  | 36 => ⟨S8x2048x1536, .f32⟩
  | 37 => ⟨S8x2048x1536, .f32⟩
  | 38 => ⟨S8x2048x1536, .f32⟩
  | 39 => ⟨S1x1536, .f32⟩
  | 40 => ⟨S1536, .f32⟩
  | 41 => ⟨S1x1x1536, .f32⟩
  | 42 => ⟨S8x2048x1536, .f32⟩
  | 43 => ⟨S8x2048x1536, .f32⟩
  | 44 => ⟨S8x2048x1536, .f32⟩
  | 45 => ⟨S8x2048x1536, .f32⟩
  | 46 => ⟨S8x2048x1536, .f32⟩
  | 47 => ⟨S_, .f32⟩
  | 48 => ⟨S8x2048x1536, .f32⟩
  | 49 => ⟨S8x2048x1536, .f32⟩
  | 50 => ⟨S_, .f32⟩
  | 51 => ⟨S8x2048x1536, .f32⟩
  | 52 => ⟨S8x2048x1536, .f32⟩
  | 53 => ⟨S8x2048x1536, .f32⟩
  | 54 => ⟨S8x2048x1024, .f32⟩
  | 55 => ⟨S8x2048x256, .f32⟩
  | 56 => ⟨S8x2048x2x128, .f32⟩
  | 57 => ⟨S8x2048x256, .f32⟩
  | 58 => ⟨S8x2048x2x128, .f32⟩
  | 59 => ⟨S8x2048x16, .f32⟩
  | 60 => ⟨S1x1x16, .f32⟩
  | 61 => ⟨S8x2048x16, .f32⟩
  | 62 => ⟨S8x2048x16, .f32⟩
  | 63 => ⟨S_, .f32⟩
  | 64 => ⟨S8x2048x16, .f32⟩
  | 65 => ⟨S8x2048x16, .f32⟩
  | 66 => ⟨S8x2048x16, .f32⟩
  | 67 => ⟨S8x2048x16, .f32⟩
  | 68 => ⟨S8x2048x16, .i1⟩
  | 69 => ⟨S8x2048x16, .f32⟩
  | 70 => ⟨S8x2048x16, .f32⟩
  | 71 => ⟨S8x2048x16, .f32⟩
  | 72 => ⟨S8x2048x16, .f32⟩
  | 73 => ⟨S8x2048x16, .f32⟩
  | 74 => ⟨S8x2048x16, .f32⟩
  | 75 => ⟨S8x2048x16, .f32⟩
  | 76 => ⟨S8x2048x16, .f32⟩
  | 77 => ⟨S16, .f32⟩
  | 78 => ⟨S16, .f32⟩
  | 79 => ⟨S2x8, .f32⟩
  | 80 => ⟨S8x2048x16x64, .f32⟩
  | 81 => ⟨S_, .i1⟩
  | 82 => ⟨S128x128, .i1⟩
  | 83 => ⟨S128x128, .i32⟩
  | 84 => ⟨S_, .i32⟩
  | 85 => ⟨S128x128, .i32⟩
  | 86 => ⟨S128x128, .i32⟩
  | 87 => ⟨S128x128, .i32⟩
  | 88 => ⟨S128x128, .i1⟩
  | 89 => ⟨S_, .i1⟩
  | 90 => ⟨S128x128, .i1⟩
  | 91 => ⟨S128x128, .i1⟩
  | 92 => ⟨S1x128x128x1x1, .i1⟩
  | 93 => ⟨S8x2x8x64x128, .f32⟩
  | 94 => ⟨S8x2048x2x8x64, .f32⟩
  | 95 => ⟨S8x16x128x2x8x64, .f32⟩
  | 96 => ⟨S16x8x128x2x8x64, .f32⟩
  | 97 => ⟨S8x2048x2x8, .f32⟩
  | 98 => ⟨S8x16x128x2x8, .f32⟩
  | 99 => ⟨S16x8x128x2x8, .f32⟩
  | 100 => ⟨S8x16x128x2x128, .f32⟩
  | 101 => ⟨S16x8x128x2x128, .f32⟩
  | 102 => ⟨S8x16x128x2x128, .f32⟩
  | 103 => ⟨S16x8x128x2x128, .f32⟩
  | 104 => ⟨S_, .f32⟩
  | 105 => ⟨S16x8x128x2x8x64, .f32⟩
  | 106 => ⟨S_, .i32⟩
  | 107 => ⟨S16x8x128x2x8x64, .f32⟩
  | 108 => ⟨S16x8x128x2x8, .f32⟩
  | 109 => ⟨S16x8x128x2x128, .f32⟩
  | 110 => ⟨S16x8x128x2x128, .f32⟩
  | 111 => ⟨S2x8, .f32⟩
  | 112 => ⟨S1x128x128x1x1, .i1⟩
  | 113 => ⟨S_, .i32⟩
  | 114 => ⟨S8x2x8x64x128, .f32⟩
  | 115 => ⟨S16x8x128x2x8x64, .f32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S_, .i32⟩
  | 123 => ⟨S1x8x128x2x8x64, .f32⟩
  | 124 => ⟨S8x128x2x8x64, .f32⟩
  | 125 => ⟨S_, .i32⟩
  | 126 => ⟨S_, .i32⟩
  | 127 => ⟨S_, .i32⟩
  | _ => ⟨S8x2048x1536, .bf16⟩

abbrev hbmTy0_1 (i : Nat) : BufTy := match i % 128 with
  | 0 => ⟨S_, .i32⟩
  | 1 => ⟨S1x8x128x2x8, .f32⟩
  | 2 => ⟨S8x128x2x8, .f32⟩
  | 3 => ⟨S_, .i32⟩
  | 4 => ⟨S_, .i32⟩
  | 5 => ⟨S_, .i32⟩
  | 6 => ⟨S_, .i32⟩
  | 7 => ⟨S1x8x128x2x128, .f32⟩
  | 8 => ⟨S8x128x2x128, .f32⟩
  | 9 => ⟨S_, .i32⟩
  | 10 => ⟨S_, .i32⟩
  | 11 => ⟨S_, .i32⟩
  | 12 => ⟨S_, .i32⟩
  | 13 => ⟨S1x8x128x2x128, .f32⟩
  | 14 => ⟨S8x128x2x128, .f32⟩
  | 15 => ⟨S1x1x2x8, .f32⟩
  | 16 => ⟨S8x128x2x8, .f32⟩
  | 17 => ⟨S8x128x2x8, .f32⟩
  | 18 => ⟨S_, .f32⟩
  | 19 => ⟨S_, .f32⟩
  | 20 => ⟨S8x128x2x8, .f32⟩
  | 21 => ⟨S8x128x1x2x8, .f32⟩
  | 22 => ⟨S8x1x128x2x8, .f32⟩
  | 23 => ⟨S8x128x128x2x8, .f32⟩
  | 24 => ⟨S8x128x128x2x8, .f32⟩
  | 25 => ⟨S8x128x128x2x8, .f32⟩
  | 26 => ⟨S_, .f32⟩
  | 27 => ⟨S_, .f32⟩
  | 28 => ⟨S8x128x128x2x8, .i1⟩
  | 29 => ⟨S8x128x128x2x8, .f32⟩
  | 30 => ⟨S8x128x128x2x8, .f32⟩
  | 31 => ⟨S8x2x128x128, .f32⟩
  | 32 => ⟨S8x128x128x2, .f32⟩
  | 33 => ⟨S8x128x128x2x8, .f32⟩
  | 34 => ⟨S8x128x128x2x1, .f32⟩
  | 35 => ⟨S8x128x128x2x8, .f32⟩
  | 36 => ⟨S8x128x128x2x8, .f32⟩
  | 37 => ⟨S8x1x128x2x8, .f32⟩
  | 38 => ⟨S8x128x128x2x8, .f32⟩
  | 39 => ⟨S8x128x128x2x8, .f32⟩
  | 40 => ⟨S8x2x8x64x128, .f32⟩
  | 41 => ⟨S8x128x2x8x64, .f32⟩
  | 42 => ⟨S8x128x2x8, .f32⟩
  | 43 => ⟨S8x128x2x8x1, .f32⟩
  | 44 => ⟨S8x2x8x64x128, .f32⟩
  | 45 => ⟨S8x128x2x8x64, .f32⟩
  | 46 => ⟨S8x128x2x8x64, .f32⟩
  | 47 => ⟨S8x128x2x8x64, .f32⟩
  | 48 => ⟨S8x128x2x8x64, .f32⟩
  | 49 => ⟨S8x1x2x8, .f32⟩
  | 50 => ⟨S8x128x2x8, .f32⟩
  | 51 => ⟨S8x128x2x8, .f32⟩
  | 52 => ⟨S8x128x2x8, .f32⟩
  | 53 => ⟨S8x128x2x8, .f32⟩
  | 54 => ⟨S8x1x2x8, .f32⟩
  | 55 => ⟨S8x2x8, .f32⟩
  | 56 => ⟨S8x2x8, .f32⟩
  | 57 => ⟨S8x2x8x1x1, .f32⟩
  | 58 => ⟨S8x2x8x64x128, .f32⟩
  | 59 => ⟨S8x2x8x64x128, .f32⟩
  | 60 => ⟨S8x128x2x8x1, .f32⟩
  | 61 => ⟨S8x128x2x8x64, .f32⟩
  | 62 => ⟨S8x128x2x8x64, .f32⟩
  | 63 => ⟨S8x2x8x64x128, .f32⟩
  | 64 => ⟨S8x2x8x64x128, .f32⟩
  | 65 => ⟨S1x8x128x2x8x64, .f32⟩
  | 66 => ⟨S_, .i32⟩
  | 67 => ⟨S_, .i32⟩
  | 68 => ⟨S_, .i32⟩
  | 69 => ⟨S_, .i32⟩
  | 70 => ⟨S_, .i32⟩
  | 71 => ⟨S16x8x128x2x8x64, .f32⟩
  | 72 => ⟨S_, .i32⟩
  | 73 => ⟨S_, .i32⟩
  | 74 => ⟨S8x16x128x2x8x64, .f32⟩
  | 75 => ⟨S8x2048x16x64, .f32⟩
  | 76 => ⟨S16x1, .f32⟩
  | 77 => ⟨S1x1x16x1, .f32⟩
  | 78 => ⟨S8x2048x16x64, .f32⟩
  | 79 => ⟨S8x2048x16x64, .f32⟩
  | 80 => ⟨S8x2048x16x64, .f32⟩
  | 81 => ⟨S8x2048x1024, .f32⟩
  | 82 => ⟨S8x2048x1024, .f32⟩
  | 83 => ⟨S8x2048x1024, .f32⟩
  | 84 => ⟨S8x2048x1024, .f32⟩
  | 85 => ⟨S_, .f32⟩
  | 86 => ⟨S8x2048x1024, .f32⟩
  | 87 => ⟨S8x2048x1024, .f32⟩
  | 88 => ⟨S_, .f32⟩
  | 89 => ⟨S8x2048x1024, .f32⟩
  | 90 => ⟨S8x2048x1024, .f32⟩
  | 91 => ⟨S8x2048x1024, .f32⟩
  | 92 => ⟨S8x2048x1024, .f32⟩
  | 93 => ⟨S8x2048x2x512, .f32⟩
  | 94 => ⟨S8x2048x2x512, .f32⟩
  | 95 => ⟨S_, .f32⟩
  | 96 => ⟨S8x2048x2, .f32⟩
  | 97 => ⟨S8x2048x2x1, .f32⟩
  | 98 => ⟨S_, .f32⟩
  | 99 => ⟨S8x2048x2x1, .f32⟩
  | 100 => ⟨S8x2048x2x1, .f32⟩
  | 101 => ⟨S_, .f32⟩
  | 102 => ⟨S8x2048x2x1, .f32⟩
  | 103 => ⟨S8x2048x2x1, .f32⟩
  | 104 => ⟨S8x2048x2x1, .f32⟩
  | 105 => ⟨S8x2048x2x512, .f32⟩
  | 106 => ⟨S8x2048x2x512, .f32⟩
  | 107 => ⟨S8x2048x1024, .f32⟩
  | 108 => ⟨S1x1x1024, .f32⟩
  | 109 => ⟨S8x2048x1024, .f32⟩
  | 110 => ⟨S8x2048x1024, .f32⟩
  | 111 => ⟨S8x2048x1024, .bf16⟩
  | 112 => ⟨S8x1024x128, .f32⟩
  | _ => ⟨S8x2048x1536, .bf16⟩

abbrev hbmTy (i : Nat) : BufTy := match i / 128 with
  | 0 => hbmTy0_0 i
  | 1 => hbmTy0_1 i
  | _ => ⟨S8x2048x1536, .bf16⟩

abbrev bufTy : (tb : Table) → Fin (tcTables nBuf tb) → BufTy
  | .hbm, ⟨i, _⟩ => hbmTy i
  | _, _ => ⟨S8x2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_call1_cst : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_c : Ref sig .tc := ⟨.hbm, 81, rfl⟩
abbrev main_v47 : Ref sig .tc := ⟨.hbm, 82, rfl⟩
abbrev main_call2_v0 : Ref sig .tc := ⟨.hbm, 83, rfl⟩
abbrev main_call2_c : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_c_0 : Ref sig .tc := ⟨.hbm, 89, rfl⟩
abbrev main_call2_v5 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_cst : Ref sig .tc := ⟨.hbm, 104, rfl⟩
abbrev main_v61 : Ref sig .tc := ⟨.hbm, 105, rfl⟩
abbrev main_c_0 : Ref sig .tc := ⟨.hbm, 106, rfl⟩
abbrev main_v62_0 : Ref sig .tc := ⟨.hbm, 107, rfl⟩
abbrev main_v62_1 : Ref sig .tc := ⟨.hbm, 108, rfl⟩
abbrev main_v62_2 : Ref sig .tc := ⟨.hbm, 109, rfl⟩
abbrev main_v62_3 : Ref sig .tc := ⟨.hbm, 110, rfl⟩
abbrev main_v62_4 : Ref sig .tc := ⟨.hbm, 111, rfl⟩
abbrev main_v62_5 : Ref sig .tc := ⟨.hbm, 112, rfl⟩
abbrev main_v62_6 : Ref sig .tc := ⟨.hbm, 113, rfl⟩
abbrev main_v62_7 : Ref sig .tc := ⟨.hbm, 114, rfl⟩
abbrev main_v62_8 : Ref sig .tc := ⟨.hbm, 115, rfl⟩
abbrev main_while0c_c_12 : Ref sig .tc := ⟨.hbm, 116, rfl⟩
abbrev main_while0c_v91 : Ref sig .tc := ⟨.hbm, 117, rfl⟩
abbrev main_while0b_call3_c : Ref sig .tc := ⟨.hbm, 118, rfl⟩
abbrev main_while0b_call3_c_0 : Ref sig .tc := ⟨.hbm, 119, rfl⟩
abbrev main_while0b_call3_c_1 : Ref sig .tc := ⟨.hbm, 120, rfl⟩
abbrev main_while0b_call3_c_2 : Ref sig .tc := ⟨.hbm, 121, rfl⟩
abbrev main_while0b_call3_c_3 : Ref sig .tc := ⟨.hbm, 122, rfl⟩
abbrev main_while0b_call3_v0 : Ref sig .tc := ⟨.hbm, 123, rfl⟩
abbrev main_while0b_v91 : Ref sig .tc := ⟨.hbm, 124, rfl⟩
abbrev main_while0b_call4_c : Ref sig .tc := ⟨.hbm, 125, rfl⟩
abbrev main_while0b_call4_c_0 : Ref sig .tc := ⟨.hbm, 126, rfl⟩
abbrev main_while0b_call4_c_1 : Ref sig .tc := ⟨.hbm, 127, rfl⟩
abbrev main_while0b_call4_c_2 : Ref sig .tc := ⟨.hbm, 128, rfl⟩
abbrev main_while0b_call4_v0 : Ref sig .tc := ⟨.hbm, 129, rfl⟩
abbrev main_while0b_v92 : Ref sig .tc := ⟨.hbm, 130, rfl⟩
abbrev main_while0b_call5_c : Ref sig .tc := ⟨.hbm, 131, rfl⟩
abbrev main_while0b_call5_c_0 : Ref sig .tc := ⟨.hbm, 132, rfl⟩
abbrev main_while0b_call5_c_1 : Ref sig .tc := ⟨.hbm, 133, rfl⟩
abbrev main_while0b_call5_c_2 : Ref sig .tc := ⟨.hbm, 134, rfl⟩
abbrev main_while0b_call5_v0 : Ref sig .tc := ⟨.hbm, 135, rfl⟩
abbrev main_while0b_v93 : Ref sig .tc := ⟨.hbm, 136, rfl⟩
abbrev main_while0b_call6_c : Ref sig .tc := ⟨.hbm, 137, rfl⟩
abbrev main_while0b_call6_c_0 : Ref sig .tc := ⟨.hbm, 138, rfl⟩
abbrev main_while0b_call6_c_1 : Ref sig .tc := ⟨.hbm, 139, rfl⟩
abbrev main_while0b_call6_c_2 : Ref sig .tc := ⟨.hbm, 140, rfl⟩
abbrev main_while0b_call6_v0 : Ref sig .tc := ⟨.hbm, 141, rfl⟩
abbrev main_while0b_v94 : Ref sig .tc := ⟨.hbm, 142, rfl⟩
abbrev main_while0b_v95 : Ref sig .tc := ⟨.hbm, 143, rfl⟩
abbrev main_while0b_v96 : Ref sig .tc := ⟨.hbm, 144, rfl⟩
abbrev main_while0b_v97 : Ref sig .tc := ⟨.hbm, 145, rfl⟩
abbrev main_while0b_call7_call0_cst : Ref sig .tc := ⟨.hbm, 146, rfl⟩
abbrev main_while0b_call7_call0_v0 : Ref sig .tc := ⟨.hbm, 147, rfl⟩
abbrev main_while0b_v98 : Ref sig .tc := ⟨.hbm, 148, rfl⟩
abbrev main_while0b_v99 : Ref sig .tc := ⟨.hbm, 149, rfl⟩
abbrev main_while0b_v100 : Ref sig .tc := ⟨.hbm, 150, rfl⟩
abbrev main_while0b_v101 : Ref sig .tc := ⟨.hbm, 151, rfl⟩
abbrev main_while0b_v102 : Ref sig .tc := ⟨.hbm, 152, rfl⟩
abbrev main_while0b_v103 : Ref sig .tc := ⟨.hbm, 153, rfl⟩
abbrev main_while0b_cst_12 : Ref sig .tc := ⟨.hbm, 154, rfl⟩
abbrev main_while0b_call8_v0 : Ref sig .tc := ⟨.hbm, 155, rfl⟩
abbrev main_while0b_call8_v1 : Ref sig .tc := ⟨.hbm, 156, rfl⟩
abbrev main_while0b_call8_v2 : Ref sig .tc := ⟨.hbm, 157, rfl⟩
abbrev main_while0b_v104 : Ref sig .tc := ⟨.hbm, 158, rfl⟩
abbrev main_while0b_v105 : Ref sig .tc := ⟨.hbm, 159, rfl⟩
abbrev main_while0b_v106 : Ref sig .tc := ⟨.hbm, 160, rfl⟩
abbrev main_while0b_v107 : Ref sig .tc := ⟨.hbm, 161, rfl⟩
abbrev main_while0b_v108 : Ref sig .tc := ⟨.hbm, 162, rfl⟩
abbrev main_while0b_v109 : Ref sig .tc := ⟨.hbm, 163, rfl⟩
abbrev main_while0b_v110 : Ref sig .tc := ⟨.hbm, 164, rfl⟩
abbrev main_while0b_v111 : Ref sig .tc := ⟨.hbm, 165, rfl⟩
abbrev main_while0b_v112 : Ref sig .tc := ⟨.hbm, 166, rfl⟩
abbrev main_while0b_v113 : Ref sig .tc := ⟨.hbm, 167, rfl⟩
abbrev main_while0b_v114 : Ref sig .tc := ⟨.hbm, 168, rfl⟩
abbrev main_while0b_v115 : Ref sig .tc := ⟨.hbm, 169, rfl⟩
abbrev main_while0b_v116 : Ref sig .tc := ⟨.hbm, 170, rfl⟩
abbrev main_while0b_v117 : Ref sig .tc := ⟨.hbm, 171, rfl⟩
abbrev main_while0b_v118 : Ref sig .tc := ⟨.hbm, 172, rfl⟩
abbrev main_while0b_v119 : Ref sig .tc := ⟨.hbm, 173, rfl⟩
abbrev main_while0b_v120 : Ref sig .tc := ⟨.hbm, 174, rfl⟩
abbrev main_while0b_v121 : Ref sig .tc := ⟨.hbm, 175, rfl⟩
abbrev main_while0b_v122 : Ref sig .tc := ⟨.hbm, 176, rfl⟩
abbrev main_while0b_v123 : Ref sig .tc := ⟨.hbm, 177, rfl⟩
abbrev main_while0b_v124 : Ref sig .tc := ⟨.hbm, 178, rfl⟩
abbrev main_while0b_v125 : Ref sig .tc := ⟨.hbm, 179, rfl⟩
abbrev main_while0b_v126 : Ref sig .tc := ⟨.hbm, 180, rfl⟩
abbrev main_while0b_v127 : Ref sig .tc := ⟨.hbm, 181, rfl⟩
abbrev main_while0b_v128 : Ref sig .tc := ⟨.hbm, 182, rfl⟩
abbrev main_while0b_v129 : Ref sig .tc := ⟨.hbm, 183, rfl⟩
abbrev main_while0b_v130 : Ref sig .tc := ⟨.hbm, 184, rfl⟩
abbrev main_while0b_v131 : Ref sig .tc := ⟨.hbm, 185, rfl⟩
abbrev main_while0b_v132 : Ref sig .tc := ⟨.hbm, 186, rfl⟩
abbrev main_while0b_v133 : Ref sig .tc := ⟨.hbm, 187, rfl⟩
abbrev main_while0b_v134 : Ref sig .tc := ⟨.hbm, 188, rfl⟩
abbrev main_while0b_v135 : Ref sig .tc := ⟨.hbm, 189, rfl⟩
abbrev main_while0b_v136 : Ref sig .tc := ⟨.hbm, 190, rfl⟩
abbrev main_while0b_v137 : Ref sig .tc := ⟨.hbm, 191, rfl⟩
abbrev main_while0b_v138 : Ref sig .tc := ⟨.hbm, 192, rfl⟩
abbrev main_while0b_call9_v0 : Ref sig .tc := ⟨.hbm, 193, rfl⟩
abbrev main_while0b_call9_c : Ref sig .tc := ⟨.hbm, 194, rfl⟩
abbrev main_while0b_call9_c_0 : Ref sig .tc := ⟨.hbm, 195, rfl⟩
abbrev main_while0b_call9_c_1 : Ref sig .tc := ⟨.hbm, 196, rfl⟩
abbrev main_while0b_call9_c_2 : Ref sig .tc := ⟨.hbm, 197, rfl⟩
abbrev main_while0b_call9_c_3 : Ref sig .tc := ⟨.hbm, 198, rfl⟩
abbrev main_while0b_v139 : Ref sig .tc := ⟨.hbm, 199, rfl⟩
abbrev main_while0b_c_13 : Ref sig .tc := ⟨.hbm, 200, rfl⟩
abbrev main_while0b_v140 : Ref sig .tc := ⟨.hbm, 201, rfl⟩
abbrev main_v63 : Ref sig .tc := ⟨.hbm, 202, rfl⟩
abbrev main_v64 : Ref sig .tc := ⟨.hbm, 203, rfl⟩
abbrev main_v65 : Ref sig .tc := ⟨.hbm, 204, rfl⟩
abbrev main_v66 : Ref sig .tc := ⟨.hbm, 205, rfl⟩
abbrev main_v67 : Ref sig .tc := ⟨.hbm, 206, rfl⟩
abbrev main_v68 : Ref sig .tc := ⟨.hbm, 207, rfl⟩
abbrev main_v69 : Ref sig .tc := ⟨.hbm, 208, rfl⟩
abbrev main_v70 : Ref sig .tc := ⟨.hbm, 209, rfl⟩
abbrev main_v71 : Ref sig .tc := ⟨.hbm, 210, rfl⟩
abbrev main_call10_v0 : Ref sig .tc := ⟨.hbm, 211, rfl⟩
abbrev main_call10_v1 : Ref sig .tc := ⟨.hbm, 212, rfl⟩
abbrev main_call10_cst : Ref sig .tc := ⟨.hbm, 213, rfl⟩
abbrev main_call10_v2 : Ref sig .tc := ⟨.hbm, 214, rfl⟩
abbrev main_call10_v3 : Ref sig .tc := ⟨.hbm, 215, rfl⟩
abbrev main_call10_cst_0 : Ref sig .tc := ⟨.hbm, 216, rfl⟩
abbrev main_call10_v4 : Ref sig .tc := ⟨.hbm, 217, rfl⟩
abbrev main_call10_v5 : Ref sig .tc := ⟨.hbm, 218, rfl⟩
abbrev main_v72 : Ref sig .tc := ⟨.hbm, 219, rfl⟩
abbrev main_v73 : Ref sig .tc := ⟨.hbm, 220, rfl⟩
abbrev main_v74 : Ref sig .tc := ⟨.hbm, 221, rfl⟩
abbrev main_v75 : Ref sig .tc := ⟨.hbm, 222, rfl⟩
abbrev main_cst_1 : Ref sig .tc := ⟨.hbm, 223, rfl⟩
abbrev main_v76 : Ref sig .tc := ⟨.hbm, 224, rfl⟩
abbrev main_v77 : Ref sig .tc := ⟨.hbm, 225, rfl⟩
abbrev main_cst_2 : Ref sig .tc := ⟨.hbm, 226, rfl⟩
abbrev main_v78 : Ref sig .tc := ⟨.hbm, 227, rfl⟩
abbrev main_v79 : Ref sig .tc := ⟨.hbm, 228, rfl⟩
abbrev main_cst_3 : Ref sig .tc := ⟨.hbm, 229, rfl⟩
abbrev main_v80 : Ref sig .tc := ⟨.hbm, 230, rfl⟩
abbrev main_v81 : Ref sig .tc := ⟨.hbm, 231, rfl⟩
abbrev main_v82 : Ref sig .tc := ⟨.hbm, 232, rfl⟩
abbrev main_v83 : Ref sig .tc := ⟨.hbm, 233, rfl⟩
abbrev main_v84 : Ref sig .tc := ⟨.hbm, 234, rfl⟩
abbrev main_v85 : Ref sig .tc := ⟨.hbm, 235, rfl⟩
abbrev main_v86 : Ref sig .tc := ⟨.hbm, 236, rfl⟩
abbrev main_v87 : Ref sig .tc := ⟨.hbm, 237, rfl⟩
abbrev main_v88 : Ref sig .tc := ⟨.hbm, 238, rfl⟩
abbrev main_v89 : Ref sig .tc := ⟨.hbm, 239, rfl⟩
abbrev main_v90 : Ref sig .tc := ⟨.hbm, 240, rfl⟩

abbrev nD : Nat := 1
abbrev τ : Topo := Topo.v7x

variable {F : FTy → Type} [FloatOps F]

abbrev main_while0_count : Scf.Loop 32 := ⟨0#32, 16#32, 1#32⟩
-- ==== In0.lean ====
abbrev S16384x1024 : Shape := ⟨2, ![16384, 1024]⟩
abbrev S1024 : Shape := ⟨1, ![1024]⟩
abbrev S1024x4632 : Shape := ⟨2, ![1024, 4632]⟩
abbrev S1024x16 : Shape := ⟨2, ![1024, 16]⟩
abbrev S1024x4 : Shape := ⟨2, ![1024, 4]⟩
abbrev S1024x24 : Shape := ⟨2, ![1024, 24]⟩
abbrev S_ : Shape := ⟨0, ![]⟩
abbrev S1024x128 : Shape := ⟨2, ![1024, 128]⟩
abbrev S1024x3584 : Shape := ⟨2, ![1024, 3584]⟩
abbrev S1024x1024 : Shape := ⟨2, ![1024, 1024]⟩
abbrev S1024x4736 : Shape := ⟨2, ![1024, 4736]⟩
abbrev S1x1024 : Shape := ⟨2, ![1, 1024]⟩
abbrev S16384x1536 : Shape := ⟨2, ![16384, 1536]⟩
abbrev S16384x128 : Shape := ⟨2, ![16384, 128]⟩
abbrev S512x1024 : Shape := ⟨2, ![512, 1024]⟩
abbrev S512x1536 : Shape := ⟨2, ![512, 1536]⟩
abbrev S512x128 : Shape := ⟨2, ![512, 128]⟩
abbrev S512 : Shape := ⟨1, ![512]⟩
abbrev S512x1 : Shape := ⟨2, ![512, 1]⟩
abbrev S1024x1536 : Shape := ⟨2, ![1024, 1536]⟩

abbrev nBuf : Space → Nat
  | .hbm => 20
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4632, .f32⟩
  | .hbm, ⟨3, _⟩ => ⟨S1024x16, .f32⟩
  | .hbm, ⟨4, _⟩ => ⟨S1024x4, .f32⟩
  | .hbm, ⟨5, _⟩ => ⟨S1024x4, .f32⟩
  | .hbm, ⟨6, _⟩ => ⟨S1024x24, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x3584, .f32⟩
  | .hbm, ⟨11, _⟩ => ⟨S1024x1024, .f32⟩
  | .hbm, ⟨12, _⟩ => ⟨S1024x4736, .f32⟩
  | .hbm, ⟨13, _⟩ => ⟨S1024x4736, .bf16⟩
  | .hbm, ⟨14, _⟩ => ⟨S1x1024, .f32⟩
  | .hbm, ⟨15, _⟩ => ⟨S16384x1024, .bf16⟩
  | .hbm, ⟨16, _⟩ => ⟨S16384x1536, .bf16⟩
  | .hbm, ⟨17, _⟩ => ⟨S16384x1024, .bf16⟩
  | .hbm, ⟨18, _⟩ => ⟨S16384x1024, .bf16⟩
  | .hbm, ⟨19, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4736, .bf16⟩
  | .local _ .vmem, ⟨4, _⟩ => ⟨S512x1024, .bf16⟩
  | .local _ .vmem, ⟨5, _⟩ => ⟨S512x1024, .bf16⟩
  | .local _ .vmem, ⟨6, _⟩ => ⟨S512x1536, .bf16⟩
  | .local _ .vmem, ⟨7, _⟩ => ⟨S512x1536, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x128, .f32⟩
  | .local _ .vmem, ⟨13, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev main_v10_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4736 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== In0RefIdeal.lean ====
abbrev S16384x1024 : Shape := ⟨2, ![16384, 1024]⟩
abbrev S1024 : Shape := ⟨1, ![1024]⟩
abbrev S1024x4632 : Shape := ⟨2, ![1024, 4632]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4632 : Shape := ⟨2, ![16384, 4632]⟩
abbrev S16384x2560 : Shape := ⟨2, ![16384, 2560]⟩
abbrev S16384x16 : Shape := ⟨2, ![16384, 16]⟩
abbrev S16384x4 : Shape := ⟨2, ![16384, 4]⟩
abbrev S16384x104 : Shape := ⟨2, ![16384, 104]⟩
abbrev S16384x128 : Shape := ⟨2, ![16384, 128]⟩
abbrev S16384x1536 : Shape := ⟨2, ![16384, 1536]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4632, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x4632, .f32⟩
  | .hbm, ⟨20, _⟩ => ⟨S16384x1024, .f32⟩
  | .hbm, ⟨21, _⟩ => ⟨S16384x2560, .f32⟩
  | .hbm, ⟨22, _⟩ => ⟨S16384x16, .f32⟩
  | .hbm, ⟨23, _⟩ => ⟨S16384x1024, .f32⟩
  | .hbm, ⟨24, _⟩ => ⟨S16384x4, .f32⟩
  | .hbm, ⟨25, _⟩ => ⟨S16384x4, .f32⟩
  | .hbm, ⟨26, _⟩ => ⟨S_, .f32⟩
  | .hbm, ⟨27, _⟩ => ⟨S16384x104, .f32⟩
  | .hbm, ⟨28, _⟩ => ⟨S16384x128, .f32⟩
  | .hbm, ⟨29, _⟩ => ⟨S16384x1024, .bf16⟩
  | .hbm, ⟨30, _⟩ => ⟨S16384x1536, .f32⟩
  | .hbm, ⟨31, _⟩ => ⟨S16384x1536, .bf16⟩
  | .hbm, ⟨32, _⟩ => ⟨S16384x1024, .f32⟩
  | .hbm, ⟨33, _⟩ => ⟨S16384x1024, .bf16⟩
  | .hbm, ⟨34, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Mix0.lean ====
abbrev S16384x1024 : Shape := ⟨2, ![16384, 1024]⟩
abbrev S2048x1024 : Shape := ⟨2, ![2048, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S1024 : Shape := ⟨1, ![1024]⟩
abbrev S512x1024 : Shape := ⟨2, ![512, 1024]⟩
abbrev S1x1024x5632 : Shape := ⟨3, ![1, 1024, 5632]⟩
abbrev S1x2816x1024 : Shape := ⟨3, ![1, 2816, 1024]⟩
abbrev S512x2048 : Shape := ⟨2, ![512, 2048]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 19
  | .vmem => 15
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S2048x1024, .f32⟩
  | .hbm, ⟨4, _⟩ => ⟨S2x1024, .f32⟩
  | .hbm, ⟨5, _⟩ => ⟨S2x1024x5632, .f32⟩
  | .hbm, ⟨6, _⟩ => ⟨S2x2816x1024, .f32⟩
  | .hbm, ⟨7, _⟩ => ⟨S2x1024, .f32⟩
  | .hbm, ⟨8, _⟩ => ⟨S2048x1024, .bf16⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S2x1024x5632, .bf16⟩
  | .hbm, ⟨13, _⟩ => ⟨S2x2816x1024, .bf16⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S16384x1024, .bf16⟩
  | .hbm, ⟨18, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S2048x1024, .bf16⟩
  | .local _ .vmem, ⟨7, _⟩ => ⟨S1x1024, .f32⟩
  | .local _ .vmem, ⟨8, _⟩ => ⟨S1x1024x5632, .bf16⟩
  | .local _ .vmem, ⟨9, _⟩ => ⟨S1x2816x1024, .bf16⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Mix0RefIdeal.lean ====
abbrev S16384x1024 : Shape := ⟨2, ![16384, 1024]⟩
abbrev S2048x1024 : Shape := ⟨2, ![2048, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S16384x2048 : Shape := ⟨2, ![16384, 2048]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x5632 : Shape := ⟨3, ![1, 1024, 5632]⟩
abbrev S1024x5632 : Shape := ⟨2, ![1024, 5632]⟩
abbrev S16384x5632 : Shape := ⟨2, ![16384, 5632]⟩
abbrev S16384x2816 : Shape := ⟨2, ![16384, 2816]⟩
abbrev S1x2816x1024 : Shape := ⟨3, ![1, 2816, 1024]⟩
abbrev S2816x1024 : Shape := ⟨2, ![2816, 1024]⟩

abbrev nBuf : Space → Nat
  | .hbm => 68
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S2048x1024, .f32⟩
  | .hbm, ⟨4, _⟩ => ⟨S2x1024, .f32⟩
  | .hbm, ⟨5, _⟩ => ⟨S2x1024x5632, .f32⟩
  | .hbm, ⟨6, _⟩ => ⟨S2x2816x1024, .f32⟩
  | .hbm, ⟨7, _⟩ => ⟨S2x1024, .f32⟩
  | .hbm, ⟨8, _⟩ => ⟨S16384x2048, .bf16⟩
  | .hbm, ⟨9, _⟩ => ⟨S16384x2048, .f32⟩
  | .hbm, ⟨10, _⟩ => ⟨S16384x1024, .f32⟩
  | .hbm, ⟨11, _⟩ => ⟨S16384x1024, .f32⟩
  | .hbm, ⟨12, _⟩ => ⟨S1x1024, .f32⟩
  | .hbm, ⟨13, _⟩ => ⟨S1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S1x1024x5632, .f32⟩
  | .hbm, ⟨31, _⟩ => ⟨S1024x5632, .f32⟩
  | .hbm, ⟨32, _⟩ => ⟨S16384x5632, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S_, .f32⟩
  | .hbm, ⟨38, _⟩ => ⟨S16384x2816, .f32⟩
  | .hbm, ⟨39, _⟩ => ⟨S16384x2816, .f32⟩
  | .hbm, ⟨40, _⟩ => ⟨S_, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S1x2816x1024, .f32⟩
  | .hbm, ⟨46, _⟩ => ⟨S2816x1024, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S1024, .f32⟩
  | .hbm, ⟨51, _⟩ => ⟨S16384x1024, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S1x1024, .f32⟩
  | .hbm, ⟨65, _⟩ => ⟨S16384x1024, .f32⟩
  | .hbm, ⟨66, _⟩ => ⟨S16384x1024, .f32⟩
  | .hbm, ⟨67, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_2 : Ref sig .tc := ⟨.hbm, 52, rfl⟩
abbrev main_v33 : Ref sig .tc := ⟨.hbm, 53, rfl⟩
abbrev main_v34 : Ref sig .tc := ⟨.hbm, 54, rfl⟩
abbrev main_cst_3 : Ref sig .tc := ⟨.hbm, 55, rfl⟩
abbrev main_v35 : Ref sig .tc := ⟨.hbm, 56, rfl⟩
abbrev main_v36 : Ref sig .tc := ⟨.hbm, 57, rfl⟩
abbrev main_cst_4 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]
-- ==== Mix1.lean ====
abbrev S16384x1024 : Shape := ⟨2, ![16384, 1024]⟩
abbrev S1024x1024 : Shape := ⟨2, ![1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1x1024 : Shape := ⟨2, ![1, 1024]⟩
abbrev S512x1024 : Shape := ⟨2, ![512, 1024]⟩
abbrev S1x1024x5632 : Shape := ⟨3, ![1, 1024, 5632]⟩
abbrev S1x2816x1024 : Shape := ⟨3, ![1, 2816, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 16
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S1024x1024, .f32⟩
  | .hbm, ⟨4, _⟩ => ⟨S2x1024, .f32⟩
  | .hbm, ⟨5, _⟩ => ⟨S2x1024x5632, .f32⟩
  | .hbm, ⟨6, _⟩ => ⟨S2x2816x1024, .f32⟩
  | .hbm, ⟨7, _⟩ => ⟨S1024, .f32⟩
  | .hbm, ⟨8, _⟩ => ⟨S1024x1024, .bf16⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S2x1024x5632, .bf16⟩
  | .hbm, ⟨13, _⟩ => ⟨S2x2816x1024, .bf16⟩
  | .hbm, ⟨14, _⟩ => ⟨S1x1024, .f32⟩
  | .hbm, ⟨15, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024x5632, .bf16⟩
  | .local _ .vmem, ⟨9, _⟩ => ⟨S1x2816x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Mix1RefIdeal.lean ====
abbrev S16384x1024 : Shape := ⟨2, ![16384, 1024]⟩
abbrev S1024x1024 : Shape := ⟨2, ![1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x5632 : Shape := ⟨3, ![1, 1024, 5632]⟩
abbrev S1024x5632 : Shape := ⟨2, ![1024, 5632]⟩
abbrev S16384x5632 : Shape := ⟨2, ![16384, 5632]⟩
abbrev S16384x2816 : Shape := ⟨2, ![16384, 2816]⟩
abbrev S1x2816x1024 : Shape := ⟨3, ![1, 2816, 1024]⟩
abbrev S2816x1024 : Shape := ⟨2, ![2816, 1024]⟩

abbrev nBuf : Space → Nat
  | .hbm => 66
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S1024x1024, .f32⟩
  | .hbm, ⟨4, _⟩ => ⟨S2x1024, .f32⟩
  | .hbm, ⟨5, _⟩ => ⟨S2x1024x5632, .f32⟩
  | .hbm, ⟨6, _⟩ => ⟨S2x2816x1024, .f32⟩
  | .hbm, ⟨7, _⟩ => ⟨S1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S1x1024, .f32⟩
  | .hbm, ⟨14, _⟩ => ⟨S1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S1x1024x5632, .f32⟩
  | .hbm, ⟨32, _⟩ => ⟨S1024x5632, .f32⟩
  | .hbm, ⟨33, _⟩ => ⟨S16384x5632, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S_, .f32⟩
  | .hbm, ⟨39, _⟩ => ⟨S16384x2816, .f32⟩
  | .hbm, ⟨40, _⟩ => ⟨S16384x2816, .f32⟩
  | .hbm, ⟨41, _⟩ => ⟨S_, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S16384x2816, .f32⟩
  | .hbm, ⟨46, _⟩ => ⟨S1x2816x1024, .f32⟩
  | .hbm, ⟨47, _⟩ => ⟨S2816x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x1, .f32⟩
  | .hbm, ⟨61, _⟩ => ⟨S16384x1024, .f32⟩
  | .hbm, ⟨62, _⟩ => ⟨S16384x1024, .f32⟩
  | .hbm, ⟨63, _⟩ => ⟨S1x1024, .f32⟩
  | .hbm, ⟨64, _⟩ => ⟨S16384x1024, .f32⟩
  | .hbm, ⟨65, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_2 : Ref sig .tc := ⟨.hbm, 51, rfl⟩
abbrev main_v32 : Ref sig .tc := ⟨.hbm, 52, rfl⟩
abbrev main_v33 : Ref sig .tc := ⟨.hbm, 53, rfl⟩
abbrev main_cst_3 : Ref sig .tc := ⟨.hbm, 54, rfl⟩
abbrev main_v34 : Ref sig .tc := ⟨.hbm, 55, rfl⟩
abbrev main_v35 : Ref sig .tc := ⟨.hbm, 56, rfl⟩
abbrev main_cst_4 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩

abbrev nD : Nat := 1
abbrev τ : Topo := Topo.v7x

variable {F : FTy → Type} [FloatOps F]
-- ==== RwIn.lean ====
abbrev S16384x1024 : Shape := ⟨2, ![16384, 1024]⟩
abbrev S8x1024 : Shape := ⟨2, ![8, 1024]⟩
abbrev S6x1024 : Shape := ⟨2, ![6, 1024]⟩
abbrev S1024x1024 : Shape := ⟨2, ![1024, 1024]⟩
abbrev S1024 : Shape := ⟨1, ![1024]⟩
abbrev S1024x64 : Shape := ⟨2, ![1024, 64]⟩
abbrev S64x1024 : Shape := ⟨2, ![64, 1024]⟩
abbrev S1024x160 : Shape := ⟨2, ![1024, 160]⟩
abbrev S160x1024 : Shape := ⟨2, ![160, 1024]⟩
abbrev S_ : Shape := ⟨0, ![]⟩
abbrev S1024x128 : Shape := ⟨2, ![1024, 128]⟩
abbrev S128x1024 : Shape := ⟨2, ![128, 1024]⟩
abbrev S1024x256 : Shape := ⟨2, ![1024, 256]⟩
abbrev S256x1024 : Shape := ⟨2, ![256, 1024]⟩
abbrev S1x1024 : Shape := ⟨2, ![1, 1024]⟩
abbrev S8x1x1024 : Shape := ⟨3, ![8, 1, 1024]⟩
abbrev S512x1024 : Shape := ⟨2, ![512, 1024]⟩
abbrev S16x1024 : Shape := ⟨2, ![16, 1024]⟩
abbrev S1x1x1024 : Shape := ⟨3, ![1, 1, 1024]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 58
  | .vmem => 34
  | .smem => 0
  | _ => 0

abbrev bufTy : (tb : Table) → Fin (tcTables nBuf tb) → BufTy
  | .hbm, ⟨0, _⟩ => ⟨S16384x1024, .bf16⟩
  | .hbm, ⟨1, _⟩ => ⟨S8x1024, .f32⟩
  | .hbm, ⟨2, _⟩ => ⟨S6x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024x64, .f32⟩
  | .hbm, ⟨8, _⟩ => ⟨S64x1024, .f32⟩
  | .hbm, ⟨9, _⟩ => ⟨S1024, .f32⟩
  | .hbm, ⟨10, _⟩ => ⟨S1024x64, .f32⟩
  | .hbm, ⟨11, _⟩ => ⟨S64x1024, .f32⟩
  | .hbm, ⟨12, _⟩ => ⟨S1024x160, .f32⟩
  | .hbm, ⟨13, _⟩ => ⟨S160x1024, .f32⟩
  | .hbm, ⟨14, _⟩ => ⟨S1024, .f32⟩
  | .hbm, ⟨15, _⟩ => ⟨S1024, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S1024x128, .bf16⟩
  | .hbm, ⟨20, _⟩ => ⟨S_, .i32⟩
  | .hbm, ⟨21, _⟩ => ⟨S_, .f32⟩
  | .hbm, ⟨22, _⟩ => ⟨S128x1024, .f32⟩
  | .hbm, ⟨23, _⟩ => ⟨S128x1024, .bf16⟩
  | .hbm, ⟨24, _⟩ => ⟨S_, .i32⟩
  | .hbm, ⟨25, _⟩ => ⟨S_, .f32⟩
  | .hbm, ⟨26, _⟩ => ⟨S1024x128, .f32⟩
  | .hbm, ⟨27, _⟩ => ⟨S1024x128, .bf16⟩
  | .hbm, ⟨28, _⟩ => ⟨S_, .i32⟩
  | .hbm, ⟨29, _⟩ => ⟨S_, .f32⟩
  | .hbm, ⟨30, _⟩ => ⟨S128x1024, .f32⟩
  | .hbm, ⟨31, _⟩ => ⟨S128x1024, .bf16⟩
  | .hbm, ⟨32, _⟩ => ⟨S_, .i32⟩
  | .hbm, ⟨33, _⟩ => ⟨S_, .f32⟩
  | .hbm, ⟨34, _⟩ => ⟨S1024x256, .f32⟩
  | .hbm, ⟨35, _⟩ => ⟨S1024x256, .bf16⟩
  | .hbm, ⟨36, _⟩ => ⟨S_, .i32⟩
  | .hbm, ⟨37, _⟩ => ⟨S_, .f32⟩
  | .hbm, ⟨38, _⟩ => ⟨S256x1024, .f32⟩
  | .hbm, ⟨39, _⟩ => ⟨S256x1024, .bf16⟩
  | .hbm, ⟨40, _⟩ => ⟨S_, .i32⟩
  | .hbm, ⟨41, _⟩ => ⟨S_, .f32⟩
  | .hbm, ⟨42, _⟩ => ⟨S8x1024, .f32⟩
  | .hbm, ⟨43, _⟩ => ⟨S1024x1024, .bf16⟩
  | .hbm, ⟨44, _⟩ => ⟨S1024x1024, .bf16⟩
  | .hbm, ⟨45, _⟩ => ⟨S1024x1024, .bf16⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S8x1x1024, .f32⟩
  | .hbm, ⟨51, _⟩ => ⟨S16384x1024, .bf16⟩
  | .hbm, ⟨52, _⟩ => ⟨S16384x1024, .f32⟩
  | .hbm, ⟨53, _⟩ => ⟨S16384x1024, .bf16⟩
  | .hbm, ⟨54, _⟩ => ⟨S16384x1024, .bf16⟩
  | .hbm, ⟨55, _⟩ => ⟨S16384x1024, .bf16⟩
  | .hbm, ⟨56, _⟩ => ⟨S16384x1024, .bf16⟩
  | .hbm, ⟨57, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S1x1x1024, .f32⟩
  | .local _ .vmem, ⟨5, _⟩ => ⟨S1x1x1024, .f32⟩
  | .local _ .vmem, ⟨6, _⟩ => ⟨S8x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x128, .bf16⟩
  | .local _ .vmem, ⟨11, _⟩ => ⟨S128x1024, .bf16⟩
  | .local _ .vmem, ⟨12, _⟩ => ⟨S1024x128, .bf16⟩
  | .local _ .vmem, ⟨13, _⟩ => ⟨S128x1024, .bf16⟩
  | .local _ .vmem, ⟨14, _⟩ => ⟨S1024x256, .bf16⟩
  | .local _ .vmem, ⟨15, _⟩ => ⟨S256x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S512x1024, .bf16⟩
  | .local _ .vmem, ⟨21, _⟩ => ⟨S512x1024, .bf16⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_call0_v0 : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_call1_v0 : Ref sig .tc := ⟨.hbm, 21, rfl⟩
abbrev main_v2 : Ref sig .tc := ⟨.hbm, 22, rfl⟩
abbrev main_v3 : Ref sig .tc := ⟨.hbm, 23, rfl⟩
abbrev main_c_1 : Ref sig .tc := ⟨.hbm, 24, rfl⟩
abbrev main_call2_v0 : Ref sig .tc := ⟨.hbm, 25, rfl⟩
abbrev main_v4 : Ref sig .tc := ⟨.hbm, 26, rfl⟩
abbrev main_v5 : Ref sig .tc := ⟨.hbm, 27, rfl⟩
abbrev main_c_2 : Ref sig .tc := ⟨.hbm, 28, rfl⟩
abbrev main_call3_v0 : Ref sig .tc := ⟨.hbm, 29, rfl⟩
abbrev main_v6 : Ref sig .tc := ⟨.hbm, 30, rfl⟩
abbrev main_v7 : Ref sig .tc := ⟨.hbm, 31, rfl⟩
abbrev main_c_3 : Ref sig .tc := ⟨.hbm, 32, rfl⟩
abbrev main_call4_v0 : Ref sig .tc := ⟨.hbm, 33, rfl⟩
abbrev main_v8 : Ref sig .tc := ⟨.hbm, 34, rfl⟩
abbrev main_v9 : Ref sig .tc := ⟨.hbm, 35, rfl⟩
abbrev main_c_4 : Ref sig .tc := ⟨.hbm, 36, rfl⟩
abbrev main_call5_v0 : Ref sig .tc := ⟨.hbm, 37, rfl⟩
abbrev main_v10 : Ref sig .tc := ⟨.hbm, 38, rfl⟩
abbrev main_v11 : Ref sig .tc := ⟨.hbm, 39, rfl⟩
abbrev main_c_5 : Ref sig .tc := ⟨.hbm, 40, rfl⟩
abbrev main_call6_v0 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21_0 : Ref sig .tc := ⟨.hbm, 51, rfl⟩
abbrev main_v21_1 : Ref sig .tc := ⟨.hbm, 52, rfl⟩
abbrev main_v21_2 : Ref sig .tc := ⟨.hbm, 53, rfl⟩
abbrev main_v21_3 : Ref sig .tc := ⟨.hbm, 54, rfl⟩
abbrev main_v21_4 : Ref sig .tc := ⟨.hbm, 55, rfl⟩
abbrev main_v21_5 : Ref sig .tc := ⟨.hbm, 56, rfl⟩
abbrev main_v21_6 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg22_1 : Ref sig .tc := ⟨.vmem, 31, rfl⟩
abbrev cc0_stg23_0 : Ref sig .tc := ⟨.vmem, 32, rfl⟩
abbrev cc0_stg23_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29
abbrev cc0_sem22_0 : DmaSem sig := 30
abbrev cc0_sem22_1 : DmaSem sig := 31
abbrev cc0_sem23_0 : DmaSem sig := 32
abbrev cc0_sem23_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== RwInIdeal.lean ====
variable {F : FTy → Type} [FloatOps F] [Named F]
def κ : String → Option EReal := fun
  | "tiny_sq" => some ((5316911940649 / 5316911983139663491615228241121378304 : ℝ) : EReal)
  | _ => none
-- ==== RwInRefIdeal.lean ====
abbrev S16384x1024 : Shape := ⟨2, ![16384, 1024]⟩
abbrev S8x1024 : Shape := ⟨2, ![8, 1024]⟩
abbrev S6x1024 : Shape := ⟨2, ![6, 1024]⟩
abbrev S1024x1024 : Shape := ⟨2, ![1024, 1024]⟩
abbrev S1024 : Shape := ⟨1, ![1024]⟩
abbrev S1024x64 : Shape := ⟨2, ![1024, 64]⟩
abbrev S64x1024 : Shape := ⟨2, ![64, 1024]⟩
abbrev S1024x160 : Shape := ⟨2, ![1024, 160]⟩
abbrev S160x1024 : Shape := ⟨2, ![160, 1024]⟩
abbrev S8x1x1024 : Shape := ⟨3, ![8, 1, 1024]⟩
abbrev S8x2048x1024 : Shape := ⟨3, ![8, 2048, 1024]⟩
abbrev S8x2047x1024 : Shape := ⟨3, ![8, 2047, 1024]⟩
abbrev S1x1024 : Shape := ⟨2, ![1, 1024]⟩
abbrev S16384x64 : Shape := ⟨2, ![16384, 64]⟩
abbrev S_ : Shape := ⟨0, ![]⟩
abbrev S16384x160 : Shape := ⟨2, ![16384, 160]⟩
abbrev S16384x16x64 : Shape := ⟨3, ![16384, 16, 64]⟩
abbrev S16384x16 : Shape := ⟨2, ![16384, 16]⟩
abbrev S16384x16x1 : Shape := ⟨3, ![16384, 16, 1]⟩

abbrev nBuf : Space → Nat
  | .hbm => 116
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S8x1024, .f32⟩
  | .hbm, ⟨2, _⟩ => ⟨S6x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024x64, .f32⟩
  | .hbm, ⟨8, _⟩ => ⟨S64x1024, .f32⟩
  | .hbm, ⟨9, _⟩ => ⟨S1024, .f32⟩
  | .hbm, ⟨10, _⟩ => ⟨S1024x64, .f32⟩
  | .hbm, ⟨11, _⟩ => ⟨S64x1024, .f32⟩
  | .hbm, ⟨12, _⟩ => ⟨S1024x160, .f32⟩
  | .hbm, ⟨13, _⟩ => ⟨S160x1024, .f32⟩
  | .hbm, ⟨14, _⟩ => ⟨S1024, .f32⟩
  | .hbm, ⟨15, _⟩ => ⟨S1024, .f32⟩
  | .hbm, ⟨16, _⟩ => ⟨S16384x1024, .f32⟩
  | .hbm, ⟨17, _⟩ => ⟨S8x1x1024, .f32⟩
  | .hbm, ⟨18, _⟩ => ⟨S8x2048x1024, .f32⟩
  | .hbm, ⟨19, _⟩ => ⟨S8x2047x1024, .f32⟩
  | .hbm, ⟨20, _⟩ => ⟨S8x2048x1024, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S1024, .f32⟩
  | .hbm, ⟨43, _⟩ => ⟨S1x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S1x1024, .f32⟩
  | .hbm, ⟨48, _⟩ => ⟨S1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S1x1024, .f32⟩
  | .hbm, ⟨54, _⟩ => ⟨S1024, .f32⟩
  | .hbm, ⟨55, _⟩ => ⟨S1x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x64, .f32⟩
  | .hbm, ⟨63, _⟩ => ⟨S16384x1024, .f32⟩
  | .hbm, ⟨64, _⟩ => ⟨S1x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S_, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S16384x1024, .f32⟩
  | .hbm, ⟨74, _⟩ => ⟨S16384x1024, .f32⟩
  | .hbm, ⟨75, _⟩ => ⟨S16384x160, .f32⟩
  | .hbm, ⟨76, _⟩ => ⟨S16384x160, .f32⟩
  | .hbm, ⟨77, _⟩ => ⟨S16384x160, .f32⟩
  | .hbm, ⟨78, _⟩ => ⟨S_, .f32⟩
  | .hbm, ⟨79, _⟩ => ⟨S16384x160, .f32⟩
  | .hbm, ⟨80, _⟩ => ⟨S16384x160, .f32⟩
  | .hbm, ⟨81, _⟩ => ⟨S_, .f32⟩
  | .hbm, ⟨82, _⟩ => ⟨S16384x160, .f32⟩
  | .hbm, ⟨83, _⟩ => ⟨S16384x160, .f32⟩
  | .hbm, ⟨84, _⟩ => ⟨S16384x1024, .f32⟩
  | .hbm, ⟨85, _⟩ => ⟨S1x1024, .f32⟩
  | .hbm, ⟨86, _⟩ => ⟨S16384x1024, .f32⟩
  | .hbm, ⟨87, _⟩ => ⟨S16384x1024, .f32⟩
  | .hbm, ⟨88, _⟩ => ⟨S16384x16x64, .f32⟩
  | .hbm, ⟨89, _⟩ => ⟨S16384x16x64, .f32⟩
  | .hbm, ⟨90, _⟩ => ⟨S_, .f32⟩
  | .hbm, ⟨91, _⟩ => ⟨S16384x16, .f32⟩
  | .hbm, ⟨92, _⟩ => ⟨S16384x16x1, .f32⟩
  | .hbm, ⟨93, _⟩ => ⟨S16384x16x1, .f32⟩
  | .hbm, ⟨94, _⟩ => ⟨S_, .f32⟩
  | .hbm, ⟨95, _⟩ => ⟨S16384x16x1, .f32⟩
  | .hbm, ⟨96, _⟩ => ⟨S16384x16x1, .f32⟩
  | .hbm, ⟨97, _⟩ => ⟨S16384x16x64, .f32⟩
  | .hbm, ⟨98, _⟩ => ⟨S16384x16x64, .f32⟩
  | .hbm, ⟨99, _⟩ => ⟨S16384x1024, .f32⟩
  | .hbm, ⟨100, _⟩ => ⟨S_, .f32⟩
  | .hbm, ⟨101, _⟩ => ⟨S16384x1024, .f32⟩
  | .hbm, ⟨102, _⟩ => ⟨S16384x1024, .f32⟩
  | .hbm, ⟨103, _⟩ => ⟨S1x1024, .f32⟩
  | .hbm, ⟨104, _⟩ => ⟨S16384x1024, .f32⟩
  | .hbm, ⟨105, _⟩ => ⟨S16384x1024, .f32⟩
  | .hbm, ⟨106, _⟩ => ⟨S_, .f32⟩
  | .hbm, ⟨107, _⟩ => ⟨S16384x1024, .f32⟩
  | .hbm, ⟨108, _⟩ => ⟨S16384x1024, .f32⟩
  | .hbm, ⟨109, _⟩ => ⟨S16384x1024, .f32⟩
  | .hbm, ⟨110, _⟩ => ⟨S16384x1024, .bf16⟩
  | .hbm, ⟨111, _⟩ => ⟨S16384x1024, .bf16⟩
  | .hbm, ⟨112, _⟩ => ⟨S16384x1024, .bf16⟩
  | .hbm, ⟨113, _⟩ => ⟨S16384x1024, .bf16⟩
  | .hbm, ⟨114, _⟩ => ⟨S16384x1024, .bf16⟩
  | .hbm, ⟨115, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst : Ref sig .tc := ⟨.hbm, 69, rfl⟩
abbrev main_v53 : Ref sig .tc := ⟨.hbm, 70, rfl⟩
abbrev main_v54 : Ref sig .tc := ⟨.hbm, 71, rfl⟩
abbrev main_cst_0 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_1 : Ref sig .tc := ⟨.hbm, 78, rfl⟩
abbrev main_v60 : Ref sig .tc := ⟨.hbm, 79, rfl⟩
abbrev main_v61 : Ref sig .tc := ⟨.hbm, 80, rfl⟩
abbrev main_cst_2 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_3 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_4 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_5 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_6 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩

abbrev nD : Nat := 1
abbrev τ : Topo := Topo.v7x

variable {F : FTy → Type} [FloatOps F]
-- ==== Proof.Rows.lean ====
/-
  The mathematics of the input projection: one row of activations scaled by the reciprocal root of its mean square and by a
  gain, then multiplied with one column of the weights.
-/
module

public import Idealize.ShloMosaic.Lib.Pointwise

@[expose] public section

noncomputable section
namespace Layer
open Idealize.ShloMosaic

/-- A real-valued (extended) vector, matrix, box. -/
abbrev V1 (a : Nat) : Type := (⟨1, ![a]⟩ : Shape).Idx → EReal
abbrev V2 (a b : Nat) : Type := (⟨2, ![a, b]⟩ : Shape).Idx → EReal
abbrev V3 (a b c : Nat) : Type := (⟨3, ![a, b, c]⟩ : Shape).Idx → EReal

/-- One entry of a row scaled by the reciprocal root of its mean square (plus 1e-5), times the gain. -/
def rmsn (x g : Fin 1024 → EReal) (k : Fin 1024) : EReal :=
  x k * Ideal.rsqrt (Ideal.div (∑ j, x j * x j) (Ideal.ofBits .f32 0x44800000#32) + Ideal.ofBits .f32 0x3727C5AC#32) * g k

/-- The normalised row times one column of weights. -/
def proj (x g w : Fin 1024 → EReal) : EReal := ∑ k, rmsn x g k * w k

/-- Row `r` of the activations against columns `off + …` of the weights. -/
def band (x : V2 16384 1024) (g : V1 1024) (w : V2 1024 4632) (off n : Nat) (h : off + n ≤ 4632) : V2 16384 n :=
  fun i => proj (fun j => x (ix2 (i 0) j)) (fun j => g (ix1 j))
    (fun l => w (ix2 l ⟨off + (i 1).val, lt_of_lt_of_le (Nat.add_lt_add_left (i 1).isLt off) h⟩))

/-- The narrow projections side by side: 16 step columns, 4 and 4 gate columns, the rest zero. -/
def narrow (x : V2 16384 1024) (g : V1 1024) (w : V2 1024 4632) : V2 16384 128 := fun i =>
  if h : (i 1).val < 16 then
    proj (fun j => x (ix2 (i 0) j)) (fun j => g (ix1 j)) (fun l => w (ix2 l ⟨3584 + (i 1).val, by omega⟩))
  else if h' : (i 1).val < 24 then
    proj (fun j => x (ix2 (i 0) j)) (fun j => g (ix1 j)) (fun l => w (ix2 l ⟨4608 + (i 1).val, by omega⟩))
  else 0

end Layer
-- ==== Proof.In0Kernel.lean ====
/-
  The input projection as the kernel computes it: every point writes 512 rows of each of the five results, and together the 32
  points write the results whole.
-/
module

public import proofs.«01_k».proof.Proof.Gen.In0Ideal.Value
public import proofs.«01_k».proof.Proof.Rows

@[expose] public section
set_option maxRecDepth 16384

noncomputable section
namespace Layer.In0
open Idealize.ShloMosaic Idealize.ShloMosaic.TcCoe Idealize.SL.Sem
open Idealize.ShloMosaic.Pipeline (Dat)
open Cert.In0Ideal Cert.In0Ideal.Gen

/-! ## The body's values at an index -/

theorem pay3_at (v0 : Vec Ideal S512x1024 .f32) (v1 : Vec Ideal S1x1024 .f32) (r : Fin 512) (k : Fin 1024) :
    k0_pay3 v0 v1 (ix2 r k) = rmsn (fun j => v0 (ix2 r j)) (fun j => v1 (ix2 0 j)) k := by
  pointwise [k0_pay3, rmsn]

theorem pay4_at (v0 : Vec Ideal S512x1024 .f32) (v1 : Vec Ideal S1x1024 .f32) (w : Vec Ideal S1024x1024 .bf16) (r : Fin 512) (k : Fin 1024) :
    k0_pay4 v0 v1 w (ix2 r k) = proj (fun j => v0 (ix2 r j)) (fun j => v1 (ix2 0 j)) (fun l => w (ix2 l k)) := by
  pointwise [k0_pay4, pay3_at, proj]

theorem pay5_at (v0 : Vec Ideal S512x1024 .f32) (v1 : Vec Ideal S1x1024 .f32) (w : Vec Ideal S1024x1536 .bf16) (r : Fin 512) (k : Fin 1536) :
    k0_pay5 v0 v1 w (ix2 r k) = proj (fun j => v0 (ix2 r j)) (fun j => v1 (ix2 0 j)) (fun l => w (ix2 l k)) := by
  pointwise [k0_pay5, pay3_at, proj]

theorem pay6_at (v0 : Vec Ideal S512x1024 .f32) (v1 : Vec Ideal S1x1024 .f32) (w : Vec Ideal S1024x1024 .bf16) (r : Fin 512) (k : Fin 1024) :
    k0_pay6 v0 v1 w (ix2 r k) = proj (fun j => v0 (ix2 r j)) (fun j => v1 (ix2 0 j)) (fun l => w (ix2 l k)) := by
  pointwise [k0_pay6, pay3_at, proj]

theorem pay1_at (v0 : Vec Ideal S512x1024 .f32) (v1 : Vec Ideal S1x1024 .f32) (w : Vec Ideal S1024x1024 .bf16) (r : Fin 512) (k : Fin 1024) :
    k0_pay1 (k0_pay3 v0 v1) w (ix2 r k) = proj (fun j => v0 (ix2 r j)) (fun j => v1 (ix2 0 j)) (fun l => w (ix2 l k)) := by
  pointwise [k0_pay1, pay3_at, proj]

theorem pay2_at (v0 : Vec Ideal S512x1024 .f32) (v1 : Vec Ideal S1x1024 .f32) (w : Vec Ideal S1024x128 .bf16) (r : Fin 512) (k : Fin 128) :
    k0_pay2 (k0_pay3 v0 v1) w (ix2 r k) = proj (fun j => v0 (ix2 r j)) (fun j => v1 (ix2 0 j)) (fun l => w (ix2 l k)) := by
  pointwise [k0_pay2, pay3_at, proj]

variable (m : (ℓ : Loc nD τ sig) → Buf (Elt Ideal) ℓ)

/-! ## The three staged arrays -/

/-- The arguments. -/
abbrev argX (c : Dev nD) : V2 16384 1024 := m ((c : Thread nD τ).loc main_arg0)
abbrev argG (c : Dev nD) : V1 1024 := m ((c : Thread nD τ).loc main_arg1)
abbrev argW (c : Dev nD) : V2 1024 4632 := m ((c : Thread nD τ).loc main_arg2)

/-- The weights as the host re-lays them: the wide columns, the output gate's, then the narrow ones padded with zeros. -/
def relaid (w : V2 1024 4632) (l : Fin 1024) (k : Fin 4736) : EReal :=
  if h : k.val < 3584 then w (ix2 l ⟨k.val, by omega⟩)
  else if h : k.val < 4608 then w (ix2 l ⟨16 + k.val, by omega⟩)
  else if h : k.val < 4624 then w (ix2 l ⟨k.val - 1024, by omega⟩)
  else if h : k.val < 4632 then w (ix2 l ⟨k.val, by omega⟩)
  else 0

/-- The narrow columns of the re-laid weights. -/
theorem relaid_narrow (w : V2 1024 4632) (l : Fin 1024) (k : Fin 128) :
    relaid w l ⟨4608 + k.val, by omega⟩ = if h : k.val < 16 then w (ix2 l ⟨3584 + k.val, by omega⟩)
      else if h : k.val < 24 then w (ix2 l ⟨4608 + k.val, by omega⟩) else 0 := by
  dsimp only [relaid]
  have hk := k.isLt
  repeat' split
  all_goals first
    | omega
    | rfl
    | exact congrArg w (congrArg (ix2 l) (Fin.ext (by (try dsimp only) <;> omega)))

theorem weights_at (c : Dev nD) (l : Fin 1024) (k : Fin 4736) : (V m c main_v8 (ix2 l k) : EReal) = relaid (argW m c) l k := by
  simp only [V, hostOps0, hostOps0_1, hostOps0_2, List.flatten_cons, List.flatten_nil, List.append_nil, List.cons_append, List.nil_append]
  after_results_simp
  dsimp only [Matrix.cons_val]
  pointwise
  after_results_simp
  simp -implicitDefEqProofs only [StableHlo.TRef.toBuf, StableHlo.TRef.ofBuf, cast_cast, cast_eq]
  pointwise
  after_results_simp
  pointwise
  have hk := k.isLt
  have e0 : (FloatOps.sitofp (F := Ideal) FTy.f32 (0#32) : EReal) = 0 := by
    show ((((0#32 : BitVec 32).toInt : ℝ)) : EReal) = 0
    simp
  unfold relaid
  repeat' split
  all_goals first
    | omega
    | exact e0
    | exact congrArg (argW m c) (congrArg (ix2 l) (Fin.ext (by (try dsimp only) <;> omega)))

theorem gain_at (c : Dev nD) (k : Fin 1024) : (V m c main_v9 (ix2 0 k) : EReal) = argG m c (ix1 k) := by
  simp only [V, hostOps0, hostOps0_1, hostOps0_2, List.flatten_cons, List.flatten_nil, List.append_nil, List.cons_append, List.nil_append]
  after_results_simp
  pointwise

theorem lt32 (t : Fin cfg0.N) : t.val < 32 := lt_of_lt_of_eq t.isLt N_0

theorem idx0 : ∀ t : Fin cfg0.N, win0_0.index t 0 = t.val ∧ win0_0.index t 1 = 0 :=
  (by decide +kernel : ∀ t : Fin grid0.N, _)
theorem idx1 : ∀ t : Fin cfg0.N, win0_1.index t 0 = 0 ∧ win0_1.index t 1 = 0 :=
  (by decide +kernel : ∀ t : Fin grid0.N, _)
theorem idx2 : ∀ t : Fin cfg0.N, win0_2.index t 0 = 0 ∧ win0_2.index t 1 = 0 :=
  (by decide +kernel : ∀ t : Fin grid0.N, _)

/-- Row `r` of the block staged at point `t` is row `512 t + r` of the array. -/
theorem blk0_at (c : Dev nD) (t : Fin cfg0.N) (r : Fin 512) (j : Fin 1024) (h : 512 * t.val + r.val < 16384) :
    (iblk m c 0 t (ix2 r j) : EReal) = argX m c (ix2 ⟨512 * t.val + r.val, h⟩ j) := by
  show V m c main_arg0 (((cfg0.win 0).blk t).view.emb (ix2 r j)) = _
  rw [V_main_arg0]
  refine congrArg _ (funext fun a => Fin.ext ?_)
  obtain ⟨e0, e1⟩ := idx0 t
  match a with
  | ⟨0, _⟩ => show win0_0.index t 0 * 512 + 1 * r.val = 512 * t.val + r.val; omega
  | ⟨1, _⟩ => show win0_0.index t 1 * 1024 + 1 * j.val = j.val; omega

theorem blk1_at (c : Dev nD) (t : Fin cfg0.N) (j : Fin 1024) : (iblk m c 1 t (ix2 0 j) : EReal) = argG m c (ix1 j) := by
  rw [← gain_at]
  show V m c main_v9 (((cfg0.win 1).blk t).view.emb (ix2 0 j)) = _
  refine congrArg _ (funext fun a => Fin.ext ?_)
  obtain ⟨e0, e1⟩ := idx1 t
  match a with
  | ⟨0, _⟩ => show win0_1.index t 0 * 1 + 1 * 0 = 0; omega
  | ⟨1, _⟩ => show win0_1.index t 1 * 1024 + 1 * j.val = j.val; omega

theorem blk2_at (c : Dev nD) (t : Fin cfg0.N) (l : Fin 1024) (k : Fin 4736) : (iblk m c 2 t (ix2 l k) : EReal) = relaid (argW m c) l k := by
  rw [← weights_at]
  show V m c main_v8 (((cfg0.win 2).blk t).view.emb (ix2 l k)) = _
  refine congrArg _ (funext fun a => Fin.ext ?_)
  obtain ⟨e0, e1⟩ := idx2 t
  match a with
  | ⟨0, _⟩ => show win0_2.index t 0 * 1024 + 1 * l.val = l.val; omega
  | ⟨1, _⟩ => show win0_2.index t 1 * 4736 + 1 * k.val = k.val; omega

theorem hz : (![0, 0] : Fin 2 → Nat) = fun _ => 0 := funext fun a => by fin_cases a <;> rfl

/-! ## Result by result -/

theorem idx3 : ∀ t : Fin cfg0.N, win0_3.index t 0 = t.val ∧ win0_3.index t 1 = 0 :=
  (by decide +kernel : ∀ t : Fin grid0.N, _)

theorem flushed3_eq (c : Dev nD) (t : Fin cfg0.N) :
    (dats m 0 c).flushed 3 t = ((cfg0.win 3).blk t).view.read (Elt Ideal) (band (argX m c) (argG m c) (argW m c) 0 1024 (by omega)) := by
  rw [Value.flushed3]
  funext y
  obtain ⟨r, k, rfl⟩ : ∃ (r : Fin 512) (k : Fin 1024), y = ix2 r k := ⟨y 0, y 1, eq_ix2 y⟩
  have ht := lt32 t
  have e : ((cfg0.win 3).blk t).view.emb (ix2 r k) = ix2 (⟨512 * t.val + r.val, by omega⟩ : Fin 16384) k := by
    obtain ⟨e0, e1⟩ := idx3 t
    funext a; apply Fin.ext
    match a with
    | ⟨0, _⟩ => show win0_3.index t 0 * 512 + 1 * r.val = 512 * t.val + r.val; omega
    | ⟨1, _⟩ => show win0_3.index t 1 * 1024 + 1 * k.val = k.val; omega
  show (out0_3 (F := Ideal) _ _ _ (ix2 r k) : EReal) = (band (argX m c) (argG m c) (argW m c) 0 1024 (by omega)) (((cfg0.win 3).blk t).view.emb (ix2 r k))
  rw [e]
  unfold out0_3
  rw [View.canon_unit_zero hz, View.ld_unit_zero hz, View.ld_unit_zero hz, pay4_at]
  simp only [blk0_at m c t _ _ (show 512 * t.val + r.val < 16384 by omega), blk1_at]
  unfold band
  refine congrArg (proj _ _) (funext fun l => ?_)
  pointwise
  rw [blk2_at]
  dsimp only [relaid]
  have hk := k.isLt
  repeat' split
  all_goals first
    | omega
    | rfl

theorem mem3 (t : Fin cfg0.N) (i : (main_v10_0 : Ref sig .tc).ty.Idx) :
    i ∈ ((cfg0.win 3).blk t).view.set ↔ ∀ a : Fin 2, win0_3.index t a * win0_3.size a ≤ (i a).val ∧ (i a).val < win0_3.index t a * win0_3.size a + win0_3.size a := by
  show i ∈ ((View.whole main_v10_0).slice (win0_3.rect t)).set ↔ _
  rw [View.set_slice_whole, Rect.mem_set_unit]
  exact Iff.rfl

theorem final3 (c : Dev nD) : (dats m 0 c).arrAt 3 cfg0.N = band (argX m c) (argG m c) (argW m c) 0 1024 (by omega) :=
  (dats m 0 c).arrAt_eq_of_cover 3 _ (fun t _ => flushed3_eq m c t) fun i => by
    have h0 : (i 0).val < 16384 := (i 0).isLt
    have h1 : (i 1).val < 1024 := (i 1).isLt
    have hN : cfg0.N = 32 := N_0
    refine ⟨⟨(i 0).val / 512, by omega⟩, flush0_3 _, ?_⟩
    rw [mem3]
    obtain ⟨e0, e1⟩ := idx3 ⟨(i 0).val / 512, by omega⟩
    intro a
    match a with
    | ⟨0, _⟩ => show win0_3.index _ 0 * 512 ≤ (i 0).val ∧ (i 0).val < win0_3.index _ 0 * 512 + 512
                rw [e0]; dsimp only; omega
    | ⟨1, _⟩ => show win0_3.index _ 1 * 1024 ≤ (i 1).val ∧ (i 1).val < win0_3.index _ 1 * 1024 + 1024
                rw [e1]; omega

theorem idx4 : ∀ t : Fin cfg0.N, win0_4.index t 0 = t.val ∧ win0_4.index t 1 = 0 :=
  (by decide +kernel : ∀ t : Fin grid0.N, _)

theorem flushed4_eq (c : Dev nD) (t : Fin cfg0.N) :
    (dats m 0 c).flushed 4 t = ((cfg0.win 4).blk t).view.read (Elt Ideal) (band (argX m c) (argG m c) (argW m c) 1024 1536 (by omega)) := by
  rw [Value.flushed4]
  funext y
  obtain ⟨r, k, rfl⟩ : ∃ (r : Fin 512) (k : Fin 1536), y = ix2 r k := ⟨y 0, y 1, eq_ix2 y⟩
  have ht := lt32 t
  have e : ((cfg0.win 4).blk t).view.emb (ix2 r k) = ix2 (⟨512 * t.val + r.val, by omega⟩ : Fin 16384) k := by
    obtain ⟨e0, e1⟩ := idx4 t
    funext a; apply Fin.ext
    match a with
    | ⟨0, _⟩ => show win0_4.index t 0 * 512 + 1 * r.val = 512 * t.val + r.val; omega
    | ⟨1, _⟩ => show win0_4.index t 1 * 1536 + 1 * k.val = k.val; omega
  show (out0_4 (F := Ideal) _ _ _ (ix2 r k) : EReal) = (band (argX m c) (argG m c) (argW m c) 1024 1536 (by omega)) (((cfg0.win 4).blk t).view.emb (ix2 r k))
  rw [e]
  unfold out0_4
  rw [View.canon_unit_zero hz, View.ld_unit_zero hz, View.ld_unit_zero hz, pay5_at]
  simp only [blk0_at m c t _ _ (show 512 * t.val + r.val < 16384 by omega), blk1_at]
  unfold band
  refine congrArg (proj _ _) (funext fun l => ?_)
  pointwise
  rw [blk2_at]
  dsimp only [relaid]
  have hk := k.isLt
  repeat' split
  all_goals first
    | omega
    | exact congrArg (argW m c) (congrArg (ix2 l) (Fin.ext (show _ = 1024 + k.val by (try dsimp only) <;> omega)))

theorem mem4 (t : Fin cfg0.N) (i : (main_v10_1 : Ref sig .tc).ty.Idx) :
    i ∈ ((cfg0.win 4).blk t).view.set ↔ ∀ a : Fin 2, win0_4.index t a * win0_4.size a ≤ (i a).val ∧ (i a).val < win0_4.index t a * win0_4.size a + win0_4.size a := by
  show i ∈ ((View.whole main_v10_1).slice (win0_4.rect t)).set ↔ _
  rw [View.set_slice_whole, Rect.mem_set_unit]
  exact Iff.rfl

theorem final4 (c : Dev nD) : (dats m 0 c).arrAt 4 cfg0.N = band (argX m c) (argG m c) (argW m c) 1024 1536 (by omega) :=
  (dats m 0 c).arrAt_eq_of_cover 4 _ (fun t _ => flushed4_eq m c t) fun i => by
    have h0 : (i 0).val < 16384 := (i 0).isLt
    have h1 : (i 1).val < 1536 := (i 1).isLt
    have hN : cfg0.N = 32 := N_0
    refine ⟨⟨(i 0).val / 512, by omega⟩, flush0_4 _, ?_⟩
    rw [mem4]
    obtain ⟨e0, e1⟩ := idx4 ⟨(i 0).val / 512, by omega⟩
    intro a
    match a with
    | ⟨0, _⟩ => show win0_4.index _ 0 * 512 ≤ (i 0).val ∧ (i 0).val < win0_4.index _ 0 * 512 + 512
                rw [e0]; dsimp only; omega
    | ⟨1, _⟩ => show win0_4.index _ 1 * 1536 ≤ (i 1).val ∧ (i 1).val < win0_4.index _ 1 * 1536 + 1536
                rw [e1]; omega

theorem idx5 : ∀ t : Fin cfg0.N, win0_5.index t 0 = t.val ∧ win0_5.index t 1 = 0 :=
  (by decide +kernel : ∀ t : Fin grid0.N, _)

theorem flushed5_eq (c : Dev nD) (t : Fin cfg0.N) :
    (dats m 0 c).flushed 5 t = ((cfg0.win 5).blk t).view.read (Elt Ideal) (band (argX m c) (argG m c) (argW m c) 2560 1024 (by omega)) := by
  rw [Value.flushed5]
  funext y
  obtain ⟨r, k, rfl⟩ : ∃ (r : Fin 512) (k : Fin 1024), y = ix2 r k := ⟨y 0, y 1, eq_ix2 y⟩
  have ht := lt32 t
  have e : ((cfg0.win 5).blk t).view.emb (ix2 r k) = ix2 (⟨512 * t.val + r.val, by omega⟩ : Fin 16384) k := by
    obtain ⟨e0, e1⟩ := idx5 t
    funext a; apply Fin.ext
    match a with
    | ⟨0, _⟩ => show win0_5.index t 0 * 512 + 1 * r.val = 512 * t.val + r.val; omega
    | ⟨1, _⟩ => show win0_5.index t 1 * 1024 + 1 * k.val = k.val; omega
  show (out0_5 (F := Ideal) _ _ _ (ix2 r k) : EReal) = (band (argX m c) (argG m c) (argW m c) 2560 1024 (by omega)) (((cfg0.win 5).blk t).view.emb (ix2 r k))
  rw [e]
  unfold out0_5
  rw [View.canon_unit_zero hz, View.ld_unit_zero hz, View.ld_unit_zero hz, pay6_at]
  simp only [blk0_at m c t _ _ (show 512 * t.val + r.val < 16384 by omega), blk1_at]
  unfold band
  refine congrArg (proj _ _) (funext fun l => ?_)
  pointwise
  rw [blk2_at]
  dsimp only [relaid]
  have hk := k.isLt
  repeat' split
  all_goals first
    | omega
    | exact congrArg (argW m c) (congrArg (ix2 l) (Fin.ext (show _ = 2560 + k.val by (try dsimp only) <;> omega)))

theorem mem5 (t : Fin cfg0.N) (i : (main_v10_2 : Ref sig .tc).ty.Idx) :
    i ∈ ((cfg0.win 5).blk t).view.set ↔ ∀ a : Fin 2, win0_5.index t a * win0_5.size a ≤ (i a).val ∧ (i a).val < win0_5.index t a * win0_5.size a + win0_5.size a := by
  show i ∈ ((View.whole main_v10_2).slice (win0_5.rect t)).set ↔ _
  rw [View.set_slice_whole, Rect.mem_set_unit]
  exact Iff.rfl

theorem final5 (c : Dev nD) : (dats m 0 c).arrAt 5 cfg0.N = band (argX m c) (argG m c) (argW m c) 2560 1024 (by omega) :=
  (dats m 0 c).arrAt_eq_of_cover 5 _ (fun t _ => flushed5_eq m c t) fun i => by
    have h0 : (i 0).val < 16384 := (i 0).isLt
    have h1 : (i 1).val < 1024 := (i 1).isLt
    have hN : cfg0.N = 32 := N_0
    refine ⟨⟨(i 0).val / 512, by omega⟩, flush0_5 _, ?_⟩
    rw [mem5]
    obtain ⟨e0, e1⟩ := idx5 ⟨(i 0).val / 512, by omega⟩
    intro a
    match a with
    | ⟨0, _⟩ => show win0_5.index _ 0 * 512 ≤ (i 0).val ∧ (i 0).val < win0_5.index _ 0 * 512 + 512
                rw [e0]; dsimp only; omega
    | ⟨1, _⟩ => show win0_5.index _ 1 * 1024 ≤ (i 1).val ∧ (i 1).val < win0_5.index _ 1 * 1024 + 1024
                rw [e1]; omega

theorem idx6 : ∀ t : Fin cfg0.N, win0_6.index t 0 = t.val ∧ win0_6.index t 1 = 0 :=
  (by decide +kernel : ∀ t : Fin grid0.N, _)

theorem flushed6_eq (c : Dev nD) (t : Fin cfg0.N) :
    (dats m 0 c).flushed 6 t = ((cfg0.win 6).blk t).view.read (Elt Ideal) (band (argX m c) (argG m c) (argW m c) 3600 1024 (by omega)) := by
  rw [Value.flushed6]
  funext y
  obtain ⟨r, k, rfl⟩ : ∃ (r : Fin 512) (k : Fin 1024), y = ix2 r k := ⟨y 0, y 1, eq_ix2 y⟩
  have ht := lt32 t
  have e : ((cfg0.win 6).blk t).view.emb (ix2 r k) = ix2 (⟨512 * t.val + r.val, by omega⟩ : Fin 16384) k := by
    obtain ⟨e0, e1⟩ := idx6 t
    funext a; apply Fin.ext
    match a with
    | ⟨0, _⟩ => show win0_6.index t 0 * 512 + 1 * r.val = 512 * t.val + r.val; omega
    | ⟨1, _⟩ => show win0_6.index t 1 * 1024 + 1 * k.val = k.val; omega
  show (out0_6 (F := Ideal) _ _ _ (ix2 r k) : EReal) = (band (argX m c) (argG m c) (argW m c) 3600 1024 (by omega)) (((cfg0.win 6).blk t).view.emb (ix2 r k))
  rw [e]
  unfold out0_6 k0_pay7
  rw [View.canon_unit_zero hz, View.ld_unit_zero hz, View.ld_unit_zero hz, pay1_at]
  simp only [blk0_at m c t _ _ (show 512 * t.val + r.val < 16384 by omega), blk1_at]
  unfold band
  refine congrArg (proj _ _) (funext fun l => ?_)
  pointwise
  rw [blk2_at]
  dsimp only [relaid]
  have hk := k.isLt
  repeat' split
  all_goals first
    | omega
    | exact congrArg (argW m c) (congrArg (ix2 l) (Fin.ext (show _ = 3600 + k.val by (try dsimp only) <;> omega)))

theorem mem6 (t : Fin cfg0.N) (i : (main_v10_3 : Ref sig .tc).ty.Idx) :
    i ∈ ((cfg0.win 6).blk t).view.set ↔ ∀ a : Fin 2, win0_6.index t a * win0_6.size a ≤ (i a).val ∧ (i a).val < win0_6.index t a * win0_6.size a + win0_6.size a := by
  show i ∈ ((View.whole main_v10_3).slice (win0_6.rect t)).set ↔ _
  rw [View.set_slice_whole, Rect.mem_set_unit]
  exact Iff.rfl

theorem final6 (c : Dev nD) : (dats m 0 c).arrAt 6 cfg0.N = band (argX m c) (argG m c) (argW m c) 3600 1024 (by omega) :=
  (dats m 0 c).arrAt_eq_of_cover 6 _ (fun t _ => flushed6_eq m c t) fun i => by
    have h0 : (i 0).val < 16384 := (i 0).isLt
    have h1 : (i 1).val < 1024 := (i 1).isLt
    have hN : cfg0.N = 32 := N_0
    refine ⟨⟨(i 0).val / 512, by omega⟩, flush0_6 _, ?_⟩
    rw [mem6]
    obtain ⟨e0, e1⟩ := idx6 ⟨(i 0).val / 512, by omega⟩
    intro a
    match a with
    | ⟨0, _⟩ => show win0_6.index _ 0 * 512 ≤ (i 0).val ∧ (i 0).val < win0_6.index _ 0 * 512 + 512
                rw [e0]; dsimp only; omega
    | ⟨1, _⟩ => show win0_6.index _ 1 * 1024 ≤ (i 1).val ∧ (i 1).val < win0_6.index _ 1 * 1024 + 1024
                rw [e1]; omega

theorem idx7 : ∀ t : Fin cfg0.N, win0_7.index t 0 = t.val ∧ win0_7.index t 1 = 0 :=
  (by decide +kernel : ∀ t : Fin grid0.N, _)

theorem flushed7_eq (c : Dev nD) (t : Fin cfg0.N) :
    (dats m 0 c).flushed 7 t = ((cfg0.win 7).blk t).view.read (Elt Ideal) (narrow (argX m c) (argG m c) (argW m c)) := by
  rw [Value.flushed7]
  funext y
  obtain ⟨r, k, rfl⟩ : ∃ (r : Fin 512) (k : Fin 128), y = ix2 r k := ⟨y 0, y 1, eq_ix2 y⟩
  have ht := lt32 t
  have e : ((cfg0.win 7).blk t).view.emb (ix2 r k) = ix2 (⟨512 * t.val + r.val, by omega⟩ : Fin 16384) k := by
    obtain ⟨e0, e1⟩ := idx7 t
    funext a; apply Fin.ext
    match a with
    | ⟨0, _⟩ => show win0_7.index t 0 * 512 + 1 * r.val = 512 * t.val + r.val; omega
    | ⟨1, _⟩ => show win0_7.index t 1 * 128 + 1 * k.val = k.val; omega
  show (out0_7 (F := Ideal) _ _ _ (ix2 r k) : EReal) = (narrow (argX m c) (argG m c) (argW m c)) (((cfg0.win 7).blk t).view.emb (ix2 r k))
  rw [e]
  unfold out0_7 k0_pay7
  rw [View.canon_unit_zero hz, View.ld_unit_zero hz, View.ld_unit_zero hz, pay2_at]
  simp only [blk0_at m c t _ _ (show 512 * t.val + r.val < 16384 by omega), blk1_at]
  unfold narrow
  have hw (l : Fin 1024) : (View.ld (iblk m c 2 t) r0_7 (ix2 l k) : EReal) = relaid (argW m c) l ⟨4608 + k.val, by omega⟩ := by
    pointwise
    exact blk2_at m c t l _
  simp only [hw, relaid_narrow]
  show proj _ _ _ = if h : k.val < 16 then _ else if h' : k.val < 24 then _ else _
  split
  · rfl
  · split
    · rfl
    · exact Finset.sum_eq_zero fun l _ => mul_zero _

theorem mem7 (t : Fin cfg0.N) (i : (main_v10_4 : Ref sig .tc).ty.Idx) :
    i ∈ ((cfg0.win 7).blk t).view.set ↔ ∀ a : Fin 2, win0_7.index t a * win0_7.size a ≤ (i a).val ∧ (i a).val < win0_7.index t a * win0_7.size a + win0_7.size a := by
  show i ∈ ((View.whole main_v10_4).slice (win0_7.rect t)).set ↔ _
  rw [View.set_slice_whole, Rect.mem_set_unit]
  exact Iff.rfl

theorem final7 (c : Dev nD) : (dats m 0 c).arrAt 7 cfg0.N = narrow (argX m c) (argG m c) (argW m c) :=
  (dats m 0 c).arrAt_eq_of_cover 7 _ (fun t _ => flushed7_eq m c t) fun i => by
    have h0 : (i 0).val < 16384 := (i 0).isLt
    have h1 : (i 1).val < 128 := (i 1).isLt
    have hN : cfg0.N = 32 := N_0
    refine ⟨⟨(i 0).val / 512, by omega⟩, flush0_7 _, ?_⟩
    rw [mem7]
    obtain ⟨e0, e1⟩ := idx7 ⟨(i 0).val / 512, by omega⟩
    intro a
    match a with
    | ⟨0, _⟩ => show win0_7.index _ 0 * 512 ≤ (i 0).val ∧ (i 0).val < win0_7.index _ 0 * 512 + 512
                rw [e0]; dsimp only; omega
    | ⟨1, _⟩ => show win0_7.index _ 1 * 128 ≤ (i 1).val ∧ (i 1).val < win0_7.index _ 1 * 128 + 128
                rw [e1]; omega

/-- The run, read: the five results as functions of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v10_0) = band (argX m c) (argG m c) (argW m c) 0 1024 (by omega)
      ∧ r.2.mem ((c : Thread nD τ).loc main_v10_1) = band (argX m c) (argG m c) (argW m c) 1024 1536 (by omega)
      ∧ r.2.mem ((c : Thread nD τ).loc main_v10_2) = band (argX m c) (argG m c) (argW m c) 2560 1024 (by omega)
      ∧ r.2.mem ((c : Thread nD τ).loc main_v10_3) = band (argX m c) (argG m c) (argW m c) 3600 1024 (by omega)
      ∧ r.2.mem ((c : Thread nD τ).loc main_v10_4) = narrow (argX m c) (argG m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => by
    obtain ⟨h0, h1, h2, h3, h4, hk⟩ := h c
    exact ⟨h0.trans (final3 m c), h1.trans (final4 m c), h2.trans (final5 m c), h3.trans (final6 m c), h4.trans (final7 m c), hk⟩)
    (Value.run_blocks m ρ)

end Layer.In0
-- ==== Proof.In0Plain.lean ====
/-
  The input projection as the plain program computes it: its five results are the same functions of the arguments.
-/
module

public import proofs.«01_k».proof.Proof.Gen.In0RefIdeal.Run
public import proofs.«01_k».proof.Proof.Rows

@[expose] public section
set_option maxRecDepth 16384

noncomputable section
namespace Layer.In0Plain
open Idealize.ShloMosaic Idealize.ShloMosaic.TcCoe Idealize.SL.Sem
open Cert.In0RefIdeal Cert.In0RefIdeal.Gen

variable (m : (ℓ : Loc nD τ sig) → Buf (Elt Ideal) ℓ)

abbrev argX (c : Dev nD) : V2 16384 1024 := m ((c : Thread nD τ).loc main_arg0)
abbrev argG (c : Dev nD) : V1 1024 := m ((c : Thread nD τ).loc main_arg1)
abbrev argW (c : Dev nD) : V2 1024 4632 := m ((c : Thread nD τ).loc main_arg2)

/-- The run, read: the five results as functions of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v22) = band (argX m c) (argG m c) (argW m c) 0 1024 (by omega)
      ∧ r.2.mem ((c : Thread nD τ).loc main_v24) = band (argX m c) (argG m c) (argW m c) 1024 1536 (by omega)
      ∧ r.2.mem ((c : Thread nD τ).loc main_v26) = band (argX m c) (argG m c) (argW m c) 2560 1024 (by omega)
      ∧ r.2.mem ((c : Thread nD τ).loc main_v27) = band (argX m c) (argG m c) (argW m c) 3600 1024 (by omega)
      ∧ r.2.mem ((c : Thread nD τ).loc main_v21) = narrow (argX m c) (argG m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => by
    obtain ⟨h0, h1, h2, h3, h4, hk⟩ := h c
    refine ⟨h0.trans (funext fun i => ?_), h1.trans (funext fun i => ?_), h2.trans (funext fun i => ?_), h3.trans (funext fun i => ?_),
      h4.trans (funext fun i => ?_), hk⟩
    · idx_vars i
      pointwise [band, proj, rmsn]
    · idx_vars i
      pointwise [band, proj, rmsn]
    · idx_vars i
      pointwise [band, proj, rmsn]
      exact Finset.sum_congr rfl fun l _ => congrArg (_ * ·) (congrArg (argW m c) (congrArg (ix2 l) (Fin.ext (by (try dsimp only) <;> omega))))
    · idx_vars i
      pointwise [band, proj, rmsn]
    · idx_vars i
      pointwise [narrow, proj, rmsn]
      repeat' split
      all_goals first
        | omega
        | rfl
        | exact Finset.sum_congr rfl fun l _ => congrArg (_ * ·) (congrArg (argW m c) (congrArg (ix2 l) (Fin.ext (by (try dsimp only) <;> omega))))
      )
    (Value.run m ρ)

end Layer.In0Plain
-- ==== Proof.SsdLoop.lean ====
/-
  The plain program of the recurrence, read around its loop: what the loop's body does not write is, after any number of trips, what
  it was at the loop's entry; in particular the arguments end as they were.
-/
module

public import proofs.«01_k».proof.Proof.Gen.ReferenceIdeal.Run
public import Idealize.ShloMosaic.Lib.Pointwise

@[expose] public section
set_option maxRecDepth 16384

noncomputable section
namespace Layer.SsdLoop
open Idealize.ShloMosaic Idealize.ShloMosaic.TcCoe Idealize.SL.Sem Idealize.ShloMosaic.StableHlo
open Cert.ReferenceIdeal Cert.ReferenceIdeal.Gen Cert.ReferenceIdeal.Value

variable (m : (ℓ : Loc nD τ sig) → Buf (Elt Ideal) ℓ)

/-- Everything the loop writes. -/
abbrev loopW : List (Ref sig .tc) := condOps_W ++ while0Ops0_W ++ while0Ops0_1_W ++ while0Ops0_2_W ++ while0Ops0_3_W ++ while0Ops0_4_W ++
  while0Ops0_5_W ++ while0Ops0_6_W ++ while0Ops0_7_W ++ while0Ops0_8_W ++ while0Ops0_9_W ++ while0Ops0_10_W

/-- A buffer the loop does not write is after any number of trips what it was at the loop's entry. -/
theorem kept (c : Dev nD) (r : Ref sig .tc) (h : r ∉ loopW) :
    ∀ k, atK m k c (Proc.devRef .tc r) = entryContents preI m c (Proc.devRef .tc r)
  | 0 => rfl
  | k + 1 => by
    have hr := h
    simp only [loopW, List.mem_append, not_or] at h
    obtain ⟨⟨⟨⟨⟨⟨⟨⟨⟨⟨⟨hc, h0⟩, h1⟩, h2⟩, h3⟩, h4⟩, h5⟩, h6⟩, h7⟩, h8⟩, h9⟩, h10⟩ := h
    rw [show atK m (k + 1) c = afterL bodyI (after condOps (atK m k c)) from rfl]
    simp only [afterL_cons, afterL_nil]
    rw [after_of_writes_sub _ _ while0Ops0_10_writes h10, after_of_writes_sub _ _ while0Ops0_9_writes h9,
      after_of_writes_sub _ _ while0Ops0_8_writes h8, after_of_writes_sub _ _ while0Ops0_7_writes h7,
      after_of_writes_sub _ _ while0Ops0_6_writes h6, after_of_writes_sub _ _ while0Ops0_5_writes h5,
      after_of_writes_sub _ _ while0Ops0_4_writes h4, after_of_writes_sub _ _ while0Ops0_3_writes h3,
      after_of_writes_sub _ _ while0Ops0_2_writes h2, after_of_writes_sub _ _ while0Ops0_1_writes h1,
      after_of_writes_sub _ _ while0Ops0_writes h0, after_of_writes_sub _ _ condOps_writes hc]
    exact kept c r hr k

/-- Everything the lines before the loop write. -/
abbrev preW : List (Ref sig .tc) := hostOps0_W ++ hostOps0_1_W ++ hostOps0_2_W ++ hostOps0_3_W ++ hostOps0_4_W ++ hostOps0_5_W ++ hostOps0_6_W

/-- A buffer not written before the loop enters it as it was at the start. -/
theorem entry_kept (c : Dev nD) (r : Ref sig .tc) (h : r ∉ preW) :
    entryContents (F := Ideal) preI m c (Proc.devRef .tc r) = m ((c : Thread nD τ).loc r) := by
  simp only [preW, List.mem_append, not_or] at h
  obtain ⟨⟨⟨⟨⟨⟨h0, h1⟩, h2⟩, h3⟩, h4⟩, h5⟩, h6⟩ := h
  simp only [entryContents, afterL_cons, afterL_nil]
  rw [after_of_writes_sub _ _ hostOps0_6_writes h6, after_of_writes_sub _ _ hostOps0_5_writes h5,
    after_of_writes_sub _ _ hostOps0_4_writes h4, after_of_writes_sub _ _ hostOps0_3_writes h3,
    after_of_writes_sub _ _ hostOps0_2_writes h2, after_of_writes_sub _ _ hostOps0_1_writes h1,
    after_of_writes_sub _ _ hostOps0_writes h0]

/-- A buffer written neither before the loop nor in it, read where the last lines begin. -/
theorem before_tail (c : Dev nD) (r : Ref sig .tc) (h : r ∉ preW) (h' : r ∉ loopW) :
    after condOps (atK m 16 c) (Proc.devRef .tc r) = m ((c : Thread nD τ).loc r) := by
  have h'' : r ∉ condOps_W := fun hc => h' (by simp only [loopW, List.mem_append]; tauto)
  rw [after_of_writes_sub _ _ condOps_writes h'', kept m c r h', entry_kept m c r h]

/-- The last lines write no argument. -/
theorem tail_kept (X : Valuation τ sig (Elt Ideal)) (r : Ref sig .tc)
    (hr : r ∈ [main_arg0, main_arg1, main_arg2, main_arg3, main_arg4, main_arg5, main_arg6, main_arg7, main_arg8, main_arg9, main_arg10, main_arg11, main_arg12]) :
    afterL postI X (Proc.devRef .tc r) = X (Proc.devRef .tc r) := by
  simp only [afterL_cons, afterL_nil]
  fin_cases hr <;> after_results_simp

/-- The arguments end as they were. -/
theorem arg_kept (c : Dev nD) (r : Ref sig .tc)
    (hr : r ∈ [main_arg0, main_arg1, main_arg2, main_arg3, main_arg4, main_arg5, main_arg6, main_arg7, main_arg8, main_arg9, main_arg10, main_arg11, main_arg12]) :
    finalContents condOps preI bodyI postI 16 m c (Proc.devRef .tc r) = m ((c : Thread nD τ).loc r) := by
  refine (tail_kept _ r hr).trans (before_tail m c r ?_ ?_) <;> fin_cases hr <;> decide +kernel

end Layer.SsdLoop
-- ==== Proof.Ssd.lean ====
module

public import Idealize.ShloMosaic.Lib.Pointwise

/-!
# The state-space scan, one chunk of it, on extended reals

`A t ch` are the activated rows of a chunk (the first 1024 columns the input `x`, the next 256 the two groups of `B`,
the last 256 those of `C`), `D t h` its step sizes, `al h` the logarithms of the decay rates, `S h p n` the state the
chunk starts from, `d h` the skip weights, `G t k` the activated gate, `w k` the norm's weights.
-/

@[expose] public section

noncomputable section

namespace Layer.Ssd
open Idealize.ShloMosaic

/-- The activation: a number times its logistic. -/
def silu (x : EReal) : EReal := x * Ideal.div 1 (1 + Ideal.exp (-x))

/-- The activation as the kernel spells it. -/
def siluT (x : EReal) : EReal :=
  Ideal.ofBits FTy.f32 0x3F000000#32 * x * Ideal.tanh (Ideal.ofBits FTy.f32 0x3F000000#32 * x)
    + Ideal.ofBits FTy.f32 0x3F000000#32 * x

/-- The step size of a raw number. -/
def softplus (x : EReal) : EReal := max x 0 + Ideal.log (1 + Ideal.exp (0 - FloatOps.absf (F := Ideal) (φ := FTy.f32) x))

/-- The group of a head. -/
abbrev grp (h : Fin 16) : Fin 2 := ⟨h.val / 8, by omega⟩
/-- The column of number `p` of head `h`. -/
abbrev col (h : Fin 16) (p : Fin 64) : Fin 1024 := ⟨64 * h.val + p.val, by omega⟩
/-- The head of a column. -/
abbrev head (k : Fin 1024) : Fin 16 := ⟨k.val / 64, by omega⟩
/-- The number of a column inside its head. -/
abbrev num (k : Fin 1024) : Fin 64 := ⟨k.val % 64, by omega⟩
abbrev xcol (k : Fin 1024) : Fin 1536 := ⟨k.val, by omega⟩
abbrev bcol (g : Fin 2) (n : Fin 128) : Fin 1536 := ⟨1024 + (128 * g.val + n.val), by omega⟩
abbrev ccol (g : Fin 2) (n : Fin 128) : Fin 1536 := ⟨1280 + (128 * g.val + n.val), by omega⟩

variable (A : Fin 128 → Fin 1536 → EReal) (D : Fin 128 → Fin 16 → EReal) (al d : Fin 16 → EReal)
  (S : Fin 16 → Fin 64 → Fin 128 → EReal) (G : Fin 128 → Fin 1024 → EReal) (w : Fin 1024 → EReal)

/-- The running sums of the decay exponents. -/
def cum (t : Fin 128) (h : Fin 16) : EReal := ∑ s : Fin 128, if s ≤ t then D s h * -Ideal.exp (al h) else 0

/-- Row `t` of `C` against row `s` of `B`. -/
def cbm (g : Fin 2) (t s : Fin 128) : EReal := ∑ n : Fin 128, A t (ccol g n) * A s (bcol g n)

/-- The decay between two rows of a chunk. -/
def decay (h : Fin 16) (t s : Fin 128) : EReal :=
  Ideal.exp (if s ≤ t then cum D al t h - cum D al s h else ⊥)

/-- What row `s` gives row `t`. -/
def wt (h : Fin 16) (t s : Fin 128) : EReal := decay D al h t s * cbm A (grp h) t s * D s h

/-- A row of the chunk's result, before the gate. -/
def row (t : Fin 128) (k : Fin 1024) : EReal :=
  (∑ s : Fin 128, wt A D al (head k) t s * A s (xcol k))
    + Ideal.exp (cum D al t (head k)) * (∑ n : Fin 128, A t (ccol (grp (head k)) n) * S (head k) (num k) n)
    + d (head k) * A t (xcol k)

/-- The gated row. -/
def gated (t : Fin 128) (k : Fin 1024) : EReal := row A D al d S t k * G t k

/-- The result: the gated row, normalised over its half, weighted. -/
def out (t : Fin 128) (k : Fin 1024) : EReal :=
  gated A D al d S G t k
    * Ideal.rsqrt (Ideal.div (∑ j : Fin 512, gated A D al d S G t ⟨512 * (k.val / 512) + j.val, by omega⟩
        * gated A D al d S G t ⟨512 * (k.val / 512) + j.val, by omega⟩) (Ideal.ofBits FTy.f32 0x44000000#32)
      + Ideal.ofBits FTy.f32 0x3727C5AC#32) * w k

/-- The state the chunk leaves. -/
def next (h : Fin 16) (p : Fin 64) (n : Fin 128) : EReal :=
  S h p n * Ideal.exp (cum D al 127 h)
    + ∑ s : Fin 128, A s (xcol (col h p)) * (Ideal.exp (cum D al 127 h - cum D al s h) * D s h) * A s (bcol (grp h) n)

end Layer.Ssd
-- ==== Proof.SsdAll.lean ====
module

public import proofs.«01_k».proof.Proof.Ssd

/-!
# The state-space scan over whole sequences

Eight sequences of 2048 rows, sixteen chunks of 128 rows each: the convolution before the scan, the step sizes, the state
from chunk to chunk, and the result. `f` is the activation.
-/

@[expose] public section

noncomputable section

namespace Layer.Ssd
open Idealize.ShloMosaic

/-- What the recurrence is given. -/
structure Ins where
  X : Fin 8 → Fin 2048 → Fin 1536 → EReal
  Z : Fin 8 → Fin 2048 → Fin 1024 → EReal
  sm : Fin 8 → Fin 2048 → Fin 16 → EReal
  cv : Fin 8 → Fin 3 → Fin 1536 → EReal
  st : Fin 8 → Fin 16 → Fin 64 → Fin 128 → EReal
  W : Fin 4 → Fin 1536 → EReal
  cb : Fin 1536 → EReal
  tb : Fin 16 → EReal
  al : Fin 16 → EReal
  d : Fin 16 → EReal
  w : Fin 1024 → EReal

variable (I : Ins) (f : EReal → EReal) (b : Fin 8)

/-- Row `t` of chunk `c`. -/
abbrev rowOf (c : Nat) (t : Fin 128) : Fin 2048 := ⟨(128 * c + t.val) % 2048, Nat.mod_lt _ (by decide)⟩

/-- The channel `d` rows before row `t`. -/
def ago (d : Nat) (t : Fin 2048) (k : Fin 1536) : EReal :=
  if d ≤ t.val then I.X b ⟨t.val - d, by omega⟩ k else I.cv b ⟨(3 + t.val - d) % 3, Nat.mod_lt _ (by decide)⟩ k

/-- The convolution. -/
def preOf (t : Fin 2048) (k : Fin 1536) : EReal :=
  I.cb k + I.X b t k * I.W 3 k + ago I b 3 t k * I.W 0 k + ago I b 2 t k * I.W 1 k + ago I b 1 t k * I.W 2 k

def actOf (c : Nat) (t : Fin 128) (k : Fin 1536) : EReal := f (preOf I b (rowOf c t) k)
def stepOf (c : Nat) (t : Fin 128) (h : Fin 16) : EReal := softplus (I.sm b (rowOf c t) h + I.tb h)
def gateOf (c : Nat) (t : Fin 128) (k : Fin 1024) : EReal := f (I.Z b (rowOf c t) k)

/-- The state before chunk `c`. -/
def stateOf : Nat → Fin 16 → Fin 64 → Fin 128 → EReal
  | 0 => I.st b
  | c + 1 => next (actOf I f b c) (stepOf I b c) I.al (stateOf c)

/-- A row of the result. -/
def outOf (c : Nat) (t : Fin 128) (k : Fin 1024) : EReal :=
  out (actOf I f b c) (stepOf I b c) I.al I.d (stateOf I f b c) (gateOf I f b c) I.w t k

/-- The decay exponents have no infinity. -/
def Tame : Prop := ∀ b c s h, stepOf I b c s h * -Ideal.exp (I.al h) - stepOf I b c s h * -Ideal.exp (I.al h) = 0

end Layer.Ssd
-- ==== Proof.SsdReal.lean ====
module

public import proofs.«01_k».proof.Proof.SsdAll
public import Idealize.ShloMosaic.Lib.Pointwise

/-!
# Finite inputs

Of finite inputs the convolution and the step sizes are finite; there the two forms of the activation agree, and the decay
exponents have no infinity.
-/

@[expose] public section
noncomputable section
namespace Layer.Ssd
open Idealize.ShloMosaic

/-- A number that is no infinity. -/
def Num (x : EReal) : Prop := ∃ r : ℝ, x = (r : EReal)

theorem Num.add {x y : EReal} : Num x → Num y → Num (x + y) := fun ⟨r, hr⟩ ⟨s, hs⟩ => ⟨r + s, by rw [hr, hs, EReal.coe_add]⟩
theorem Num.mul {x y : EReal} : Num x → Num y → Num (x * y) := fun ⟨r, hr⟩ ⟨s, hs⟩ => ⟨r * s, by rw [hr, hs, EReal.coe_mul]⟩
theorem Num.neg {x : EReal} : Num x → Num (-x) := fun ⟨r, hr⟩ => ⟨-r, by rw [hr, EReal.coe_neg]⟩
theorem Num.exp {x : EReal} : Num x → Num (Ideal.exp x) := fun ⟨r, hr⟩ => ⟨Real.exp r, by rw [hr]; rfl⟩
theorem Num.max {x y : EReal} : Num x → Num y → Num (max x y) := fun hx hy => by
  rcases max_choice x y with h | h <;> rw [h] <;> assumption
theorem Num.sub_self {x : EReal} : Num x → x - x = 0 := fun ⟨r, hr⟩ => by
  rw [hr, ← EReal.coe_sub, _root_.sub_self, EReal.coe_zero]

/-- A number whose size is below infinity. -/
theorem num_of {x : EReal} (h : FloatOps.absf (F := Ideal) (φ := FTy.f32) x < (⊤ : EReal)) : Num x := by
  have h' : max x (-x) < (⊤ : EReal) := h
  induction x with
  | bot => simp at h'
  | coe r => exact ⟨r, rfl⟩
  | top => simp at h'

theorem half : Ideal.ofBits FTy.f32 0x3F000000#32 = ((1 / 2 : ℝ) : EReal) := by
  simp [Ideal.ofBits, Ideal.ieee, -EReal.coe_mul]; norm_num

/-- The two forms of the activation agree on numbers. -/
theorem siluT_eq {x : EReal} (h : Num x) : siluT x = silu x := by
  obtain ⟨r, rfl⟩ := h
  unfold siluT silu
  rw [half]
  have e1 : Ideal.tanh (((1 / 2 : ℝ) : EReal) * (r : EReal)) = ((Real.tanh (1 / 2 * r) : ℝ) : EReal) := by
    rw [← EReal.coe_mul]; rfl
  have p : (0 : ℝ) < 1 + Real.exp (-r) := by positivity
  have e2 : Ideal.div 1 (1 + Ideal.exp (-(r : EReal))) = (((1 + Real.exp (-r))⁻¹ : ℝ) : EReal) := by
    have : 1 + Ideal.exp (-(r : EReal)) = ((1 + Real.exp (-r) : ℝ) : EReal) := by
      rw [← EReal.coe_neg, EReal.coe_add, EReal.coe_one]; rfl
    rw [this, Ideal.div_coe (ne_of_gt p), one_mul, one_div]
  rw [e1, e2]
  simp only [← EReal.coe_mul, ← EReal.coe_add]
  refine congrArg _ ?_
  have u : Real.exp (-r) = Real.exp (-(1 / 2 * r)) * Real.exp (-(1 / 2 * r)) := by rw [← Real.exp_add]; congr 1; ring
  have v : Real.exp (-(1 / 2 * r)) = (Real.exp (1 / 2 * r))⁻¹ := Real.exp_neg _
  have w : Real.exp (1 / 2 * r) ≠ 0 := Real.exp_ne_zero _
  rw [Real.tanh_eq_sinh_div_cosh, Real.sinh_eq, Real.cosh_eq, u, v]
  have w2 : 0 < Real.exp (1 / 2 * r) := Real.exp_pos _
  generalize Real.exp (1 / 2 * r) = z at *
  field_simp
  ring

theorem Num.softplus {x : EReal} (h : Num x) : Num (softplus x) := by
  have z : Num (0 : EReal) := ⟨0, EReal.coe_zero.symm⟩
  unfold Ssd.softplus
  refine (h.max z).add ?_
  have a : Num (FloatOps.absf (F := Ideal) (φ := FTy.f32) x) := h.max h.neg
  obtain ⟨r, hr⟩ := a
  rw [hr]
  refine ⟨Real.log (1 + Real.exp (0 - r)), ?_⟩
  have e : 1 + Ideal.exp (0 - (r : EReal)) = ((1 + Real.exp (0 - r) : ℝ) : EReal) := by
    rw [← EReal.coe_zero, ← EReal.coe_sub, EReal.coe_add, EReal.coe_one]; rfl
  rw [e]
  have p : ¬ (1 + Real.exp (0 - r) ≤ 0) := by have := Real.exp_pos (0 - r); linarith
  exact if_neg p

/-- Inputs without an infinity where it counts. -/
structure Ins.Finite (I : Ins) : Prop where
  x : ∀ b t k, Num (I.X b t k)
  z : ∀ b t k, Num (I.Z b t k)
  sm : ∀ b t h, Num (I.sm b t h)
  cv : ∀ b r k, Num (I.cv b r k)
  w : ∀ j k, Num (I.W j k)
  cb : ∀ k, Num (I.cb k)
  tb : ∀ h, Num (I.tb h)
  al : ∀ h, Num (I.al h)

variable {I : Ins} (hI : I.Finite)
include hI

theorem Ins.Finite.ago (b : Fin 8) (d : Nat) (t : Fin 2048) (k : Fin 1536) : Num (ago I b d t k) := by
  unfold Ssd.ago
  split
  · exact hI.x _ _ _
  · exact hI.cv _ _ _

theorem Ins.Finite.pre (b : Fin 8) (t : Fin 2048) (k : Fin 1536) : Num (preOf I b t k) :=
  ((((hI.cb k).add ((hI.x b t k).mul (hI.w 3 k))).add ((hI.ago b 3 t k).mul (hI.w 0 k))).add ((hI.ago b 2 t k).mul (hI.w 1 k))).add
    ((hI.ago b 1 t k).mul (hI.w 2 k))

theorem Ins.Finite.tame : Tame I := fun b c s h =>
  ((((hI.sm b _ h).add (hI.tb h)).softplus).mul (hI.al h).exp.neg).sub_self

theorem Ins.Finite.act (b : Fin 8) (c : Nat) : actOf I siluT b c = actOf I silu b c := by
  funext t k; exact siluT_eq (hI.pre b _ k)
theorem Ins.Finite.gate (b : Fin 8) (c : Nat) : gateOf I siluT b c = gateOf I silu b c := by
  funext t k; exact siluT_eq (hI.z b _ k)
theorem Ins.Finite.state (b : Fin 8) : ∀ c, stateOf I siluT b c = stateOf I silu b c
  | 0 => rfl
  | c + 1 => by
    show next (actOf I siluT b c) _ _ (stateOf I siluT b c) = next (actOf I silu b c) _ _ (stateOf I silu b c)
    rw [hI.act, Ins.Finite.state b c]
theorem Ins.Finite.out (b : Fin 8) (c : Nat) (t : Fin 128) (k : Fin 1024) : outOf I siluT b c t k = outOf I silu b c t k := by
  unfold outOf
  rw [hI.act, hI.gate, hI.state]

end Layer.Ssd
-- ==== Proof.SsdBody.lean ====
module

public import proofs.«01_k».proof.Proof.Gen.KernelIdeal.Value
public import Idealize.ShloMosaic.Lib.Pointwise

/-!
# One chunk of the state-space scan, as the kernel computes it

Each intermediate array of the body is named once, over the blocks the body has loaded: `u` the rows of the
convolution's input, `z` the gate, `sm` the raw step sizes, `w0 … w3` the four taps, `cb` their bias, `tb` the
step sizes' bias, `al` the decay rates' logarithms, `dd` the skip weights, `nw` the norm's weights, `sp` the
0/1 matrix that spreads a head's number over its 64 columns, `e` the last eight rows of the chunk before,
`st` the state carried in.
-/

@[expose] public section

set_option maxRecDepth 16384

noncomputable section

namespace Layer.SsdBody
open Idealize.ShloMosaic Idealize.ShloMosaic.TcCoe Idealize.SL.Sem Cert.KernelIdeal Cert.KernelIdeal.Gen

/-- Row numbers of the shift matrix. -/
abbrev rows : IVec S384x128 32 := iota .tc S384x128 32 [0] iota_S384x128_d0_w32
/-- Column numbers of the shift matrix. -/
abbrev cols : IVec S384x128 32 := iota .tc S384x128 32 [1] iota_S384x128_d1_w32
/-- Lane numbers of a 128×128 array. -/
abbrev lanes : IVec S128x128 32 := iota .tc S128x128 32 [1] iota_S128x128_d1_w32
/-- The number of rows of a chunk, as the body spells it. -/
abbrev len : BitVec 32 := Scalar.select (Scalar.cmpi .eq 128#32 0#32) 1#32 128#32
/-- A zero accumulator. -/
abbrev zacc : FVec Ideal S128x128 .f32 := constant S128x128 .f32 0x00000000#32

variable (u : Vec Ideal S1x128x1536 .bf16) (z : Vec Ideal S1x128x1024 .bf16) (sm : Vec Ideal S1x128x128 .f32)
  (w0 w1 w2 w3 : Vec Ideal S1x1536 .f32) (cb : Vec Ideal S1x1536 .f32) (tb al : Vec Ideal S1x128 .f32)
  (dd nw : Vec Ideal S1x1024 .f32) (sp : Vec Ideal S128x1024 .bf16)
  (e : Vec Ideal S8x1536 .f32) (st : Vec Ideal S1024x128 .f32)

/-- The chunk's rows shifted by three, two and one. -/
def shifted : FVec Ideal S384x1536 .f32 := k0_pay11 (k0_pay7 u) rows cols k0_pay9 len k0_pay10
/-- Bias, the row itself and the row three before it. -/
def taps : FVec Ideal S128x1536 .f32 :=
  k0_pay14 (k0_pay7 u) (k0_pay8 u) rows cols k0_pay9 len k0_pay10 cb w3 w0
/-- The activated convolution. -/
def act : FVec Ideal S128x1536 .f32 :=
  k0_pay17 (shifted u) (k0_pay12 e) k0_pay13 (taps u w0 w3 cb) (k0_pay15 e w0) w1 w1 w2 w2
def xs : FVec Ideal S128x1024 .f32 :=
  k0_pay18 (shifted u) (k0_pay12 e) k0_pay13 (taps u w0 w3 cb) (k0_pay15 e w0) w1 w1 w2 w2
def bs : FVec Ideal S128x256 .f32 :=
  k0_pay19 (shifted u) (k0_pay12 e) k0_pay13 (taps u w0 w3 cb) (k0_pay15 e w0) w1 w1 w2 w2
def cs : FVec Ideal S128x256 .f32 :=
  k0_pay20 (shifted u) (k0_pay12 e) k0_pay13 (taps u w0 w3 cb) (k0_pay15 e w0) w1 w1 w2 w2
/-- The step sizes. -/
def dt : FVec Ideal S128x128 .f32 := k0_pay25 sm tb
/-- Ones on and under the diagonal. -/
abbrev tri : FVec Ideal S128x128 .bf16 := k0_pay24 k0_pay21 k0_pay22 k0_pay23
abbrev rest : FVec Ideal S128x128 .bf16 := k0_pay30 sm tb al
abbrev lead : FVec Ideal S128x128 .f32 := k0_pay31 k0_pay21 k0_pay22 k0_pay23 sm tb al
/-- The running sums of the decay exponents. -/
def cum : FVec Ideal S128x128 .f32 := k0_pay32 tri (rest sm tb al) (lead sm tb al) zacc
def cumT : FVec Ideal S128x128 .f32 := k0_pay33 tri (rest sm tb al) (lead sm tb al) zacc
def grow : FVec Ideal S128x1024 .f32 := k0_pay36 tri (rest sm tb al) (lead sm tb al) zacc sp
abbrev half : IVec S128x128 1 := k0_pay38 lanes

def decay0 : FVec Ideal S128x128 .f32 := k0_pay41 k0_pay21 tri (rest sm tb al) (lead sm tb al) zacc
def decay1 : FVec Ideal S128x128 .f32 := k0_pay42 k0_pay21 tri (rest sm tb al) (lead sm tb al) zacc
def decay2 : FVec Ideal S128x128 .f32 := k0_pay44 k0_pay21 (k0_pay43 tri (rest sm tb al) (lead sm tb al) zacc) (Named.named κ "mask" 0xF149F2CA#32)
def decay3 : FVec Ideal S128x128 .f32 := k0_pay45 k0_pay21 (cum sm tb al) (cumT sm tb al)
def decay4 : FVec Ideal S128x128 .f32 := k0_pay46 k0_pay21 (cum sm tb al) (cumT sm tb al)
def decay5 : FVec Ideal S128x128 .f32 := k0_pay47 k0_pay21 (cum sm tb al) (cumT sm tb al)
def decay6 : FVec Ideal S128x128 .f32 := k0_pay48 k0_pay21 (cum sm tb al) (cumT sm tb al)
def decay7 : FVec Ideal S128x128 .f32 := k0_pay49 k0_pay21 (cum sm tb al) (cumT sm tb al)
def decay8 : FVec Ideal S128x128 .f32 := k0_pay50 k0_pay21 (cum sm tb al) (cumT sm tb al)
def decay9 : FVec Ideal S128x128 .f32 := k0_pay53 k0_pay21 (k0_pay51 (cumT sm tb al)) (k0_pay52 (cum sm tb al))
def decay10 : FVec Ideal S128x128 .f32 := k0_pay54 k0_pay21 (cum sm tb al) (cumT sm tb al)
def decay11 : FVec Ideal S128x128 .f32 := k0_pay55 k0_pay21 (cum sm tb al) (cumT sm tb al)
def decay12 : FVec Ideal S128x128 .f32 := k0_pay56 k0_pay21 (cum sm tb al) (cumT sm tb al)
def decay13 : FVec Ideal S128x128 .f32 := k0_pay57 k0_pay21 (cum sm tb al) (cumT sm tb al)
def decay14 : FVec Ideal S128x128 .f32 := k0_pay58 k0_pay21 (cum sm tb al) (cumT sm tb al)
def decay15 : FVec Ideal S128x128 .f32 := k0_pay59 k0_pay21 (cum sm tb al) (cumT sm tb al)
/-- The products of a chunk's `C` and `B` rows, first group and second. -/
def cb0 (b c : FVec Ideal S128x256 .f32) : FVec Ideal S128x128 .f32 := k0_pay39 b c
def cb1 (b c : FVec Ideal S128x256 .f32) : FVec Ideal S128x128 .f32 := k0_pay40 b c
variable (b c : FVec Ideal S128x256 .f32) (x : FVec Ideal S128x1024 .f32)
def wt0 : FVec Ideal S128x128 .f32 := k0_pay60 (k0_pay34 (dt sm tb)) (cb0 b c) (decay0 sm tb al)
def wt1 : FVec Ideal S128x128 .f32 := k0_pay61 (k0_pay34 (dt sm tb)) (cb0 b c) (decay1 sm tb al)
def wt2 : FVec Ideal S128x128 .f32 := k0_pay62 (k0_pay34 (dt sm tb)) (cb0 b c) (decay2 sm tb al)
def wt3 : FVec Ideal S128x128 .f32 := k0_pay63 (k0_pay34 (dt sm tb)) (cb0 b c) (decay3 sm tb al)
def wt4 : FVec Ideal S128x128 .f32 := k0_pay64 (k0_pay34 (dt sm tb)) (cb0 b c) (decay4 sm tb al)
def wt5 : FVec Ideal S128x128 .f32 := k0_pay65 (k0_pay34 (dt sm tb)) (cb0 b c) (decay5 sm tb al)
def wt6 : FVec Ideal S128x128 .f32 := k0_pay66 (k0_pay34 (dt sm tb)) (cb0 b c) (decay6 sm tb al)
def wt7 : FVec Ideal S128x128 .f32 := k0_pay67 (k0_pay34 (dt sm tb)) (cb0 b c) (decay7 sm tb al)
def wt8 : FVec Ideal S128x128 .f32 := k0_pay68 (k0_pay34 (dt sm tb)) (cb1 b c) (decay8 sm tb al)
def wt9 : FVec Ideal S128x128 .f32 := k0_pay69 (k0_pay34 (dt sm tb)) (cb1 b c) (decay9 sm tb al)
def wt10 : FVec Ideal S128x128 .f32 := k0_pay70 (k0_pay34 (dt sm tb)) (cb1 b c) (decay10 sm tb al)
def wt11 : FVec Ideal S128x128 .f32 := k0_pay71 (k0_pay34 (dt sm tb)) (cb1 b c) (decay11 sm tb al)
def wt12 : FVec Ideal S128x128 .f32 := k0_pay72 (k0_pay34 (dt sm tb)) (cb1 b c) (decay12 sm tb al)
def wt13 : FVec Ideal S128x128 .f32 := k0_pay73 (k0_pay34 (dt sm tb)) (cb1 b c) (decay13 sm tb al)
def wt14 : FVec Ideal S128x128 .f32 := k0_pay74 (k0_pay34 (dt sm tb)) (cb1 b c) (decay14 sm tb al)
def pair0 : FVec Ideal S128x256 .bf16 := k0_pay75 (wt0 sm tb al b c) (wt1 sm tb al b c)
def pair1 : FVec Ideal S128x256 .bf16 := k0_pay76 (wt2 sm tb al b c) (wt3 sm tb al b c)
def pair2 : FVec Ideal S128x256 .bf16 := k0_pay77 (wt4 sm tb al b c) (wt5 sm tb al b c)
def pair3 : FVec Ideal S128x256 .bf16 := k0_pay78 (wt6 sm tb al b c) (wt7 sm tb al b c)
def pair4 : FVec Ideal S128x256 .bf16 := k0_pay79 (wt8 sm tb al b c) (wt9 sm tb al b c)
def pair5 : FVec Ideal S128x256 .bf16 := k0_pay80 (wt10 sm tb al b c) (wt11 sm tb al b c)
def pair6 : FVec Ideal S128x256 .bf16 := k0_pay81 (wt12 sm tb al b c) (wt13 sm tb al b c)
def pair7 : FVec Ideal S128x256 .bf16 := k0_pay82 (k0_pay34 (dt sm tb)) (cb1 b c) (decay15 sm tb al) (wt14 sm tb al b c)
/-- What a chunk's rows give each other. -/
def intra : FVec Ideal S128x1024 .f32 := k0_pay89 x half (pair0 sm tb al b c) (pair1 sm tb al b c) (pair2 sm tb al b c) (pair3 sm tb al b c) (pair4 sm tb al b c) (pair5 sm tb al b c) (pair6 sm tb al b c) (pair7 sm tb al b c) (k0_pay83 x half) (k0_pay84 x half) (k0_pay85 x half) (k0_pay86 x half) (k0_pay87 x) (k0_pay88 x half)
/-- A chunk's rows, weighted for the state they leave. -/
def ends : FVec Ideal S128x1024 .f32 := k0_pay37 x tri (dt sm tb) (rest sm tb al) (lead sm tb al) zacc sp
/-- The gated and normalised rows. -/
def normed : FVec Ideal S128x1024 .f32 := k0_pay93 x (grow sm tb al sp) (intra sm tb al b c x) (k0_pay90 c st) (k0_pay91 c) (k0_pay92 st) dd z
def out : FVec Ideal S1x128x1024 .bf16 := k0_pay95 (normed z sm tb al dd sp st b c x) (k0_pay94 nw)
def piece0 : FVec Ideal S64x128 .f32 := k0_pay98 b (cumT sm tb al) (ends sm tb al sp x) st
def piece1 : FVec Ideal S64x128 .f32 := k0_pay99 b (cumT sm tb al) (ends sm tb al sp x) st
def piece2 : FVec Ideal S64x128 .f32 := k0_pay100 b (cumT sm tb al) (ends sm tb al sp x) st
def piece3 : FVec Ideal S64x128 .f32 := k0_pay102 (k0_pay101 b (cumT sm tb al) (ends sm tb al sp x) st)
def piece4 : FVec Ideal S64x128 .f32 := k0_pay103 st (k0_pay96 (cumT sm tb al)) (k0_pay97 b (ends sm tb al sp x))
def piece5 : FVec Ideal S64x128 .f32 := k0_pay104 st (k0_pay96 (cumT sm tb al)) (k0_pay97 b (ends sm tb al sp x))
def piece6 : FVec Ideal S64x128 .f32 := k0_pay105 st (k0_pay96 (cumT sm tb al)) (k0_pay97 b (ends sm tb al sp x))
def piece7 : FVec Ideal S64x128 .f32 := k0_pay106 st (k0_pay96 (cumT sm tb al)) (k0_pay97 b (ends sm tb al sp x))
def piece8 : FVec Ideal S64x128 .f32 := k0_pay108 st (k0_pay96 (cumT sm tb al)) (k0_pay107 b (ends sm tb al sp x))
def piece9 : FVec Ideal S64x128 .f32 := k0_pay109 st (k0_pay96 (cumT sm tb al)) (k0_pay107 b (ends sm tb al sp x))
def piece10 : FVec Ideal S64x128 .f32 := k0_pay110 st (k0_pay96 (cumT sm tb al)) (k0_pay107 b (ends sm tb al sp x))
def piece11 : FVec Ideal S64x128 .f32 := k0_pay111 st (k0_pay96 (cumT sm tb al)) (k0_pay107 b (ends sm tb al sp x))
def piece12 : FVec Ideal S64x128 .f32 := k0_pay112 st (k0_pay96 (cumT sm tb al)) (k0_pay107 b (ends sm tb al sp x))
def piece13 : FVec Ideal S64x128 .f32 := k0_pay1 st (k0_pay96 (cumT sm tb al)) (k0_pay107 b (ends sm tb al sp x))
def piece14 : FVec Ideal S64x128 .f32 := k0_pay2 st (k0_pay96 (cumT sm tb al)) (k0_pay107 b (ends sm tb al sp x))
def piece15 : FVec Ideal S64x128 .f32 := k0_pay3 st (k0_pay96 (cumT sm tb al)) (k0_pay107 b (ends sm tb al sp x))

end Layer.SsdBody
-- ==== Proof.SsdRead.lean ====
module

public import proofs.«01_k».proof.Proof.SsdBody
public import proofs.«01_k».proof.Proof.Ssd

/-!
# The body's arrays, read at an index

Every array `SsdBody` names is read here at one index, down to the chunk's mathematics of `Ssd`.
-/

@[expose] public section

set_option maxRecDepth 16384

noncomputable section

namespace Layer.SsdBody
open Idealize.ShloMosaic Idealize.ShloMosaic.TcCoe Idealize.SL.Sem Cert.KernelIdeal Cert.KernelIdeal.Gen

variable (u : Vec Ideal S1x128x1536 .bf16) (z : Vec Ideal S1x128x1024 .bf16) (sm : Vec Ideal S1x128x128 .f32)
  (w0 w1 w2 w3 : Vec Ideal S1x1536 .f32) (cb : Vec Ideal S1x1536 .f32) (tb al : Vec Ideal S1x128 .f32)
  (dd nw : Vec Ideal S1x1024 .f32) (sp : Vec Ideal S128x1024 .bf16)
  (e : Vec Ideal S8x1536 .f32) (st : Vec Ideal S1024x128 .f32)
  (b c : FVec Ideal S128x256 .f32) (x : FVec Ideal S128x1024 .f32)

/-! ## Masks -/

theorem sel_mask {α : Type} (t s : Fin 128) (p q : α) :
    Scalar.select (IntOp.cmpi CmpIPredicate.sge (BitVec.ofNat 32 t.val) (BitVec.ofNat 32 s.val)) p q = if s ≤ t then p else q := by
  have h : IntOp.cmpi CmpIPredicate.sge (BitVec.ofNat 32 t.val) (BitVec.ofNat 32 s.val) = if s ≤ t then 1#1 else 0#1 := by
    revert t s; decide +kernel
  rw [h]; split_ifs <;> rfl

theorem sel_half {α : Type} (k : Fin 128) (p q : α) :
    Scalar.select (IntOp.cmpi CmpIPredicate.slt (BitVec.ofNat 32 k.val) 64#32) p q = if k.val < 64 then p else q := by
  have h : IntOp.cmpi CmpIPredicate.slt (BitVec.ofNat 32 k.val) 64#32 = if k.val < 64 then 1#1 else 0#1 := by
    revert k; decide +kernel
  rw [h]; split_ifs <;> rfl

theorem sel_lane {α : Type} (k : Fin 128) (p q : α) :
    Scalar.select (IntOp.andi (IntOp.cmpi CmpIPredicate.sge (BitVec.ofNat 32 k.val) 0#32)
      (IntOp.cmpi CmpIPredicate.slt (BitVec.ofNat 32 k.val) 16#32)) p q = if k.val < 16 then p else q := by
  have h : (IntOp.andi (IntOp.cmpi CmpIPredicate.sge (BitVec.ofNat 32 k.val) 0#32)
      (IntOp.cmpi CmpIPredicate.slt (BitVec.ofNat 32 k.val) 16#32)) = if k.val < 16 then 1#1 else 0#1 := by
    revert k; decide +kernel
  rw [h]; split_ifs <;> rfl

theorem mask_at (t s : Fin 128) :
    k0_pay21 (ix2 t s) = IntOp.cmpi CmpIPredicate.sge (BitVec.ofNat 32 t.val) (BitVec.ofNat 32 s.val) := by
  pointwise [k0_pay21]

/-- The masking constant stands for minus infinity. -/
theorem mask_const : (Named.named κ "mask" 0xF149F2CA#32 : Ideal FTy.f32) = (⊥ : EReal) := rfl

/-! ## Step sizes and running sums -/

theorem dt_at (t l : Fin 128) :
    dt sm tb (ix2 t l) = if l.val < 16 then Ssd.softplus (sm (ix3 0 t l) + tb (ix2 0 l)) else 0 := by
  pointwise [dt, k0_pay25]
  rw [sel_lane]; rfl

theorem tri_at (t s : Fin 128) : k0_pay24 (F := Ideal) k0_pay21 k0_pay22 k0_pay23 (ix2 t s) = if s ≤ t then (1 : EReal) else 0 := by
  pointwise [k0_pay24, mask_at, k0_pay22, k0_pay23]
  rw [sel_mask]

theorem cum_at (hf : ∀ s l : Fin 128, dt sm tb (ix2 s l) * (0 - Ideal.exp (al (ix2 0 l)))
      - dt sm tb (ix2 s l) * (0 - Ideal.exp (al (ix2 0 l))) = 0) (t l : Fin 128) :
    cum sm tb al (ix2 t l) = ∑ s : Fin 128, if s ≤ t then dt sm tb (ix2 s l) * -Ideal.exp (al (ix2 0 l)) else 0 := by
  have hf' : ∀ s l : Fin 128, k0_pay25 sm tb (ix2 s l) * (0 - Ideal.exp (al (ix2 0 l)))
      - k0_pay25 sm tb (ix2 s l) * (0 - Ideal.exp (al (ix2 0 l))) = 0 := hf
  pointwise [cum, k0_pay32, k0_pay31, k0_pay30, k0_pay29, k0_pay28, k0_pay27, k0_pay26]
  simp only [hf', sub_zero, mul_zero, Finset.sum_const_zero, add_zero, tri_at, ite_mul, one_mul, zero_mul]
  refine Finset.sum_congr rfl fun s _ => ?_
  rw [zero_sub]; rfl

theorem cumT_at (t s : Fin 128) : cumT sm tb al (ix2 t s) = cum sm tb al (ix2 s t) := by
  pointwise [cumT, k0_pay33]
  rfl

theorem grow_at (t : Fin 128) (k : Fin 1024) :
    grow sm tb al sp (ix2 t k) = ∑ l : Fin 128, Ideal.exp (cum sm tb al (ix2 t l)) * sp (ix2 l k) := by
  pointwise [grow, k0_pay36, k0_pay35]
  rfl

theorem ends_at (t : Fin 128) (k : Fin 1024) :
    ends sm tb al sp x (ix2 t k) = x (ix2 t k) * ∑ l : Fin 128,
      Ideal.exp (cum sm tb al (ix2 127 l) - cum sm tb al (ix2 t l)) * dt sm tb (ix2 t l) * sp (ix2 l k) := by
  pointwise [ends, k0_pay37, k0_pay35]
  rfl

/-! ## What one row gives another, head by head -/

theorem cb0_at (t s : Fin 128) : cb0 b c (ix2 t s) = ∑ n : Fin 128, c (ix2 t ⟨n.val, by omega⟩) * b (ix2 s ⟨n.val, by omega⟩) := by
  pointwise [cb0, k0_pay39]

theorem cb1_at (t s : Fin 128) :
    cb1 b c (ix2 t s) = ∑ n : Fin 128, c (ix2 t ⟨128 + n.val, by omega⟩) * b (ix2 s ⟨128 + n.val, by omega⟩) := by
  pointwise [cb1, k0_pay40]

/-- Row `t` of `C` against row `s` of `B`, in group `g`. -/
def cbV (g : Fin 2) (t s : Fin 128) : EReal :=
  ∑ n : Fin 128, c (ix2 t ⟨128 * g.val + n.val, by omega⟩) * b (ix2 s ⟨128 * g.val + n.val, by omega⟩)

theorem cb0_eq (t s : Fin 128) : cb0 b c (ix2 t s) = cbV b c 0 t s := by
  rw [cb0_at]
  refine Finset.sum_congr rfl fun n _ => congrArg₂ (· * ·) (congrArg c (congrArg (ix2 t) (Fin.ext ?_))) (congrArg b (congrArg (ix2 s) (Fin.ext ?_))) <;>
    (show n.val = 128 * 0 + n.val; omega)

theorem cb1_eq (t s : Fin 128) : cb1 b c (ix2 t s) = cbV b c 1 t s := by
  rw [cb1_at]
  rfl

/-- The weight of row `s` in row `t`, head `h`. -/
def wtV (h : Fin 16) (t s : Fin 128) : EReal :=
  Ideal.exp (if s ≤ t then cum sm tb al (ix2 t ⟨h.val, by omega⟩) - cum sm tb al (ix2 s ⟨h.val, by omega⟩) else ⊥)
    * cbV b c (Ssd.grp h) t s * dt sm tb (ix2 s ⟨h.val, by omega⟩)

theorem wt0_at (t s : Fin 128) : wt0 sm tb al b c (ix2 t s) = wtV sm tb al b c 0 t s := by
  pointwise [wt0, k0_pay60, decay0, k0_pay41, k0_pay33, k0_pay34, mask_at]
  rw [sel_mask, mask_const, cb0_eq]; rfl

theorem wt1_at (t s : Fin 128) : wt1 sm tb al b c (ix2 t s) = wtV sm tb al b c 1 t s := by
  pointwise [wt1, k0_pay61, decay1, k0_pay42, k0_pay33, k0_pay34, mask_at]
  rw [sel_mask, mask_const, cb0_eq]; rfl

theorem wt2_at (t s : Fin 128) : wt2 sm tb al b c (ix2 t s) = wtV sm tb al b c 2 t s := by
  pointwise [wt2, k0_pay62, decay2, k0_pay43, k0_pay44, k0_pay33, k0_pay34, mask_at]
  rw [sel_mask, mask_const, cb0_eq]; rfl

theorem wt3_at (t s : Fin 128) : wt3 sm tb al b c (ix2 t s) = wtV sm tb al b c 3 t s := by
  pointwise [wt3, k0_pay63, decay3, k0_pay45, cumT_at, k0_pay34, mask_at]
  rw [sel_mask, mask_const, cb0_eq]; rfl

theorem wt4_at (t s : Fin 128) : wt4 sm tb al b c (ix2 t s) = wtV sm tb al b c 4 t s := by
  pointwise [wt4, k0_pay64, decay4, k0_pay46, cumT_at, k0_pay34, mask_at]
  rw [sel_mask, mask_const, cb0_eq]; rfl

theorem wt5_at (t s : Fin 128) : wt5 sm tb al b c (ix2 t s) = wtV sm tb al b c 5 t s := by
  pointwise [wt5, k0_pay65, decay5, k0_pay47, cumT_at, k0_pay34, mask_at]
  rw [sel_mask, mask_const, cb0_eq]; rfl

theorem wt6_at (t s : Fin 128) : wt6 sm tb al b c (ix2 t s) = wtV sm tb al b c 6 t s := by
  pointwise [wt6, k0_pay66, decay6, k0_pay48, cumT_at, k0_pay34, mask_at]
  rw [sel_mask, mask_const, cb0_eq]; rfl

theorem wt7_at (t s : Fin 128) : wt7 sm tb al b c (ix2 t s) = wtV sm tb al b c 7 t s := by
  pointwise [wt7, k0_pay67, decay7, k0_pay49, cumT_at, k0_pay34, mask_at]
  rw [sel_mask, mask_const, cb0_eq]; rfl

theorem wt8_at (t s : Fin 128) : wt8 sm tb al b c (ix2 t s) = wtV sm tb al b c 8 t s := by
  pointwise [wt8, k0_pay68, decay8, k0_pay50, cumT_at, k0_pay34, mask_at]
  rw [sel_mask, mask_const, cb1_eq]; rfl

theorem wt9_at (t s : Fin 128) : wt9 sm tb al b c (ix2 t s) = wtV sm tb al b c 9 t s := by
  pointwise [wt9, k0_pay69, decay9, k0_pay53, k0_pay51, k0_pay52, cumT_at, k0_pay34, mask_at]
  rw [sel_mask, mask_const, cb1_eq]; rfl

theorem wt10_at (t s : Fin 128) : wt10 sm tb al b c (ix2 t s) = wtV sm tb al b c 10 t s := by
  pointwise [wt10, k0_pay70, decay10, k0_pay54, cumT_at, k0_pay34, mask_at]
  rw [sel_mask, mask_const, cb1_eq]; rfl

theorem wt11_at (t s : Fin 128) : wt11 sm tb al b c (ix2 t s) = wtV sm tb al b c 11 t s := by
  pointwise [wt11, k0_pay71, decay11, k0_pay55, cumT_at, k0_pay34, mask_at]
  rw [sel_mask, mask_const, cb1_eq]; rfl

theorem wt12_at (t s : Fin 128) : wt12 sm tb al b c (ix2 t s) = wtV sm tb al b c 12 t s := by
  pointwise [wt12, k0_pay72, decay12, k0_pay56, cumT_at, k0_pay34, mask_at]
  rw [sel_mask, mask_const, cb1_eq]; rfl

theorem wt13_at (t s : Fin 128) : wt13 sm tb al b c (ix2 t s) = wtV sm tb al b c 13 t s := by
  pointwise [wt13, k0_pay73, decay13, k0_pay57, cumT_at, k0_pay34, mask_at]
  rw [sel_mask, mask_const, cb1_eq]; rfl

theorem wt14_at (t s : Fin 128) : wt14 sm tb al b c (ix2 t s) = wtV sm tb al b c 14 t s := by
  pointwise [wt14, k0_pay74, decay14, k0_pay58, cumT_at, k0_pay34, mask_at]
  rw [sel_mask, mask_const, cb1_eq]; rfl

/-- Two heads side by side against one block of columns whose other half is zeroed: one head's sum. -/
theorem half_sum (W0 W1 W X X' : Fin 128 → EReal) (n : Nat) (hn : n < 128) (h0 : n < 64 → ∀ s, W0 s = W s)
    (h1 : ¬ n < 64 → ∀ s, W1 s = W s) (hX : ∀ s, X s = X' s) :
    (∑ s : Fin 128, Scalar.select (IntOp.cmpi CmpIPredicate.slt (BitVec.ofNat 32 n) 64#32) (W0 s * X s) 0)
      + (∑ s : Fin 128, Scalar.select (IntOp.cmpi CmpIPredicate.slt (BitVec.ofNat 32 n) 64#32) 0 (W1 s * X s))
      = ∑ s : Fin 128, W s * X' s := by
  have hs : ∀ p q : EReal, Scalar.select (IntOp.cmpi CmpIPredicate.slt (BitVec.ofNat 32 n) 64#32) p q = if n < 64 then p else q :=
    fun p q => sel_half ⟨n, hn⟩ p q
  simp only [hs]
  by_cases h : n < 64
  · simp only [if_pos h, Finset.sum_const_zero, add_zero]
    exact Finset.sum_congr rfl fun s _ => by rw [h0 h s, hX s]
  · simp only [if_neg h, Finset.sum_const_zero, zero_add]
    exact Finset.sum_congr rfl fun s _ => by rw [h1 h s, hX s]

theorem wtV_congr {h h' : Fin 16} (e : h = h') (t s : Fin 128) : wtV sm tb al b c h t s = wtV sm tb al b c h' t s := by rw [e]

theorem wt15_at (t s : Fin 128) : decay15 sm tb al (ix2 t s) * cb1 b c (ix2 t s) * dt sm tb (ix2 s 15) = wtV sm tb al b c 15 t s := by
  pointwise [decay15, k0_pay59, cumT_at, mask_at]
  rw [sel_mask, mask_const, cb1_eq]; rfl

theorem intra_at (t : Fin 128) (k : Fin 1024) :
    intra sm tb al b c x (ix2 t k) = ∑ s : Fin 128, wtV sm tb al b c (Ssd.head k) t s * x (ix2 s k) := by
  have hk := k.isLt
  pointwise [intra, k0_pay89, half, k0_pay38, k0_pay75, k0_pay76, k0_pay77, k0_pay78, k0_pay79, k0_pay80, k0_pay81, k0_pay82, k0_pay83, k0_pay84, k0_pay85, k0_pay86, k0_pay87, k0_pay88, k0_pay34, pair0, pair1, pair2, pair3, pair4, pair5, pair6, pair7]
  by_cases h0 : k.val < 128
  · rw [dif_pos h0]
    exact half_sum _ _ _ _ _ (k.val) (by omega)
      (fun h s => (wt0_at sm tb al b c t s).trans (wtV_congr sm tb al b c (h' := Ssd.head k) (Fin.ext (by show 0 = k.val / 64; omega)) t s))
      (fun h s => (wt1_at sm tb al b c t s).trans (wtV_congr sm tb al b c (h' := Ssd.head k) (Fin.ext (by show 1 = k.val / 64; omega)) t s))
      (fun s => congrArg x (congrArg (ix2 s) (Fin.ext (by first | rfl | omega | (dsimp only; omega)))))
  rw [dif_neg h0]
  by_cases h1 : k.val - 128 < 128
  · rw [dif_pos h1]
    exact half_sum _ _ _ _ _ (k.val - 128) (by omega)
      (fun h s => (wt2_at sm tb al b c t s).trans (wtV_congr sm tb al b c (h' := Ssd.head k) (Fin.ext (by show 2 = k.val / 64; omega)) t s))
      (fun h s => (wt3_at sm tb al b c t s).trans (wtV_congr sm tb al b c (h' := Ssd.head k) (Fin.ext (by show 3 = k.val / 64; omega)) t s))
      (fun s => congrArg x (congrArg (ix2 s) (Fin.ext (by first | rfl | omega | (dsimp only; omega)))))
  rw [dif_neg h1]
  by_cases h2 : k.val - 128 - 128 < 128
  · rw [dif_pos h2]
    exact half_sum _ _ _ _ _ (k.val - 128 - 128) (by omega)
      (fun h s => (wt4_at sm tb al b c t s).trans (wtV_congr sm tb al b c (h' := Ssd.head k) (Fin.ext (by show 4 = k.val / 64; omega)) t s))
      (fun h s => (wt5_at sm tb al b c t s).trans (wtV_congr sm tb al b c (h' := Ssd.head k) (Fin.ext (by show 5 = k.val / 64; omega)) t s))
      (fun s => congrArg x (congrArg (ix2 s) (Fin.ext (by first | rfl | omega | (dsimp only; omega)))))
  rw [dif_neg h2]
  by_cases h3 : k.val - 128 - 128 - 128 < 128
  · rw [dif_pos h3]
    exact half_sum _ _ _ _ _ (k.val - 128 - 128 - 128) (by omega)
      (fun h s => (wt6_at sm tb al b c t s).trans (wtV_congr sm tb al b c (h' := Ssd.head k) (Fin.ext (by show 6 = k.val / 64; omega)) t s))
      (fun h s => (wt7_at sm tb al b c t s).trans (wtV_congr sm tb al b c (h' := Ssd.head k) (Fin.ext (by show 7 = k.val / 64; omega)) t s))
      (fun s => congrArg x (congrArg (ix2 s) (Fin.ext (by first | rfl | omega | (dsimp only; omega)))))
  rw [dif_neg h3]
  by_cases h4 : k.val - 128 - 128 - 128 - 128 < 128
  · rw [dif_pos h4]
    exact half_sum _ _ _ _ _ (k.val - 128 - 128 - 128 - 128) (by omega)
      (fun h s => (wt8_at sm tb al b c t s).trans (wtV_congr sm tb al b c (h' := Ssd.head k) (Fin.ext (by show 8 = k.val / 64; omega)) t s))
      (fun h s => (wt9_at sm tb al b c t s).trans (wtV_congr sm tb al b c (h' := Ssd.head k) (Fin.ext (by show 9 = k.val / 64; omega)) t s))
      (fun s => congrArg x (congrArg (ix2 s) (Fin.ext (by first | rfl | omega | (dsimp only; omega)))))
  rw [dif_neg h4]
  by_cases h5 : k.val - 128 - 128 - 128 - 128 - 128 < 128
  · rw [dif_pos h5]
    exact half_sum _ _ _ _ _ (k.val - 128 - 128 - 128 - 128 - 128) (by omega)
      (fun h s => (wt10_at sm tb al b c t s).trans (wtV_congr sm tb al b c (h' := Ssd.head k) (Fin.ext (by show 10 = k.val / 64; omega)) t s))
      (fun h s => (wt11_at sm tb al b c t s).trans (wtV_congr sm tb al b c (h' := Ssd.head k) (Fin.ext (by show 11 = k.val / 64; omega)) t s))
      (fun s => congrArg x (congrArg (ix2 s) (Fin.ext (by first | rfl | omega | (dsimp only; omega)))))
  rw [dif_neg h5]
  by_cases h6 : k.val - 128 - 128 - 128 - 128 - 128 - 128 < 128
  · rw [dif_pos h6]
    exact half_sum _ _ _ _ _ (k.val - 128 - 128 - 128 - 128 - 128 - 128) (by omega)
      (fun h s => (wt12_at sm tb al b c t s).trans (wtV_congr sm tb al b c (h' := Ssd.head k) (Fin.ext (by show 12 = k.val / 64; omega)) t s))
      (fun h s => (wt13_at sm tb al b c t s).trans (wtV_congr sm tb al b c (h' := Ssd.head k) (Fin.ext (by show 13 = k.val / 64; omega)) t s))
      (fun s => congrArg x (congrArg (ix2 s) (Fin.ext (by first | rfl | omega | (dsimp only; omega)))))
  rw [dif_neg h6]
  exact half_sum _ _ _ _ _ (k.val - 128 - 128 - 128 - 128 - 128 - 128 - 128) (by omega)
      (fun h s => (wt14_at sm tb al b c t s).trans (wtV_congr sm tb al b c (h' := Ssd.head k) (Fin.ext (by show 14 = k.val / 64; omega)) t s))
      (fun h s => (wt15_at sm tb al b c t s).trans (wtV_congr sm tb al b c (h' := Ssd.head k) (Fin.ext (by show 15 = k.val / 64; omega)) t s))
      (fun s => congrArg x (congrArg (ix2 s) (Fin.ext (by first | rfl | omega | (dsimp only; omega)))))

/-! ## The row, gated and normalised -/

/-- What the state the chunk starts from gives each row, both groups side by side. -/
def inter : FVec Ideal S128x1024 .f32 :=
  concatenate S128x1024 1 [⟨S128x512, k0_pay90 c st⟩, ⟨S128x512, matmul dot_S128x128_S512x128_S128x512_1_1_0_0_n_n none
    (truncf .bf16 (k0_pay91 c) bitsLt_bf16_f32) (truncf .bf16 (k0_pay92 st) bitsLt_bf16_f32) (constant S128x512 .f32 0x00000000#32)⟩]
    concatenates_S128x512_S128x512_S128x1024_d1

/-- The gated rows. -/
def mixed : FVec Ideal S128x1024 .f32 :=
  mulf (addf (addf (intra sm tb al b c x) (mulf (grow sm tb al sp) (inter st c)))
      (mulf (broadcastTo S128x1024 (shapeCast S1x1024 dd shapeCasts_S1x1024_S1x1024) broadcasts_S1x1024_S128x1024) x))
    (addf (mulf (mulf (broadcast S128x1024 (Scalar.ofBits .f32 0x3F000000#32)) (extf .f32 (shapeCast S128x1024 z shapeCasts_S1x128x1024_S128x1024) bitsLt_bf16_f32))
        (tanh (mulf (broadcast S128x1024 (Scalar.ofBits .f32 0x3F000000#32)) (extf .f32 (shapeCast S128x1024 z shapeCasts_S1x128x1024_S128x1024) bitsLt_bf16_f32))))
      (mulf (broadcast S128x1024 (Scalar.ofBits .f32 0x3F000000#32)) (extf .f32 (shapeCast S128x1024 z shapeCasts_S1x128x1024_S128x1024) bitsLt_bf16_f32)))

/-- One half of a row over its root mean square. -/
def unit (v : FVec Ideal S128x512 .f32) : FVec Ideal S128x512 .f32 :=
  mulf v (broadcastTo S128x512 (rsqrt (addf (divf (shapeCast S128x1 (multiReduction .add [1] S128 (mulf v v) 0x00000000#32 reduces_S128x512_S128 (.inl rfl) rfl)
    shapeCasts_S128_S128x1) (broadcast S128x1 (Scalar.ofBits .f32 0x44000000#32))) (broadcast S128x1 (Scalar.ofBits .f32 0x3727C5AC#32)))) broadcasts_S128x1_S128x512)

/-- Both halves. -/
def units (v : FVec Ideal S128x1024 .f32) : FVec Ideal S128x1024 .f32 :=
  concatenate S128x1024 1 [⟨S128x512, unit (extractStridedSlice S128x512 ![0, 0] v slices_S128x1024_o0_0_S128x512)⟩,
    ⟨S128x512, unit (extractStridedSlice S128x512 ![0, 512] v slices_S128x1024_o0_512_S128x512)⟩] concatenates_S128x512_S128x512_S128x1024_d1

theorem normed_eq : normed z sm tb al dd sp st b c x = units (mixed z sm tb al dd sp st b c x) := rfl

theorem inter_at (t : Fin 128) (k : Fin 1024) :
    inter st c (ix2 t k) = ∑ n : Fin 128, c (ix2 t ⟨128 * (k.val / 512) + n.val, by omega⟩) * st (ix2 k n) := by
  have hk := k.isLt
  pointwise [inter, k0_pay90, k0_pay91, k0_pay92]
  by_cases h : k.val < 512
  · rw [dif_pos h]
    exact Finset.sum_congr rfl fun n _ => congrArg₂ (· * ·) (congrArg c (congrArg (ix2 t) (Fin.ext (by dsimp only; omega)))) rfl
  · rw [dif_neg h]
    exact Finset.sum_congr rfl fun n _ => congrArg₂ (· * ·) (congrArg c (congrArg (ix2 t) (Fin.ext (by dsimp only; omega))))
      (congrArg (fun j => st (ix2 j n)) (Fin.ext (by dsimp only; omega)))

theorem mixed_at (t : Fin 128) (k : Fin 1024) :
    mixed z sm tb al dd sp st b c x (ix2 t k) = (intra sm tb al b c x (ix2 t k) + grow sm tb al sp (ix2 t k) * inter st c (ix2 t k)
      + dd (ix2 0 k) * x (ix2 t k)) * Ssd.siluT (z (ix3 0 t k)) := by
  pointwise [mixed]
  rfl

theorem units_at (v : FVec Ideal S128x1024 .f32) (t : Fin 128) (k : Fin 1024) :
    units v (ix2 t k) = v (ix2 t k) * Ideal.rsqrt (Ideal.div (∑ j : Fin 512, v (ix2 t ⟨512 * (k.val / 512) + j.val, by omega⟩)
        * v (ix2 t ⟨512 * (k.val / 512) + j.val, by omega⟩)) (Ideal.ofBits FTy.f32 0x44000000#32) + Ideal.ofBits FTy.f32 0x3727C5AC#32) := by
  have hk := k.isLt
  pointwise [units, unit]
  by_cases h : k.val < 512
  · rw [dif_pos h]
    have e : ∀ j : Fin 512, (⟨j.val, by omega⟩ : Fin 1024) = ⟨512 * (k.val / 512) + j.val, by omega⟩ := fun j => Fin.ext (by dsimp only; omega)
    simp only [← e]
  · rw [dif_neg h]
    have e : ∀ j : Fin 512, (⟨512 + j.val, by omega⟩ : Fin 1024) = ⟨512 * (k.val / 512) + j.val, by omega⟩ := fun j => Fin.ext (by dsimp only; omega)
    have e' : (⟨512 + (k.val - 512), by omega⟩ : Fin 1024) = k := Fin.ext (by dsimp only; omega)
    simp only [← e, e']

/-! ## The chunk's mathematics -/

variable (A : Fin 128 → Fin 1536 → EReal) (D : Fin 128 → Fin 16 → EReal) (av dv : Fin 16 → EReal)
  (S : Fin 16 → Fin 64 → Fin 128 → EReal) (G : Fin 128 → Fin 1024 → EReal) (w : Fin 1024 → EReal)

/-- The body's arrays hold these numbers. -/
structure Holds : Prop where
  hx : ∀ t k, x (ix2 t k) = A t (Ssd.xcol k)
  hb : ∀ t (g : Fin 2) (n : Fin 128), b (ix2 t ⟨128 * g.val + n.val, by omega⟩) = A t (Ssd.bcol g n)
  hc : ∀ t (g : Fin 2) (n : Fin 128), c (ix2 t ⟨128 * g.val + n.val, by omega⟩) = A t (Ssd.ccol g n)
  hD : ∀ s (h : Fin 16), Ssd.softplus (sm (ix3 0 s ⟨h.val, by omega⟩) + tb (ix2 0 ⟨h.val, by omega⟩)) = D s h
  ha : ∀ h : Fin 16, al (ix2 0 ⟨h.val, by omega⟩) = av h
  hsp : ∀ (l : Fin 128) (k : Fin 1024), sp (ix2 l k) = if l.val = k.val / 64 then (1 : EReal) else 0
  hS : ∀ k n, st (ix2 k n) = S (Ssd.head k) (Ssd.num k) n
  hf : ∀ s h, D s h * -Ideal.exp (av h) - D s h * -Ideal.exp (av h) = 0

variable {sm tb al sp st b c x A D av dv S G w}

section
variable (H : Holds sm tb al sp st b c x A D av S)
include H

theorem dt_num (s : Fin 128) (h : Fin 16) : dt sm tb (ix2 s ⟨h.val, by omega⟩) = D s h := by
  rw [dt_at, if_pos h.isLt, H.hD]

theorem cum_num (t : Fin 128) (h : Fin 16) : cum sm tb al (ix2 t ⟨h.val, by omega⟩) = Ssd.cum D av t h := by
  rw [cum_at]
  · refine Finset.sum_congr rfl fun s _ => ?_
    rw [dt_num H, H.ha]
  · intro s l
    by_cases hl : l.val < 16
    · have := dt_num H s ⟨l.val, hl⟩
      have e := H.ha ⟨l.val, hl⟩
      dsimp only at this e
      rw [zero_sub, this, e]
      exact H.hf s ⟨l.val, hl⟩
    · rw [dt_at, if_neg hl, zero_mul, sub_zero]

theorem spread (f : Fin 128 → EReal) (k : Fin 1024) : ∑ l : Fin 128, f l * sp (ix2 l k) = f ⟨k.val / 64, by omega⟩ := by
  rw [Finset.sum_eq_single (⟨k.val / 64, by omega⟩ : Fin 128)]
  · rw [H.hsp, if_pos rfl, mul_one]
  · intro l _ hl
    rw [H.hsp, if_neg (fun e => hl (Fin.ext e)), mul_zero]
  · exact fun h => absurd (Finset.mem_univ _) h

theorem grow_num (t : Fin 128) (k : Fin 1024) : grow sm tb al sp (ix2 t k) = Ideal.exp (Ssd.cum D av t (Ssd.head k)) := by
  rw [grow_at, spread H (fun l => Ideal.exp (cum sm tb al (ix2 t l)))]
  exact congrArg _ (cum_num H t (Ssd.head k))

theorem ends_num (t : Fin 128) (k : Fin 1024) :
    ends sm tb al sp x (ix2 t k) = A t (Ssd.xcol k) * (Ideal.exp (Ssd.cum D av 127 (Ssd.head k) - Ssd.cum D av t (Ssd.head k)) * D t (Ssd.head k)) := by
  rw [ends_at, H.hx, spread H (fun l => Ideal.exp (cum sm tb al (ix2 127 l) - cum sm tb al (ix2 t l)) * dt sm tb (ix2 t l))]
  rw [← cum_num H 127 (Ssd.head k), ← cum_num H t (Ssd.head k), ← dt_num H t (Ssd.head k)]

theorem wt_num (h : Fin 16) (t s : Fin 128) : wtV sm tb al b c h t s = Ssd.wt A D av h t s := by
  rw [wtV, Ssd.wt, Ssd.decay, cum_num H, cum_num H, dt_num H, cbV, Ssd.cbm]
  refine congrArg (· * _) (congrArg _ (Finset.sum_congr rfl fun n _ => ?_))
  rw [H.hc, H.hb]

theorem mixed_num (hd : ∀ k, dd (ix2 0 k) = dv (Ssd.head k)) (hG : ∀ t k, Ssd.siluT (z (ix3 0 t k)) = G t k) (t : Fin 128) (k : Fin 1024) :
    mixed z sm tb al dd sp st b c x (ix2 t k) = Ssd.gated A D av dv S G t k := by
  rw [mixed_at, hG, hd, grow_num H, intra_at, inter_at, H.hx, Ssd.gated, Ssd.row]
  simp only [wt_num H, H.hx, H.hS]
  have e : ∀ n : Fin 128, c (ix2 t ⟨128 * (k.val / 512) + n.val, by omega⟩) = A t (Ssd.ccol (Ssd.grp (Ssd.head k)) n) := fun n => by
    rw [← H.hc]
    exact congrArg c (congrArg (ix2 t) (Fin.ext (by show 128 * (k.val / 512) + n.val = 128 * (k.val / 64 / 8) + n.val; omega)))
  simp only [e]

theorem out_num (hd : ∀ k, dd (ix2 0 k) = dv (Ssd.head k)) (hG : ∀ t k, Ssd.siluT (z (ix3 0 t k)) = G t k) (hw : ∀ k, nw (ix2 0 k) = w k)
    (t : Fin 128) (k : Fin 1024) : out z sm tb al dd nw sp st b c x (ix3 0 t k) = Ssd.out A D av dv S G w t k := by
  pointwise [out, k0_pay95, k0_pay94]
  rw [normed_eq, units_at, hw, Ssd.out]
  simp only [mixed_num z dd H hd hG]

theorem piece_sum (h : Fin 16) (p : Fin 64) (n : Fin 128) (k k' : Fin 1024) (l : Fin 128) (B : Fin 128 → EReal) (hk : k.val = 64 * h.val + p.val) (hk' : k'.val = 64 * h.val + p.val)
    (hl : l.val = h.val) (hB : ∀ s, B s = b (ix2 s ⟨128 * (Ssd.grp h).val + n.val, by omega⟩)) :
    st (ix2 k n) * Ideal.exp (cum sm tb al (ix2 127 l)) + ∑ s : Fin 128, ends sm tb al sp x (ix2 s k') * B s = Ssd.next A D av S h p n := by
  have eh : Ssd.head (Ssd.col h p) = h := Fin.ext (by show (64 * h.val + p.val) / 64 = h.val; omega)
  have ep : Ssd.num (Ssd.col h p) = p := Fin.ext (by show (64 * h.val + p.val) % 64 = p.val; omega)
  obtain rfl : k = Ssd.col h p := Fin.ext hk
  obtain rfl : k' = Ssd.col h p := Fin.ext hk'
  have el : ∀ q : h.val < 128, l = ⟨h.val, q⟩ := fun _ => Fin.ext hl
  rw [el (Nat.lt_trans h.isLt (by decide))]
  rw [H.hS, eh, ep, cum_num H, Ssd.next]
  refine congrArg _ (Finset.sum_congr rfl fun s _ => ?_)
  rw [hB, H.hb, ends_num H, eh]

end
end Layer.SsdBody
-- ==== Proof.SsdPiece.lean ====
module

public import proofs.«01_k».proof.Proof.SsdRead

/-!
# The pieces of the state a chunk leaves

Head by head, the 64 rows the body writes are `Ssd.next`.
-/

@[expose] public section

set_option maxRecDepth 16384

noncomputable section

namespace Layer.SsdBody
open Idealize.ShloMosaic Idealize.ShloMosaic.TcCoe Idealize.SL.Sem Cert.KernelIdeal Cert.KernelIdeal.Gen

variable {sm : Vec Ideal S1x128x128 .f32} {tb al : Vec Ideal S1x128 .f32} {sp : Vec Ideal S128x1024 .bf16}
  {st : Vec Ideal S1024x128 .f32} {b c : FVec Ideal S128x256 .f32} {x : FVec Ideal S128x1024 .f32}
  {A : Fin 128 → Fin 1536 → EReal} {D : Fin 128 → Fin 16 → EReal} {av : Fin 16 → EReal} {S : Fin 16 → Fin 64 → Fin 128 → EReal}
  (H : Holds sm tb al sp st b c x A D av S)
include H

theorem piece0_num (p : Fin 64) (n : Fin 128) : piece0 sm tb al sp st b x (ix2 p n) = Ssd.next A D av S 0 p n := by
  pointwise [piece0, k0_pay98, k0_pay96, k0_pay97, cumT_at]
  exact piece_sum H 0 p n ⟨p.val, by omega⟩ ⟨p.val, by omega⟩ 0 (fun s => b (ix2 s ⟨n.val, by omega⟩)) (by show _ = 64 * 0 + p.val; (try dsimp only) <;> omega) (by show _ = 64 * 0 + p.val; (try dsimp only) <;> omega) rfl
    (fun s => congrArg b (congrArg (ix2 s) (Fin.ext (by show n.val = 128 * (0 / 8) + n.val; omega))))

theorem piece1_num (p : Fin 64) (n : Fin 128) : piece1 sm tb al sp st b x (ix2 p n) = Ssd.next A D av S 1 p n := by
  pointwise [piece1, k0_pay99, k0_pay96, k0_pay97, cumT_at]
  exact piece_sum H 1 p n ⟨64 + p.val, by omega⟩ ⟨64 + p.val, by omega⟩ 1 (fun s => b (ix2 s ⟨n.val, by omega⟩)) (by show _ = 64 * 1 + p.val; (try dsimp only) <;> omega) (by show _ = 64 * 1 + p.val; (try dsimp only) <;> omega) rfl
    (fun s => congrArg b (congrArg (ix2 s) (Fin.ext (by show n.val = 128 * (1 / 8) + n.val; omega))))

theorem piece2_num (p : Fin 64) (n : Fin 128) : piece2 sm tb al sp st b x (ix2 p n) = Ssd.next A D av S 2 p n := by
  pointwise [piece2, k0_pay100, k0_pay96, k0_pay97, cumT_at]
  exact piece_sum H 2 p n ⟨128 + p.val, by omega⟩ ⟨128 + p.val, by omega⟩ 2 (fun s => b (ix2 s ⟨n.val, by omega⟩)) (by show _ = 64 * 2 + p.val; (try dsimp only) <;> omega) (by show _ = 64 * 2 + p.val; (try dsimp only) <;> omega) rfl
    (fun s => congrArg b (congrArg (ix2 s) (Fin.ext (by show n.val = 128 * (2 / 8) + n.val; omega))))

theorem piece3_num (p : Fin 64) (n : Fin 128) : piece3 sm tb al sp st b x (ix2 p n) = Ssd.next A D av S 3 p n := by
  pointwise [piece3, k0_pay102, k0_pay96, k0_pay97, cumT_at, k0_pay101, k0_pay102]
  exact piece_sum H 3 p n ⟨192 + p.val, by omega⟩ ⟨192 + p.val, by omega⟩ 3 (fun s => b (ix2 s ⟨n.val, by omega⟩)) (by show _ = 64 * 3 + p.val; (try dsimp only) <;> omega) (by show _ = 64 * 3 + p.val; (try dsimp only) <;> omega) rfl
    (fun s => congrArg b (congrArg (ix2 s) (Fin.ext (by show n.val = 128 * (3 / 8) + n.val; omega))))

theorem piece4_num (p : Fin 64) (n : Fin 128) : piece4 sm tb al sp st b x (ix2 p n) = Ssd.next A D av S 4 p n := by
  pointwise [piece4, k0_pay103, k0_pay96, k0_pay97, cumT_at]
  exact piece_sum H 4 p n ⟨256 + p.val, by omega⟩ ⟨256 + p.val, by omega⟩ 4 (fun s => b (ix2 s ⟨n.val, by omega⟩)) (by show _ = 64 * 4 + p.val; (try dsimp only) <;> omega) (by show _ = 64 * 4 + p.val; (try dsimp only) <;> omega) rfl
    (fun s => congrArg b (congrArg (ix2 s) (Fin.ext (by show n.val = 128 * (4 / 8) + n.val; omega))))

theorem piece5_num (p : Fin 64) (n : Fin 128) : piece5 sm tb al sp st b x (ix2 p n) = Ssd.next A D av S 5 p n := by
  pointwise [piece5, k0_pay104, k0_pay96, k0_pay97, cumT_at]
  exact piece_sum H 5 p n ⟨320 + p.val, by omega⟩ ⟨320 + p.val, by omega⟩ 5 (fun s => b (ix2 s ⟨n.val, by omega⟩)) (by show _ = 64 * 5 + p.val; (try dsimp only) <;> omega) (by show _ = 64 * 5 + p.val; (try dsimp only) <;> omega) rfl
    (fun s => congrArg b (congrArg (ix2 s) (Fin.ext (by show n.val = 128 * (5 / 8) + n.val; omega))))

theorem piece6_num (p : Fin 64) (n : Fin 128) : piece6 sm tb al sp st b x (ix2 p n) = Ssd.next A D av S 6 p n := by
  pointwise [piece6, k0_pay105, k0_pay96, k0_pay97, cumT_at]
  exact piece_sum H 6 p n ⟨384 + p.val, by omega⟩ ⟨384 + p.val, by omega⟩ 6 (fun s => b (ix2 s ⟨n.val, by omega⟩)) (by show _ = 64 * 6 + p.val; (try dsimp only) <;> omega) (by show _ = 64 * 6 + p.val; (try dsimp only) <;> omega) rfl
    (fun s => congrArg b (congrArg (ix2 s) (Fin.ext (by show n.val = 128 * (6 / 8) + n.val; omega))))

theorem piece7_num (p : Fin 64) (n : Fin 128) : piece7 sm tb al sp st b x (ix2 p n) = Ssd.next A D av S 7 p n := by
  pointwise [piece7, k0_pay106, k0_pay96, k0_pay97, cumT_at]
  exact piece_sum H 7 p n ⟨448 + p.val, by omega⟩ ⟨448 + p.val, by omega⟩ 7 (fun s => b (ix2 s ⟨n.val, by omega⟩)) (by show _ = 64 * 7 + p.val; (try dsimp only) <;> omega) (by show _ = 64 * 7 + p.val; (try dsimp only) <;> omega) rfl
    (fun s => congrArg b (congrArg (ix2 s) (Fin.ext (by show n.val = 128 * (7 / 8) + n.val; omega))))

theorem piece8_num (p : Fin 64) (n : Fin 128) : piece8 sm tb al sp st b x (ix2 p n) = Ssd.next A D av S 8 p n := by
  pointwise [piece8, k0_pay108, k0_pay96, k0_pay107, cumT_at]
  exact piece_sum H 8 p n ⟨512 + p.val, by omega⟩ ⟨512 + p.val, by omega⟩ 8 (fun s => b (ix2 s ⟨128 + n.val, by omega⟩)) (by show _ = 64 * 8 + p.val; (try dsimp only) <;> omega) (by show _ = 64 * 8 + p.val; (try dsimp only) <;> omega) rfl
    (fun s => congrArg b (congrArg (ix2 s) (Fin.ext (by show 128 + n.val = 128 * (8 / 8) + n.val; omega))))

theorem piece9_num (p : Fin 64) (n : Fin 128) : piece9 sm tb al sp st b x (ix2 p n) = Ssd.next A D av S 9 p n := by
  pointwise [piece9, k0_pay109, k0_pay96, k0_pay107, cumT_at]
  exact piece_sum H 9 p n ⟨576 + p.val, by omega⟩ ⟨512 + (64 + p.val), by omega⟩ 9 (fun s => b (ix2 s ⟨128 + n.val, by omega⟩)) (by show _ = 64 * 9 + p.val; (try dsimp only) <;> omega) (by show _ = 64 * 9 + p.val; (try dsimp only) <;> omega) rfl
    (fun s => congrArg b (congrArg (ix2 s) (Fin.ext (by show 128 + n.val = 128 * (9 / 8) + n.val; omega))))

theorem piece10_num (p : Fin 64) (n : Fin 128) : piece10 sm tb al sp st b x (ix2 p n) = Ssd.next A D av S 10 p n := by
  pointwise [piece10, k0_pay110, k0_pay96, k0_pay107, cumT_at]
  exact piece_sum H 10 p n ⟨640 + p.val, by omega⟩ ⟨512 + (128 + p.val), by omega⟩ 10 (fun s => b (ix2 s ⟨128 + n.val, by omega⟩)) (by show _ = 64 * 10 + p.val; (try dsimp only) <;> omega) (by show _ = 64 * 10 + p.val; (try dsimp only) <;> omega) rfl
    (fun s => congrArg b (congrArg (ix2 s) (Fin.ext (by show 128 + n.val = 128 * (10 / 8) + n.val; omega))))

theorem piece11_num (p : Fin 64) (n : Fin 128) : piece11 sm tb al sp st b x (ix2 p n) = Ssd.next A D av S 11 p n := by
  pointwise [piece11, k0_pay111, k0_pay96, k0_pay107, cumT_at]
  exact piece_sum H 11 p n ⟨704 + p.val, by omega⟩ ⟨512 + (192 + p.val), by omega⟩ 11 (fun s => b (ix2 s ⟨128 + n.val, by omega⟩)) (by show _ = 64 * 11 + p.val; (try dsimp only) <;> omega) (by show _ = 64 * 11 + p.val; (try dsimp only) <;> omega) rfl
    (fun s => congrArg b (congrArg (ix2 s) (Fin.ext (by show 128 + n.val = 128 * (11 / 8) + n.val; omega))))

theorem piece12_num (p : Fin 64) (n : Fin 128) : piece12 sm tb al sp st b x (ix2 p n) = Ssd.next A D av S 12 p n := by
  pointwise [piece12, k0_pay112, k0_pay96, k0_pay107, cumT_at]
  exact piece_sum H 12 p n ⟨768 + p.val, by omega⟩ ⟨512 + (256 + p.val), by omega⟩ 12 (fun s => b (ix2 s ⟨128 + n.val, by omega⟩)) (by show _ = 64 * 12 + p.val; (try dsimp only) <;> omega) (by show _ = 64 * 12 + p.val; (try dsimp only) <;> omega) rfl
    (fun s => congrArg b (congrArg (ix2 s) (Fin.ext (by show 128 + n.val = 128 * (12 / 8) + n.val; omega))))

theorem piece13_num (p : Fin 64) (n : Fin 128) : piece13 sm tb al sp st b x (ix2 p n) = Ssd.next A D av S 13 p n := by
  pointwise [piece13, k0_pay1, k0_pay96, k0_pay107, cumT_at]
  exact piece_sum H 13 p n ⟨832 + p.val, by omega⟩ ⟨512 + (320 + p.val), by omega⟩ 13 (fun s => b (ix2 s ⟨128 + n.val, by omega⟩)) (by show _ = 64 * 13 + p.val; (try dsimp only) <;> omega) (by show _ = 64 * 13 + p.val; (try dsimp only) <;> omega) rfl
    (fun s => congrArg b (congrArg (ix2 s) (Fin.ext (by show 128 + n.val = 128 * (13 / 8) + n.val; omega))))

theorem piece14_num (p : Fin 64) (n : Fin 128) : piece14 sm tb al sp st b x (ix2 p n) = Ssd.next A D av S 14 p n := by
  pointwise [piece14, k0_pay2, k0_pay96, k0_pay107, cumT_at]
  exact piece_sum H 14 p n ⟨896 + p.val, by omega⟩ ⟨512 + (384 + p.val), by omega⟩ 14 (fun s => b (ix2 s ⟨128 + n.val, by omega⟩)) (by show _ = 64 * 14 + p.val; (try dsimp only) <;> omega) (by show _ = 64 * 14 + p.val; (try dsimp only) <;> omega) rfl
    (fun s => congrArg b (congrArg (ix2 s) (Fin.ext (by show 128 + n.val = 128 * (14 / 8) + n.val; omega))))

theorem piece15_num (p : Fin 64) (n : Fin 128) : piece15 sm tb al sp st b x (ix2 p n) = Ssd.next A D av S 15 p n := by
  pointwise [piece15, k0_pay3, k0_pay96, k0_pay107, cumT_at]
  exact piece_sum H 15 p n ⟨960 + p.val, by omega⟩ ⟨512 + (448 + p.val), by omega⟩ 15 (fun s => b (ix2 s ⟨128 + n.val, by omega⟩)) (by show _ = 64 * 15 + p.val; (try dsimp only) <;> omega) (by show _ = 64 * 15 + p.val; (try dsimp only) <;> omega) rfl
    (fun s => congrArg b (congrArg (ix2 s) (Fin.ext (by show 128 + n.val = 128 * (15 / 8) + n.val; omega))))

end Layer.SsdBody
-- ==== Proof.SsdConv.lean ====
module

public import proofs.«01_k».proof.Proof.SsdRead

/-!
# The convolution of one chunk

Each row takes itself and the three rows before it; the first three rows of a chunk take them from the chunk before.
-/

@[expose] public section

set_option maxRecDepth 16384

noncomputable section

namespace Layer.SsdBody
open Idealize.ShloMosaic Idealize.ShloMosaic.TcCoe Idealize.SL.Sem Cert.KernelIdeal Cert.KernelIdeal.Gen

variable (u : Vec Ideal S1x128x1536 .bf16) (z : Vec Ideal S1x128x1024 .bf16) (sm : Vec Ideal S1x128x128 .f32)
  (w0 w1 w2 w3 : Vec Ideal S1x1536 .f32) (cb : Vec Ideal S1x1536 .f32) (tb al : Vec Ideal S1x128 .f32)
  (dd nw : Vec Ideal S1x1024 .f32) (sp : Vec Ideal S128x1024 .bf16)
  (e : Vec Ideal S8x1536 .f32) (st : Vec Ideal S1024x128 .f32)
  (b c : FVec Ideal S128x256 .f32) (x : FVec Ideal S128x1024 .f32)

/-- The row a row of the shift matrix picks, as the body computes it. -/
def src (r : Nat) : BitVec 32 :=
  (IntOp.subi
            (Scalar.select
              (IntOp.andi
                (IntOp.xori
                  (IntOp.cmpi CmpIPredicate.slt
                    (IntOp.remsi ArithUnit.vector (BitVec.ofNat 32 r)
                      (Scalar.select (Scalar.cmpi CmpIPredicate.eq 128#32 0#32) 1#32 128#32))
                    0#32)
                  (Scalar.cmpi CmpIPredicate.slt len 0#32))
                (IntOp.cmpi CmpIPredicate.ne
                  (IntOp.remsi ArithUnit.vector (BitVec.ofNat 32 r)
                    (Scalar.select (Scalar.cmpi CmpIPredicate.eq 128#32 0#32) 1#32 128#32))
                  0#32))
              (IntOp.addi
                (IntOp.remsi ArithUnit.vector (BitVec.ofNat 32 r)
                  (Scalar.select (Scalar.cmpi CmpIPredicate.eq 128#32 0#32) 1#32 128#32))
                len)
              (IntOp.remsi ArithUnit.vector (BitVec.ofNat 32 r)
                (Scalar.select (Scalar.cmpi CmpIPredicate.eq 128#32 0#32) 1#32 128#32)))
            (IntOp.subi (3#32)
              (Scalar.select
                (IntOp.andi
                  (IntOp.cmpi CmpIPredicate.ne
                    (IntOp.subi (BitVec.setWidth 32 (IntOp.cmpi CmpIPredicate.sgt (BitVec.ofNat 32 r) 0#32))
                      (BitVec.setWidth 32 (IntOp.cmpi CmpIPredicate.slt (BitVec.ofNat 32 r) 0#32)))
                    (Scalar.subi (Scalar.extui (Scalar.cmpi CmpIPredicate.sgt 128#32 0#32))
                      (Scalar.extui (Scalar.cmpi CmpIPredicate.slt 128#32 0#32))))
                  (IntOp.cmpi CmpIPredicate.ne (IntOp.remsi ArithUnit.vector (BitVec.ofNat 32 r) 128#32) 0#32))
                (IntOp.subi (IntOp.divsi ArithUnit.vector (BitVec.ofNat 32 r) 128#32) 1#32)
                (IntOp.divsi ArithUnit.vector (BitVec.ofNat 32 r) 128#32))))

theorem src_eq (r : Fin 384) : src r.val = if 3 ≤ r.val % 128 + r.val / 128 then BitVec.ofNat 32 (r.val % 128 + r.val / 128 - 3)
    else BitVec.ofNat 32 (4294967293 + (r.val % 128 + r.val / 128)) := by
  revert r; decide +kernel

theorem sel_eq (x y : Nat) (hx : x < 4294967296) (hy : y < 4294967296) (p q : EReal) :
    Scalar.select (IntOp.cmpi CmpIPredicate.eq (BitVec.ofNat 32 x) (BitVec.ofNat 32 y)) p q = if x = y then p else q := by
  by_cases h : x = y
  · subst h
    rw [if_pos rfl, show IntOp.cmpi CmpIPredicate.eq (BitVec.ofNat 32 x) (BitVec.ofNat 32 x) = 1#1 by simp [IntOp.cmpi]]; rfl
  · rw [if_neg h]
    have hne : BitVec.ofNat 32 x ≠ BitVec.ofNat 32 y := fun e => h (by
      have := congrArg BitVec.toNat e
      simp only [BitVec.toNat_ofNat] at this
      omega)
    rw [show IntOp.cmpi CmpIPredicate.eq (BitVec.ofNat 32 x) (BitVec.ofNat 32 y) = 0#1 by
      simp only [IntOp.cmpi, beq_eq_false_iff_ne.mpr hne]; rfl]; rfl

theorem shifted_at (r : Fin 384) (k : Fin 1536) :
    shifted u (ix2 r k) = if h : 3 ≤ r.val % 128 + r.val / 128 then u (ix3 0 ⟨r.val % 128 + r.val / 128 - 3, by omega⟩ k) else 0 := by
  pointwise [shifted, k0_pay11, k0_pay7, k0_pay9, k0_pay10]
  change (∑ x : Fin 128, Scalar.select (IntOp.cmpi CmpIPredicate.eq (BitVec.ofNat 32 x.val) (src r.val)) (u (ix3 0 x k)) 0) = _
  rw [src_eq]
  split_ifs with h
  · simp only [fun x : Fin 128 => sel_eq x.val (r.val % 128 + r.val / 128 - 3) (by omega) (by omega) (u (ix3 0 x k)) 0]
    rw [Finset.sum_eq_single (⟨r.val % 128 + r.val / 128 - 3, by omega⟩ : Fin 128)]
    · rw [if_pos rfl]
    · intro x _ hx
      rw [if_neg (fun e => hx (Fin.ext e))]
    · exact fun h => absurd (Finset.mem_univ _) h
  · simp only [fun x : Fin 128 => sel_eq x.val (4294967293 + (r.val % 128 + r.val / 128)) (by omega) (by omega) (u (ix3 0 x k)) 0]
    exact Finset.sum_eq_zero fun x _ => if_neg (by omega)

/-- Row `t - d` of a chunk whose rows before the first are `E`. -/
def back (U : Fin 128 → EReal) (E : Fin 8 → EReal) (d : Nat) (t : Fin 128) : EReal :=
  if d ≤ t.val then U ⟨t.val - d, by omega⟩ else E ⟨(8 + t.val - d) % 8, by omega⟩

/-- The convolution at one row, one channel. -/
def pre (U : Fin 128 → EReal) (E : Fin 8 → EReal) (v0 v1 v2 v3 cb : EReal) (t : Fin 128) : EReal :=
  cb + U t * v3 + back U E 3 t * v0 + back U E 2 t * v1 + back U E 1 t * v2

theorem edge_at (r : Fin 16) (k : Fin 1536) : k0_pay12 e (ix2 r k) = if h : r.val < 8 then e (ix2 ⟨r.val, h⟩ k) else 0 := by
  pointwise [k0_pay12]

theorem shift_back (d : Nat) (hd : 1 ≤ d) (hd' : d ≤ 3) (t : Fin 128) (r : Fin 384) (hr : r.val = 128 * (3 - d) + t.val) (k : Fin 1536) :
    shifted u (ix2 r k) = if d ≤ t.val then back (fun s => u (ix3 0 s k)) (fun s => e (ix2 s k)) d t else 0 := by
  rw [shifted_at, back]
  have h1 : r.val % 128 = t.val := by omega
  have h2 : r.val / 128 = 3 - d := by omega
  by_cases h : d ≤ t.val
  · rw [dif_pos (by omega), if_pos h, if_pos h]
    exact congrArg (fun s => u (ix3 0 s k)) (Fin.ext (by dsimp only; omega))
  · rw [dif_neg (by omega), if_neg h]

theorem edge_back (d : Nat) (hd : 1 ≤ d) (hd' : d ≤ 3) (t : Fin 128) (ht : t.val < 8) (q : Fin 16) (hq : q.val = (8 + t.val + 16 - d) % 16) (k : Fin 1536) :
    k0_pay12 e (ix2 q k) = if d ≤ t.val then 0 else back (fun s => u (ix3 0 s k)) (fun s => e (ix2 s k)) d t := by
  rw [edge_at, back]
  by_cases h : d ≤ t.val
  · rw [dif_neg (by omega), if_pos h]
  · rw [dif_pos (by omega), if_neg h, if_neg h]
    exact congrArg (fun s => e (ix2 s k)) (Fin.ext (by dsimp only; omega))

theorem both (d : Nat) (t : Fin 128) (x v : EReal) : (if d ≤ t.val then x else 0) * v + (if d ≤ t.val then 0 else x) * v = x * v := by
  split_ifs
  · rw [zero_mul, add_zero]
  · rw [zero_mul, zero_add]

theorem act_at (t : Fin 128) (k : Fin 1536) :
    act u w0 w1 w2 w3 cb e (ix2 t k) = Ssd.siluT (pre (fun s => u (ix3 0 s k)) (fun s => e (ix2 s k))
      (w0 (ix2 0 k)) (w1 (ix2 0 k)) (w2 (ix2 0 k)) (w3 (ix2 0 k)) (cb (ix2 0 k)) t) := by
  have ht : ∀ r : Fin 128, r = t → taps u w0 w3 cb (ix2 r k) = cb (ix2 0 k) + u (ix3 0 t k) * w3 (ix2 0 k)
      + (if 3 ≤ t.val then back (fun s => u (ix3 0 s k)) (fun s => e (ix2 s k)) 3 t else 0) * w0 (ix2 0 k) := by
    rintro r rfl
    pointwise [taps, k0_pay14, k0_pay8, k0_pay7]
    exact congrArg (fun y => _ + y * _) (shift_back u e 3 (by decide) (by decide) r ⟨r.val, by omega⟩ (by simp) k)
  have h5 : ∀ q : Fin 8, q.val = t.val → k0_pay15 e w0 (ix2 q k) = (if 3 ≤ t.val then 0 else back (fun s => u (ix3 0 s k)) (fun s => e (ix2 s k)) 3 t) * w0 (ix2 0 k) := by
    intro q hq
    pointwise [k0_pay15]
    exact congrArg (· * _) (edge_back u e 3 (by decide) (by decide) t (by omega) _ (by dsimp only; rw [hq]) k)
  have h13 : ∀ q : Fin 8, k0_pay13 (F := Ideal) (ix2 q k) = 0 := fun q => by pointwise [k0_pay13]
  generalize hv : taps u w0 w3 cb = vt at ht
  generalize hw : k0_pay15 e w0 = v5 at h5
  pointwise [act, k0_pay17]
  simp only [hv, hw]
  have key : (if h : t.val < 8 then
        vt (ix2 t k) + shifted u (ix2 ⟨128 + t.val, by omega⟩ k) * w1 (ix2 0 k) + shifted u (ix2 ⟨256 + t.val, by omega⟩ k) * w2 (ix2 0 k) +
          (k0_pay13 (ix2 ⟨t.val, h⟩ k) + v5 (ix2 ⟨t.val, h⟩ k) + k0_pay12 e (ix2 ⟨(8 + t.val + 16 - 2) % 16, by omega⟩ k) * w1 (ix2 0 k) +
            k0_pay12 e (ix2 ⟨(8 + t.val + 16 - 1) % 16, by omega⟩ k) * w2 (ix2 0 k))
      else vt (ix2 ⟨8 + (t.val - 8), by omega⟩ k) + shifted u (ix2 ⟨128 + (8 + (t.val - 8)), by omega⟩ k) * w1 (ix2 0 k) +
        shifted u (ix2 ⟨256 + (8 + (t.val - 8)), by omega⟩ k) * w2 (ix2 0 k))
      = pre (fun s => u (ix3 0 s k)) (fun s => e (ix2 s k)) (w0 (ix2 0 k)) (w1 (ix2 0 k)) (w2 (ix2 0 k)) (w3 (ix2 0 k)) (cb (ix2 0 k)) t := by
    rw [pre]
    by_cases h : t.val < 8
    · rw [dif_pos h, ht t rfl, h13, h5 ⟨t.val, h⟩ rfl, shift_back u e 2 (by decide) (by decide) t _ (by dsimp only) k,
        shift_back u e 1 (by decide) (by decide) t _ (by dsimp only) k,
        edge_back u e 2 (by decide) (by decide) t h _ (by dsimp only) k, edge_back u e 1 (by decide) (by decide) t h _ (by dsimp only) k,
        ← both 3 t (back _ _ 3 t), ← both 2 t (back _ _ 2 t), ← both 1 t (back _ _ 1 t), zero_add]
      abel
    · rw [dif_neg h, ht _ (Fin.ext (by dsimp only; omega)), shift_back u e 2 (by decide) (by decide) t _ (by dsimp only; omega) k,
        shift_back u e 1 (by decide) (by decide) t _ (by dsimp only; omega) k, if_pos (by omega), if_pos (by omega), if_pos (by omega)]
  exact congrArg Ssd.siluT key

theorem xs_at (t : Fin 128) (k : Fin 1024) : xs u w0 w1 w2 w3 cb e (ix2 t k) = act u w0 w1 w2 w3 cb e (ix2 t (Ssd.xcol k)) := by
  generalize ha : act u w0 w1 w2 w3 cb e = a
  have h : xs u w0 w1 w2 w3 cb e = extractStridedSlice S128x1024 ![0, 0] (act u w0 w1 w2 w3 cb e) slices_S128x1536_o0_0_S128x1024 := rfl
  rw [h, ha]
  pointwise

theorem bs_at (t : Fin 128) (g : Fin 2) (n : Fin 128) :
    bs u w0 w1 w2 w3 cb e (ix2 t ⟨128 * g.val + n.val, by omega⟩) = act u w0 w1 w2 w3 cb e (ix2 t (Ssd.bcol g n)) := by
  generalize ha : act u w0 w1 w2 w3 cb e = a
  have h : bs u w0 w1 w2 w3 cb e = extractStridedSlice S128x256 ![0, 1024] (act u w0 w1 w2 w3 cb e) slices_S128x1536_o0_1024_S128x256 := rfl
  rw [h, ha]
  pointwise

theorem cs_at (t : Fin 128) (g : Fin 2) (n : Fin 128) :
    cs u w0 w1 w2 w3 cb e (ix2 t ⟨128 * g.val + n.val, by omega⟩) = act u w0 w1 w2 w3 cb e (ix2 t (Ssd.ccol g n)) := by
  generalize ha : act u w0 w1 w2 w3 cb e = a
  have h : cs u w0 w1 w2 w3 cb e = extractStridedSlice S128x256 ![0, 1280] (act u w0 w1 w2 w3 cb e) slices_S128x1536_o0_1280_S128x256 := rfl
  rw [h, ha]
  pointwise

theorem ext_at (r : Fin 8) (k : Fin 1536) : k0_pay16 (k0_pay8 u) (ix2 r k) = u (ix3 0 ⟨120 + r.val, by omega⟩ k) := by
  pointwise [k0_pay16, k0_pay8, k0_pay7]

end Layer.SsdBody
-- ==== Proof.SsdHeads.lean ====
module

public import proofs.«01_k».proof.Proof.SsdPiece
public import proofs.«01_k».proof.Proof.SsdConv
public import Idealize.ShloMosaic.Lib.Pipeline.ReadBack
public import Idealize.ShloMosaic.Lib.Pipeline.ValueKit.Acc
public import Idealize.ShloMosaic.Lib.Pipeline.ValueKit.Tiles

/-!
# Sixteen blocks of rows, one array

The body writes the state head by head; together the blocks are the whole array.
-/

@[expose] public section

set_option maxRecDepth 16384

noncomputable section

namespace Layer.SsdOpen
open Idealize.ShloMosaic Idealize.ShloMosaic.TcCoe Idealize.SL.Sem Cert.KernelIdeal Cert.KernelIdeal.Gen Layer.SsdBody

/-- An array given head by head, as one array. -/
def heads (G : Fin 16 → Fin 64 → Fin 128 → EReal) : S1024x128.Idx → EReal := fun y =>
  G (Ssd.head ⟨(y 0).val, (y 0).isLt⟩) (Ssd.num ⟨(y 0).val, (y 0).isLt⟩) ⟨(y 1).val, (y 1).isLt⟩

theorem at_block (G : Fin 16 → Fin 64 → Fin 128 → EReal) (h : Fin 16) (P : Vec Ideal S64x128 .f32) (hP : ∀ (p : Fin 64) (n : Fin 128), P (ix2 p n) = G h p n)
    (inb : ∀ a, (![64 * h.val, 0] : Fin 2 → Nat) a + (![64, 128] : Fin 2 → Nat) a ≤ S1024x128.size a)
    (x : (Rect.unit (s := S1024x128) ![64 * h.val, 0] ![64, 128] inb).shape.Idx) :
    P x = heads G ((Rect.unit (s := S1024x128) ![64 * h.val, 0] ![64, 128] inb).emb x) := by
  have h0 : (x 0).val < 64 := (x 0).isLt
  have h1 : (x 1).val < 128 := (x 1).isLt
  have ex : x = ix2 (⟨(x 0).val, h0⟩ : Fin 64) (⟨(x 1).val, h1⟩ : Fin 128) := by
    funext a; match a with | ⟨0, _⟩ => rfl | ⟨1, _⟩ => rfl
  have e := hP ⟨(x 0).val, h0⟩ ⟨(x 1).val, h1⟩
  refine (congrArg P ex).trans (e.trans ?_)
  show G h _ _ = G ⟨(64 * h.val + 1 * (x 0).val) / 64, _⟩ ⟨(64 * h.val + 1 * (x 0).val) % 64, _⟩ ⟨0 + 1 * (x 1).val, _⟩
  congr 1
  · exact Fin.ext (by show h.val = (64 * h.val + 1 * (x 0).val) / 64; omega)
  · exact Fin.ext (by show (x 0).val = (64 * h.val + 1 * (x 0).val) % 64; omega)
  · exact Fin.ext (by show (x 1).val = 0 + 1 * (x 1).val; omega)

/-- Sixteen blocks of 64 rows, written over anything. -/
theorem pieces_at (G : Fin 16 → Fin 64 → Fin 128 → EReal) (P0 P1 P2 P3 P4 P5 P6 P7 P8 P9 P10 P11 P12 P13 P14 P15 : Vec Ideal S64x128 .f32) (L : List (View.Piece (Elt Ideal) S1024x128 .f32))
    (h0 : ∀ (p : Fin 64) (n : Fin 128), P0 (ix2 p n) = G 0 p n)
    (h1 : ∀ (p : Fin 64) (n : Fin 128), P1 (ix2 p n) = G 1 p n)
    (h2 : ∀ (p : Fin 64) (n : Fin 128), P2 (ix2 p n) = G 2 p n)
    (h3 : ∀ (p : Fin 64) (n : Fin 128), P3 (ix2 p n) = G 3 p n)
    (h4 : ∀ (p : Fin 64) (n : Fin 128), P4 (ix2 p n) = G 4 p n)
    (h5 : ∀ (p : Fin 64) (n : Fin 128), P5 (ix2 p n) = G 5 p n)
    (h6 : ∀ (p : Fin 64) (n : Fin 128), P6 (ix2 p n) = G 6 p n)
    (h7 : ∀ (p : Fin 64) (n : Fin 128), P7 (ix2 p n) = G 7 p n)
    (h8 : ∀ (p : Fin 64) (n : Fin 128), P8 (ix2 p n) = G 8 p n)
    (h9 : ∀ (p : Fin 64) (n : Fin 128), P9 (ix2 p n) = G 9 p n)
    (h10 : ∀ (p : Fin 64) (n : Fin 128), P10 (ix2 p n) = G 10 p n)
    (h11 : ∀ (p : Fin 64) (n : Fin 128), P11 (ix2 p n) = G 11 p n)
    (h12 : ∀ (p : Fin 64) (n : Fin 128), P12 (ix2 p n) = G 12 p n)
    (h13 : ∀ (p : Fin 64) (n : Fin 128), P13 (ix2 p n) = G 13 p n)
    (h14 : ∀ (p : Fin 64) (n : Fin 128), P14 (ix2 p n) = G 14 p n)
    (h15 : ∀ (p : Fin 64) (n : Fin 128), P15 (ix2 p n) = G 15 p n) :
    View.canon (([⟨Rect.unit (s := S1024x128) ![960, 0] ![64, 128] inb_S1024x128_S64x128_960_0, P15⟩, ⟨Rect.unit (s := S1024x128) ![896, 0] ![64, 128] inb_S1024x128_S64x128_896_0, P14⟩, ⟨Rect.unit (s := S1024x128) ![832, 0] ![64, 128] inb_S1024x128_S64x128_832_0, P13⟩, ⟨Rect.unit (s := S1024x128) ![768, 0] ![64, 128] inb_S1024x128_S64x128_768_0, P12⟩, ⟨Rect.unit (s := S1024x128) ![704, 0] ![64, 128] inb_S1024x128_S64x128_704_0, P11⟩, ⟨Rect.unit (s := S1024x128) ![640, 0] ![64, 128] inb_S1024x128_S64x128_640_0, P10⟩, ⟨Rect.unit (s := S1024x128) ![576, 0] ![64, 128] inb_S1024x128_S64x128_576_0, P9⟩, ⟨Rect.unit (s := S1024x128) ![512, 0] ![64, 128] inb_S1024x128_S64x128_512_0, P8⟩, ⟨Rect.unit (s := S1024x128) ![448, 0] ![64, 128] inb_S1024x128_S64x128_448_0, P7⟩, ⟨Rect.unit (s := S1024x128) ![384, 0] ![64, 128] inb_S1024x128_S64x128_384_0, P6⟩, ⟨Rect.unit (s := S1024x128) ![320, 0] ![64, 128] inb_S1024x128_S64x128_320_0, P5⟩, ⟨Rect.unit (s := S1024x128) ![256, 0] ![64, 128] inb_S1024x128_S64x128_256_0, P4⟩, ⟨Rect.unit (s := S1024x128) ![192, 0] ![64, 128] inb_S1024x128_S64x128_192_0, P3⟩, ⟨Rect.unit (s := S1024x128) ![128, 0] ![64, 128] inb_S1024x128_S64x128_128_0, P2⟩, ⟨Rect.unit (s := S1024x128) ![64, 0] ![64, 128] inb_S1024x128_S64x128_64_0, P1⟩, ⟨Rect.unit (s := S1024x128) ![0, 0] ![64, 128] inb_S1024x128_S64x128_0_0, P0⟩] : List (View.Piece (Elt Ideal) S1024x128 .f32)) ++ L) = (heads G : S1024x128.Idx → Elt Ideal .f32) := by
  funext y
  have hp : View.PiecesOf (Val := Elt Ideal) (e := .f32) (heads G) ([⟨Rect.unit (s := S1024x128) ![960, 0] ![64, 128] inb_S1024x128_S64x128_960_0, P15⟩, ⟨Rect.unit (s := S1024x128) ![896, 0] ![64, 128] inb_S1024x128_S64x128_896_0, P14⟩, ⟨Rect.unit (s := S1024x128) ![832, 0] ![64, 128] inb_S1024x128_S64x128_832_0, P13⟩, ⟨Rect.unit (s := S1024x128) ![768, 0] ![64, 128] inb_S1024x128_S64x128_768_0, P12⟩, ⟨Rect.unit (s := S1024x128) ![704, 0] ![64, 128] inb_S1024x128_S64x128_704_0, P11⟩, ⟨Rect.unit (s := S1024x128) ![640, 0] ![64, 128] inb_S1024x128_S64x128_640_0, P10⟩, ⟨Rect.unit (s := S1024x128) ![576, 0] ![64, 128] inb_S1024x128_S64x128_576_0, P9⟩, ⟨Rect.unit (s := S1024x128) ![512, 0] ![64, 128] inb_S1024x128_S64x128_512_0, P8⟩, ⟨Rect.unit (s := S1024x128) ![448, 0] ![64, 128] inb_S1024x128_S64x128_448_0, P7⟩, ⟨Rect.unit (s := S1024x128) ![384, 0] ![64, 128] inb_S1024x128_S64x128_384_0, P6⟩, ⟨Rect.unit (s := S1024x128) ![320, 0] ![64, 128] inb_S1024x128_S64x128_320_0, P5⟩, ⟨Rect.unit (s := S1024x128) ![256, 0] ![64, 128] inb_S1024x128_S64x128_256_0, P4⟩, ⟨Rect.unit (s := S1024x128) ![192, 0] ![64, 128] inb_S1024x128_S64x128_192_0, P3⟩, ⟨Rect.unit (s := S1024x128) ![128, 0] ![64, 128] inb_S1024x128_S64x128_128_0, P2⟩, ⟨Rect.unit (s := S1024x128) ![64, 0] ![64, 128] inb_S1024x128_S64x128_64_0, P1⟩, ⟨Rect.unit (s := S1024x128) ![0, 0] ![64, 128] inb_S1024x128_S64x128_0_0, P0⟩] : List (View.Piece (Elt Ideal) S1024x128 .f32)) :=
    ⟨at_block G 15 P15 h15 inb_S1024x128_S64x128_960_0, at_block G 14 P14 h14 inb_S1024x128_S64x128_896_0, at_block G 13 P13 h13 inb_S1024x128_S64x128_832_0, at_block G 12 P12 h12 inb_S1024x128_S64x128_768_0, at_block G 11 P11 h11 inb_S1024x128_S64x128_704_0, at_block G 10 P10 h10 inb_S1024x128_S64x128_640_0, at_block G 9 P9 h9 inb_S1024x128_S64x128_576_0, at_block G 8 P8 h8 inb_S1024x128_S64x128_512_0, at_block G 7 P7 h7 inb_S1024x128_S64x128_448_0, at_block G 6 P6 h6 inb_S1024x128_S64x128_384_0, at_block G 5 P5 h5 inb_S1024x128_S64x128_320_0, at_block G 4 P4 h4 inb_S1024x128_S64x128_256_0, at_block G 3 P3 h3 inb_S1024x128_S64x128_192_0, at_block G 2 P2 h2 inb_S1024x128_S64x128_128_0, at_block G 1 P1 h1 inb_S1024x128_S64x128_64_0, at_block G 0 P0 h0 inb_S1024x128_S64x128_0_0, trivial⟩
  refine View.canon_append_of_piecesOf (heads G) L _ hp y ?_
  exact View.cover_of_tiled_head _ _ _ (by rfl) y

/-- The same over a fill of the whole array. -/
theorem pieces_fill (G : Fin 16 → Fin 64 → Fin 128 → EReal) (P0 P1 P2 P3 P4 P5 P6 P7 P8 P9 P10 P11 P12 P13 P14 P15 : Vec Ideal S64x128 .f32) (Z : Vec Ideal S1024x128 .f32)
    (h0 : ∀ (p : Fin 64) (n : Fin 128), P0 (ix2 p n) = G 0 p n)
    (h1 : ∀ (p : Fin 64) (n : Fin 128), P1 (ix2 p n) = G 1 p n)
    (h2 : ∀ (p : Fin 64) (n : Fin 128), P2 (ix2 p n) = G 2 p n)
    (h3 : ∀ (p : Fin 64) (n : Fin 128), P3 (ix2 p n) = G 3 p n)
    (h4 : ∀ (p : Fin 64) (n : Fin 128), P4 (ix2 p n) = G 4 p n)
    (h5 : ∀ (p : Fin 64) (n : Fin 128), P5 (ix2 p n) = G 5 p n)
    (h6 : ∀ (p : Fin 64) (n : Fin 128), P6 (ix2 p n) = G 6 p n)
    (h7 : ∀ (p : Fin 64) (n : Fin 128), P7 (ix2 p n) = G 7 p n)
    (h8 : ∀ (p : Fin 64) (n : Fin 128), P8 (ix2 p n) = G 8 p n)
    (h9 : ∀ (p : Fin 64) (n : Fin 128), P9 (ix2 p n) = G 9 p n)
    (h10 : ∀ (p : Fin 64) (n : Fin 128), P10 (ix2 p n) = G 10 p n)
    (h11 : ∀ (p : Fin 64) (n : Fin 128), P11 (ix2 p n) = G 11 p n)
    (h12 : ∀ (p : Fin 64) (n : Fin 128), P12 (ix2 p n) = G 12 p n)
    (h13 : ∀ (p : Fin 64) (n : Fin 128), P13 (ix2 p n) = G 13 p n)
    (h14 : ∀ (p : Fin 64) (n : Fin 128), P14 (ix2 p n) = G 14 p n)
    (h15 : ∀ (p : Fin 64) (n : Fin 128), P15 (ix2 p n) = G 15 p n) :
    View.canon ([⟨Rect.unit (s := S1024x128) ![960, 0] ![64, 128] inb_S1024x128_S64x128_960_0, P15⟩, ⟨Rect.unit (s := S1024x128) ![896, 0] ![64, 128] inb_S1024x128_S64x128_896_0, P14⟩, ⟨Rect.unit (s := S1024x128) ![832, 0] ![64, 128] inb_S1024x128_S64x128_832_0, P13⟩, ⟨Rect.unit (s := S1024x128) ![768, 0] ![64, 128] inb_S1024x128_S64x128_768_0, P12⟩, ⟨Rect.unit (s := S1024x128) ![704, 0] ![64, 128] inb_S1024x128_S64x128_704_0, P11⟩, ⟨Rect.unit (s := S1024x128) ![640, 0] ![64, 128] inb_S1024x128_S64x128_640_0, P10⟩, ⟨Rect.unit (s := S1024x128) ![576, 0] ![64, 128] inb_S1024x128_S64x128_576_0, P9⟩, ⟨Rect.unit (s := S1024x128) ![512, 0] ![64, 128] inb_S1024x128_S64x128_512_0, P8⟩, ⟨Rect.unit (s := S1024x128) ![448, 0] ![64, 128] inb_S1024x128_S64x128_448_0, P7⟩, ⟨Rect.unit (s := S1024x128) ![384, 0] ![64, 128] inb_S1024x128_S64x128_384_0, P6⟩, ⟨Rect.unit (s := S1024x128) ![320, 0] ![64, 128] inb_S1024x128_S64x128_320_0, P5⟩, ⟨Rect.unit (s := S1024x128) ![256, 0] ![64, 128] inb_S1024x128_S64x128_256_0, P4⟩, ⟨Rect.unit (s := S1024x128) ![192, 0] ![64, 128] inb_S1024x128_S64x128_192_0, P3⟩, ⟨Rect.unit (s := S1024x128) ![128, 0] ![64, 128] inb_S1024x128_S64x128_128_0, P2⟩, ⟨Rect.unit (s := S1024x128) ![64, 0] ![64, 128] inb_S1024x128_S64x128_64_0, P1⟩, ⟨Rect.unit (s := S1024x128) ![0, 0] ![64, 128] inb_S1024x128_S64x128_0_0, P0⟩, ⟨Rect.unit (s := S1024x128) ![0, 0] ![1024, 128] inb_S1024x128_S1024x128_0_0, Z⟩] : List (View.Piece (Elt Ideal) S1024x128 .f32)) = (heads G : S1024x128.Idx → Elt Ideal .f32) :=
  pieces_at G P0 P1 P2 P3 P4 P5 P6 P7 P8 P9 P10 P11 P12 P13 P14 P15 [⟨Rect.unit (s := S1024x128) ![0, 0] ![1024, 128] inb_S1024x128_S1024x128_0_0, Z⟩] h0 h1 h2 h3 h4 h5 h6 h7 h8 h9 h10 h11 h12 h13 h14 h15

end Layer.SsdOpen
-- ==== Proof.SsdOpen.lean ====
module

public import proofs.«01_k».proof.Proof.SsdHeads
public import proofs.«01_k».proof.Proof.SsdConv
public import Idealize.ShloMosaic.Lib.Pipeline.ReadBack
public import Idealize.ShloMosaic.Lib.Pipeline.ValueKit.Acc
public import Idealize.ShloMosaic.Lib.Pipeline.ValueKit.Tiles

/-!
# What the body leaves, case by case

The first chunk of a sequence starts from the two initial arrays, the others from the scratch the chunk before left, and the
last one writes the state out as well. Each is opened to the arrays `SsdBody` names.
-/

@[expose] public section

set_option maxRecDepth 16384

noncomputable section

namespace Layer.SsdOpen
open Idealize.ShloMosaic Idealize.ShloMosaic.TcCoe Idealize.SL.Sem Cert.KernelIdeal Cert.KernelIdeal.Gen Layer.SsdBody

/-- The taps, row by row. -/
abbrev tap0 (w : Vec Ideal S4x1536 .f32) : Vec Ideal S1x1536 .f32 := View.ld w (Rect.unit (s := S4x1536) ![0, 0] S1x1536.size inb_S4x1536_S1x1536_0_0)
abbrev tap1 (w : Vec Ideal S4x1536 .f32) : Vec Ideal S1x1536 .f32 := View.ld w (Rect.unit (s := S4x1536) ![1, 0] S1x1536.size inb_S4x1536_S1x1536_1_0)
abbrev tap2 (w : Vec Ideal S4x1536 .f32) : Vec Ideal S1x1536 .f32 := View.ld w (Rect.unit (s := S4x1536) ![2, 0] S1x1536.size inb_S4x1536_S1x1536_2_0)
abbrev tap3 (w : Vec Ideal S4x1536 .f32) : Vec Ideal S1x1536 .f32 := View.ld w (Rect.unit (s := S4x1536) ![3, 0] S1x1536.size inb_S4x1536_S1x1536_3_0)

theorem out_A (c : Dev nD) (i : grid0.Coords) (a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9 x10 x11 : _) :
    out0_A_12 (F := Ideal) c i a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9 x10 x11 = out x1 x2 x7 x8 x9 x10 x11 (k0_pay5 x4) (bs x0 (tap0 x5) (tap1 x5) (tap2 x5) (tap3 x5) x6 (k0_pay6 x3)) (cs x0 (tap0 x5) (tap1 x5) (tap2 x5) (tap3 x5) x6 (k0_pay6 x3)) (xs x0 (tap0 x5) (tap1 x5) (tap2 x5) (tap3 x5) x6 (k0_pay6 x3)) := by
  frame_out
  rfl

theorem ext_A (c : Dev nD) (i : grid0.Coords) (a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9 x10 x11 : _) :
    sout0_A_0 (F := Ideal) c i a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9 x10 x11 = k0_pay16 (k0_pay8 x0) := by
  frame_out

theorem st_A (c : Dev nD) (i : grid0.Coords) (a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9 x10 x11 : _) (E : Vec Ideal S8x1536 .f32) (S : Vec Ideal S1024x128 .f32) (hE : k0_pay6 x3 = E) (hS : k0_pay5 x4 = S)
    (B : FVec Ideal S128x256 .f32) (X : FVec Ideal S128x1024 .f32) (hB : bs x0 (tap0 x5) (tap1 x5) (tap2 x5) (tap3 x5) x6 E = B) (hX : xs x0 (tap0 x5) (tap1 x5) (tap2 x5) (tap3 x5) x6 E = X)
    (G : Fin 16 → Fin 64 → Fin 128 → EReal)
    (p0 : ∀ p n, piece0 x2 x7 x8 x11 S B X (ix2 p n) = G 0 p n)
    (p1 : ∀ p n, piece1 x2 x7 x8 x11 S B X (ix2 p n) = G 1 p n)
    (p2 : ∀ p n, piece2 x2 x7 x8 x11 S B X (ix2 p n) = G 2 p n)
    (p3 : ∀ p n, piece3 x2 x7 x8 x11 S B X (ix2 p n) = G 3 p n)
    (p4 : ∀ p n, piece4 x2 x7 x8 x11 S B X (ix2 p n) = G 4 p n)
    (p5 : ∀ p n, piece5 x2 x7 x8 x11 S B X (ix2 p n) = G 5 p n)
    (p6 : ∀ p n, piece6 x2 x7 x8 x11 S B X (ix2 p n) = G 6 p n)
    (p7 : ∀ p n, piece7 x2 x7 x8 x11 S B X (ix2 p n) = G 7 p n)
    (p8 : ∀ p n, piece8 x2 x7 x8 x11 S B X (ix2 p n) = G 8 p n)
    (p9 : ∀ p n, piece9 x2 x7 x8 x11 S B X (ix2 p n) = G 9 p n)
    (p10 : ∀ p n, piece10 x2 x7 x8 x11 S B X (ix2 p n) = G 10 p n)
    (p11 : ∀ p n, piece11 x2 x7 x8 x11 S B X (ix2 p n) = G 11 p n)
    (p12 : ∀ p n, piece12 x2 x7 x8 x11 S B X (ix2 p n) = G 12 p n)
    (p13 : ∀ p n, piece13 x2 x7 x8 x11 S B X (ix2 p n) = G 13 p n)
    (p14 : ∀ p n, piece14 x2 x7 x8 x11 S B X (ix2 p n) = G 14 p n)
    (p15 : ∀ p n, piece15 x2 x7 x8 x11 S B X (ix2 p n) = G 15 p n) :
    sout0_A_1 (F := Ideal) c i a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9 x10 x11 = heads G := by
  frame_out
  simp only [hE, hS]
  generalize hb : k0_pay19 (F := Ideal) _ _ _ _ _ _ _ _ _ = B'
  generalize hx : k0_pay18 (F := Ideal) _ _ _ _ _ _ _ _ _ = X'
  have eB : B' = B := hb.symm.trans hB
  have eX : X' = X := hx.symm.trans hX
  subst eB eX
  exact pieces_fill G _ _ _ _ _ _ _ _ _ _ _ _ _ _ _ _ _ p0 p1 p2 p3 p4 p5 p6 p7 p8 p9 p10 p11 p12 p13 p14 p15

theorem out_B (c : Dev nD) (i : grid0.Coords) (a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9 x10 x11 xs0 xs1 : _) :
    out0_B_12 (F := Ideal) c i a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9 x10 x11 xs0 xs1 = out x1 x2 x7 x8 x9 x10 x11 xs1 (bs x0 (tap0 x5) (tap1 x5) (tap2 x5) (tap3 x5) x6 xs0) (cs x0 (tap0 x5) (tap1 x5) (tap2 x5) (tap3 x5) x6 xs0) (xs x0 (tap0 x5) (tap1 x5) (tap2 x5) (tap3 x5) x6 xs0) := by
  frame_out
  rfl

theorem ext_B (c : Dev nD) (i : grid0.Coords) (a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9 x10 x11 xs0 xs1 : _) :
    sout0_B_0 (F := Ideal) c i a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9 x10 x11 xs0 xs1 = k0_pay16 (k0_pay8 x0) := by
  frame_out

theorem st_B (c : Dev nD) (i : grid0.Coords) (a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9 x10 x11 xs0 xs1 : _)
    (G : Fin 16 → Fin 64 → Fin 128 → EReal)
    (p0 : ∀ p n, piece0 x2 x7 x8 x11 xs1 (bs x0 (tap0 x5) (tap1 x5) (tap2 x5) (tap3 x5) x6 xs0) (xs x0 (tap0 x5) (tap1 x5) (tap2 x5) (tap3 x5) x6 xs0) (ix2 p n) = G 0 p n)
    (p1 : ∀ p n, piece1 x2 x7 x8 x11 xs1 (bs x0 (tap0 x5) (tap1 x5) (tap2 x5) (tap3 x5) x6 xs0) (xs x0 (tap0 x5) (tap1 x5) (tap2 x5) (tap3 x5) x6 xs0) (ix2 p n) = G 1 p n)
    (p2 : ∀ p n, piece2 x2 x7 x8 x11 xs1 (bs x0 (tap0 x5) (tap1 x5) (tap2 x5) (tap3 x5) x6 xs0) (xs x0 (tap0 x5) (tap1 x5) (tap2 x5) (tap3 x5) x6 xs0) (ix2 p n) = G 2 p n)
    (p3 : ∀ p n, piece3 x2 x7 x8 x11 xs1 (bs x0 (tap0 x5) (tap1 x5) (tap2 x5) (tap3 x5) x6 xs0) (xs x0 (tap0 x5) (tap1 x5) (tap2 x5) (tap3 x5) x6 xs0) (ix2 p n) = G 3 p n)
    (p4 : ∀ p n, piece4 x2 x7 x8 x11 xs1 (bs x0 (tap0 x5) (tap1 x5) (tap2 x5) (tap3 x5) x6 xs0) (xs x0 (tap0 x5) (tap1 x5) (tap2 x5) (tap3 x5) x6 xs0) (ix2 p n) = G 4 p n)
    (p5 : ∀ p n, piece5 x2 x7 x8 x11 xs1 (bs x0 (tap0 x5) (tap1 x5) (tap2 x5) (tap3 x5) x6 xs0) (xs x0 (tap0 x5) (tap1 x5) (tap2 x5) (tap3 x5) x6 xs0) (ix2 p n) = G 5 p n)
    (p6 : ∀ p n, piece6 x2 x7 x8 x11 xs1 (bs x0 (tap0 x5) (tap1 x5) (tap2 x5) (tap3 x5) x6 xs0) (xs x0 (tap0 x5) (tap1 x5) (tap2 x5) (tap3 x5) x6 xs0) (ix2 p n) = G 6 p n)
    (p7 : ∀ p n, piece7 x2 x7 x8 x11 xs1 (bs x0 (tap0 x5) (tap1 x5) (tap2 x5) (tap3 x5) x6 xs0) (xs x0 (tap0 x5) (tap1 x5) (tap2 x5) (tap3 x5) x6 xs0) (ix2 p n) = G 7 p n)
    (p8 : ∀ p n, piece8 x2 x7 x8 x11 xs1 (bs x0 (tap0 x5) (tap1 x5) (tap2 x5) (tap3 x5) x6 xs0) (xs x0 (tap0 x5) (tap1 x5) (tap2 x5) (tap3 x5) x6 xs0) (ix2 p n) = G 8 p n)
    (p9 : ∀ p n, piece9 x2 x7 x8 x11 xs1 (bs x0 (tap0 x5) (tap1 x5) (tap2 x5) (tap3 x5) x6 xs0) (xs x0 (tap0 x5) (tap1 x5) (tap2 x5) (tap3 x5) x6 xs0) (ix2 p n) = G 9 p n)
    (p10 : ∀ p n, piece10 x2 x7 x8 x11 xs1 (bs x0 (tap0 x5) (tap1 x5) (tap2 x5) (tap3 x5) x6 xs0) (xs x0 (tap0 x5) (tap1 x5) (tap2 x5) (tap3 x5) x6 xs0) (ix2 p n) = G 10 p n)
    (p11 : ∀ p n, piece11 x2 x7 x8 x11 xs1 (bs x0 (tap0 x5) (tap1 x5) (tap2 x5) (tap3 x5) x6 xs0) (xs x0 (tap0 x5) (tap1 x5) (tap2 x5) (tap3 x5) x6 xs0) (ix2 p n) = G 11 p n)
    (p12 : ∀ p n, piece12 x2 x7 x8 x11 xs1 (bs x0 (tap0 x5) (tap1 x5) (tap2 x5) (tap3 x5) x6 xs0) (xs x0 (tap0 x5) (tap1 x5) (tap2 x5) (tap3 x5) x6 xs0) (ix2 p n) = G 12 p n)
    (p13 : ∀ p n, piece13 x2 x7 x8 x11 xs1 (bs x0 (tap0 x5) (tap1 x5) (tap2 x5) (tap3 x5) x6 xs0) (xs x0 (tap0 x5) (tap1 x5) (tap2 x5) (tap3 x5) x6 xs0) (ix2 p n) = G 13 p n)
    (p14 : ∀ p n, piece14 x2 x7 x8 x11 xs1 (bs x0 (tap0 x5) (tap1 x5) (tap2 x5) (tap3 x5) x6 xs0) (xs x0 (tap0 x5) (tap1 x5) (tap2 x5) (tap3 x5) x6 xs0) (ix2 p n) = G 14 p n)
    (p15 : ∀ p n, piece15 x2 x7 x8 x11 xs1 (bs x0 (tap0 x5) (tap1 x5) (tap2 x5) (tap3 x5) x6 xs0) (xs x0 (tap0 x5) (tap1 x5) (tap2 x5) (tap3 x5) x6 xs0) (ix2 p n) = G 15 p n) :
    sout0_B_1 (F := Ideal) c i a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9 x10 x11 xs0 xs1 = heads G := by
  frame_out
  exact pieces_at G (piece0 x2 x7 x8 x11 xs1 (bs x0 (tap0 x5) (tap1 x5) (tap2 x5) (tap3 x5) x6 xs0) (xs x0 (tap0 x5) (tap1 x5) (tap2 x5) (tap3 x5) x6 xs0)) (piece1 x2 x7 x8 x11 xs1 (bs x0 (tap0 x5) (tap1 x5) (tap2 x5) (tap3 x5) x6 xs0) (xs x0 (tap0 x5) (tap1 x5) (tap2 x5) (tap3 x5) x6 xs0)) (piece2 x2 x7 x8 x11 xs1 (bs x0 (tap0 x5) (tap1 x5) (tap2 x5) (tap3 x5) x6 xs0) (xs x0 (tap0 x5) (tap1 x5) (tap2 x5) (tap3 x5) x6 xs0)) (piece3 x2 x7 x8 x11 xs1 (bs x0 (tap0 x5) (tap1 x5) (tap2 x5) (tap3 x5) x6 xs0) (xs x0 (tap0 x5) (tap1 x5) (tap2 x5) (tap3 x5) x6 xs0)) (piece4 x2 x7 x8 x11 xs1 (bs x0 (tap0 x5) (tap1 x5) (tap2 x5) (tap3 x5) x6 xs0) (xs x0 (tap0 x5) (tap1 x5) (tap2 x5) (tap3 x5) x6 xs0)) (piece5 x2 x7 x8 x11 xs1 (bs x0 (tap0 x5) (tap1 x5) (tap2 x5) (tap3 x5) x6 xs0) (xs x0 (tap0 x5) (tap1 x5) (tap2 x5) (tap3 x5) x6 xs0)) (piece6 x2 x7 x8 x11 xs1 (bs x0 (tap0 x5) (tap1 x5) (tap2 x5) (tap3 x5) x6 xs0) (xs x0 (tap0 x5) (tap1 x5) (tap2 x5) (tap3 x5) x6 xs0)) (piece7 x2 x7 x8 x11 xs1 (bs x0 (tap0 x5) (tap1 x5) (tap2 x5) (tap3 x5) x6 xs0) (xs x0 (tap0 x5) (tap1 x5) (tap2 x5) (tap3 x5) x6 xs0)) (piece8 x2 x7 x8 x11 xs1 (bs x0 (tap0 x5) (tap1 x5) (tap2 x5) (tap3 x5) x6 xs0) (xs x0 (tap0 x5) (tap1 x5) (tap2 x5) (tap3 x5) x6 xs0)) (piece9 x2 x7 x8 x11 xs1 (bs x0 (tap0 x5) (tap1 x5) (tap2 x5) (tap3 x5) x6 xs0) (xs x0 (tap0 x5) (tap1 x5) (tap2 x5) (tap3 x5) x6 xs0)) (piece10 x2 x7 x8 x11 xs1 (bs x0 (tap0 x5) (tap1 x5) (tap2 x5) (tap3 x5) x6 xs0) (xs x0 (tap0 x5) (tap1 x5) (tap2 x5) (tap3 x5) x6 xs0)) (piece11 x2 x7 x8 x11 xs1 (bs x0 (tap0 x5) (tap1 x5) (tap2 x5) (tap3 x5) x6 xs0) (xs x0 (tap0 x5) (tap1 x5) (tap2 x5) (tap3 x5) x6 xs0)) (piece12 x2 x7 x8 x11 xs1 (bs x0 (tap0 x5) (tap1 x5) (tap2 x5) (tap3 x5) x6 xs0) (xs x0 (tap0 x5) (tap1 x5) (tap2 x5) (tap3 x5) x6 xs0)) (piece13 x2 x7 x8 x11 xs1 (bs x0 (tap0 x5) (tap1 x5) (tap2 x5) (tap3 x5) x6 xs0) (xs x0 (tap0 x5) (tap1 x5) (tap2 x5) (tap3 x5) x6 xs0)) (piece14 x2 x7 x8 x11 xs1 (bs x0 (tap0 x5) (tap1 x5) (tap2 x5) (tap3 x5) x6 xs0) (xs x0 (tap0 x5) (tap1 x5) (tap2 x5) (tap3 x5) x6 xs0)) (piece15 x2 x7 x8 x11 xs1 (bs x0 (tap0 x5) (tap1 x5) (tap2 x5) (tap3 x5) x6 xs0) (xs x0 (tap0 x5) (tap1 x5) (tap2 x5) (tap3 x5) x6 xs0)) [] p0 p1 p2 p3 p4 p5 p6 p7 p8 p9 p10 p11 p12 p13 p14 p15

theorem out_C (c : Dev nD) (i : grid0.Coords) (a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9 x10 x11 xs0 xs1 : _) :
    out0_C_12 (F := Ideal) c i a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9 x10 x11 xs0 xs1 = out x1 x2 x7 x8 x9 x10 x11 xs1 (bs x0 (tap0 x5) (tap1 x5) (tap2 x5) (tap3 x5) x6 xs0) (cs x0 (tap0 x5) (tap1 x5) (tap2 x5) (tap3 x5) x6 xs0) (xs x0 (tap0 x5) (tap1 x5) (tap2 x5) (tap3 x5) x6 xs0) := by
  frame_out
  rfl

theorem ext_C (c : Dev nD) (i : grid0.Coords) (a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9 x10 x11 xs0 xs1 : _) :
    sout0_C_0 (F := Ideal) c i a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9 x10 x11 xs0 xs1 = k0_pay16 (k0_pay8 x0) := by
  frame_out

theorem st_C (c : Dev nD) (i : grid0.Coords) (a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9 x10 x11 xs0 xs1 : _)
    (G : Fin 16 → Fin 64 → Fin 128 → EReal)
    (p0 : ∀ p n, piece0 x2 x7 x8 x11 xs1 (bs x0 (tap0 x5) (tap1 x5) (tap2 x5) (tap3 x5) x6 xs0) (xs x0 (tap0 x5) (tap1 x5) (tap2 x5) (tap3 x5) x6 xs0) (ix2 p n) = G 0 p n)
    (p1 : ∀ p n, piece1 x2 x7 x8 x11 xs1 (bs x0 (tap0 x5) (tap1 x5) (tap2 x5) (tap3 x5) x6 xs0) (xs x0 (tap0 x5) (tap1 x5) (tap2 x5) (tap3 x5) x6 xs0) (ix2 p n) = G 1 p n)
    (p2 : ∀ p n, piece2 x2 x7 x8 x11 xs1 (bs x0 (tap0 x5) (tap1 x5) (tap2 x5) (tap3 x5) x6 xs0) (xs x0 (tap0 x5) (tap1 x5) (tap2 x5) (tap3 x5) x6 xs0) (ix2 p n) = G 2 p n)
    (p3 : ∀ p n, piece3 x2 x7 x8 x11 xs1 (bs x0 (tap0 x5) (tap1 x5) (tap2 x5) (tap3 x5) x6 xs0) (xs x0 (tap0 x5) (tap1 x5) (tap2 x5) (tap3 x5) x6 xs0) (ix2 p n) = G 3 p n)
    (p4 : ∀ p n, piece4 x2 x7 x8 x11 xs1 (bs x0 (tap0 x5) (tap1 x5) (tap2 x5) (tap3 x5) x6 xs0) (xs x0 (tap0 x5) (tap1 x5) (tap2 x5) (tap3 x5) x6 xs0) (ix2 p n) = G 4 p n)
    (p5 : ∀ p n, piece5 x2 x7 x8 x11 xs1 (bs x0 (tap0 x5) (tap1 x5) (tap2 x5) (tap3 x5) x6 xs0) (xs x0 (tap0 x5) (tap1 x5) (tap2 x5) (tap3 x5) x6 xs0) (ix2 p n) = G 5 p n)
    (p6 : ∀ p n, piece6 x2 x7 x8 x11 xs1 (bs x0 (tap0 x5) (tap1 x5) (tap2 x5) (tap3 x5) x6 xs0) (xs x0 (tap0 x5) (tap1 x5) (tap2 x5) (tap3 x5) x6 xs0) (ix2 p n) = G 6 p n)
    (p7 : ∀ p n, piece7 x2 x7 x8 x11 xs1 (bs x0 (tap0 x5) (tap1 x5) (tap2 x5) (tap3 x5) x6 xs0) (xs x0 (tap0 x5) (tap1 x5) (tap2 x5) (tap3 x5) x6 xs0) (ix2 p n) = G 7 p n)
    (p8 : ∀ p n, piece8 x2 x7 x8 x11 xs1 (bs x0 (tap0 x5) (tap1 x5) (tap2 x5) (tap3 x5) x6 xs0) (xs x0 (tap0 x5) (tap1 x5) (tap2 x5) (tap3 x5) x6 xs0) (ix2 p n) = G 8 p n)
    (p9 : ∀ p n, piece9 x2 x7 x8 x11 xs1 (bs x0 (tap0 x5) (tap1 x5) (tap2 x5) (tap3 x5) x6 xs0) (xs x0 (tap0 x5) (tap1 x5) (tap2 x5) (tap3 x5) x6 xs0) (ix2 p n) = G 9 p n)
    (p10 : ∀ p n, piece10 x2 x7 x8 x11 xs1 (bs x0 (tap0 x5) (tap1 x5) (tap2 x5) (tap3 x5) x6 xs0) (xs x0 (tap0 x5) (tap1 x5) (tap2 x5) (tap3 x5) x6 xs0) (ix2 p n) = G 10 p n)
    (p11 : ∀ p n, piece11 x2 x7 x8 x11 xs1 (bs x0 (tap0 x5) (tap1 x5) (tap2 x5) (tap3 x5) x6 xs0) (xs x0 (tap0 x5) (tap1 x5) (tap2 x5) (tap3 x5) x6 xs0) (ix2 p n) = G 11 p n)
    (p12 : ∀ p n, piece12 x2 x7 x8 x11 xs1 (bs x0 (tap0 x5) (tap1 x5) (tap2 x5) (tap3 x5) x6 xs0) (xs x0 (tap0 x5) (tap1 x5) (tap2 x5) (tap3 x5) x6 xs0) (ix2 p n) = G 12 p n)
    (p13 : ∀ p n, piece13 x2 x7 x8 x11 xs1 (bs x0 (tap0 x5) (tap1 x5) (tap2 x5) (tap3 x5) x6 xs0) (xs x0 (tap0 x5) (tap1 x5) (tap2 x5) (tap3 x5) x6 xs0) (ix2 p n) = G 13 p n)
    (p14 : ∀ p n, piece14 x2 x7 x8 x11 xs1 (bs x0 (tap0 x5) (tap1 x5) (tap2 x5) (tap3 x5) x6 xs0) (xs x0 (tap0 x5) (tap1 x5) (tap2 x5) (tap3 x5) x6 xs0) (ix2 p n) = G 14 p n)
    (p15 : ∀ p n, piece15 x2 x7 x8 x11 xs1 (bs x0 (tap0 x5) (tap1 x5) (tap2 x5) (tap3 x5) x6 xs0) (xs x0 (tap0 x5) (tap1 x5) (tap2 x5) (tap3 x5) x6 xs0) (ix2 p n) = G 15 p n) :
    sout0_C_1 (F := Ideal) c i a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9 x10 x11 xs0 xs1 = heads G := by
  frame_out
  exact pieces_at G (piece0 x2 x7 x8 x11 xs1 (bs x0 (tap0 x5) (tap1 x5) (tap2 x5) (tap3 x5) x6 xs0) (xs x0 (tap0 x5) (tap1 x5) (tap2 x5) (tap3 x5) x6 xs0)) (piece1 x2 x7 x8 x11 xs1 (bs x0 (tap0 x5) (tap1 x5) (tap2 x5) (tap3 x5) x6 xs0) (xs x0 (tap0 x5) (tap1 x5) (tap2 x5) (tap3 x5) x6 xs0)) (piece2 x2 x7 x8 x11 xs1 (bs x0 (tap0 x5) (tap1 x5) (tap2 x5) (tap3 x5) x6 xs0) (xs x0 (tap0 x5) (tap1 x5) (tap2 x5) (tap3 x5) x6 xs0)) (piece3 x2 x7 x8 x11 xs1 (bs x0 (tap0 x5) (tap1 x5) (tap2 x5) (tap3 x5) x6 xs0) (xs x0 (tap0 x5) (tap1 x5) (tap2 x5) (tap3 x5) x6 xs0)) (piece4 x2 x7 x8 x11 xs1 (bs x0 (tap0 x5) (tap1 x5) (tap2 x5) (tap3 x5) x6 xs0) (xs x0 (tap0 x5) (tap1 x5) (tap2 x5) (tap3 x5) x6 xs0)) (piece5 x2 x7 x8 x11 xs1 (bs x0 (tap0 x5) (tap1 x5) (tap2 x5) (tap3 x5) x6 xs0) (xs x0 (tap0 x5) (tap1 x5) (tap2 x5) (tap3 x5) x6 xs0)) (piece6 x2 x7 x8 x11 xs1 (bs x0 (tap0 x5) (tap1 x5) (tap2 x5) (tap3 x5) x6 xs0) (xs x0 (tap0 x5) (tap1 x5) (tap2 x5) (tap3 x5) x6 xs0)) (piece7 x2 x7 x8 x11 xs1 (bs x0 (tap0 x5) (tap1 x5) (tap2 x5) (tap3 x5) x6 xs0) (xs x0 (tap0 x5) (tap1 x5) (tap2 x5) (tap3 x5) x6 xs0)) (piece8 x2 x7 x8 x11 xs1 (bs x0 (tap0 x5) (tap1 x5) (tap2 x5) (tap3 x5) x6 xs0) (xs x0 (tap0 x5) (tap1 x5) (tap2 x5) (tap3 x5) x6 xs0)) (piece9 x2 x7 x8 x11 xs1 (bs x0 (tap0 x5) (tap1 x5) (tap2 x5) (tap3 x5) x6 xs0) (xs x0 (tap0 x5) (tap1 x5) (tap2 x5) (tap3 x5) x6 xs0)) (piece10 x2 x7 x8 x11 xs1 (bs x0 (tap0 x5) (tap1 x5) (tap2 x5) (tap3 x5) x6 xs0) (xs x0 (tap0 x5) (tap1 x5) (tap2 x5) (tap3 x5) x6 xs0)) (piece11 x2 x7 x8 x11 xs1 (bs x0 (tap0 x5) (tap1 x5) (tap2 x5) (tap3 x5) x6 xs0) (xs x0 (tap0 x5) (tap1 x5) (tap2 x5) (tap3 x5) x6 xs0)) (piece12 x2 x7 x8 x11 xs1 (bs x0 (tap0 x5) (tap1 x5) (tap2 x5) (tap3 x5) x6 xs0) (xs x0 (tap0 x5) (tap1 x5) (tap2 x5) (tap3 x5) x6 xs0)) (piece13 x2 x7 x8 x11 xs1 (bs x0 (tap0 x5) (tap1 x5) (tap2 x5) (tap3 x5) x6 xs0) (xs x0 (tap0 x5) (tap1 x5) (tap2 x5) (tap3 x5) x6 xs0)) (piece14 x2 x7 x8 x11 xs1 (bs x0 (tap0 x5) (tap1 x5) (tap2 x5) (tap3 x5) x6 xs0) (xs x0 (tap0 x5) (tap1 x5) (tap2 x5) (tap3 x5) x6 xs0)) (piece15 x2 x7 x8 x11 xs1 (bs x0 (tap0 x5) (tap1 x5) (tap2 x5) (tap3 x5) x6 xs0) (xs x0 (tap0 x5) (tap1 x5) (tap2 x5) (tap3 x5) x6 xs0)) [] p0 p1 p2 p3 p4 p5 p6 p7 p8 p9 p10 p11 p12 p13 p14 p15

theorem last_C (c : Dev nD) (i : grid0.Coords) (a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9 x10 x11 xs0 xs1 : _)
    (G : Fin 16 → Fin 64 → Fin 128 → EReal)
    (p0 : ∀ p n, piece0 x2 x7 x8 x11 xs1 (bs x0 (tap0 x5) (tap1 x5) (tap2 x5) (tap3 x5) x6 xs0) (xs x0 (tap0 x5) (tap1 x5) (tap2 x5) (tap3 x5) x6 xs0) (ix2 p n) = G 0 p n)
    (p1 : ∀ p n, piece1 x2 x7 x8 x11 xs1 (bs x0 (tap0 x5) (tap1 x5) (tap2 x5) (tap3 x5) x6 xs0) (xs x0 (tap0 x5) (tap1 x5) (tap2 x5) (tap3 x5) x6 xs0) (ix2 p n) = G 1 p n)
    (p2 : ∀ p n, piece2 x2 x7 x8 x11 xs1 (bs x0 (tap0 x5) (tap1 x5) (tap2 x5) (tap3 x5) x6 xs0) (xs x0 (tap0 x5) (tap1 x5) (tap2 x5) (tap3 x5) x6 xs0) (ix2 p n) = G 2 p n)
    (p3 : ∀ p n, piece3 x2 x7 x8 x11 xs1 (bs x0 (tap0 x5) (tap1 x5) (tap2 x5) (tap3 x5) x6 xs0) (xs x0 (tap0 x5) (tap1 x5) (tap2 x5) (tap3 x5) x6 xs0) (ix2 p n) = G 3 p n)
    (p4 : ∀ p n, piece4 x2 x7 x8 x11 xs1 (bs x0 (tap0 x5) (tap1 x5) (tap2 x5) (tap3 x5) x6 xs0) (xs x0 (tap0 x5) (tap1 x5) (tap2 x5) (tap3 x5) x6 xs0) (ix2 p n) = G 4 p n)
    (p5 : ∀ p n, piece5 x2 x7 x8 x11 xs1 (bs x0 (tap0 x5) (tap1 x5) (tap2 x5) (tap3 x5) x6 xs0) (xs x0 (tap0 x5) (tap1 x5) (tap2 x5) (tap3 x5) x6 xs0) (ix2 p n) = G 5 p n)
    (p6 : ∀ p n, piece6 x2 x7 x8 x11 xs1 (bs x0 (tap0 x5) (tap1 x5) (tap2 x5) (tap3 x5) x6 xs0) (xs x0 (tap0 x5) (tap1 x5) (tap2 x5) (tap3 x5) x6 xs0) (ix2 p n) = G 6 p n)
    (p7 : ∀ p n, piece7 x2 x7 x8 x11 xs1 (bs x0 (tap0 x5) (tap1 x5) (tap2 x5) (tap3 x5) x6 xs0) (xs x0 (tap0 x5) (tap1 x5) (tap2 x5) (tap3 x5) x6 xs0) (ix2 p n) = G 7 p n)
    (p8 : ∀ p n, piece8 x2 x7 x8 x11 xs1 (bs x0 (tap0 x5) (tap1 x5) (tap2 x5) (tap3 x5) x6 xs0) (xs x0 (tap0 x5) (tap1 x5) (tap2 x5) (tap3 x5) x6 xs0) (ix2 p n) = G 8 p n)
    (p9 : ∀ p n, piece9 x2 x7 x8 x11 xs1 (bs x0 (tap0 x5) (tap1 x5) (tap2 x5) (tap3 x5) x6 xs0) (xs x0 (tap0 x5) (tap1 x5) (tap2 x5) (tap3 x5) x6 xs0) (ix2 p n) = G 9 p n)
    (p10 : ∀ p n, piece10 x2 x7 x8 x11 xs1 (bs x0 (tap0 x5) (tap1 x5) (tap2 x5) (tap3 x5) x6 xs0) (xs x0 (tap0 x5) (tap1 x5) (tap2 x5) (tap3 x5) x6 xs0) (ix2 p n) = G 10 p n)
    (p11 : ∀ p n, piece11 x2 x7 x8 x11 xs1 (bs x0 (tap0 x5) (tap1 x5) (tap2 x5) (tap3 x5) x6 xs0) (xs x0 (tap0 x5) (tap1 x5) (tap2 x5) (tap3 x5) x6 xs0) (ix2 p n) = G 11 p n)
    (p12 : ∀ p n, piece12 x2 x7 x8 x11 xs1 (bs x0 (tap0 x5) (tap1 x5) (tap2 x5) (tap3 x5) x6 xs0) (xs x0 (tap0 x5) (tap1 x5) (tap2 x5) (tap3 x5) x6 xs0) (ix2 p n) = G 12 p n)
    (p13 : ∀ p n, piece13 x2 x7 x8 x11 xs1 (bs x0 (tap0 x5) (tap1 x5) (tap2 x5) (tap3 x5) x6 xs0) (xs x0 (tap0 x5) (tap1 x5) (tap2 x5) (tap3 x5) x6 xs0) (ix2 p n) = G 13 p n)
    (p14 : ∀ p n, piece14 x2 x7 x8 x11 xs1 (bs x0 (tap0 x5) (tap1 x5) (tap2 x5) (tap3 x5) x6 xs0) (xs x0 (tap0 x5) (tap1 x5) (tap2 x5) (tap3 x5) x6 xs0) (ix2 p n) = G 14 p n)
    (p15 : ∀ p n, piece15 x2 x7 x8 x11 xs1 (bs x0 (tap0 x5) (tap1 x5) (tap2 x5) (tap3 x5) x6 xs0) (xs x0 (tap0 x5) (tap1 x5) (tap2 x5) (tap3 x5) x6 xs0) (ix2 p n) = G 15 p n) :
    out0_C_13 (F := Ideal) c i a2 h2 a3 h3 a4 h4 a5 h5 a6 h6 a7 h7 a8 h8 a9 h9 a10 h10 a11 h11 a12 h12 a13 h13 a14 h14 a15 h15 a16 h16 a17 h17 hc0 hc1 hc2 x0 x1 x2 x3 x4 x5 x6 x7 x8 x9 x10 x11 xs0 xs1 = fun y => heads G (ix2 (y 1) (y 2)) := by
  frame_out
  have e := pieces_at G _ _ _ _ _ _ _ _ _ _ _ _ _ _ _ _ [] p0 p1 p2 p3 p4 p5 p6 p7 p8 p9 p10 p11 p12 p13 p14 p15
  rw [View.readCov_eq_canon']
  funext y
  idx_vars y
  pointwise [k0_pay4]
  exact (congrFun e _).trans (congrArg (heads G) (by funext a; match a with | ⟨0, _⟩ => rfl | ⟨1, _⟩ => rfl))

end Layer.SsdOpen
-- ==== Proof.SsdStage.lean ====
module

public import proofs.«01_k».proof.Proof.Gen.KernelIdeal.Value
public import Idealize.ShloMosaic.Lib.Pointwise

/-!
# What the recurrence's kernel is handed

The arrays the host lays out before the call, read at an index, and each grid point's blocks of them.
-/

@[expose] public section
set_option maxRecDepth 16384

noncomputable section
namespace Layer.SsdStage
open Idealize.ShloMosaic Idealize.ShloMosaic.TcCoe Idealize.SL.Sem
open Cert.KernelIdeal Cert.KernelIdeal.Gen

variable (m : (ℓ : Loc nD τ sig) → Buf (Elt Ideal) ℓ) (c : Dev nD)

abbrev aX : Vec Ideal S8x2048x1536 .bf16 := m ((c : Thread nD τ).loc main_arg0)
abbrev aZ : Vec Ideal S8x2048x1024 .bf16 := m ((c : Thread nD τ).loc main_arg1)
abbrev aSm : Vec Ideal S8x2048x128 .f32 := m ((c : Thread nD τ).loc main_arg2)
abbrev aCv : Vec Ideal S8x3x1536 .f32 := m ((c : Thread nD τ).loc main_arg3)
abbrev aSt : Vec Ideal S8x16x64x128 .f32 := m ((c : Thread nD τ).loc main_arg4)
abbrev aW : Vec Ideal S4x1536 .f32 := m ((c : Thread nD τ).loc main_arg5)
abbrev aCb : Vec Ideal S1536 .f32 := m ((c : Thread nD τ).loc main_arg6)
abbrev aTb : Vec Ideal S16 .f32 := m ((c : Thread nD τ).loc main_arg7)
abbrev aAl : Vec Ideal S16 .f32 := m ((c : Thread nD τ).loc main_arg10)
abbrev aD : Vec Ideal S16 .f32 := m ((c : Thread nD τ).loc main_arg11)
abbrev aNw : Vec Ideal S1024 .f32 := m ((c : Thread nD τ).loc main_arg12)

theorem tail_at (b : Fin 8) (r : Fin 8) (k : Fin 1536) : (V m c main_v0 (ix3 b r k) : EReal) = if h : r.val < 5 then 0 else aCv m c (ix3 b ⟨r.val - 5, by omega⟩ k) := by
  simp only [V, hostOps0, hostOps0_1, hostOps0_2, hostOps0_3, hostOps0_4, List.flatten_cons, List.flatten_nil, List.append_nil, List.cons_append, List.nil_append]
  after_results_simp
  (try dsimp only [Matrix.cons_val])
  (try pointwise)
  (try after_results_simp)
  (try simp -implicitDefEqProofs only [StableHlo.TRef.toBuf, StableHlo.TRef.ofBuf, cast_cast, cast_eq])
  (try pointwise)
  (try after_results_simp)
  (try pointwise)
  have e0 : (FloatOps.sitofp (F := Ideal) FTy.f32 (0#32) : EReal) = 0 := by
    show ((((0#32 : BitVec 32).toInt : ℝ)) : EReal) = 0
    simp
  by_cases h : r.val < 5
  · rw [dif_neg (by omega), dif_pos h]; exact e0
  · rw [dif_pos (by omega), dif_neg h]
theorem init_at (b : Fin 8) (r : Fin 1024) (n : Fin 128) : (V m c main_v22 (ix3 b r n) : EReal) = aSt m c (ix4 b ⟨r.val / 64, by omega⟩ ⟨r.val % 64, by omega⟩ n) := by
  simp only [V, hostOps0, hostOps0_1, hostOps0_2, hostOps0_3, hostOps0_4, List.flatten_cons, List.flatten_nil, List.append_nil, List.cons_append, List.nil_append]
  after_results_simp
  (try dsimp only [Matrix.cons_val])
  (try pointwise)
  (try after_results_simp)
  (try simp -implicitDefEqProofs only [StableHlo.TRef.toBuf, StableHlo.TRef.ofBuf, cast_cast, cast_eq])
  (try pointwise)
  (try after_results_simp)
  (try pointwise)
theorem bias_at (l : Fin 128) (hl : l.val < 16) : (V m c main_v5 (ix2 0 l) : EReal) = aTb m c (ix1 ⟨l.val, hl⟩) := by
  simp only [V, hostOps0, hostOps0_1, hostOps0_2, hostOps0_3, hostOps0_4, List.flatten_cons, List.flatten_nil, List.append_nil, List.cons_append, List.nil_append]
  after_results_simp
  (try dsimp only [Matrix.cons_val])
  (try pointwise)
  (try after_results_simp)
  (try simp -implicitDefEqProofs only [StableHlo.TRef.toBuf, StableHlo.TRef.ofBuf, cast_cast, cast_eq])
  (try pointwise)
  (try after_results_simp)
  (try pointwise)
  rw [dif_pos (by omega), dif_pos hl]
theorem cb_at (k : Fin 1536) : (V m c main_v6 (ix2 0 k) : EReal) = aCb m c (ix1 k) := by
  simp only [V, hostOps0, hostOps0_1, hostOps0_2, hostOps0_3, hostOps0_4, List.flatten_cons, List.flatten_nil, List.append_nil, List.cons_append, List.nil_append]
  after_results_simp
  (try dsimp only [Matrix.cons_val])
  (try pointwise)
  (try after_results_simp)
  (try simp -implicitDefEqProofs only [StableHlo.TRef.toBuf, StableHlo.TRef.ofBuf, cast_cast, cast_eq])
  (try pointwise)
  (try after_results_simp)
  (try pointwise)
theorem alog_at (l : Fin 128) (hl : l.val < 16) : (V m c main_v8 (ix2 0 l) : EReal) = aAl m c (ix1 ⟨l.val, hl⟩) := by
  simp only [V, hostOps0, hostOps0_1, hostOps0_2, hostOps0_3, hostOps0_4, List.flatten_cons, List.flatten_nil, List.append_nil, List.cons_append, List.nil_append]
  after_results_simp
  (try dsimp only [Matrix.cons_val])
  (try pointwise)
  (try after_results_simp)
  (try simp -implicitDefEqProofs only [StableHlo.TRef.toBuf, StableHlo.TRef.ofBuf, cast_cast, cast_eq])
  (try pointwise)
  (try after_results_simp)
  (try pointwise)
  rw [dif_pos hl]
theorem skip_at (k : Fin 1024) : (V m c main_v11 (ix2 0 k) : EReal) = aD m c (ix1 ⟨k.val / 64, by omega⟩) := by
  simp only [V, hostOps0, hostOps0_1, hostOps0_2, hostOps0_3, hostOps0_4, List.flatten_cons, List.flatten_nil, List.append_nil, List.cons_append, List.nil_append]
  after_results_simp
  (try dsimp only [Matrix.cons_val])
  (try pointwise)
  (try after_results_simp)
  (try simp -implicitDefEqProofs only [StableHlo.TRef.toBuf, StableHlo.TRef.ofBuf, cast_cast, cast_eq])
  (try pointwise)
  (try after_results_simp)
  (try pointwise)
theorem norm_at (k : Fin 1024) : (V m c main_v12 (ix2 0 k) : EReal) = aNw m c (ix1 k) := by
  simp only [V, hostOps0, hostOps0_1, hostOps0_2, hostOps0_3, hostOps0_4, List.flatten_cons, List.flatten_nil, List.append_nil, List.cons_append, List.nil_append]
  after_results_simp
  (try dsimp only [Matrix.cons_val])
  (try pointwise)
  (try after_results_simp)
  (try simp -implicitDefEqProofs only [StableHlo.TRef.toBuf, StableHlo.TRef.ofBuf, cast_cast, cast_eq])
  (try pointwise)
  (try after_results_simp)
  (try pointwise)
/-- The head a column belongs to, as the host counts it. -/
def seg (k : Nat) : BitVec 32 :=
  Scalar.select
    (IntOp.andi
      (IntOp.cmpi CmpIPredicate.ne
        (if BitVec.ofNat 32 k = 0 then (0 : BitVec 32) else if (BitVec.ofNat 32 k).msb = true then -1 else 1)
        (if id (constantI S_ 32 64#32) ix0 = 0 then 0
        else if BitVec.msb (id (constantI S_ 32 64#32) ix0) = true then -1 else 1))
      (IntOp.cmpi CmpIPredicate.ne
        (IntOp.remsi ArithUnit.host (BitVec.ofNat 32 k) (id (constantI S_ 32 64#32) ix0)) 0#32))
    (IntOp.subi (IntOp.divsi ArithUnit.host (BitVec.ofNat 32 k) (id (constantI S_ 32 64#32) ix0)) 1#32)
    (IntOp.divsi ArithUnit.host (BitVec.ofNat 32 k) (id (constantI S_ 32 64#32) ix0))

theorem seg_eq (k : Fin 1024) : seg k.val = BitVec.ofNat 32 (k.val / 64) := by
  revert k; decide +kernel

theorem one_hot (l j : Nat) (hl : l < 4294967296) (hj : j < 4294967296) :
    (FloatOps.uitofp (F := Ideal) FTy.bf16 (IntOp.cmpi CmpIPredicate.eq (BitVec.ofNat 32 l) (BitVec.ofNat 32 j)) : EReal) = if l = j then (1 : EReal) else 0 := by
  by_cases h : l = j
  · subst h
    rw [if_pos rfl, show IntOp.cmpi CmpIPredicate.eq (BitVec.ofNat 32 l) (BitVec.ofNat 32 l) = 1#1 by simp [IntOp.cmpi]]
    show (((1#1 : BitVec 1).toNat : ℝ) : EReal) = 1
    simp
  · have hne : BitVec.ofNat 32 l ≠ BitVec.ofNat 32 j := fun e => h (by
      have := congrArg BitVec.toNat e
      simp only [BitVec.toNat_ofNat] at this
      omega)
    rw [if_neg h, show IntOp.cmpi CmpIPredicate.eq (BitVec.ofNat 32 l) (BitVec.ofNat 32 j) = 0#1 by
      simp only [IntOp.cmpi, beq_eq_false_iff_ne.mpr hne]; rfl]
    show (((0#1 : BitVec 1).toNat : ℝ) : EReal) = 0
    simp

theorem spread_at (l : Fin 128) (k : Fin 1024) : (V m c main_v21 (ix2 l k) : EReal) = if l.val = k.val / 64 then (1 : EReal) else 0 := by
  simp only [V, hostOps0, hostOps0_1, hostOps0_2, hostOps0_3, hostOps0_4, List.flatten_cons, List.flatten_nil, List.append_nil, List.cons_append, List.nil_append]
  after_results_simp
  (try dsimp only [Matrix.cons_val])
  (try pointwise)
  (try after_results_simp)
  (try simp -implicitDefEqProofs only [StableHlo.TRef.toBuf, StableHlo.TRef.ofBuf, cast_cast, cast_eq])
  (try pointwise)
  (try after_results_simp)
  (try pointwise)
  show (FloatOps.uitofp (F := Ideal) FTy.bf16 (IntOp.cmpi CmpIPredicate.eq (BitVec.ofNat 32 l.val) (seg k.val)) : EReal) = _
  rw [seg_eq, one_hot _ _ (by omega) (by omega)]

/-! ## The blocks -/

theorem lt128 (t : Fin cfg0.N) : t.val < 128 := lt_of_lt_of_eq t.isLt N_0

theorem idx0 : ∀ t : Fin cfg0.N, win0_0.index t 0 = t.val / 16 ∧ win0_0.index t 1 = t.val % 16 ∧ win0_0.index t 2 = 0 :=
  (by decide +kernel : ∀ t : Fin grid0.N, _)
theorem blk0_at (t : Fin cfg0.N) (r : Fin 128) (k : Fin 1536) :
    (iblk m c 0 t (ix3 0 r k) : EReal) = aX m c (ix3 ⟨t.val / 16, by have := lt128 t; omega⟩ ⟨128 * (t.val % 16) + r.val, by have := lt128 t; omega⟩ k) := by
  show V m c main_arg0 (((cfg0.win 0).blk t).view.emb (ix3 0 r k)) = _
  rw [V_main_arg0]
  refine congrArg _ (funext fun a => Fin.ext ?_)
  have e := idx0 t
  match a with
  | ⟨0, _⟩ => show win0_0.index t 0 * 1 + 1 * 0 = t.val / 16; omega
  | ⟨1, _⟩ => show win0_0.index t 1 * 128 + 1 * r.val = 128 * (t.val % 16) + r.val; omega
  | ⟨2, _⟩ => show win0_0.index t 2 * 1536 + 1 * k.val = k.val; omega

theorem idx1 : ∀ t : Fin cfg0.N, win0_1.index t 0 = t.val / 16 ∧ win0_1.index t 1 = t.val % 16 ∧ win0_1.index t 2 = 0 :=
  (by decide +kernel : ∀ t : Fin grid0.N, _)
theorem blk1_at (t : Fin cfg0.N) (r : Fin 128) (k : Fin 1024) :
    (iblk m c 1 t (ix3 0 r k) : EReal) = aZ m c (ix3 ⟨t.val / 16, by have := lt128 t; omega⟩ ⟨128 * (t.val % 16) + r.val, by have := lt128 t; omega⟩ k) := by
  show V m c main_arg1 (((cfg0.win 1).blk t).view.emb (ix3 0 r k)) = _
  rw [V_main_arg1]
  refine congrArg _ (funext fun a => Fin.ext ?_)
  have e := idx1 t
  match a with
  | ⟨0, _⟩ => show win0_1.index t 0 * 1 + 1 * 0 = t.val / 16; omega
  | ⟨1, _⟩ => show win0_1.index t 1 * 128 + 1 * r.val = 128 * (t.val % 16) + r.val; omega
  | ⟨2, _⟩ => show win0_1.index t 2 * 1024 + 1 * k.val = k.val; omega

theorem idx2 : ∀ t : Fin cfg0.N, win0_2.index t 0 = t.val / 16 ∧ win0_2.index t 1 = t.val % 16 ∧ win0_2.index t 2 = 0 :=
  (by decide +kernel : ∀ t : Fin grid0.N, _)
theorem blk2_at (t : Fin cfg0.N) (r : Fin 128) (k : Fin 128) :
    (iblk m c 2 t (ix3 0 r k) : EReal) = aSm m c (ix3 ⟨t.val / 16, by have := lt128 t; omega⟩ ⟨128 * (t.val % 16) + r.val, by have := lt128 t; omega⟩ k) := by
  show V m c main_arg2 (((cfg0.win 2).blk t).view.emb (ix3 0 r k)) = _
  rw [V_main_arg2]
  refine congrArg _ (funext fun a => Fin.ext ?_)
  have e := idx2 t
  match a with
  | ⟨0, _⟩ => show win0_2.index t 0 * 1 + 1 * 0 = t.val / 16; omega
  | ⟨1, _⟩ => show win0_2.index t 1 * 128 + 1 * r.val = 128 * (t.val % 16) + r.val; omega
  | ⟨2, _⟩ => show win0_2.index t 2 * 128 + 1 * k.val = k.val; omega

theorem idx3 : ∀ t : Fin cfg0.N, win0_3.index t 0 = t.val / 16 ∧ win0_3.index t 1 = 0 ∧ win0_3.index t 2 = 0 :=
  (by decide +kernel : ∀ t : Fin grid0.N, _)
theorem blk3_at (t : Fin cfg0.N) (r : Fin 8) (k : Fin 1536) :
    (iblk m c 3 t (ix3 0 r k) : EReal) = V m c main_v0 (ix3 ⟨t.val / 16, by have := lt128 t; omega⟩ r k) := by
  show V m c main_v0 (((cfg0.win 3).blk t).view.emb (ix3 0 r k)) = _
  refine congrArg _ (funext fun a => Fin.ext ?_)
  have e := idx3 t
  match a with
  | ⟨0, _⟩ => show win0_3.index t 0 * 1 + 1 * 0 = t.val / 16; omega
  | ⟨1, _⟩ => show win0_3.index t 1 * 8 + 1 * r.val = r.val; omega
  | ⟨2, _⟩ => show win0_3.index t 2 * 1536 + 1 * k.val = k.val; omega

theorem idx4 : ∀ t : Fin cfg0.N, win0_4.index t 0 = t.val / 16 ∧ win0_4.index t 1 = 0 ∧ win0_4.index t 2 = 0 :=
  (by decide +kernel : ∀ t : Fin grid0.N, _)
theorem blk4_at (t : Fin cfg0.N) (r : Fin 1024) (k : Fin 128) :
    (iblk m c 4 t (ix3 0 r k) : EReal) = V m c main_v22 (ix3 ⟨t.val / 16, by have := lt128 t; omega⟩ r k) := by
  show V m c main_v22 (((cfg0.win 4).blk t).view.emb (ix3 0 r k)) = _
  refine congrArg _ (funext fun a => Fin.ext ?_)
  have e := idx4 t
  match a with
  | ⟨0, _⟩ => show win0_4.index t 0 * 1 + 1 * 0 = t.val / 16; omega
  | ⟨1, _⟩ => show win0_4.index t 1 * 1024 + 1 * r.val = r.val; omega
  | ⟨2, _⟩ => show win0_4.index t 2 * 128 + 1 * k.val = k.val; omega

theorem idx5 : ∀ t : Fin cfg0.N, win0_5.index t 0 = 0 ∧ win0_5.index t 1 = 0 :=
  (by decide +kernel : ∀ t : Fin grid0.N, _)
theorem blk5_at (t : Fin cfg0.N) (r : Fin 4) (k : Fin 1536) :
    (iblk m c 5 t (ix2 r k) : EReal) = aW m c (ix2 r k) := by
  show V m c main_arg5 (((cfg0.win 5).blk t).view.emb (ix2 r k)) = _
  rw [V_main_arg5]
  refine congrArg _ (funext fun a => Fin.ext ?_)
  have e := idx5 t
  match a with
  | ⟨0, _⟩ => show win0_5.index t 0 * 4 + 1 * r.val = r.val; omega
  | ⟨1, _⟩ => show win0_5.index t 1 * 1536 + 1 * k.val = k.val; omega

theorem idx6 : ∀ t : Fin cfg0.N, win0_6.index t 0 = 0 ∧ win0_6.index t 1 = 0 :=
  (by decide +kernel : ∀ t : Fin grid0.N, _)
theorem blk6_at (t : Fin cfg0.N) (k : Fin 1536) :
    (iblk m c 6 t (ix2 0 k) : EReal) = V m c main_v6 (ix2 0 k) := by
  show V m c main_v6 (((cfg0.win 6).blk t).view.emb (ix2 0 k)) = _
  refine congrArg _ (funext fun a => Fin.ext ?_)
  have e := idx6 t
  match a with
  | ⟨0, _⟩ => show win0_6.index t 0 * 1 + 1 * 0 = 0; omega
  | ⟨1, _⟩ => show win0_6.index t 1 * 1536 + 1 * k.val = k.val; omega

theorem idx7 : ∀ t : Fin cfg0.N, win0_7.index t 0 = 0 ∧ win0_7.index t 1 = 0 :=
  (by decide +kernel : ∀ t : Fin grid0.N, _)
theorem blk7_at (t : Fin cfg0.N) (k : Fin 128) :
    (iblk m c 7 t (ix2 0 k) : EReal) = V m c main_v5 (ix2 0 k) := by
  show V m c main_v5 (((cfg0.win 7).blk t).view.emb (ix2 0 k)) = _
  refine congrArg _ (funext fun a => Fin.ext ?_)
  have e := idx7 t
  match a with
  | ⟨0, _⟩ => show win0_7.index t 0 * 1 + 1 * 0 = 0; omega
  | ⟨1, _⟩ => show win0_7.index t 1 * 128 + 1 * k.val = k.val; omega

theorem idx8 : ∀ t : Fin cfg0.N, win0_8.index t 0 = 0 ∧ win0_8.index t 1 = 0 :=
  (by decide +kernel : ∀ t : Fin grid0.N, _)
theorem blk8_at (t : Fin cfg0.N) (k : Fin 128) :
    (iblk m c 8 t (ix2 0 k) : EReal) = V m c main_v8 (ix2 0 k) := by
  show V m c main_v8 (((cfg0.win 8).blk t).view.emb (ix2 0 k)) = _
  refine congrArg _ (funext fun a => Fin.ext ?_)
  have e := idx8 t
  match a with
  | ⟨0, _⟩ => show win0_8.index t 0 * 1 + 1 * 0 = 0; omega
  | ⟨1, _⟩ => show win0_8.index t 1 * 128 + 1 * k.val = k.val; omega

theorem idx9 : ∀ t : Fin cfg0.N, win0_9.index t 0 = 0 ∧ win0_9.index t 1 = 0 :=
  (by decide +kernel : ∀ t : Fin grid0.N, _)
theorem blk9_at (t : Fin cfg0.N) (k : Fin 1024) :
    (iblk m c 9 t (ix2 0 k) : EReal) = V m c main_v11 (ix2 0 k) := by
  show V m c main_v11 (((cfg0.win 9).blk t).view.emb (ix2 0 k)) = _
  refine congrArg _ (funext fun a => Fin.ext ?_)
  have e := idx9 t
  match a with
  | ⟨0, _⟩ => show win0_9.index t 0 * 1 + 1 * 0 = 0; omega
  | ⟨1, _⟩ => show win0_9.index t 1 * 1024 + 1 * k.val = k.val; omega

theorem idx10 : ∀ t : Fin cfg0.N, win0_10.index t 0 = 0 ∧ win0_10.index t 1 = 0 :=
  (by decide +kernel : ∀ t : Fin grid0.N, _)
theorem blk10_at (t : Fin cfg0.N) (k : Fin 1024) :
    (iblk m c 10 t (ix2 0 k) : EReal) = V m c main_v12 (ix2 0 k) := by
  show V m c main_v12 (((cfg0.win 10).blk t).view.emb (ix2 0 k)) = _
  refine congrArg _ (funext fun a => Fin.ext ?_)
  have e := idx10 t
  match a with
  | ⟨0, _⟩ => show win0_10.index t 0 * 1 + 1 * 0 = 0; omega
  | ⟨1, _⟩ => show win0_10.index t 1 * 1024 + 1 * k.val = k.val; omega

theorem idx11 : ∀ t : Fin cfg0.N, win0_11.index t 0 = 0 ∧ win0_11.index t 1 = 0 :=
  (by decide +kernel : ∀ t : Fin grid0.N, _)
theorem blk11_at (t : Fin cfg0.N) (r : Fin 128) (k : Fin 1024) :
    (iblk m c 11 t (ix2 r k) : EReal) = V m c main_v21 (ix2 r k) := by
  show V m c main_v21 (((cfg0.win 11).blk t).view.emb (ix2 r k)) = _
  refine congrArg _ (funext fun a => Fin.ext ?_)
  have e := idx11 t
  match a with
  | ⟨0, _⟩ => show win0_11.index t 0 * 128 + 1 * r.val = r.val; omega
  | ⟨1, _⟩ => show win0_11.index t 1 * 1024 + 1 * k.val = k.val; omega

end Layer.SsdStage
-- ==== Proof.SsdFold.lean ====
module

public import proofs.«01_k».proof.Proof.SsdOpen
public import proofs.«01_k».proof.Proof.SsdStage
public import proofs.«01_k».proof.Proof.SsdAll

/-!
# The recurrence's kernel, point after point

By induction over the grid: after a point, its block of the result is the scan's, the first scratch holds the last eight rows
of the chunk, the second the state the chunk leaves.
-/

@[expose] public section
set_option maxRecDepth 16384

noncomputable section
namespace Layer.SsdFold
open Idealize.ShloMosaic Idealize.ShloMosaic.TcCoe Idealize.SL.Sem
open Cert.KernelIdeal Cert.KernelIdeal.Gen Cert.KernelIdeal.Value Layer.SsdBody Layer.SsdStage Layer.SsdOpen Layer.Ssd

variable (m : (ℓ : Loc nD τ sig) → Buf (Elt Ideal) ℓ) (c : Dev nD)

/-- What the recurrence is given, in the kernel's memory. -/
def ins : Ins where
  X b t k := aX m c (ix3 b t k)
  Z b t k := aZ m c (ix3 b t k)
  sm b t h := aSm m c (ix3 b t ⟨h.val, by omega⟩)
  cv b j k := aCv m c (ix3 b j k)
  st b h p n := aSt m c (ix4 b h p n)
  W j k := aW m c (ix2 j k)
  cb k := aCb m c (ix1 k)
  tb h := aTb m c (ix1 h)
  al h := aAl m c (ix1 h)
  d h := aD m c (ix1 h)
  w k := aNw m c (ix1 k)

/-- The sequence and the chunk of a point. -/
abbrev sq (t : Fin cfg0.N) : Fin 8 := ⟨t.val / 16, by have := lt128 t; omega⟩
abbrev ck (t : Fin cfg0.N) : Nat := t.val % 16

variable {m c}

/-- The rows before a chunk, as its first scratch has them. -/
def Before (t : Fin cfg0.N) (e : Vec Ideal S8x1536 .f32) : Prop :=
  ∀ (d : Nat) (_ : 1 ≤ d) (_ : d ≤ 3) (s : Fin 128) (k : Fin 1536),
    back (fun s => (iblk m c 0 t : Vec Ideal S1x128x1536 .bf16) (ix3 0 s k)) (fun r => e (ix2 r k)) d s = ago (ins m c) (sq t) d (rowOf (ck t) s) k

theorem rowOf_eq (t : Fin cfg0.N) (s : Fin 128) : rowOf (ck t) s = ⟨128 * (t.val % 16) + s.val, by have := lt128 t; omega⟩ :=
  Fin.ext (Nat.mod_eq_of_lt (by have := s.isLt; show 128 * (t.val % 16) + s.val < 2048; omega))

theorem act_num (t : Fin cfg0.N) (e : Vec Ideal S8x1536 .f32) (he : Before (m := m) (c := c) t e) (s : Fin 128) (k : Fin 1536) :
    act (iblk m c 0 t) (tap0 (iblk m c 5 t)) (tap1 (iblk m c 5 t)) (tap2 (iblk m c 5 t)) (tap3 (iblk m c 5 t)) (iblk m c 6 t) e (ix2 s k)
      = actOf (ins m c) siluT (sq t) (ck t) s k := by
  have h0 : (iblk m c 0 t : Vec Ideal S1x128x1536 .bf16) (ix3 0 s k) = (ins m c).X (sq t) (rowOf (ck t) s) k := by
    rw [rowOf_eq]; exact blk0_at m c t s k
  have w0 : tap0 (iblk m c 5 t) (ix2 0 k) = (ins m c).W 0 k := by
    refine Eq.trans (congrArg (iblk m c 5 t) ?_) (blk5_at m c t 0 k)
    funext a; match a with | ⟨0, _⟩ => rfl | ⟨1, _⟩ => exact Fin.ext (by show 0 + 1 * k.val = k.val; omega)
  have w1 : tap1 (iblk m c 5 t) (ix2 0 k) = (ins m c).W 1 k := by
    refine Eq.trans (congrArg (iblk m c 5 t) ?_) (blk5_at m c t 1 k)
    funext a; match a with | ⟨0, _⟩ => rfl | ⟨1, _⟩ => exact Fin.ext (by show 0 + 1 * k.val = k.val; omega)
  have w2 : tap2 (iblk m c 5 t) (ix2 0 k) = (ins m c).W 2 k := by
    refine Eq.trans (congrArg (iblk m c 5 t) ?_) (blk5_at m c t 2 k)
    funext a; match a with | ⟨0, _⟩ => rfl | ⟨1, _⟩ => exact Fin.ext (by show 0 + 1 * k.val = k.val; omega)
  have w3 : tap3 (iblk m c 5 t) (ix2 0 k) = (ins m c).W 3 k := by
    refine Eq.trans (congrArg (iblk m c 5 t) ?_) (blk5_at m c t 3 k)
    funext a; match a with | ⟨0, _⟩ => rfl | ⟨1, _⟩ => exact Fin.ext (by show 0 + 1 * k.val = k.val; omega)
  have hcb : (iblk m c 6 t : Vec Ideal S1x1536 .f32) (ix2 0 k) = (ins m c).cb k := (blk6_at m c t k).trans (cb_at m c k)
  rw [act_at, actOf, preOf, pre, he 3 (by decide) (by decide), he 2 (by decide) (by decide), he 1 (by decide) (by decide), w0, w1, w2, w3, hcb, h0]

/-- The arrays of a point's body are the chunk's. -/
theorem holds (hT : Tame (ins m c)) (t : Fin cfg0.N) (e : Vec Ideal S8x1536 .f32) (he : Before (m := m) (c := c) t e) (st : Vec Ideal S1024x128 .f32)
    (hst : ∀ k n, st (ix2 k n) = stateOf (ins m c) siluT (sq t) (ck t) (head k) (num k) n) :
    Holds (iblk m c 2 t) (iblk m c 7 t) (iblk m c 8 t) (iblk m c 11 t) st
      (bs (iblk m c 0 t) (tap0 (iblk m c 5 t)) (tap1 (iblk m c 5 t)) (tap2 (iblk m c 5 t)) (tap3 (iblk m c 5 t)) (iblk m c 6 t) e)
      (cs (iblk m c 0 t) (tap0 (iblk m c 5 t)) (tap1 (iblk m c 5 t)) (tap2 (iblk m c 5 t)) (tap3 (iblk m c 5 t)) (iblk m c 6 t) e)
      (xs (iblk m c 0 t) (tap0 (iblk m c 5 t)) (tap1 (iblk m c 5 t)) (tap2 (iblk m c 5 t)) (tap3 (iblk m c 5 t)) (iblk m c 6 t) e)
      (actOf (ins m c) siluT (sq t) (ck t)) (stepOf (ins m c) (sq t) (ck t)) (ins m c).al (stateOf (ins m c) siluT (sq t) (ck t)) where
  hx s k := by rw [xs_at]; exact act_num t e he s _
  hb s g n := by rw [bs_at]; exact act_num t e he s _
  hc s g n := by rw [cs_at]; exact act_num t e he s _
  hD s h := by
    have h2 : (iblk m c 2 t : Vec Ideal S1x128x128 .f32) (ix3 0 s ⟨h.val, by omega⟩) = (ins m c).sm (sq t) (rowOf (ck t) s) h := by
      rw [rowOf_eq]; exact blk2_at m c t s _
    have h7 : (iblk m c 7 t : Vec Ideal S1x128 .f32) (ix2 0 ⟨h.val, by omega⟩) = (ins m c).tb h := (blk7_at m c t _).trans (bias_at m c _ h.isLt)
    rw [h2, h7]; rfl
  ha h := (blk8_at m c t _).trans (alog_at m c _ h.isLt)
  hsp l k := (blk11_at m c t l k).trans (spread_at m c l k)
  hS := hst
  hf s h := hT (sq t) (ck t) s h

theorem hd (t : Fin cfg0.N) (k : Fin 1024) : (iblk m c 9 t : Vec Ideal S1x1024 .f32) (ix2 0 k) = (ins m c).d (head k) := (blk9_at m c t k).trans (skip_at m c k)
theorem hw (t : Fin cfg0.N) (k : Fin 1024) : (iblk m c 10 t : Vec Ideal S1x1024 .f32) (ix2 0 k) = (ins m c).w k := (blk10_at m c t k).trans (norm_at m c k)
theorem hG (t : Fin cfg0.N) (s : Fin 128) (k : Fin 1024) :
    siluT ((iblk m c 1 t : Vec Ideal S1x128x1024 .bf16) (ix3 0 s k)) = gateOf (ins m c) siluT (sq t) (ck t) s k := by
  rw [gateOf, rowOf_eq]; exact congrArg siluT (blk1_at m c t s k)

/-- What the kernel keeps after point `t`. -/
structure Kept (t : Fin cfg0.N) (a : Vec Ideal S1x128x1024 .bf16 × Vec Ideal S1x1024x128 .f32 × Vec Ideal S8x1536 .f32 × Vec Ideal S1024x128 .f32) : Prop where
  y : ∀ r k, a.1 (ix3 0 r k) = outOf (ins m c) siluT (sq t) (ck t) r k
  u : ∀ (r : Fin 8) (k : Fin 1536), a.2.2.1 (ix2 r k) = (iblk m c 0 t : Vec Ideal S1x128x1536 .bf16) (ix3 0 ⟨120 + r.val, by omega⟩ k)
  s : a.2.2.2 = heads (stateOf (ins m c) siluT (sq t) (ck t + 1))
  l : t.val % 16 = 15 → a.2.1 = fun y : S1x1024x128.Idx => heads (stateOf (ins m c) siluT (sq t) (ck t + 1)) (ix2 (y 1) (y 2))

theorem back_pos (U : Fin 128 → EReal) (E : Fin 8 → EReal) (d : Nat) (t : Fin 128) (h : d ≤ t.val) : back U E d t = U ⟨t.val - d, by omega⟩ := dif_pos h
theorem back_neg (U : Fin 128 → EReal) (E : Fin 8 → EReal) (d : Nat) (t : Fin 128) (h : ¬ d ≤ t.val) : back U E d t = E ⟨(8 + t.val - d) % 8, Nat.mod_lt _ (by decide)⟩ := dif_neg h
theorem ago_pos (I : Ins) (b : Fin 8) (d : Nat) (t : Fin 2048) (k : Fin 1536) (h : d ≤ t.val) : ago I b d t k = I.X b ⟨t.val - d, by omega⟩ k := dif_pos h
theorem ago_neg (I : Ins) (b : Fin 8) (d : Nat) (t : Fin 2048) (k : Fin 1536) (h : ¬ d ≤ t.val) : ago I b d t k = I.cv b ⟨(3 + t.val - d) % 3, Nat.mod_lt _ (by decide)⟩ k := dif_neg h

/-- Before a sequence's first chunk come the three rows that are given. -/
theorem before_first (t : Fin cfg0.N) (h : t.val % 16 = 0) : Before (m := m) (c := c) t (k0_pay6 (iblk m c 3 t)) := by
  intro d h1 h3 s k
  have e0 : ∀ r : Fin 8, k0_pay6 (F := Ideal) (iblk m c 3 t) (ix2 r k) = V m c main_v0 (ix3 (sq t) r k) := fun r => by
    have : k0_pay6 (F := Ideal) (iblk m c 3 t) (ix2 r k) = (iblk m c 3 t : Vec Ideal S1x8x1536 .f32) (ix3 0 r k) := by pointwise [k0_pay6]
    rw [this]; exact blk3_at m c t r k
  have hr : (rowOf (ck t) s).val = s.val := by show (128 * (t.val % 16) + s.val) % 2048 = s.val; have := s.isLt; omega
  by_cases hd : d ≤ s.val
  · rw [back_pos _ _ d s hd, ago_pos _ _ d _ k (by rw [hr]; exact hd)]
    refine (blk0_at m c t _ k).trans (congrArg (aX m c) ?_)
    funext a; match a with
    | ⟨0, _⟩ => rfl
    | ⟨1, _⟩ => exact Fin.ext (by show 128 * (t.val % 16) + (s.val - d) = (rowOf (ck t) s).val - d; omega)
    | ⟨2, _⟩ => rfl
  · rw [back_neg _ _ d s hd, ago_neg _ _ d _ k (by rw [hr]; exact hd)]
    refine (e0 _).trans ((tail_at m c _ _ k).trans ?_)
    rw [dif_neg (by show ¬ (8 + s.val - d) % 8 < 5; omega)]
    refine congrArg (aCv m c) ?_
    funext a; match a with
    | ⟨0, _⟩ => rfl
    | ⟨1, _⟩ => exact Fin.ext (by show (8 + s.val - d) % 8 - 5 = (3 + (rowOf (ck t) s).val - d) % 3; omega)
    | ⟨2, _⟩ => rfl

/-- Before a later chunk come the last rows of the chunk before. -/
theorem before_later (t : Fin cfg0.N) (h : ¬ t.val % 16 = 0) (p : Fin cfg0.N) (hp : p.val + 1 = t.val) (e : Vec Ideal S8x1536 .f32)
    (he : ∀ (r : Fin 8) (k : Fin 1536), e (ix2 r k) = (iblk m c 0 p : Vec Ideal S1x128x1536 .bf16) (ix3 0 ⟨120 + r.val, by omega⟩ k)) :
    Before (m := m) (c := c) t e := by
  intro d h1 h3 s k
  have l := lt128 t
  have hr : (rowOf (ck t) s).val = 128 * (t.val % 16) + s.val := by show (128 * (t.val % 16) + s.val) % 2048 = _; have := s.isLt; omega
  have hq : d ≤ (rowOf (ck t) s).val := by rw [hr]; omega
  rw [ago_pos _ _ d _ k hq]
  by_cases hd : d ≤ s.val
  · rw [back_pos _ _ d s hd]
    refine (blk0_at m c t _ k).trans (congrArg (aX m c) ?_)
    funext a; match a with
    | ⟨0, _⟩ => rfl
    | ⟨1, _⟩ => exact Fin.ext (by show 128 * (t.val % 16) + (s.val - d) = (rowOf (ck t) s).val - d; omega)
    | ⟨2, _⟩ => rfl
  · rw [back_neg _ _ d s hd]
    refine (he _ k).trans ((blk0_at m c p _ k).trans (congrArg (aX m c) ?_))
    funext a; match a with
    | ⟨0, _⟩ => exact Fin.ext (by show p.val / 16 = t.val / 16; omega)
    | ⟨1, _⟩ => exact Fin.ext (by show 128 * (p.val % 16) + (120 + (8 + s.val - d) % 8) = (rowOf (ck t) s).val - d; omega)
    | ⟨2, _⟩ => rfl

theorem head_num (k : Fin 1024) (n : Fin 128) (G : Fin 16 → Fin 64 → Fin 128 → EReal) : heads G (ix2 k n) = G (head k) (num k) n := rfl

/-- A sequence's first chunk. -/
theorem kept_A (hT : Tame (ins m c)) (t : Fin cfg0.N) (h : t.val % 16 = 0) (acc : Vec Ideal S1x128x1024 .bf16 × Vec Ideal S1x1024x128 .f32 × Vec Ideal S8x1536 .f32 × Vec Ideal S1024x128 .f32) : Kept (m := m) (c := c) t (stAt0 m c t.val t.isLt acc) := by
  have he := before_first (m := m) (c := c) t h
  have hst : ∀ k n, k0_pay5 (F := Ideal) (iblk m c 4 t) (ix2 k n) = stateOf (ins m c) siluT (sq t) (ck t) (head k) (num k) n := fun k n => by
    have e1 : k0_pay5 (F := Ideal) (iblk m c 4 t) (ix2 k n) = (iblk m c 4 t : Vec Ideal S1x1024x128 .f32) (ix3 0 k n) := by pointwise [k0_pay5]
    have e2 : ck t = 0 := h
    rw [e1, e2]
    exact (blk4_at m c t k n).trans (init_at m c _ k n)
  have H := holds hT t (k0_pay6 (iblk m c 3 t)) he (k0_pay5 (iblk m c 4 t)) hst
  rw [stAt0_A m c t acc h h (by omega)]
  refine ⟨fun r k => ?_, fun r k => ?_, ?_, fun q => by omega⟩
  · dsimp only
    rw [out_A]
    exact out_num _ _ _ H (hd t) (hG t) (hw t) r k
  · dsimp only
    rw [ext_A]
    exact ext_at _ r k
  · dsimp only
    exact st_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ rfl rfl _ _ rfl rfl _ (fun p n => piece0_num H p n) (fun p n => piece1_num H p n) (fun p n => piece2_num H p n) (fun p n => piece3_num H p n) (fun p n => piece4_num H p n) (fun p n => piece5_num H p n) (fun p n => piece6_num H p n) (fun p n => piece7_num H p n) (fun p n => piece8_num H p n) (fun p n => piece9_num H p n) (fun p n => piece10_num H p n) (fun p n => piece11_num H p n) (fun p n => piece12_num H p n) (fun p n => piece13_num H p n) (fun p n => piece14_num H p n) (fun p n => piece15_num H p n)

/-- A chunk in the middle. -/
theorem kept_B (hT : Tame (ins m c)) (t : Fin cfg0.N) (h : ¬ t.val % 16 = 0) (h' : ¬ t.val % 16 = 15) (p : Fin cfg0.N) (hp : p.val + 1 = t.val) (acc : Vec Ideal S1x128x1024 .bf16 × Vec Ideal S1x1024x128 .f32 × Vec Ideal S8x1536 .f32 × Vec Ideal S1024x128 .f32)
    (ha : Kept (m := m) (c := c) p acc) : Kept (m := m) (c := c) t (stAt0 m c t.val t.isLt acc) := by
  have he := before_later t h p hp acc.2.2.1 ha.u
  have hst : ∀ k n, acc.2.2.2 (ix2 k n) = stateOf (ins m c) siluT (sq t) (ck t) (head k) (num k) n := fun k n => by
    have e1 : sq p = sq t := Fin.ext (by show p.val / 16 = t.val / 16; omega)
    have e2 : ck p + 1 = ck t := by show p.val % 16 + 1 = t.val % 16; omega
    rw [ha.s, e1, e2]; rfl
  have H := holds hT t acc.2.2.1 he acc.2.2.2 hst
  rw [stAt0_B m c t acc h h h']
  refine ⟨fun r k => ?_, fun r k => ?_, ?_, fun q => absurd q h'⟩
  · dsimp only
    rw [out_B]
    exact out_num _ _ _ H (hd t) (hG t) (hw t) r k
  · dsimp only
    rw [ext_B]
    exact ext_at _ r k
  · dsimp only
    exact st_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc.2.2.1 acc.2.2.2 _ (fun p n => piece0_num H p n) (fun p n => piece1_num H p n) (fun p n => piece2_num H p n) (fun p n => piece3_num H p n) (fun p n => piece4_num H p n) (fun p n => piece5_num H p n) (fun p n => piece6_num H p n) (fun p n => piece7_num H p n) (fun p n => piece8_num H p n) (fun p n => piece9_num H p n) (fun p n => piece10_num H p n) (fun p n => piece11_num H p n) (fun p n => piece12_num H p n) (fun p n => piece13_num H p n) (fun p n => piece14_num H p n) (fun p n => piece15_num H p n)

/-- A sequence's last chunk. -/
theorem kept_C (hT : Tame (ins m c)) (t : Fin cfg0.N) (h : ¬ t.val % 16 = 0) (h' : t.val % 16 = 15) (p : Fin cfg0.N) (hp : p.val + 1 = t.val) (acc : Vec Ideal S1x128x1024 .bf16 × Vec Ideal S1x1024x128 .f32 × Vec Ideal S8x1536 .f32 × Vec Ideal S1024x128 .f32)
    (ha : Kept (m := m) (c := c) p acc) : Kept (m := m) (c := c) t (stAt0 m c t.val t.isLt acc) := by
  have he := before_later t h p hp acc.2.2.1 ha.u
  have hst : ∀ k n, acc.2.2.2 (ix2 k n) = stateOf (ins m c) siluT (sq t) (ck t) (head k) (num k) n := fun k n => by
    have e1 : sq p = sq t := Fin.ext (by show p.val / 16 = t.val / 16; omega)
    have e2 : ck p + 1 = ck t := by show p.val % 16 + 1 = t.val % 16; omega
    rw [ha.s, e1, e2]; rfl
  have H := holds hT t acc.2.2.1 he acc.2.2.2 hst
  rw [stAt0_C m c t acc h h h']
  refine ⟨fun r k => ?_, fun r k => ?_, ?_, fun _ => ?_⟩
  · dsimp only
    rw [out_C]
    exact out_num _ _ _ H (hd t) (hG t) (hw t) r k
  · dsimp only
    rw [ext_C]
    exact ext_at _ r k
  · dsimp only
    exact st_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc.2.2.1 acc.2.2.2 _ (fun p n => piece0_num H p n) (fun p n => piece1_num H p n) (fun p n => piece2_num H p n) (fun p n => piece3_num H p n) (fun p n => piece4_num H p n) (fun p n => piece5_num H p n) (fun p n => piece6_num H p n) (fun p n => piece7_num H p n) (fun p n => piece8_num H p n) (fun p n => piece9_num H p n) (fun p n => piece10_num H p n) (fun p n => piece11_num H p n) (fun p n => piece12_num H p n) (fun p n => piece13_num H p n) (fun p n => piece14_num H p n) (fun p n => piece15_num H p n)
  · dsimp only
    exact last_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc.2.2.1 acc.2.2.2 _ (fun p n => piece0_num H p n) (fun p n => piece1_num H p n) (fun p n => piece2_num H p n) (fun p n => piece3_num H p n) (fun p n => piece4_num H p n) (fun p n => piece5_num H p n) (fun p n => piece6_num H p n) (fun p n => piece7_num H p n) (fun p n => piece8_num H p n) (fun p n => piece9_num H p n) (fun p n => piece10_num H p n) (fun p n => piece11_num H p n) (fun p n => piece12_num H p n) (fun p n => piece13_num H p n) (fun p n => piece14_num H p n) (fun p n => piece15_num H p n)

/-- All points. -/
theorem kept (hT : Tame (ins m c)) : ∀ (n : ℕ) (hn : n < cfg0.N), Kept (m := m) (c := c) ⟨n, hn⟩ (outsAt0 m c n hn)
  | 0, hn => by rw [Cert.KernelIdeal.Value.outsAt0_zero]; exact kept_A hT ⟨0, hn⟩ (Nat.zero_mod _) _
  | n + 1, hn => by
    rw [Cert.KernelIdeal.Value.outsAt0_succ]
    have ih := kept hT n (Nat.lt_of_succ_lt hn)
    by_cases h : (n + 1) % 16 = 0
    · exact kept_A hT ⟨n + 1, hn⟩ h _
    · by_cases h' : (n + 1) % 16 = 15
      · exact kept_C hT ⟨n + 1, hn⟩ h h' ⟨n, Nat.lt_of_succ_lt hn⟩ rfl _ ih
      · exact kept_B hT ⟨n + 1, hn⟩ h h' ⟨n, Nat.lt_of_succ_lt hn⟩ rfl _ ih

end Layer.SsdFold
-- ==== Proof.SsdPre.lean ====
module

public import proofs.«01_k».proof.Proof.SsdReal
public import proofs.«01_k».proof.Proof.SsdFold
public import proofs.«01_k».proof.Pre_finite_inputs

/-!
# The precondition, read

The masks of `finite_inputs` all ones: the inputs it names are numbers.
-/

@[expose] public section
noncomputable section
namespace Layer.SsdPre
open Idealize.ShloMosaic Layer.Ssd

theorem top_bits : Ideal.ofBits FTy.f32 0x7F800000#32 = ⊤ := by simp [Ideal.ofBits, Ideal.ieee]

theorem num_of_mask {x : EReal} (h : FloatOps.cmpf (F := Ideal) (φ := FTy.f32) .olt (FloatOps.absf (F := Ideal) (φ := FTy.f32) x) (Ideal.ofBits FTy.f32 0x7F800000#32) = 1#1) : Num x := by
  rw [top_bits] at h
  refine num_of ?_
  by_contra hn
  have : FloatOps.cmpf (F := Ideal) (φ := FTy.f32) .olt (FloatOps.absf (F := Ideal) (φ := FTy.f32) x) (⊤ : EReal) = 0#1 := by
    show Ideal.cmp .olt _ _ = 0#1
    simp [Ideal.cmp, hn]
  rw [this] at h
  exact absurd h (by decide)

/-- The shape relations the precondition's operations take. -/
theorem facts : Cert.Pre_finite_inputs.Facts where
  bitsLt_bf16_f32 := by decide
  bcast_S_S8x2048x1536 := by decide
  bcast_S_S8x2048x1024 := by decide
  bcast_S_S8x2048x128 := by decide
  bcast_S_S8x3x1536 := by decide
  bcast_S_S4x1536 := by decide
  bcast_S_S1536 := by decide
  bcast_S_S16 := by decide

section
open Cert.Pre_finite_inputs
variable [Cert.Pre_finite_inputs.Facts]
variable (a0 : FVec Ideal S8x2048x1536 .bf16) (a1 : FVec Ideal S8x2048x1024 .bf16) (a2 : FVec Ideal S8x2048x128 .f32) (a3 : FVec Ideal S8x3x1536 .f32) (a4 : FVec Ideal S8x16x64x128 .f32) (a5 : FVec Ideal S4x1536 .f32) (a6 : FVec Ideal S1536 .f32) (a7 : FVec Ideal S16 .f32) (a8 : FVec Ideal S4 .f32) (a9 : FVec Ideal S4 .f32) (a10 : FVec Ideal S16 .f32) (a11 : FVec Ideal S16 .f32) (a12 : FVec Ideal S1024 .f32)

theorem num_x (H : (fn (F := Ideal) a0 a1 a2 a3 a4 a5 a6 a7 a8 a9 a10 a11 a12).1 = fun _ => 1#1) (b : Fin 8) (t : Fin 2048) (k : Fin 1536) : Num (a0 (ix3 b t k)) :=
  num_of_mask (congrFun H (ix3 b t k))
theorem num_z (H : (fn (F := Ideal) a0 a1 a2 a3 a4 a5 a6 a7 a8 a9 a10 a11 a12).2.1 = fun _ => 1#1) (b : Fin 8) (t : Fin 2048) (k : Fin 1024) : Num (a1 (ix3 b t k)) :=
  num_of_mask (congrFun H (ix3 b t k))
theorem num_sm (H : (fn (F := Ideal) a0 a1 a2 a3 a4 a5 a6 a7 a8 a9 a10 a11 a12).2.2.1 = fun _ => 1#1) (b : Fin 8) (t : Fin 2048) (k : Fin 128) : Num (a2 (ix3 b t k)) :=
  num_of_mask (congrFun H (ix3 b t k))
theorem num_cv (H : (fn (F := Ideal) a0 a1 a2 a3 a4 a5 a6 a7 a8 a9 a10 a11 a12).2.2.2.1 = fun _ => 1#1) (b : Fin 8) (t : Fin 3) (k : Fin 1536) : Num (a3 (ix3 b t k)) :=
  num_of_mask (congrFun H (ix3 b t k))
theorem num_w (H : (fn (F := Ideal) a0 a1 a2 a3 a4 a5 a6 a7 a8 a9 a10 a11 a12).2.2.2.2.1 = fun _ => 1#1) (j : Fin 4) (k : Fin 1536) : Num (a5 (ix2 j k)) :=
  num_of_mask (congrFun H (ix2 j k))
theorem num_cb (H : (fn (F := Ideal) a0 a1 a2 a3 a4 a5 a6 a7 a8 a9 a10 a11 a12).2.2.2.2.2.1 = fun _ => 1#1) (k : Fin 1536) : Num (a6 (ix1 k)) :=
  num_of_mask (congrFun H (ix1 k))
theorem num_tb (H : (fn (F := Ideal) a0 a1 a2 a3 a4 a5 a6 a7 a8 a9 a10 a11 a12).2.2.2.2.2.2.1 = fun _ => 1#1) (h : Fin 16) : Num (a7 (ix1 h)) :=
  num_of_mask (congrFun H (ix1 h))
theorem num_al (H : (fn (F := Ideal) a0 a1 a2 a3 a4 a5 a6 a7 a8 a9 a10 a11 a12).2.2.2.2.2.2.2 = fun _ => 1#1) (h : Fin 16) : Num (a10 (ix1 h)) :=
  num_of_mask (congrFun H (ix1 h))
end

end Layer.SsdPre
-- ==== Proof.SsdEntry.lean ====
module

public import proofs.«01_k».proof.Proof.SsdLoop
public import proofs.«01_k».proof.Proof.SsdAll
public import proofs.«01_k».proof.Proof.SsdRead

/-!
# The plain program of the recurrence, line by line

What each group of its lines leaves, of what the group is given.
-/

@[expose] public section
set_option maxRecDepth 16384
noncomputable section
namespace Layer.SsdEntry
open Idealize.ShloMosaic Idealize.ShloMosaic.TcCoe Idealize.SL.Sem Idealize.ShloMosaic.StableHlo
open Cert.ReferenceIdeal Cert.ReferenceIdeal.Gen Cert.ReferenceIdeal.Value

/-- A cell of an array of numbers. -/
abbrev rd {s : Shape} {φ : FTy} (x : FVec Ideal s φ) (i : s.Idx) : EReal := x i

variable (X : Valuation τ sig (Elt Ideal))

/-- Row `d` of the four rows that end at row `t`: of the rows before the sequence, or of the sequence. -/
def back (b : Fin 8) (d : Nat) (t : Fin 2048) (k : Fin 1536) (hd : d < 3) : EReal :=
  if h : d + t.val < 3 then rd (s := S8x3x1536) (φ := .f32) (X (Proc.devRef .tc main_arg3)) (ix3 b ⟨d + t.val, h⟩ k)
  else rd (s := S8x2048x1536) (φ := .bf16) (X (Proc.devRef .tc main_arg0)) (ix3 b ⟨d + t.val - 3, by omega⟩ k)

theorem back_pos (b : Fin 8) (d : Nat) (t : Fin 2048) (k : Fin 1536) (hd : d < 3) (h : d + t.val < 3) :
    back X b d t k hd = rd (s := S8x3x1536) (φ := .f32) (X (Proc.devRef .tc main_arg3)) (ix3 b ⟨d + t.val, h⟩ k) := dif_pos h
theorem back_neg (b : Fin 8) (d : Nat) (t : Fin 2048) (k : Fin 1536) (hd : d < 3) (h : ¬ d + t.val < 3) :
    back X b d t k hd = rd (s := S8x2048x1536) (φ := .bf16) (X (Proc.devRef .tc main_arg0)) (ix3 b ⟨d + t.val - 3, by omega⟩ k) := dif_neg h
theorem back_zero (b : Fin 8) (t : Fin 2048) (k : Fin 1536) (hd : 0 < 3) :
    back X b 0 t k hd = if h : t.val < 3 then rd (s := S8x3x1536) (φ := .f32) (X (Proc.devRef .tc main_arg3)) (ix3 b ⟨t.val, h⟩ k) else rd (s := S8x2048x1536) (φ := .bf16) (X (Proc.devRef .tc main_arg0)) (ix3 b ⟨t.val - 3, by omega⟩ k) := by
  by_cases h : t.val < 3
  · rw [back_pos X b 0 t k hd (by omega), dif_pos h]
    exact congrArg (fun i : Fin 3 => rd (s := S8x3x1536) (φ := .f32) (X (Proc.devRef .tc main_arg3)) (ix3 b i k)) (Fin.ext (Nat.zero_add _))
  · rw [back_neg X b 0 t k hd (by omega), dif_neg h]
    exact congrArg (fun i : Fin 2048 => rd (s := S8x2048x1536) (φ := .bf16) (X (Proc.devRef .tc main_arg0)) (ix3 b i k)) (Fin.ext (by show 0 + t.val - 3 = t.val - 3; omega))

theorem v31_at (b : Fin 8) (t : Fin 2048) (k : Fin 1536) :
    rd (s := S8x2048x1536) (φ := .f32) (after hostOps0 X (Proc.devRef .tc main_v31)) (ix3 b t k) = rd (s := S1536) (φ := .f32) (X (Proc.devRef .tc main_arg6)) (ix1 k) + back X b 0 t k (by decide) * rd (s := S4x1536) (φ := .f32) (X (Proc.devRef .tc main_arg5)) (ix2 0 k) + back X b 1 t k (by decide) * rd (s := S4x1536) (φ := .f32) (X (Proc.devRef .tc main_arg5)) (ix2 1 k) + back X b 2 t k (by decide) * rd (s := S4x1536) (φ := .f32) (X (Proc.devRef .tc main_arg5)) (ix2 2 k) + rd (s := S8x2048x1536) (φ := .bf16) (X (Proc.devRef .tc main_arg0)) (ix3 b t k) * rd (s := S4x1536) (φ := .f32) (X (Proc.devRef .tc main_arg5)) (ix2 3 k) := by
  unfold rd
  after_results_simp
  (try pointwise)
  (try after_results_simp)
  (try simp -implicitDefEqProofs only [StableHlo.TRef.toBuf, StableHlo.TRef.ofBuf, cast_cast, cast_eq])
  (try pointwise)
  (try simp only [id_eq])
  (try pointwise)
  rw [back_zero]
  rfl

theorem v32_at (b : Fin 8) (t : Fin 2048) (k : Fin 1536) :
    rd (s := S8x2048x1536) (φ := .f32) (after hostOps0_1 X (Proc.devRef .tc main_v32)) (ix3 b t k) = Ssd.silu (rd (s := S8x2048x1536) (φ := .f32) (X (Proc.devRef .tc main_v31)) (ix3 b t k)) := by
  unfold rd
  after_results_simp
  (try pointwise)
  (try after_results_simp)
  (try simp -implicitDefEqProofs only [StableHlo.TRef.toBuf, StableHlo.TRef.ofBuf, cast_cast, cast_eq])
  (try pointwise)
  (try simp only [id_eq])
  (try pointwise)
  rfl

theorem v33_at (b : Fin 8) (t : Fin 2048) (k : Fin 1024) :
    rd (s := S8x2048x1024) (φ := .f32) (after hostOps0_2 X (Proc.devRef .tc main_v33)) (ix3 b t k) = rd (s := S8x2048x1536) (φ := .f32) (X (Proc.devRef .tc main_v32)) (ix3 b t ⟨k.val, by omega⟩) := by
  unfold rd
  after_results_simp
  (try pointwise)
  (try after_results_simp)
  (try simp -implicitDefEqProofs only [StableHlo.TRef.toBuf, StableHlo.TRef.ofBuf, cast_cast, cast_eq])
  (try pointwise)
  (try simp only [id_eq])
  (try pointwise)

theorem v35_at (b : Fin 8) (t : Fin 2048) (g : Fin 2) (n : Fin 128) :
    rd (s := S8x2048x2x128) (φ := .f32) (after hostOps0_2 X (Proc.devRef .tc main_v35)) (ix4 b t g n) = rd (s := S8x2048x1536) (φ := .f32) (X (Proc.devRef .tc main_v32)) (ix3 b t (Ssd.bcol g n)) := by
  unfold rd
  after_results_simp
  (try pointwise)
  (try after_results_simp)
  (try simp -implicitDefEqProofs only [StableHlo.TRef.toBuf, StableHlo.TRef.ofBuf, cast_cast, cast_eq])
  (try pointwise)
  (try simp only [id_eq])
  (try pointwise)
  refine congrArg (fun i : Fin 1536 => rd (s := S8x2048x1536) (φ := .f32) (X (Proc.devRef .tc main_v32)) (ix3 b t i)) (Fin.ext ?_)
  show 1024 + (g.val * 128 + n.val) = (Ssd.bcol g n).val
  unfold Ssd.bcol
  dsimp only
  omega

theorem v37_at (b : Fin 8) (t : Fin 2048) (g : Fin 2) (n : Fin 128) :
    rd (s := S8x2048x2x128) (φ := .f32) (after hostOps0_2 X (Proc.devRef .tc main_v37)) (ix4 b t g n) = rd (s := S8x2048x1536) (φ := .f32) (X (Proc.devRef .tc main_v32)) (ix3 b t (Ssd.ccol g n)) := by
  unfold rd
  after_results_simp
  (try pointwise)
  (try after_results_simp)
  (try simp -implicitDefEqProofs only [StableHlo.TRef.toBuf, StableHlo.TRef.ofBuf, cast_cast, cast_eq])
  (try pointwise)
  (try simp only [id_eq])
  (try pointwise)
  refine congrArg (fun i : Fin 1536 => rd (s := S8x2048x1536) (φ := .f32) (X (Proc.devRef .tc main_v32)) (ix3 b t i)) (Fin.ext ?_)
  show 1280 + (g.val * 128 + n.val) = (Ssd.ccol g n).val
  unfold Ssd.ccol
  dsimp only
  omega

theorem v41_at (b : Fin 8) (t : Fin 2048) (h : Fin 16) :
    rd (s := S8x2048x16) (φ := .f32) (after hostOps0_2 X (Proc.devRef .tc main_v41)) (ix3 b t h) = rd (s := S8x2048x128) (φ := .f32) (X (Proc.devRef .tc main_arg2)) (ix3 b t ⟨h.val, by omega⟩) + rd (s := S16) (φ := .f32) (X (Proc.devRef .tc main_arg7)) (ix1 h) := by
  unfold rd
  after_results_simp
  (try pointwise)
  (try after_results_simp)
  (try simp -implicitDefEqProofs only [StableHlo.TRef.toBuf, StableHlo.TRef.ofBuf, cast_cast, cast_eq])
  (try pointwise)
  (try simp only [id_eq])
  (try pointwise)

theorem v42_at (b : Fin 8) (t : Fin 2048) (h : Fin 16) :
    rd (s := S8x2048x16) (φ := .f32) (after hostOps0_3 X (Proc.devRef .tc main_v42)) (ix3 b t h) = Ssd.softplus (rd (s := S8x2048x16) (φ := .f32) (X (Proc.devRef .tc main_v41)) (ix3 b t h)) := by
  unfold rd
  after_results_simp
  (try pointwise)
  (try after_results_simp)
  (try simp -implicitDefEqProofs only [StableHlo.TRef.toBuf, StableHlo.TRef.ofBuf, cast_cast, cast_eq])
  (try pointwise)
  (try simp only [id_eq])
  (try pointwise)
  refine (if_neg (not_not.mpr rfl)).trans ?_
  unfold Ssd.softplus Ideal.log1p
  rw [zero_sub]

theorem v45_at (g : Fin 2) (h : Fin 8) :
    rd (s := S2x8) (φ := .f32) (after hostOps0_4 X (Proc.devRef .tc main_v45)) (ix2 g h) = -Ideal.exp (rd (s := S16) (φ := .f32) (X (Proc.devRef .tc main_arg10)) (ix1 ⟨8 * g.val + h.val, by omega⟩)) := by
  unfold rd
  after_results_simp
  (try pointwise)
  (try after_results_simp)
  (try simp -implicitDefEqProofs only [StableHlo.TRef.toBuf, StableHlo.TRef.ofBuf, cast_cast, cast_eq])
  (try pointwise)
  (try simp only [id_eq])
  (try pointwise)
  refine congrArg (fun i : Fin 16 => -Ideal.exp (rd (s := S16) (φ := .f32) (X (Proc.devRef .tc main_arg10)) (ix1 i))) (Fin.ext ?_)
  show g.val * 8 + h.val = 8 * g.val + h.val
  omega

theorem v46_at (b : Fin 8) (t : Fin 2048) (h : Fin 16) (p : Fin 64) :
    rd (s := S8x2048x16x64) (φ := .f32) (after hostOps0_4 X (Proc.devRef .tc main_v46)) (ix4 b t h p) = rd (s := S8x2048x1024) (φ := .f32) (X (Proc.devRef .tc main_v33)) (ix3 b t (Ssd.col h p)) := by
  unfold rd
  after_results_simp
  (try pointwise)
  (try after_results_simp)
  (try simp -implicitDefEqProofs only [StableHlo.TRef.toBuf, StableHlo.TRef.ofBuf, cast_cast, cast_eq])
  (try pointwise)
  (try simp only [id_eq])
  (try pointwise)
  refine congrArg (fun i : Fin 1024 => rd (s := S8x2048x1024) (φ := .f32) (X (Proc.devRef .tc main_v33)) (ix3 b t i)) (Fin.ext ?_)
  show h.val * 64 + p.val = (Ssd.col h p).val
  unfold Ssd.col
  dsimp only
  omega

theorem v47_at (t s : Fin 128) :
    (after hostOps0_4 X (Proc.devRef .tc main_v47) : IVec S128x128 1) (ix2 t s) = 1#1 := by
  after_results_simp
  (try pointwise)
  (try after_results_simp)
  (try simp -implicitDefEqProofs only [StableHlo.TRef.toBuf, StableHlo.TRef.ofBuf, cast_cast, cast_eq])
  (try pointwise)
  (try simp only [id_eq])
  (try pointwise)

theorem v48_at (h : ∀ t s : Fin 128, (X (Proc.devRef .tc main_v47) : IVec S128x128 1) (ix2 t s) = 1#1) (t s : Fin 128) :
    (after hostOps0_5 X (Proc.devRef .tc main_v48) : IVec S128x128 1) (ix2 t s) = if s ≤ t then 1#1 else 0#1 := by
  after_results_simp
  (try pointwise)
  (try after_results_simp)
  (try simp -implicitDefEqProofs only [StableHlo.TRef.toBuf, StableHlo.TRef.ofBuf, cast_cast, cast_eq])
  (try pointwise)
  (try simp only [id_eq])
  (try pointwise)
  rw [show IntOp.addi (BitVec.ofNat 32 t.val) 0#32 = BitVec.ofNat 32 t.val from BitVec.add_zero _]
  refine (SsdBody.sel_mask t s _ _).trans ?_
  rw [h t s]

theorem s0_at (k : Fin 16) (b : Fin 8) (t : Fin 128) (g : Fin 2) (h : Fin 8) (p : Fin 64) :
    rd (s := S16x8x128x2x8x64) (φ := .f32) (after hostOps0_6 X (Proc.devRef .tc main_v62_0)) (ix6 k b t g h p) = rd (s := S8x2048x16x64) (φ := .f32) (X (Proc.devRef .tc main_v46)) (ix4 b ⟨128 * k.val + t.val, by omega⟩ ⟨8 * g.val + h.val, by omega⟩ p) := by
  unfold rd
  after_results_simp
  (try pointwise)
  (try after_results_simp)
  (try simp -implicitDefEqProofs only [StableHlo.TRef.toBuf, StableHlo.TRef.ofBuf, cast_cast, cast_eq])
  (try pointwise)
  (try simp only [id_eq])
  (try pointwise)
  have e : (⟨k.val * 128 + t.val, by omega⟩ : Fin 2048) = ⟨128 * k.val + t.val, by omega⟩ := Fin.ext (by show k.val * 128 + t.val = 128 * k.val + t.val; omega)
  have e' : (⟨g.val * 8 + h.val, by omega⟩ : Fin 16) = ⟨8 * g.val + h.val, by omega⟩ := Fin.ext (by show g.val * 8 + h.val = 8 * g.val + h.val; omega)
  rw [e, e']

theorem s1_at (k : Fin 16) (b : Fin 8) (t : Fin 128) (g : Fin 2) (h : Fin 8) :
    rd (s := S16x8x128x2x8) (φ := .f32) (after hostOps0_6 X (Proc.devRef .tc main_v62_1)) (ix5 k b t g h) = rd (s := S8x2048x16) (φ := .f32) (X (Proc.devRef .tc main_v42)) (ix3 b ⟨128 * k.val + t.val, by omega⟩ ⟨8 * g.val + h.val, by omega⟩) := by
  unfold rd
  after_results_simp
  (try pointwise)
  (try after_results_simp)
  (try simp -implicitDefEqProofs only [StableHlo.TRef.toBuf, StableHlo.TRef.ofBuf, cast_cast, cast_eq])
  (try pointwise)
  (try simp only [id_eq])
  (try pointwise)
  have e : (⟨k.val * 128 + t.val, by omega⟩ : Fin 2048) = ⟨128 * k.val + t.val, by omega⟩ := Fin.ext (by show k.val * 128 + t.val = 128 * k.val + t.val; omega)
  have e' : (⟨g.val * 8 + h.val, by omega⟩ : Fin 16) = ⟨8 * g.val + h.val, by omega⟩ := Fin.ext (by show g.val * 8 + h.val = 8 * g.val + h.val; omega)
  rw [e, e']

theorem s2_at (k : Fin 16) (b : Fin 8) (t : Fin 128) (g : Fin 2) (n : Fin 128) :
    rd (s := S16x8x128x2x128) (φ := .f32) (after hostOps0_6 X (Proc.devRef .tc main_v62_2)) (ix5 k b t g n) = rd (s := S8x2048x2x128) (φ := .f32) (X (Proc.devRef .tc main_v35)) (ix4 b ⟨128 * k.val + t.val, by omega⟩ g n) := by
  unfold rd
  after_results_simp
  (try pointwise)
  (try after_results_simp)
  (try simp -implicitDefEqProofs only [StableHlo.TRef.toBuf, StableHlo.TRef.ofBuf, cast_cast, cast_eq])
  (try pointwise)
  (try simp only [id_eq])
  (try pointwise)
  refine congrArg (fun i : Fin 2048 => rd (s := S8x2048x2x128) (φ := .f32) (X (Proc.devRef .tc main_v35)) (ix4 b i g n)) (Fin.ext ?_)
  show k.val * 128 + t.val = 128 * k.val + t.val
  omega

theorem s3_at (k : Fin 16) (b : Fin 8) (t : Fin 128) (g : Fin 2) (n : Fin 128) :
    rd (s := S16x8x128x2x128) (φ := .f32) (after hostOps0_6 X (Proc.devRef .tc main_v62_3)) (ix5 k b t g n) = rd (s := S8x2048x2x128) (φ := .f32) (X (Proc.devRef .tc main_v37)) (ix4 b ⟨128 * k.val + t.val, by omega⟩ g n) := by
  unfold rd
  after_results_simp
  (try pointwise)
  (try after_results_simp)
  (try simp -implicitDefEqProofs only [StableHlo.TRef.toBuf, StableHlo.TRef.ofBuf, cast_cast, cast_eq])
  (try pointwise)
  (try simp only [id_eq])
  (try pointwise)
  refine congrArg (fun i : Fin 2048 => rd (s := S8x2048x2x128) (φ := .f32) (X (Proc.devRef .tc main_v37)) (ix4 b i g n)) (Fin.ext ?_)
  show k.val * 128 + t.val = 128 * k.val + t.val
  omega

theorem s4_at (g : Fin 2) (h : Fin 8) :
    rd (s := S2x8) (φ := .f32) (after hostOps0_6 X (Proc.devRef .tc main_v62_4)) (ix2 g h) = rd (s := S2x8) (φ := .f32) (X (Proc.devRef .tc main_v45)) (ix2 g h) := by
  unfold rd
  after_results_simp
  (try pointwise)
  (try after_results_simp)
  (try simp -implicitDefEqProofs only [StableHlo.TRef.toBuf, StableHlo.TRef.ofBuf, cast_cast, cast_eq])
  (try pointwise)
  (try simp only [id_eq])
  (try pointwise)

theorem s5_at (t s : Fin 128) :
    (after hostOps0_6 X (Proc.devRef .tc main_v62_5) : IVec S1x128x128x1x1 1) (ix5 0 t s 0 0) = (X (Proc.devRef .tc main_v48) : IVec S128x128 1) (ix2 t s) := by
  after_results_simp
  (try pointwise)
  (try after_results_simp)
  (try simp -implicitDefEqProofs only [StableHlo.TRef.toBuf, StableHlo.TRef.ofBuf, cast_cast, cast_eq])
  (try pointwise)
  (try simp only [id_eq])
  (try pointwise)

theorem s7_at (b : Fin 8) (g : Fin 2) (h : Fin 8) (p : Fin 64) (n : Fin 128) :
    rd (s := S8x2x8x64x128) (φ := .f32) (after hostOps0_6 X (Proc.devRef .tc main_v62_7)) (ix5 b g h p n) = rd (s := S8x16x64x128) (φ := .f32) (X (Proc.devRef .tc main_arg4)) (ix4 b ⟨8 * g.val + h.val, by omega⟩ p n) := by
  unfold rd
  after_results_simp
  (try pointwise)
  (try after_results_simp)
  (try simp -implicitDefEqProofs only [StableHlo.TRef.toBuf, StableHlo.TRef.ofBuf, cast_cast, cast_eq])
  (try pointwise)
  (try simp only [id_eq])
  (try pointwise)
  refine congrArg (fun i : Fin 16 => rd (s := S8x16x64x128) (φ := .f32) (X (Proc.devRef .tc main_arg4)) (ix4 b i p n)) (Fin.ext ?_)
  show g.val * 8 + h.val = 8 * g.val + h.val
  omega

theorem v70_at (b : Fin 8) (t : Fin 2048) (k : Fin 1024) :
    rd (s := S8x2048x1024) (φ := .f32) (after hostOps0_7 X (Proc.devRef .tc main_v70)) (ix3 b t k) = rd (s := S16x8x128x2x8x64) (φ := .f32) (X (Proc.devRef .tc main_v62_8)) (ix6 ⟨t.val / 128, by omega⟩ b ⟨t.val % 128, by omega⟩ ⟨k.val / 64 / 8, by omega⟩ ⟨k.val / 64 % 8, by omega⟩ ⟨k.val % 64, by omega⟩) + rd (s := S16) (φ := .f32) (X (Proc.devRef .tc main_arg11)) (ix1 (Ssd.head k)) * rd (s := S8x2048x16x64) (φ := .f32) (X (Proc.devRef .tc main_v46)) (ix4 b t (Ssd.head k) (Ssd.num k)) := by
  unfold rd
  after_results_simp
  (try pointwise)
  (try after_results_simp)
  (try simp -implicitDefEqProofs only [StableHlo.TRef.toBuf, StableHlo.TRef.ofBuf, cast_cast, cast_eq])
  (try pointwise)
  (try simp only [id_eq])
  (try pointwise)

theorem v71_at (b : Fin 8) (t : Fin 2048) (k : Fin 1024) :
    rd (s := S8x2048x1024) (φ := .f32) (after hostOps0_7 X (Proc.devRef .tc main_v71)) (ix3 b t k) = rd (s := S8x2048x1024) (φ := .bf16) (X (Proc.devRef .tc main_arg1)) (ix3 b t k) := by
  unfold rd
  after_results_simp
  (try pointwise)
  (try after_results_simp)
  (try simp -implicitDefEqProofs only [StableHlo.TRef.toBuf, StableHlo.TRef.ofBuf, cast_cast, cast_eq])
  (try pointwise)
  (try simp only [id_eq])
  (try pointwise)

theorem v72_at (b : Fin 8) (t : Fin 2048) (k : Fin 1024) :
    rd (s := S8x2048x1024) (φ := .f32) (after hostOps0_8 X (Proc.devRef .tc main_v72)) (ix3 b t k) = Ssd.silu (rd (s := S8x2048x1024) (φ := .f32) (X (Proc.devRef .tc main_v71)) (ix3 b t k)) := by
  unfold rd
  after_results_simp
  (try pointwise)
  (try after_results_simp)
  (try simp -implicitDefEqProofs only [StableHlo.TRef.toBuf, StableHlo.TRef.ofBuf, cast_cast, cast_eq])
  (try pointwise)
  (try simp only [id_eq])
  (try pointwise)
  rfl

theorem v89_at (b : Fin 8) (t : Fin 2048) (k : Fin 1024) :
    rd (s := S8x2048x1024) (φ := .bf16) (after hostOps0_9 X (Proc.devRef .tc main_v89)) (ix3 b t k) = ((rd (s := S8x2048x1024) (φ := .f32) (X (Proc.devRef .tc main_v70)) (ix3 b t k) * rd (s := S8x2048x1024) (φ := .f32) (X (Proc.devRef .tc main_v72)) (ix3 b t k)) * Ideal.rsqrt (Ideal.div (∑ j : Fin 512, (rd (s := S8x2048x1024) (φ := .f32) (X (Proc.devRef .tc main_v70)) (ix3 b t ⟨512 * (k.val / 512) + j.val, by omega⟩) * rd (s := S8x2048x1024) (φ := .f32) (X (Proc.devRef .tc main_v72)) (ix3 b t ⟨512 * (k.val / 512) + j.val, by omega⟩)) * (rd (s := S8x2048x1024) (φ := .f32) (X (Proc.devRef .tc main_v70)) (ix3 b t ⟨512 * (k.val / 512) + j.val, by omega⟩) * rd (s := S8x2048x1024) (φ := .f32) (X (Proc.devRef .tc main_v72)) (ix3 b t ⟨512 * (k.val / 512) + j.val, by omega⟩))) (Ideal.ofBits FTy.f32 0x44000000#32) + Ideal.ofBits FTy.f32 0x3727C5AC#32) * rd (s := S1024) (φ := .f32) (X (Proc.devRef .tc main_arg12)) (ix1 k)) := by
  unfold rd
  after_results_simp
  (try pointwise)
  (try after_results_simp)
  (try simp -implicitDefEqProofs only [StableHlo.TRef.toBuf, StableHlo.TRef.ofBuf, cast_cast, cast_eq])
  (try pointwise)
  (try simp only [id_eq])
  (try pointwise)
  have e : (⟨k.val / 512 * 512 + k.val % 512, by omega⟩ : Fin 1024) = k := Fin.ext (Nat.div_add_mod' _ _)
  have e' : ∀ j : Fin 512, (⟨k.val / 512 * 512 + j.val, by omega⟩ : Fin 1024) = ⟨512 * (k.val / 512) + j.val, by omega⟩ := fun j => Fin.ext (by show k.val / 512 * 512 + j.val = 512 * (k.val / 512) + j.val; omega)
  simp only [e, e']

theorem v90_at (b : Fin 8) (r : Fin 1024) (n : Fin 128) :
    rd (s := S8x1024x128) (φ := .f32) (after hostOps0_9 X (Proc.devRef .tc main_v90)) (ix3 b r n) = rd (s := S8x2x8x64x128) (φ := .f32) (X (Proc.devRef .tc main_v62_7)) (ix5 b ⟨r.val / 512, by omega⟩ ⟨r.val / 64 % 8, by omega⟩ ⟨r.val % 64, by omega⟩ n) := by
  unfold rd
  after_results_simp
  (try pointwise)
  (try after_results_simp)
  (try simp -implicitDefEqProofs only [StableHlo.TRef.toBuf, StableHlo.TRef.ofBuf, cast_cast, cast_eq])
  (try pointwise)
  (try simp only [id_eq])
  (try pointwise)

end Layer.SsdEntry
-- ==== Proof.SsdStep.lean ====
module

public import proofs.«01_k».proof.Proof.Gen.ReferenceIdeal.Run
public import Idealize.ShloMosaic.Lib.Pointwise
public import proofs.«01_k».proof.Proof.Ssd

/-!
# One trip of the plain program's loop

What one chunk's trip reads and what it leaves, entry by entry.
-/

@[expose] public section
set_option maxRecDepth 16384
noncomputable section
namespace Layer.SsdStep
open Idealize.ShloMosaic Idealize.ShloMosaic.TcCoe Idealize.SL.Sem Idealize.ShloMosaic.StableHlo
open Cert.ReferenceIdeal Cert.ReferenceIdeal.Gen Cert.ReferenceIdeal.Value

/-- The trip's number as a start, read signed. -/
theorem start_at : ∀ k : Fin 16, (Scf.iv 0#32 1#32 k.val : BitVec 32).toInt = (k.val : Int) := by decide

/-- An entry of the sequence of chunks after one of them is written. -/
theorem upd_at (k : Nat) (hk : k < 16) (X : FVec Ideal S16x8x128x2x8x64 .f32) (U : FVec Ideal S1x8x128x2x8x64 .f32) (st : Fin 6 → Int)
    (h0 : st 0 = k) (h1 : st 1 = 0) (h2 : st 2 = 0) (h3 : st 3 = 0) (h4 : st 4 = 0) (h5 : st 5 = 0)
    (c : Fin 16) (b : Fin 8) (t : Fin 128) (g : Fin 2) (h : Fin 8) (p : Fin 64) :
    Host.dynamicUpdateSlice X U st updateFits_S16x8x128x2x8x64_S1x8x128x2x8x64 (ix6 c b t g h p) = if c.val = k then U (ix6 0 b t g h p) else X (ix6 c b t g h p) := by
  have e0 : ∀ q, Host.clampedStart S16x8x128x2x8x64 S1x8x128x2x8x64 q st 0 = k := fun q => Host.clampedStart_of_le _ _ _ _ h0 (by show k + 1 ≤ 16; omega)
  have e1 : ∀ q, Host.clampedStart S16x8x128x2x8x64 S1x8x128x2x8x64 q st 1 = 0 := fun q => Host.clampedStart_of_le _ _ _ _ h1 (by show 0 + 8 ≤ 8; omega)
  have e2 : ∀ q, Host.clampedStart S16x8x128x2x8x64 S1x8x128x2x8x64 q st 2 = 0 := fun q => Host.clampedStart_of_le _ _ _ _ h2 (by show 0 + 128 ≤ 128; omega)
  have e3 : ∀ q, Host.clampedStart S16x8x128x2x8x64 S1x8x128x2x8x64 q st 3 = 0 := fun q => Host.clampedStart_of_le _ _ _ _ h3 (by show 0 + 2 ≤ 2; omega)
  have e4 : ∀ q, Host.clampedStart S16x8x128x2x8x64 S1x8x128x2x8x64 q st 4 = 0 := fun q => Host.clampedStart_of_le _ _ _ _ h4 (by show 0 + 8 ≤ 8; omega)
  have e5 : ∀ q, Host.clampedStart S16x8x128x2x8x64 S1x8x128x2x8x64 q st 5 = 0 := fun q => Host.clampedStart_of_le _ _ _ _ h5 (by show 0 + 64 ≤ 64; omega)
  pointwise
  simp only [e0, e1, e2, e3, e4, e5]
  by_cases hck : c.val = k
  · rw [if_pos hck, dif_pos (by omega)]
    refine congrArg U ?_
    congr 1
    exact Fin.ext (by show c.val - k = 0; omega)
  · rw [if_neg hck, dif_neg (by omega)]

/-- A chunk cut out of a sequence of chunks. -/
theorem cut6 (k : Fin 16) (X : FVec Ideal S16x8x128x2x8x64 .f32) (st : Fin 6 → Int) (h0 : st 0 = k.val) (h1 : st 1 = 0) (h2 : st 2 = 0) (h3 : st 3 = 0) (h4 : st 4 = 0) (h5 : st 5 = 0) (b : Fin 8) (t : Fin 128) (g : Fin 2) (h : Fin 8) (p : Fin 64) :
    shapeCast S8x128x2x8x64 (Host.dynamicSlice S1x8x128x2x8x64 X st sliceFits_S16x8x128x2x8x64_S1x8x128x2x8x64) shapeCasts_S1x8x128x2x8x64_S8x128x2x8x64 (ix5 b t g h p) = X (ix6 k b t g h p) := by
  have e0 : ∀ q, Host.clampedStart S16x8x128x2x8x64 S1x8x128x2x8x64 q st 0 = k.val := fun q => Host.clampedStart_of_le _ _ _ _ h0 (by show k.val + 1 ≤ 16; omega)
  have e1 : ∀ q, Host.clampedStart S16x8x128x2x8x64 S1x8x128x2x8x64 q st 1 = 0 := fun q => Host.clampedStart_of_le _ _ _ _ h1 (by show 0 + 8 ≤ 8; omega)
  have e2 : ∀ q, Host.clampedStart S16x8x128x2x8x64 S1x8x128x2x8x64 q st 2 = 0 := fun q => Host.clampedStart_of_le _ _ _ _ h2 (by show 0 + 128 ≤ 128; omega)
  have e3 : ∀ q, Host.clampedStart S16x8x128x2x8x64 S1x8x128x2x8x64 q st 3 = 0 := fun q => Host.clampedStart_of_le _ _ _ _ h3 (by show 0 + 2 ≤ 2; omega)
  have e4 : ∀ q, Host.clampedStart S16x8x128x2x8x64 S1x8x128x2x8x64 q st 4 = 0 := fun q => Host.clampedStart_of_le _ _ _ _ h4 (by show 0 + 8 ≤ 8; omega)
  have e5 : ∀ q, Host.clampedStart S16x8x128x2x8x64 S1x8x128x2x8x64 q st 5 = 0 := fun q => Host.clampedStart_of_le _ _ _ _ h5 (by show 0 + 64 ≤ 64; omega)
  pointwise
  simp only [e0, e1, e2, e3, e4, e5]
  refine congrArg X ?_
  congr 1 <;> first | rfl | exact Fin.ext (Nat.zero_add _)

/-- A chunk cut out of a sequence of chunks. -/
theorem cut5 (k : Fin 16) (X : FVec Ideal S16x8x128x2x8 .f32) (st : Fin 5 → Int) (h0 : st 0 = k.val) (h1 : st 1 = 0) (h2 : st 2 = 0) (h3 : st 3 = 0) (h4 : st 4 = 0) (b : Fin 8) (t : Fin 128) (g : Fin 2) (h : Fin 8) :
    shapeCast S8x128x2x8 (Host.dynamicSlice S1x8x128x2x8 X st sliceFits_S16x8x128x2x8_S1x8x128x2x8) shapeCasts_S1x8x128x2x8_S8x128x2x8 (ix4 b t g h) = X (ix5 k b t g h) := by
  have e0 : ∀ q, Host.clampedStart S16x8x128x2x8 S1x8x128x2x8 q st 0 = k.val := fun q => Host.clampedStart_of_le _ _ _ _ h0 (by show k.val + 1 ≤ 16; omega)
  have e1 : ∀ q, Host.clampedStart S16x8x128x2x8 S1x8x128x2x8 q st 1 = 0 := fun q => Host.clampedStart_of_le _ _ _ _ h1 (by show 0 + 8 ≤ 8; omega)
  have e2 : ∀ q, Host.clampedStart S16x8x128x2x8 S1x8x128x2x8 q st 2 = 0 := fun q => Host.clampedStart_of_le _ _ _ _ h2 (by show 0 + 128 ≤ 128; omega)
  have e3 : ∀ q, Host.clampedStart S16x8x128x2x8 S1x8x128x2x8 q st 3 = 0 := fun q => Host.clampedStart_of_le _ _ _ _ h3 (by show 0 + 2 ≤ 2; omega)
  have e4 : ∀ q, Host.clampedStart S16x8x128x2x8 S1x8x128x2x8 q st 4 = 0 := fun q => Host.clampedStart_of_le _ _ _ _ h4 (by show 0 + 8 ≤ 8; omega)
  pointwise
  simp only [e0, e1, e2, e3, e4]
  refine congrArg X ?_
  congr 1 <;> first | rfl | exact Fin.ext (Nat.zero_add _)

/-- A chunk cut out of a sequence of chunks. -/
theorem cut5n (k : Fin 16) (X : FVec Ideal S16x8x128x2x128 .f32) (st : Fin 5 → Int) (h0 : st 0 = k.val) (h1 : st 1 = 0) (h2 : st 2 = 0) (h3 : st 3 = 0) (h4 : st 4 = 0) (b : Fin 8) (t : Fin 128) (g : Fin 2) (n : Fin 128) :
    shapeCast S8x128x2x128 (Host.dynamicSlice S1x8x128x2x128 X st sliceFits_S16x8x128x2x128_S1x8x128x2x128) shapeCasts_S1x8x128x2x128_S8x128x2x128 (ix4 b t g n) = X (ix5 k b t g n) := by
  have e0 : ∀ q, Host.clampedStart S16x8x128x2x128 S1x8x128x2x128 q st 0 = k.val := fun q => Host.clampedStart_of_le _ _ _ _ h0 (by show k.val + 1 ≤ 16; omega)
  have e1 : ∀ q, Host.clampedStart S16x8x128x2x128 S1x8x128x2x128 q st 1 = 0 := fun q => Host.clampedStart_of_le _ _ _ _ h1 (by show 0 + 8 ≤ 8; omega)
  have e2 : ∀ q, Host.clampedStart S16x8x128x2x128 S1x8x128x2x128 q st 2 = 0 := fun q => Host.clampedStart_of_le _ _ _ _ h2 (by show 0 + 128 ≤ 128; omega)
  have e3 : ∀ q, Host.clampedStart S16x8x128x2x128 S1x8x128x2x128 q st 3 = 0 := fun q => Host.clampedStart_of_le _ _ _ _ h3 (by show 0 + 2 ≤ 2; omega)
  have e4 : ∀ q, Host.clampedStart S16x8x128x2x128 S1x8x128x2x128 q st 4 = 0 := fun q => Host.clampedStart_of_le _ _ _ _ h4 (by show 0 + 128 ≤ 128; omega)
  pointwise
  simp only [e0, e1, e2, e3, e4]
  refine congrArg X ?_
  congr 1 <;> first | rfl | exact Fin.ext (Nat.zero_add _)

variable (V0 : Valuation τ sig (Elt Ideal)) (k : Fin 16) (hc : V0 (Proc.devRef .tc main_v62_6) = fun _ => Scf.iv 0#32 1#32 k.val)

abbrev qX (b : Fin 8) (t : Fin 128) (g : Fin 2) (h : Fin 8) (p : Fin 64) : EReal := (res_main_while0b_v91 V0 : FVec Ideal S8x128x2x8x64 .f32) (ix5 b t g h p)
abbrev qD (b : Fin 8) (t : Fin 128) (g : Fin 2) (h : Fin 8) : EReal := (res_main_while0b_v92 V0 : FVec Ideal S8x128x2x8 .f32) (ix4 b t g h)
abbrev qB (b : Fin 8) (t : Fin 128) (g : Fin 2) (n : Fin 128) : EReal := (res_main_while0b_v93 V0 : FVec Ideal S8x128x2x128 .f32) (ix4 b t g n)
abbrev qC (b : Fin 8) (t : Fin 128) (g : Fin 2) (n : Fin 128) : EReal := (res_main_while0b_v94 V0 : FVec Ideal S8x128x2x128 .f32) (ix4 b t g n)
abbrev qL (b : Fin 8) (t : Fin 128) (g : Fin 2) (h : Fin 8) : EReal := (res_main_while0b_v98 V0 : FVec Ideal S8x128x2x8 .f32) (ix4 b t g h)
abbrev qS (b : Fin 8) (g : Fin 2) (h : Fin 8) (p : Fin 64) (n : Fin 128) : EReal := (V0 (Proc.devRef .tc main_v62_7) : FVec Ideal S8x2x8x64x128 .f32) (ix5 b g h p n)
abbrev qY (c : Fin 16) (b : Fin 8) (t : Fin 128) (g : Fin 2) (h : Fin 8) (p : Fin 64) : EReal := (V0 (Proc.devRef .tc main_v62_8) : FVec Ideal S16x8x128x2x8x64 .f32) (ix6 c b t g h p)
abbrev sX (c : Fin 16) (b : Fin 8) (t : Fin 128) (g : Fin 2) (h : Fin 8) (p : Fin 64) : EReal := (V0 (Proc.devRef .tc main_v62_0) : FVec Ideal S16x8x128x2x8x64 .f32) (ix6 c b t g h p)
abbrev sD (c : Fin 16) (b : Fin 8) (t : Fin 128) (g : Fin 2) (h : Fin 8) : EReal := (V0 (Proc.devRef .tc main_v62_1) : FVec Ideal S16x8x128x2x8 .f32) (ix5 c b t g h)
abbrev sB (c : Fin 16) (b : Fin 8) (t : Fin 128) (g : Fin 2) (n : Fin 128) : EReal := (V0 (Proc.devRef .tc main_v62_2) : FVec Ideal S16x8x128x2x128 .f32) (ix5 c b t g n)
abbrev sC (c : Fin 16) (b : Fin 8) (t : Fin 128) (g : Fin 2) (n : Fin 128) : EReal := (V0 (Proc.devRef .tc main_v62_3) : FVec Ideal S16x8x128x2x128 .f32) (ix5 c b t g n)
abbrev sA (g : Fin 2) (h : Fin 8) : EReal := (V0 (Proc.devRef .tc main_v62_4) : FVec Ideal S2x8 .f32) (ix2 g h)
abbrev sM (t s : Fin 128) : BitVec 1 := (V0 (Proc.devRef .tc main_v62_5) : IVec S1x128x128x1x1 1) (ix5 0 t s 0 0)

include hc in
theorem x_at (b : Fin 8) (t : Fin 128) (g : Fin 2) (h : Fin 8) (p : Fin 64) : qX V0 b t g h p = sX V0 k b t g h p := by
  unfold qX res_main_while0b_v91
  rw [hc]
  exact cut6 k _ _ (start_at k) rfl rfl rfl rfl rfl b t g h p

include hc in
theorem d_at (b : Fin 8) (t : Fin 128) (g : Fin 2) (h : Fin 8) : qD V0 b t g h = sD V0 k b t g h := by
  unfold qD res_main_while0b_v92
  rw [hc]
  exact cut5 k _ _ (start_at k) rfl rfl rfl rfl b t g h

include hc in
theorem b_at (b : Fin 8) (t : Fin 128) (g : Fin 2) (n : Fin 128) : qB V0 b t g n = sB V0 k b t g n := by
  unfold qB res_main_while0b_v93
  rw [hc]
  exact cut5n k _ _ (start_at k) rfl rfl rfl rfl b t g n

include hc in
theorem c_at (b : Fin 8) (t : Fin 128) (g : Fin 2) (n : Fin 128) : qC V0 b t g n = sC V0 k b t g n := by
  unfold qC res_main_while0b_v94
  rw [hc]
  exact cut5n k _ _ (start_at k) rfl rfl rfl rfl b t g n

/-- Adding from first to last is the sum. -/
theorem fold_sum {n : Nat} (f : Fin n → EReal) : (List.finRange n).foldl (fun r i => r + f i) 0 = ∑ i, f i := by
  rw [← List.foldl_map (f := f) (g := fun r x => r + x), Fin.sum_univ_def, List.sum_eq_foldl]

/-- The window's positions are its second coordinate's. -/
theorem win_at : ∀ n : Fin (Shape.numel ⟨4, ![1, 128, 1, 1]⟩), ∀ a : Fin 4,
    ((Shape.rowMajor ⟨4, ![1, 128, 1, 1]⟩).symm n a).val = if a = 1 then n.val else 0 := by
  decide +kernel

/-- A window that ends at row `t` is the rows up to it. -/
theorem window_sum (t : Fin 128) (f : Fin 128 → EReal) :
    (∑ n : Fin 128, if h : 127 ≤ t.val + n.val then f ⟨(t.val + n.val - 127) % 128, Nat.mod_lt _ (by decide)⟩ else 0) = ∑ s : Fin 128, if s ≤ t then f s else 0 := by
  refine Fintype.sum_equiv (Equiv.addRight (t + 1)) _ _ fun n => ?_
  have e : ((Equiv.addRight (t + 1)) n).val = (t.val + n.val + 1) % 128 := by
    show (n + (t + 1)).val = _
    rw [Fin.val_add, Fin.val_add]
    show (n.val + (t.val + 1) % 128) % 128 = _
    omega
  by_cases h : 127 ≤ t.val + n.val
  · rw [dif_pos h, if_pos (by rw [Fin.le_def, e]; omega)]
    exact congrArg f (Fin.ext (by rw [e]; show (t.val + n.val - 127) % 128 = _; omega))
  · rw [dif_neg h, if_neg (by rw [Fin.le_def, e]; omega)]

/-- A running sum of a chunk's rows. -/
theorem running (x : FVec Ideal S8x128x2x8 .f32) (z : FVec Ideal S_ .f32) (hz : z (Shape.Idx.first h_S_) = (0 : EReal)) (b : Fin 8) (t : Fin 128) (g : Fin 2) (h : Fin 8) :
    (Host.reduceWindowAdd ![1, 128, 1, 1] ![1, 1, 1, 1] ![0, 127, 0, 0] ![0, 0, 0, 0] x z
      reduceWindows_S8x128x2x8_S8x128x2x8_w1s1p0_0_w128s1p127_0_w1s1p0_0_w1s1p0_0 h_S_ : FVec Ideal S8x128x2x8 .f32) (ix4 b t g h)
      = ∑ s : Fin 128, if s ≤ t then x (ix4 b s g h) else (0 : EReal) := by
  rw [← window_sum t fun s => x (ix4 b s g h)]
  unfold Host.reduceWindowAdd
  rw [Ideal.hostReduceWindowAdd_def, hz]
  unfold Ideal.hostReduceWindowAdd Host.reduceWindow
  refine (fold_sum _).trans ?_
  refine Fintype.sum_equiv (finCongr rfl) _ _ fun n => ?_
  have w0 : ((Shape.rowMajor ⟨4, ![1, 128, 1, 1]⟩).symm n 0).val = 0 := win_at n 0
  have w1 : ((Shape.rowMajor ⟨4, ![1, 128, 1, 1]⟩).symm n 1).val = n.val := win_at n 1
  have w2 : ((Shape.rowMajor ⟨4, ![1, 128, 1, 1]⟩).symm n 2).val = 0 := win_at n 2
  have w3 : ((Shape.rowMajor ⟨4, ![1, 128, 1, 1]⟩).symm n 3).val = 0 := win_at n 3
  have en : ((finCongr rfl : Fin (Shape.numel ⟨4, ![1, 128, 1, 1]⟩) ≃ Fin 128) n).val = n.val := rfl
  by_cases hh : 127 ≤ t.val + n.val
  · refine (dif_pos ?_).trans (Eq.trans ?_ (dif_pos hh).symm)
    · intro a
      match a with
      | ⟨0, _⟩ => show 0 ≤ b.val * 1 + ((Shape.rowMajor ⟨4, ![1, 128, 1, 1]⟩).symm n 0).val ∧ b.val * 1 + ((Shape.rowMajor ⟨4, ![1, 128, 1, 1]⟩).symm n 0).val - 0 < 8; rw [w0]; omega
      | ⟨1, _⟩ => show 127 ≤ t.val * 1 + ((Shape.rowMajor ⟨4, ![1, 128, 1, 1]⟩).symm n 1).val ∧ t.val * 1 + ((Shape.rowMajor ⟨4, ![1, 128, 1, 1]⟩).symm n 1).val - 127 < 128; rw [w1]; have : n.val < 128 := n.isLt; omega
      | ⟨2, _⟩ => show 0 ≤ g.val * 1 + ((Shape.rowMajor ⟨4, ![1, 128, 1, 1]⟩).symm n 2).val ∧ g.val * 1 + ((Shape.rowMajor ⟨4, ![1, 128, 1, 1]⟩).symm n 2).val - 0 < 2; rw [w2]; omega
      | ⟨3, _⟩ => show 0 ≤ h.val * 1 + ((Shape.rowMajor ⟨4, ![1, 128, 1, 1]⟩).symm n 3).val ∧ h.val * 1 + ((Shape.rowMajor ⟨4, ![1, 128, 1, 1]⟩).symm n 3).val - 0 < 8; rw [w3]; omega
    · refine congrArg x ?_
      funext a
      match a with
      | ⟨0, _⟩ => exact Fin.ext (by show b.val * 1 + ((Shape.rowMajor ⟨4, ![1, 128, 1, 1]⟩).symm n 0).val - 0 = b.val; rw [w0]; omega)
      | ⟨1, _⟩ => exact Fin.ext (by show t.val * 1 + ((Shape.rowMajor ⟨4, ![1, 128, 1, 1]⟩).symm n 1).val - 127 = (t.val + n.val - 127) % 128; rw [w1]; have : n.val < 128 := n.isLt; omega)
      | ⟨2, _⟩ => exact Fin.ext (by show g.val * 1 + ((Shape.rowMajor ⟨4, ![1, 128, 1, 1]⟩).symm n 2).val - 0 = g.val; rw [w2]; omega)
      | ⟨3, _⟩ => exact Fin.ext (by show h.val * 1 + ((Shape.rowMajor ⟨4, ![1, 128, 1, 1]⟩).symm n 3).val - 0 = h.val; rw [w3]; omega)
  · refine Eq.trans (b := (0 : EReal)) (dif_neg fun hin => hh ?_) ?_
    · have q : 127 ≤ t.val * 1 + ((Shape.rowMajor ⟨4, ![1, 128, 1, 1]⟩).symm n 1).val := (hin 1).1
      rw [w1] at q
      omega
    · split
      · exact absurd ‹_› hh
      · rfl

theorem cum_at (b : Fin 8) (t : Fin 128) (g : Fin 2) (h : Fin 8) :
    qL V0 b t g h = ∑ s : Fin 128, if s ≤ t then qD V0 b s g h * sA V0 g h else 0 := by
  unfold qL res_main_while0b_v98
  refine (running _ _ (by pointwise) b t g h).trans ?_
  refine Finset.sum_congr rfl fun s _ => ?_
  refine if_congr Iff.rfl ?_ rfl
  pointwise

theorem st_at (b : Fin 8) (g : Fin 2) (h : Fin 8) (p : Fin 64) (n : Fin 128) :
    (step_main_v62_7 V0 : FVec Ideal S8x2x8x64x128 .f32) (ix5 b g h p n) =
      Ideal.exp (qL V0 b 127 g h) * qS V0 b g h p n +
        ∑ x : Fin 128, Ideal.exp (qL V0 b 127 g h - qL V0 b x g h) * qD V0 b x g h * qX V0 b x g h p * qB V0 b x g n := by
  unfold step_main_v62_7
  simp only [id_eq]
  pointwise

include hc in
theorem y_at (c : Fin 16) (b : Fin 8) (t : Fin 128) (g : Fin 2) (h : Fin 8) (p : Fin 64) :
    (step_main_v62_8 V0 : FVec Ideal S16x8x128x2x8x64 .f32) (ix6 c b t g h p) =
      if c.val = k.val then
        (∑ x : Fin 128, qX V0 b x g h p *
          ((Ideal.exp (Scalar.select (sM V0 t x) (qL V0 b t g h - qL V0 b x g h) (Ideal.ofBits FTy.f32 0xFF800000#32)) *
            ∑ n : Fin 128, qB V0 b x g n * qC V0 b t g n) * qD V0 b x g h)) +
        Ideal.exp (qL V0 b t g h) * ∑ n : Fin 128, qS V0 b g h p n * qC V0 b t g n
      else qY V0 c b t g h p := by
  unfold step_main_v62_8
  simp only [id_eq]
  rw [hc]
  refine (upd_at k.val k.isLt _ _ _ (start_at k) rfl rfl rfl rfl rfl c b t g h p).trans ?_
  refine if_congr Iff.rfl ?_ rfl
  pointwise

end Layer.SsdStep
-- ==== Proof.SsdEnter.lean ====
module

public import proofs.«01_k».proof.Proof.SsdEntry
public import proofs.«01_k».proof.Proof.SsdStep

/-!
# What the plain program's loop is given

The activated rows, the step sizes, the decay rates, the mask and the first state, of the arguments.
-/

@[expose] public section
set_option maxRecDepth 16384
noncomputable section
namespace Layer.SsdEnter
open Idealize.ShloMosaic Idealize.ShloMosaic.TcCoe Idealize.SL.Sem Idealize.ShloMosaic.StableHlo
open Cert.ReferenceIdeal Cert.ReferenceIdeal.Gen Cert.ReferenceIdeal.Value
open Layer.SsdEntry

variable (L : Valuation τ sig (Elt Ideal))

/-- The arguments. -/
def ins : Ssd.Ins where
  X b t k := rd (s := S8x2048x1536) (φ := .bf16) (L (Proc.devRef .tc main_arg0)) (ix3 b t k)
  Z b t k := rd (s := S8x2048x1024) (φ := .bf16) (L (Proc.devRef .tc main_arg1)) (ix3 b t k)
  sm b t h := rd (s := S8x2048x128) (φ := .f32) (L (Proc.devRef .tc main_arg2)) (ix3 b t ⟨h.val, by omega⟩)
  cv b r k := rd (s := S8x3x1536) (φ := .f32) (L (Proc.devRef .tc main_arg3)) (ix3 b r k)
  st b h p n := rd (s := S8x16x64x128) (φ := .f32) (L (Proc.devRef .tc main_arg4)) (ix4 b h p n)
  W j k := rd (s := S4x1536) (φ := .f32) (L (Proc.devRef .tc main_arg5)) (ix2 j k)
  cb k := rd (s := S1536) (φ := .f32) (L (Proc.devRef .tc main_arg6)) (ix1 k)
  tb h := rd (s := S16) (φ := .f32) (L (Proc.devRef .tc main_arg7)) (ix1 h)
  al h := rd (s := S16) (φ := .f32) (L (Proc.devRef .tc main_arg10)) (ix1 h)
  d h := rd (s := S16) (φ := .f32) (L (Proc.devRef .tc main_arg11)) (ix1 h)
  w k := rd (s := S1024) (φ := .f32) (L (Proc.devRef .tc main_arg12)) (ix1 k)

/-- A row before row `t`. -/
theorem back_ago (b : Fin 8) (d : Nat) (hd : d < 3) (t : Fin 2048) (k : Fin 1536) :
    SsdEntry.back L b d t k hd = Ssd.ago (ins L) b (3 - d) t k := by
  unfold Ssd.ago
  by_cases h : d + t.val < 3
  · refine (SsdEntry.back_pos L b d t k hd h).trans (Eq.trans ?_ (dif_neg (by omega)).symm)
    exact congrArg (fun i : Fin 3 => (ins L).cv b i k) (Fin.ext (by show d + t.val = (3 + t.val - (3 - d)) % 3; omega))
  · refine (SsdEntry.back_neg L b d t k hd h).trans (Eq.trans ?_ (dif_pos (by omega)).symm)
    exact congrArg (fun i : Fin 2048 => (ins L).X b i k) (Fin.ext (by show d + t.val - 3 = t.val - (3 - d); omega))

abbrev L1 := after hostOps0 L
abbrev L2 := after hostOps0_1 (L1 L)
abbrev L3 := after hostOps0_2 (L2 L)
abbrev L4 := after hostOps0_3 (L3 L)
abbrev L5 := after hostOps0_4 (L4 L)
abbrev L6 := after hostOps0_5 (L5 L)
abbrev L7 := after hostOps0_6 (L6 L)

theorem conv (b : Fin 8) (t : Fin 2048) (k : Fin 1536) :
    rd (s := S8x2048x1536) (φ := .f32) (L1 L (Proc.devRef .tc main_v31)) (ix3 b t k) = Ssd.preOf (ins L) b t k := by
  refine (SsdEntry.v31_at L b t k).trans ?_
  rw [back_ago, back_ago, back_ago]
  unfold Ssd.preOf
  show (ins L).cb k + Ssd.ago (ins L) b 3 t k * (ins L).W 0 k + Ssd.ago (ins L) b 2 t k * (ins L).W 1 k + Ssd.ago (ins L) b 1 t k * (ins L).W 2 k
    + (ins L).X b t k * (ins L).W 3 k = _
  generalize (ins L).cb k = u, Ssd.ago (ins L) b 3 t k * (ins L).W 0 k = a3, Ssd.ago (ins L) b 2 t k * (ins L).W 1 k = a2,
    Ssd.ago (ins L) b 1 t k * (ins L).W 2 k = a1, (ins L).X b t k * (ins L).W 3 k = a0
  abel

theorem act (b : Fin 8) (t : Fin 2048) (k : Fin 1536) :
    rd (s := S8x2048x1536) (φ := .f32) (L2 L (Proc.devRef .tc main_v32)) (ix3 b t k) = Ssd.silu (Ssd.preOf (ins L) b t k) :=
  (SsdEntry.v32_at (L1 L) b t k).trans (congrArg Ssd.silu (conv L b t k))

/-- A buffer the first two groups of lines do not write. -/
theorem keep2 (r : Ref sig .tc) (h0 : r ∉ hostOps0_W) (h1 : r ∉ hostOps0_1_W) : L2 L (Proc.devRef .tc r) = L (Proc.devRef .tc r) := by
  rw [L2, after_of_writes_sub _ _ hostOps0_1_writes h1, L1, after_of_writes_sub _ _ hostOps0_writes h0]
theorem keep4 (r : Ref sig .tc) (h0 : r ∉ hostOps0_W) (h1 : r ∉ hostOps0_1_W) (h2 : r ∉ hostOps0_2_W) (h3 : r ∉ hostOps0_3_W) :
    L4 L (Proc.devRef .tc r) = L (Proc.devRef .tc r) := by
  rw [L4, after_of_writes_sub _ _ hostOps0_3_writes h3, L3, after_of_writes_sub _ _ hostOps0_2_writes h2, keep2 L r h0 h1]
theorem keep6 (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) : L6 L (Proc.devRef .tc r) = L (Proc.devRef .tc r) := by
  rw [L6, after_of_writes_sub _ _ hostOps0_5_writes h5, L5, after_of_writes_sub _ _ hostOps0_4_writes h4, keep4 L r h0 h1 h2 h3]
theorem keep36 (r : Ref sig .tc) (h3 : r ∉ hostOps0_3_W) (h4 : r ∉ hostOps0_4_W) (h5 : r ∉ hostOps0_5_W) :
    L6 L (Proc.devRef .tc r) = L3 L (Proc.devRef .tc r) := by
  rw [L6, after_of_writes_sub _ _ hostOps0_5_writes h5, L5, after_of_writes_sub _ _ hostOps0_4_writes h4, L4, after_of_writes_sub _ _ hostOps0_3_writes h3]

theorem step (b : Fin 8) (t : Fin 2048) (h : Fin 16) :
    rd (s := S8x2048x16) (φ := .f32) (L4 L (Proc.devRef .tc main_v42)) (ix3 b t h) = Ssd.softplus ((ins L).sm b t h + (ins L).tb h) := by
  refine (SsdEntry.v42_at (L3 L) b t h).trans (congrArg Ssd.softplus ((SsdEntry.v41_at (L2 L) b t h).trans ?_))
  rw [keep2 L main_arg2 (by decide) (by decide), keep2 L main_arg7 (by decide) (by decide)]
  rfl

abbrev hd (g : Fin 2) (h : Fin 8) : Fin 16 := ⟨8 * g.val + h.val, by omega⟩

theorem row_eq (k : Fin 16) (t : Fin 128) : (⟨128 * k.val + t.val, by omega⟩ : Fin 2048) = Ssd.rowOf k.val t :=
  Fin.ext (by show 128 * k.val + t.val = (128 * k.val + t.val) % 2048; omega)

theorem v46 (b : Fin 8) (t : Fin 2048) (h : Fin 16) (p : Fin 64) :
    rd (s := S8x2048x16x64) (φ := .f32) (L6 L (Proc.devRef .tc main_v46)) (ix4 b t h p) = Ssd.silu (Ssd.preOf (ins L) b t (Ssd.xcol (Ssd.col h p))) := by
  rw [L6, after_of_writes_sub _ _ hostOps0_5_writes (by decide : main_v46 ∉ hostOps0_5_W)]
  refine (SsdEntry.v46_at (L4 L) b t h p).trans ?_
  rw [L4, after_of_writes_sub _ _ hostOps0_3_writes (by decide : main_v33 ∉ hostOps0_3_W)]
  exact (SsdEntry.v33_at (L2 L) b t _).trans (act L b t _)

theorem in_x (k : Fin 16) (b : Fin 8) (t : Fin 128) (g : Fin 2) (h : Fin 8) (p : Fin 64) :
    SsdStep.sX (L7 L) k b t g h p = Ssd.actOf (ins L) Ssd.silu b k.val t (Ssd.xcol (Ssd.col (hd g h) p)) := by
  refine (SsdEntry.s0_at (L6 L) k b t g h p).trans ((v46 L b _ _ p).trans ?_)
  rw [row_eq]; rfl

theorem in_d (k : Fin 16) (b : Fin 8) (t : Fin 128) (g : Fin 2) (h : Fin 8) :
    SsdStep.sD (L7 L) k b t g h = Ssd.stepOf (ins L) b k.val t (hd g h) := by
  refine (SsdEntry.s1_at (L6 L) k b t g h).trans ?_
  rw [L6, after_of_writes_sub _ _ hostOps0_5_writes (by decide : main_v42 ∉ hostOps0_5_W), L5, after_of_writes_sub _ _ hostOps0_4_writes (by decide : main_v42 ∉ hostOps0_4_W)]
  refine (step L b _ _).trans ?_
  rw [row_eq]; rfl

theorem in_b (k : Fin 16) (b : Fin 8) (t : Fin 128) (g : Fin 2) (n : Fin 128) :
    SsdStep.sB (L7 L) k b t g n = Ssd.actOf (ins L) Ssd.silu b k.val t (Ssd.bcol g n) := by
  refine (SsdEntry.s2_at (L6 L) k b t g n).trans ?_
  rw [keep36 L main_v35 (by decide) (by decide) (by decide)]
  refine ((SsdEntry.v35_at (L2 L) b _ g n).trans (act L b _ _)).trans ?_
  rw [row_eq]; rfl

theorem in_c (k : Fin 16) (b : Fin 8) (t : Fin 128) (g : Fin 2) (n : Fin 128) :
    SsdStep.sC (L7 L) k b t g n = Ssd.actOf (ins L) Ssd.silu b k.val t (Ssd.ccol g n) := by
  refine (SsdEntry.s3_at (L6 L) k b t g n).trans ?_
  rw [keep36 L main_v37 (by decide) (by decide) (by decide)]
  refine ((SsdEntry.v37_at (L2 L) b _ g n).trans (act L b _ _)).trans ?_
  rw [row_eq]; rfl

theorem in_a (g : Fin 2) (h : Fin 8) : SsdStep.sA (L7 L) g h = -Ideal.exp ((ins L).al (hd g h)) := by
  refine (SsdEntry.s4_at (L6 L) g h).trans ?_
  rw [L6, after_of_writes_sub _ _ hostOps0_5_writes (by decide : main_v45 ∉ hostOps0_5_W)]
  refine (SsdEntry.v45_at (L4 L) g h).trans ?_
  rw [keep4 L main_arg10 (by decide) (by decide) (by decide) (by decide)]
  rfl

theorem in_m (t s : Fin 128) : SsdStep.sM (L7 L) t s = if s ≤ t then 1#1 else 0#1 :=
  (SsdEntry.s5_at (L6 L) t s).trans (SsdEntry.v48_at (L5 L) (SsdEntry.v47_at (L4 L)) t s)

theorem in_s (b : Fin 8) (g : Fin 2) (h : Fin 8) (p : Fin 64) (n : Fin 128) :
    SsdStep.qS (L7 L) b g h p n = (ins L).st b (hd g h) p n := by
  refine (SsdEntry.s7_at (L6 L) b g h p n).trans ?_
  rw [keep6 L main_arg4 (by decide) (by decide) (by decide) (by decide) (by decide) (by decide)]
  rfl

end Layer.SsdEnter
-- ==== Proof.SsdRef.lean ====
module

public import proofs.«01_k».proof.Proof.SsdEnter

/-!
# The plain program of the recurrence, whole

The state and the rows trip by trip, and what the last lines make of them.
-/

@[expose] public section
set_option maxRecDepth 16384
noncomputable section
namespace Layer.SsdRef
open Idealize.ShloMosaic Idealize.ShloMosaic.TcCoe Idealize.SL.Sem Idealize.ShloMosaic.StableHlo
open Cert.ReferenceIdeal Cert.ReferenceIdeal.Gen Cert.ReferenceIdeal.Value
open Layer.SsdEntry Layer.SsdEnter Layer.SsdStep

variable (m : (ℓ : Loc nD τ sig) → Buf (Elt Ideal) ℓ) (c : Dev nD)

/-- What the program starts with. -/
abbrev start : Valuation τ sig (Elt Ideal) := launchContents m c

abbrev I : Ssd.Ins := SsdEnter.ins (start m c)

/-- The loop's buffers before trip `k`. -/
abbrev S (k : Nat) : Valuation τ sig (Elt Ideal) := STEP^[k] (L7 (start m c))

theorem entry_eq : entryContents preI m c = L7 (start m c) := rfl

theorem c0 : ∀ k, S m c k (Proc.devRef .tc main_v62_0) = L7 (start m c) (Proc.devRef .tc main_v62_0)
  | 0 => rfl
  | k + 1 => by rw [S, Function.iterate_succ_apply', STEP_main_v62_0]; exact c0 k
theorem c1 : ∀ k, S m c k (Proc.devRef .tc main_v62_1) = L7 (start m c) (Proc.devRef .tc main_v62_1)
  | 0 => rfl
  | k + 1 => by rw [S, Function.iterate_succ_apply', STEP_main_v62_1]; exact c1 k
theorem c2 : ∀ k, S m c k (Proc.devRef .tc main_v62_2) = L7 (start m c) (Proc.devRef .tc main_v62_2)
  | 0 => rfl
  | k + 1 => by rw [S, Function.iterate_succ_apply', STEP_main_v62_2]; exact c2 k
theorem c3 : ∀ k, S m c k (Proc.devRef .tc main_v62_3) = L7 (start m c) (Proc.devRef .tc main_v62_3)
  | 0 => rfl
  | k + 1 => by rw [S, Function.iterate_succ_apply', STEP_main_v62_3]; exact c3 k
theorem c4 : ∀ k, S m c k (Proc.devRef .tc main_v62_4) = L7 (start m c) (Proc.devRef .tc main_v62_4)
  | 0 => rfl
  | k + 1 => by rw [S, Function.iterate_succ_apply', STEP_main_v62_4]; exact c4 k
theorem c5 : ∀ k, S m c k (Proc.devRef .tc main_v62_5) = L7 (start m c) (Proc.devRef .tc main_v62_5)
  | 0 => rfl
  | k + 1 => by rw [S, Function.iterate_succ_apply', STEP_main_v62_5]; exact c5 k

/-- The trip's number. -/
theorem ctr (k : Nat) : S m c k (Proc.devRef .tc main_v62_6) = fun _ => Scf.iv 0#32 1#32 k :=
  (atK_agree m c k main_v62_6 (by decide)).symm.trans (atK_ctr m c k)

variable (k : Fin 16) (b : Fin 8)

theorem x_in (t : Fin 128) (g : Fin 2) (h : Fin 8) (p : Fin 64) :
    qX (S m c k) b t g h p = Ssd.actOf (I m c) Ssd.silu b k.val t (Ssd.xcol (Ssd.col (hd g h) p)) := by
  refine (x_at (S m c k) k (ctr m c k) b t g h p).trans ?_
  unfold sX; rw [c0]; exact in_x _ k b t g h p
theorem d_in (t : Fin 128) (g : Fin 2) (h : Fin 8) : qD (S m c k) b t g h = Ssd.stepOf (I m c) b k.val t (hd g h) := by
  refine (d_at (S m c k) k (ctr m c k) b t g h).trans ?_
  unfold sD; rw [c1]; exact in_d _ k b t g h
theorem b_in (t : Fin 128) (g : Fin 2) (n : Fin 128) : qB (S m c k) b t g n = Ssd.actOf (I m c) Ssd.silu b k.val t (Ssd.bcol g n) := by
  refine (b_at (S m c k) k (ctr m c k) b t g n).trans ?_
  unfold sB; rw [c2]; exact in_b _ k b t g n
theorem c_in (t : Fin 128) (g : Fin 2) (n : Fin 128) : qC (S m c k) b t g n = Ssd.actOf (I m c) Ssd.silu b k.val t (Ssd.ccol g n) := by
  refine (c_at (S m c k) k (ctr m c k) b t g n).trans ?_
  unfold sC; rw [c3]; exact in_c _ k b t g n
theorem a_in (g : Fin 2) (h : Fin 8) : sA (S m c k) g h = -Ideal.exp ((I m c).al (hd g h)) := by
  unfold sA; rw [c4]; exact in_a _ g h
theorem m_in (t s : Fin 128) : sM (S m c k) t s = if s ≤ t then 1#1 else 0#1 := by
  unfold sM; rw [c5]; exact in_m _ t s

theorem l_in (t : Fin 128) (g : Fin 2) (h : Fin 8) :
    qL (S m c k) b t g h = Ssd.cum (Ssd.stepOf (I m c) b k.val) (I m c).al t (hd g h) := by
  refine (cum_at (S m c k) b t g h).trans ?_
  unfold Ssd.cum
  refine Finset.sum_congr rfl fun s _ => ?_
  rw [d_in, a_in]

theorem grp_hd (g : Fin 2) (h : Fin 8) : Ssd.grp (hd g h) = g := Fin.ext (by show (8 * g.val + h.val) / 8 = g.val; omega)

/-- The state before a trip. -/
theorem state : ∀ (k : Nat) (_ : k ≤ 16) (b : Fin 8) (g : Fin 2) (h : Fin 8) (p : Fin 64) (n : Fin 128),
    qS (S m c k) b g h p n = Ssd.stateOf (I m c) Ssd.silu b k (hd g h) p n
  | 0, _, b, g, h, p, n => in_s _ b g h p n
  | k + 1, hk, b, g, h, p, n => by
    have ih := state k (by omega) b g h p n
    unfold qS
    rw [S, Function.iterate_succ_apply', STEP_main_v62_7]
    refine (st_at (S m c k) b g h p n).trans ?_
    have l := fun t => l_in m c ⟨k, by omega⟩ b t g h
    have d := fun t => d_in m c ⟨k, by omega⟩ b t g h
    have x := fun t => x_in m c ⟨k, by omega⟩ b t g h p
    have bb := fun t => b_in m c ⟨k, by omega⟩ b t g n
    dsimp only at l d x bb
    rw [ih]
    show _ = Ssd.next _ _ _ _ _ _ _
    unfold Ssd.next
    rw [grp_hd, l 127, mul_comm]
    refine congrArg (fun z : EReal => (Ssd.stateOf (I m c) Ssd.silu b k (hd g h) p n * Ideal.exp (Ssd.cum (Ssd.stepOf (I m c) b k) (I m c).al 127 (hd g h)) : EReal) + z) ?_
    refine Finset.sum_congr rfl fun s _ => ?_
    rw [l s, d s, x s, bb s, mul_comm (Ideal.exp _ * _) (Ssd.actOf _ _ _ _ _ _)]

theorem low : Ideal.ofBits FTy.f32 0xFF800000#32 = ⊥ := by
  simp [Ideal.ofBits, Ideal.ieee]

/-- A row of a trip, before the direct term. -/
def part (I : Ssd.Ins) (b : Fin 8) (k : Nat) (t : Fin 128) (h : Fin 16) (p : Fin 64) : EReal :=
  (∑ s : Fin 128, Ssd.wt (Ssd.actOf I Ssd.silu b k) (Ssd.stepOf I b k) I.al h t s * Ssd.actOf I Ssd.silu b k s (Ssd.xcol (Ssd.col h p)))
    + Ideal.exp (Ssd.cum (Ssd.stepOf I b k) I.al t h) * ∑ n : Fin 128, Ssd.actOf I Ssd.silu b k t (Ssd.ccol (Ssd.grp h) n) * Ssd.stateOf I Ssd.silu b k h p n

/-- The rows after some trips. -/
theorem rows : ∀ (k : Nat) (_ : k ≤ 16) (cc : Fin 16) (_ : cc.val < k) (b : Fin 8) (t : Fin 128) (g : Fin 2) (h : Fin 8) (p : Fin 64),
    qY (S m c k) cc b t g h p = part (I m c) b cc.val t (hd g h) p
  | 0, _, _, hc, _, _, _, _, _ => absurd hc (Nat.not_lt_zero _)
  | k + 1, hk, cc, hc, b, t, g, h, p => by
    unfold qY
    rw [S, Function.iterate_succ_apply', STEP_main_v62_8]
    refine (y_at (S m c k) ⟨k, by omega⟩ (ctr m c k) cc b t g h p).trans ?_
    by_cases e : cc.val = k
    · refine (if_pos e).trans ?_
      rw [e]
      have l := fun t => l_in m c ⟨k, by omega⟩ b t g h
      have d := fun t => d_in m c ⟨k, by omega⟩ b t g h
      have x := fun t => x_in m c ⟨k, by omega⟩ b t g h p
      have bb := fun t n => b_in m c ⟨k, by omega⟩ b t g n
      have ccc := fun t n => c_in m c ⟨k, by omega⟩ b t g n
      have mm := fun t s => m_in m c ⟨k, by omega⟩ t s
      have st := fun n => state m c k (by omega) b g h p n
      dsimp only at l d x bb ccc mm
      unfold part
      rw [grp_hd]
      refine congr (congrArg (fun y z : EReal => y + z) ?_) ?_
      · refine Finset.sum_congr rfl fun s _ => ?_
        unfold Ssd.wt Ssd.decay Ssd.cbm
        rw [grp_hd, x s, l t, l s, d s, mm t s, low, mul_comm]
        refine congrArg (fun z : EReal => z * Ssd.stepOf (I m c) b k s (hd g h) * Ssd.actOf (I m c) Ssd.silu b k s (Ssd.xcol (Ssd.col (hd g h) p))) ?_
        refine congr (congrArg (fun y z : EReal => y * z) (congrArg Ideal.exp ?_)) ?_
        · split_ifs <;> rfl
        · refine Finset.sum_congr rfl fun n _ => ?_
          rw [bb s n, ccc t n, mul_comm]
      · rw [l t]
        refine congrArg (fun z : EReal => Ideal.exp (Ssd.cum (Ssd.stepOf (I m c) b k) (I m c).al t (hd g h)) * z) ?_
        refine Finset.sum_congr rfl fun n _ => ?_
        rw [st n, ccc t n, mul_comm]
    · exact (if_neg e).trans (rows k (by omega) cc (by omega) b t g h p)

/-! ## The last lines -/

/-- What the last lines begin with. -/
abbrev T : Valuation τ sig (Elt Ideal) := after condOps (atK m 16 c)

theorem t_y : T m c (Proc.devRef .tc main_v62_8) = S m c 16 (Proc.devRef .tc main_v62_8) :=
  (cond_keeps _ main_v62_8 (by decide)).trans (atK_agree m c 16 main_v62_8 (by decide))
theorem t_s : T m c (Proc.devRef .tc main_v62_7) = S m c 16 (Proc.devRef .tc main_v62_7) :=
  (cond_keeps _ main_v62_7 (by decide)).trans (atK_agree m c 16 main_v62_7 (by decide))
theorem t_x : T m c (Proc.devRef .tc main_v46) = L6 (start m c) (Proc.devRef .tc main_v46) := by
  rw [T, after_of_writes_sub _ _ condOps_writes (by decide : main_v46 ∉ condOps_W), SsdLoop.kept m c main_v46 (by decide +kernel) 16, entry_eq, L7,
    after_of_writes_sub _ _ hostOps0_6_writes (by decide : main_v46 ∉ hostOps0_6_W)]
theorem t_arg (r : Ref sig .tc) (h : r ∉ SsdLoop.preW) (h' : r ∉ SsdLoop.loopW) : T m c (Proc.devRef .tc r) = start m c (Proc.devRef .tc r) :=
  SsdLoop.before_tail m c r h h'

theorem keep7_12 (X : Valuation τ sig (Elt Ideal)) : after hostOps0_7 X (Proc.devRef .tc main_arg12) = X (Proc.devRef .tc main_arg12) := by after_results_simp
theorem keep8_12 (X : Valuation τ sig (Elt Ideal)) : after hostOps0_8 X (Proc.devRef .tc main_arg12) = X (Proc.devRef .tc main_arg12) := by after_results_simp
theorem keep7_s (X : Valuation τ sig (Elt Ideal)) : after hostOps0_7 X (Proc.devRef .tc main_v62_7) = X (Proc.devRef .tc main_v62_7) := by after_results_simp
theorem keep8_s (X : Valuation τ sig (Elt Ideal)) : after hostOps0_8 X (Proc.devRef .tc main_v62_7) = X (Proc.devRef .tc main_v62_7) := by after_results_simp
theorem keep8_y (X : Valuation τ sig (Elt Ideal)) : after hostOps0_8 X (Proc.devRef .tc main_v70) = X (Proc.devRef .tc main_v70) := by after_results_simp

abbrev T7 := after hostOps0_7 (T m c)
abbrev T8 := after hostOps0_8 (T7 m c)

theorem row_split (t : Fin 2048) : Ssd.rowOf (t.val / 128) ⟨t.val % 128, by omega⟩ = t :=
  Fin.ext (by show (128 * (t.val / 128) + t.val % 128) % 2048 = t.val; omega)
theorem hd_split (k : Fin 1024) : hd ⟨k.val / 64 / 8, by omega⟩ ⟨k.val / 64 % 8, by omega⟩ = Ssd.head k :=
  Fin.ext (by show 8 * (k.val / 64 / 8) + k.val / 64 % 8 = k.val / 64; omega)
theorem col_split (k : Fin 1024) : Ssd.col (Ssd.head k) (Ssd.num k) = k :=
  Fin.ext (by show 64 * (k.val / 64) + k.val % 64 = k.val; omega)

/-- A row before the gate. -/
theorem y_row (t : Fin 2048) (k : Fin 1024) :
    rd (s := S8x2048x1024) (φ := .f32) (T7 m c (Proc.devRef .tc main_v70)) (ix3 b t k)
      = Ssd.row (Ssd.actOf (I m c) Ssd.silu b (t.val / 128)) (Ssd.stepOf (I m c) b (t.val / 128)) (I m c).al (I m c).d
          (Ssd.stateOf (I m c) Ssd.silu b (t.val / 128)) ⟨t.val % 128, by omega⟩ k := by
  have r := rows m c 16 (le_refl _) ⟨t.val / 128, by omega⟩ (by show t.val / 128 < 16; omega) b ⟨t.val % 128, by omega⟩
    ⟨k.val / 64 / 8, by omega⟩ ⟨k.val / 64 % 8, by omega⟩ ⟨k.val % 64, by omega⟩
  rw [hd_split] at r
  have e1 : rd (s := S16x8x128x2x8x64) (φ := .f32) (T m c (Proc.devRef .tc main_v62_8)) (ix6 ⟨t.val / 128, by omega⟩ b ⟨t.val % 128, by omega⟩ ⟨k.val / 64 / 8, by omega⟩ ⟨k.val / 64 % 8, by omega⟩ ⟨k.val % 64, by omega⟩)
      = part (I m c) b (t.val / 128) ⟨t.val % 128, by omega⟩ (Ssd.head k) (Ssd.num k) := by
    rw [t_y]; exact r
  have e2 : rd (s := S16) (φ := .f32) (T m c (Proc.devRef .tc main_arg11)) (ix1 (Ssd.head k)) = (I m c).d (Ssd.head k) := by
    rw [t_arg m c main_arg11 (by decide +kernel) (by decide +kernel)]; rfl
  have e3 : rd (s := S8x2048x16x64) (φ := .f32) (T m c (Proc.devRef .tc main_v46)) (ix4 b t (Ssd.head k) (Ssd.num k))
      = Ssd.actOf (I m c) Ssd.silu b (t.val / 128) ⟨t.val % 128, by omega⟩ (Ssd.xcol k) := by
    rw [t_x, v46, col_split]; unfold Ssd.actOf; rw [row_split]
  refine (v70_at (T m c) b t k).trans ?_
  rw [e1, e2, e3]
  unfold part Ssd.row
  rw [col_split]

theorem z_row (t : Fin 2048) (k : Fin 1024) :
    rd (s := S8x2048x1024) (φ := .f32) (T8 m c (Proc.devRef .tc main_v72)) (ix3 b t k)
      = Ssd.gateOf (I m c) Ssd.silu b (t.val / 128) ⟨t.val % 128, by omega⟩ k := by
  refine (v72_at (T7 m c) b t k).trans ?_
  rw [v71_at, t_arg m c main_arg1 (by decide +kernel) (by decide +kernel)]
  unfold Ssd.gateOf
  rw [row_split]
  rfl

theorem gated_row (t : Fin 2048) (k : Fin 1024) :
    rd (s := S8x2048x1024) (φ := .f32) (T8 m c (Proc.devRef .tc main_v70)) (ix3 b t k) * rd (s := S8x2048x1024) (φ := .f32) (T8 m c (Proc.devRef .tc main_v72)) (ix3 b t k)
      = Ssd.gated (Ssd.actOf (I m c) Ssd.silu b (t.val / 128)) (Ssd.stepOf (I m c) b (t.val / 128)) (I m c).al (I m c).d
          (Ssd.stateOf (I m c) Ssd.silu b (t.val / 128)) (Ssd.gateOf (I m c) Ssd.silu b (t.val / 128)) ⟨t.val % 128, by omega⟩ k := by
  rw [z_row, T8, keep8_y, y_row]
  rfl

/-- The result. -/
theorem y_end (t : Fin 2048) (k : Fin 1024) :
    rd (s := S8x2048x1024) (φ := .bf16) (finalContents condOps preI bodyI postI 16 m c (Proc.devRef .tc main_v89)) (ix3 b t k)
      = Ssd.outOf (I m c) Ssd.silu b (t.val / 128) ⟨t.val % 128, by omega⟩ k := by
  refine (v89_at (T8 m c) b t k).trans ?_
  unfold Ssd.outOf Ssd.out
  have g := fun k => gated_row m c b t k
  refine congrArg₂ (fun y z : EReal => y * z) (congrArg₂ (fun y z : EReal => y * z) (g k) (congrArg Ideal.rsqrt
    (congrArg (fun y : EReal => y + Ideal.ofBits FTy.f32 0x3727C5AC#32) (congrArg (fun y : EReal => Ideal.div y (Ideal.ofBits FTy.f32 0x44000000#32))
      (Finset.sum_congr rfl fun j _ => congrArg₂ (fun y z : EReal => y * z) (g _) (g _)))))) ?_
  rw [T8, keep8_12, T7, keep7_12, t_arg m c main_arg12 (by decide +kernel) (by decide +kernel)]
  rfl

/-- The last state. -/
theorem s_end (r : Fin 1024) (n : Fin 128) :
    rd (s := S8x1024x128) (φ := .f32) (finalContents condOps preI bodyI postI 16 m c (Proc.devRef .tc main_v90)) (ix3 b r n)
      = Ssd.stateOf (I m c) Ssd.silu b 16 (Ssd.head r) (Ssd.num r) n := by
  refine (v90_at (T8 m c) b r n).trans ?_
  rw [T8, keep8_s, T7, keep7_s, t_s]
  refine (state m c 16 (le_refl _) b _ _ _ n).trans ?_
  have e : hd (⟨r.val / 512, by omega⟩ : Fin 2) ⟨r.val / 64 % 8, by omega⟩ = Ssd.head r :=
    Fin.ext (by show 8 * (r.val / 512) + r.val / 64 % 8 = r.val / 64; omega)
  rw [e]

end Layer.SsdRef
-- ==== Proof.SsdEnd.lean ====
module

public import proofs.«01_k».proof.Defs
public import proofs.«01_k».proof.Proof.SsdPre
public import proofs.«01_k».proof.Proof.SsdFold
public import proofs.«01_k».proof.Proof.SsdRef

/-!
# The recurrence: both runs leave the same arrays
-/

@[expose] public section
set_option maxRecDepth 16384
noncomputable section
namespace Layer.SsdEnd
open Idealize.ShloMosaic Idealize.ShloMosaic.TcCoe Idealize.SL.Sem Layer.Ssd

section
open Cert.KernelIdeal Cert.KernelIdeal.Gen Cert.KernelIdeal.Value
variable (m : (ℓ : Loc nD τ sig) → Buf (Elt Ideal) ℓ) (c : Dev nD)

/-- The rows of the result. -/
def outAll : Vec Ideal S8x2048x1024 .bf16 := fun i =>
  outOf (SsdFold.ins m c) silu ⟨(i 0).val, (i 0).isLt⟩ ((i 1).val / 128) ⟨(i 1).val % 128, Nat.mod_lt _ (by decide)⟩ ⟨(i 2).val, (i 2).isLt⟩
/-- The last states. -/
def stateAll : Vec Ideal S8x1024x128 .f32 := fun i =>
  stateOf (SsdFold.ins m c) silu ⟨(i 0).val, (i 0).isLt⟩ 16 (head ⟨(i 1).val, (i 1).isLt⟩) (num ⟨(i 1).val, (i 1).isLt⟩) ⟨(i 2).val, (i 2).isLt⟩

variable {m c}

theorem finite (h : Cert.Pre_KernelIdeal_finite_inputs (hPre_finite_inputs := SsdPre.facts) m) : (SsdFold.ins m c).Finite := by
  obtain ⟨h0, h1, h2, h3, h4, h5, h6, h7⟩ := h c
  exact
    { x := fun b t k => @SsdPre.num_x SsdPre.facts _ _ _ _ _ _ _ _ _ _ _ _ _ h0 b t k
      z := fun b t k => @SsdPre.num_z SsdPre.facts _ _ _ _ _ _ _ _ _ _ _ _ _ h1 b t k
      sm := fun b t h => @SsdPre.num_sm SsdPre.facts _ _ _ _ _ _ _ _ _ _ _ _ _ h2 b t _
      cv := fun b t k => @SsdPre.num_cv SsdPre.facts _ _ _ _ _ _ _ _ _ _ _ _ _ h3 b t k
      w := fun j k => @SsdPre.num_w SsdPre.facts _ _ _ _ _ _ _ _ _ _ _ _ _ h4 j k
      cb := fun k => @SsdPre.num_cb SsdPre.facts _ _ _ _ _ _ _ _ _ _ _ _ _ h5 k
      tb := fun h => @SsdPre.num_tb SsdPre.facts _ _ _ _ _ _ _ _ _ _ _ _ _ h6 h
      al := fun h => @SsdPre.num_al SsdPre.facts _ _ _ _ _ _ _ _ _ _ _ _ _ h7 h }

theorem kernel_out (hI : (SsdFold.ins m c).Finite) : G12 m c = outAll m c := by
  funext i
  have h0 : (i 0).val < 8 := (i 0).isLt
  have h1 : (i 1).val < 2048 := (i 1).isLt
  have h2 : (i 2).val < 1024 := (i 2).isLt
  have hN : cfg0.N = 128 := N_0
  have hp : pt12Of i = 16 * (i 0).val + (i 1).val / 128 := by
    show 16 * ((i 0).val / 1 - 0) + 1 * ((i 1).val / 128 - 0) + 1 * ((i 2).val / 1024 - 0) = _; omega
  have hlt : pt12Of i < cfg0.N := by rw [hN, hp]; omega
  unfold G12
  refine (dif_pos hlt).trans ?_
  rw [← outsAt0_sweep m c (pt12Of i) hlt]
  have e : loc12Of i = ix3 (0 : Fin 1) (⟨(i 1).val % 128, Nat.mod_lt _ (by decide)⟩ : Fin 128) (⟨(i 2).val, h2⟩ : Fin 1024) := by
    funext a
    match a with
    | ⟨0, _⟩ => exact Fin.ext (by show (i 0).val % 1 = 0; omega)
    | ⟨1, _⟩ => rfl
    | ⟨2, _⟩ => exact Fin.ext (by show (i 2).val % 1024 = (i 2).val; omega)
  rw [e]
  refine ((SsdFold.kept hI.tame (pt12Of i) hlt).y _ _).trans ?_
  have es : SsdFold.sq ⟨pt12Of i, hlt⟩ = ⟨(i 0).val, h0⟩ := Fin.ext (by show pt12Of i / 16 = (i 0).val; rw [hp]; omega)
  have ec : SsdFold.ck ⟨pt12Of i, hlt⟩ = (i 1).val / 128 := by show pt12Of i % 16 = (i 1).val / 128; rw [hp]; omega
  rw [es, ec, hI.out]
  rfl

theorem kernel_state (hI : (SsdFold.ins m c).Finite) : G13 m c = stateAll m c := by
  funext i
  have h0 : (i 0).val < 8 := (i 0).isLt
  have h1 : (i 1).val < 1024 := (i 1).isLt
  have h2 : (i 2).val < 128 := (i 2).isLt
  have hN : cfg0.N = 128 := N_0
  have hp : pt13Of i = 16 * (i 0).val + 15 := by
    show 16 * (1 * ((i 0).val / 1 - 0) + 1 * ((i 1).val / 1024 - 0) + 1 * ((i 2).val / 128 - 0)) + 15 = _; omega
  have hlt : pt13Of i < cfg0.N := by rw [hN, hp]; omega
  unfold G13
  refine (dif_pos hlt).trans ?_
  rw [← outsAt0_sweep m c (pt13Of i) hlt]
  rw [(SsdFold.kept hI.tame (pt13Of i) hlt).l (by show pt13Of i % 16 = 15; rw [hp]; omega)]
  have es : SsdFold.sq ⟨pt13Of i, hlt⟩ = ⟨(i 0).val, h0⟩ := Fin.ext (by show pt13Of i / 16 = (i 0).val; rw [hp]; omega)
  have ec : SsdFold.ck ⟨pt13Of i, hlt⟩ + 1 = 16 := by show pt13Of i % 16 + 1 = 16; rw [hp]; omega
  rw [es, ec, hI.state]
  have e1 : (⟨(i 1).val % 1024, Nat.mod_lt _ (by decide)⟩ : Fin 1024) = ⟨(i 1).val, h1⟩ := Fin.ext (by show (i 1).val % 1024 = (i 1).val; omega)
  have e2 : (⟨(i 2).val % 128, Nat.mod_lt _ (by decide)⟩ : Fin 128) = ⟨(i 2).val, h2⟩ := Fin.ext (by show (i 2).val % 128 = (i 2).val; omega)
  show stateOf (SsdFold.ins m c) silu ⟨(i 0).val, h0⟩ 16 (head ⟨(i 1).val % 1024, Nat.mod_lt _ (by decide)⟩) (num ⟨(i 1).val % 1024, Nat.mod_lt _ (by decide)⟩) ⟨(i 2).val % 128, Nat.mod_lt _ (by decide)⟩ = _
  rw [e1, e2]
  rfl
end

/-- The inputs, of the arrays. -/
def insOf (a0 : FVec Ideal Cert.KernelIdeal.S8x2048x1536 .bf16) (a1 : FVec Ideal Cert.KernelIdeal.S8x2048x1024 .bf16) (a2 : FVec Ideal Cert.KernelIdeal.S8x2048x128 .f32) (a3 : FVec Ideal Cert.KernelIdeal.S8x3x1536 .f32) (a4 : FVec Ideal Cert.KernelIdeal.S8x16x64x128 .f32) (a5 : FVec Ideal Cert.KernelIdeal.S4x1536 .f32) (a6 : FVec Ideal Cert.KernelIdeal.S1536 .f32) (a7 : FVec Ideal Cert.KernelIdeal.S16 .f32) (a10 : FVec Ideal Cert.KernelIdeal.S16 .f32) (a11 : FVec Ideal Cert.KernelIdeal.S16 .f32) (a12 : FVec Ideal Cert.KernelIdeal.S1024 .f32) : Ins where
  X b t k := a0 (ix3 b t k)
  Z b t k := a1 (ix3 b t k)
  sm b t h := a2 (ix3 b t ⟨h.val, by omega⟩)
  cv b r k := a3 (ix3 b r k)
  st b h p n := a4 (ix4 b h p n)
  W j k := a5 (ix2 j k)
  cb k := a6 (ix1 k)
  tb h := a7 (ix1 h)
  al h := a10 (ix1 h)
  d h := a11 (ix1 h)
  w k := a12 (ix1 k)

section
open Cert.ReferenceIdeal Cert.ReferenceIdeal.Gen Cert.ReferenceIdeal.Value Idealize.ShloMosaic.StableHlo
variable (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)

theorem ins_mk (L : Valuation Cert.ReferenceIdeal.τ Cert.ReferenceIdeal.sig (Elt Ideal)) :
    SsdEnter.ins L = insOf (L (Proc.devRef .tc Cert.ReferenceIdeal.main_arg0)) (L (Proc.devRef .tc Cert.ReferenceIdeal.main_arg1)) (L (Proc.devRef .tc Cert.ReferenceIdeal.main_arg2)) (L (Proc.devRef .tc Cert.ReferenceIdeal.main_arg3)) (L (Proc.devRef .tc Cert.ReferenceIdeal.main_arg4)) (L (Proc.devRef .tc Cert.ReferenceIdeal.main_arg5)) (L (Proc.devRef .tc Cert.ReferenceIdeal.main_arg6)) (L (Proc.devRef .tc Cert.ReferenceIdeal.main_arg7)) (L (Proc.devRef .tc Cert.ReferenceIdeal.main_arg10)) (L (Proc.devRef .tc Cert.ReferenceIdeal.main_arg11)) (L (Proc.devRef .tc Cert.ReferenceIdeal.main_arg12)) := rfl

theorem ins_eq
    (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
    (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
    (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (h3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
    (h4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
    (h5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5)))
    (h6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6)))
    (h7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)))
    (h10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)))
    (h11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11)))
    (h12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))) :
    SsdRef.I m' c = SsdFold.ins m c := by
  have e0 : launchContents m' c (Proc.devRef .tc Cert.ReferenceIdeal.main_arg0) = (m ((c.tc : Thread Cert.KernelIdeal.nD Cert.KernelIdeal.τ).loc Cert.KernelIdeal.main_arg0)) := h0
  have e1 : launchContents m' c (Proc.devRef .tc Cert.ReferenceIdeal.main_arg1) = (m ((c.tc : Thread Cert.KernelIdeal.nD Cert.KernelIdeal.τ).loc Cert.KernelIdeal.main_arg1)) := h1
  have e2 : launchContents m' c (Proc.devRef .tc Cert.ReferenceIdeal.main_arg2) = (m ((c.tc : Thread Cert.KernelIdeal.nD Cert.KernelIdeal.τ).loc Cert.KernelIdeal.main_arg2)) := h2
  have e3 : launchContents m' c (Proc.devRef .tc Cert.ReferenceIdeal.main_arg3) = (m ((c.tc : Thread Cert.KernelIdeal.nD Cert.KernelIdeal.τ).loc Cert.KernelIdeal.main_arg3)) := h3
  have e4 : launchContents m' c (Proc.devRef .tc Cert.ReferenceIdeal.main_arg4) = (m ((c.tc : Thread Cert.KernelIdeal.nD Cert.KernelIdeal.τ).loc Cert.KernelIdeal.main_arg4)) := h4
  have e5 : launchContents m' c (Proc.devRef .tc Cert.ReferenceIdeal.main_arg5) = (m ((c.tc : Thread Cert.KernelIdeal.nD Cert.KernelIdeal.τ).loc Cert.KernelIdeal.main_arg5)) := h5
  have e6 : launchContents m' c (Proc.devRef .tc Cert.ReferenceIdeal.main_arg6) = (m ((c.tc : Thread Cert.KernelIdeal.nD Cert.KernelIdeal.τ).loc Cert.KernelIdeal.main_arg6)) := h6
  have e7 : launchContents m' c (Proc.devRef .tc Cert.ReferenceIdeal.main_arg7) = (m ((c.tc : Thread Cert.KernelIdeal.nD Cert.KernelIdeal.τ).loc Cert.KernelIdeal.main_arg7)) := h7
  have e10 : launchContents m' c (Proc.devRef .tc Cert.ReferenceIdeal.main_arg10) = (m ((c.tc : Thread Cert.KernelIdeal.nD Cert.KernelIdeal.τ).loc Cert.KernelIdeal.main_arg10)) := h10
  have e11 : launchContents m' c (Proc.devRef .tc Cert.ReferenceIdeal.main_arg11) = (m ((c.tc : Thread Cert.KernelIdeal.nD Cert.KernelIdeal.τ).loc Cert.KernelIdeal.main_arg11)) := h11
  have e12 : launchContents m' c (Proc.devRef .tc Cert.ReferenceIdeal.main_arg12) = (m ((c.tc : Thread Cert.KernelIdeal.nD Cert.KernelIdeal.τ).loc Cert.KernelIdeal.main_arg12)) := h12
  refine (ins_mk (launchContents m' c)).trans ?_
  rw [e0, e1, e2, e3, e4, e5, e6, e7, e10, e11, e12]
  rfl

variable {m m' c}

theorem plain_out (e : SsdRef.I m' c = SsdFold.ins m c) :
    finalContents condOps preI bodyI postI 16 m' c (Proc.devRef .tc Cert.ReferenceIdeal.main_v89) = outAll m c := by
  funext i
  have h1 : (i 1).val < 2048 := (i 1).isLt
  have := SsdRef.y_end m' c ⟨(i 0).val, (i 0).isLt⟩ ⟨(i 1).val, h1⟩ ⟨(i 2).val, (i 2).isLt⟩
  rw [e] at this
  have ei : i = ix3 (⟨(i 0).val, (i 0).isLt⟩ : Fin 8) (⟨(i 1).val, h1⟩ : Fin 2048) (⟨(i 2).val, (i 2).isLt⟩ : Fin 1024) := by
    funext a
    match a with
    | ⟨0, _⟩ => rfl
    | ⟨1, _⟩ => rfl
    | ⟨2, _⟩ => rfl
  rw [ei]
  exact this

theorem plain_state (e : SsdRef.I m' c = SsdFold.ins m c) :
    finalContents condOps preI bodyI postI 16 m' c (Proc.devRef .tc Cert.ReferenceIdeal.main_v90) = stateAll m c := by
  funext i
  have := SsdRef.s_end m' c ⟨(i 0).val, (i 0).isLt⟩ ⟨(i 1).val, (i 1).isLt⟩ ⟨(i 2).val, (i 2).isLt⟩
  rw [e] at this
  have ei : i = ix3 (⟨(i 0).val, (i 0).isLt⟩ : Fin 8) (⟨(i 1).val, (i 1).isLt⟩ : Fin 1024) (⟨(i 2).val, (i 2).isLt⟩ : Fin 128) := by
    funext a
    match a with
    | ⟨0, _⟩ => rfl
    | ⟨1, _⟩ => rfl
    | ⟨2, _⟩ => rfl
  rw [ei]
  exact this
end

/-- From finite inputs the two programs of the recurrence leave the same two arrays. -/
theorem ssd : Cert.algebraic_KernelIdeal_ReferenceIdeal_pre_finite_inputs (hKernelIdeal := Cert.KernelIdeal.Gen.facts)
    (hReferenceIdeal := Cert.ReferenceIdeal.Gen.facts) (hPre_finite_inputs := SsdPre.facts) := by
  intro m ρ m' ρ' hpre hag
  have hI := fun c => finite (m := m) (c := c) hpre
  refine ⟨outAll m, stateAll m, (θ_run _ _ _).mono (fun r h c => ?_) (Cert.KernelIdeal.Value.run m ρ),
    (θ_run _ _ _).mono (fun r h c => ?_) (Cert.ReferenceIdeal.Value.run_fold m' ρ')⟩
  · have hc := h c
    rw [kernel_out (hI c), kernel_state (hI c)] at hc
    exact hc
  · obtain ⟨h0, h1, h2, h3, h4, h5, h6, h7, h8, h9, h10, h11, h12⟩ := hag c
    have e := ins_eq m m' c h0 h1 h2 h3 h4 h5 h6 h7 h10 h11 h12
    exact ⟨(h c Cert.ReferenceIdeal.main_v89 rfl).trans (plain_out e), (h c Cert.ReferenceIdeal.main_v90 rfl).trans (plain_state e),
      (h c _ rfl).trans (SsdLoop.arg_kept m' c Cert.ReferenceIdeal.main_arg0 (by simp)),
      (h c _ rfl).trans (SsdLoop.arg_kept m' c Cert.ReferenceIdeal.main_arg1 (by simp)),
      (h c _ rfl).trans (SsdLoop.arg_kept m' c Cert.ReferenceIdeal.main_arg2 (by simp)),
      (h c _ rfl).trans (SsdLoop.arg_kept m' c Cert.ReferenceIdeal.main_arg3 (by simp)),
      (h c _ rfl).trans (SsdLoop.arg_kept m' c Cert.ReferenceIdeal.main_arg4 (by simp)),
      (h c _ rfl).trans (SsdLoop.arg_kept m' c Cert.ReferenceIdeal.main_arg5 (by simp)),
      (h c _ rfl).trans (SsdLoop.arg_kept m' c Cert.ReferenceIdeal.main_arg6 (by simp)),
      (h c _ rfl).trans (SsdLoop.arg_kept m' c Cert.ReferenceIdeal.main_arg7 (by simp)),
      (h c _ rfl).trans (SsdLoop.arg_kept m' c Cert.ReferenceIdeal.main_arg8 (by simp)),
      (h c _ rfl).trans (SsdLoop.arg_kept m' c Cert.ReferenceIdeal.main_arg9 (by simp)),
      (h c _ rfl).trans (SsdLoop.arg_kept m' c Cert.ReferenceIdeal.main_arg10 (by simp)),
      (h c _ rfl).trans (SsdLoop.arg_kept m' c Cert.ReferenceIdeal.main_arg11 (by simp)),
      (h c _ rfl).trans (SsdLoop.arg_kept m' c Cert.ReferenceIdeal.main_arg12 (by simp))⟩

end Layer.SsdEnd
-- ==== Proof.Ffn.lean ====
/-
  The mathematics of the feed-forward: a normalised row against both halves of the wide weights, the first half activated, their
  product against the second weights, all added to the row.
-/
module

public import proofs.«01_k».proof.Proof.Rows
public import proofs.«01_k».proof.Proof.SsdReal

@[expose] public section

noncomputable section
namespace Layer.Ffn
open Idealize.ShloMosaic Layer Layer.Ssd

/-- One hidden unit: the activated gate times the other half. -/
def hid (act : EReal → EReal) (xn g u : Fin 1024 → EReal) : EReal := act (∑ l, xn l * g l) * ∑ l, xn l * u l

/-- One entry of the row after the feed-forward. -/
def ffn (act : EReal → EReal) (x g : Fin 1024 → EReal) (U : Fin 1024 → Fin 5632 → EReal) (D : Fin 2816 → Fin 1024 → EReal) (k : Fin 1024) : EReal :=
  x k + ∑ f : Fin 2816, hid act (rmsn x g) (fun l => U l ⟨f.val, by omega⟩) (fun l => U l ⟨2816 + f.val, by omega⟩) * D f k

/-- What 256 hidden units from `o` on contribute. -/
def part (act : EReal → EReal) (xn : Fin 1024 → EReal) (U : Fin 1024 → Fin 5632 → EReal) (D : Fin 2816 → Fin 1024 → EReal) (k : Fin 1024)
    (o : Nat) (ho : o + 256 ≤ 2816) : EReal :=
  ∑ j : Fin 256, hid act xn (fun l => U l ⟨o + j.val, by omega⟩) (fun l => U l ⟨2816 + o + j.val, by omega⟩) * D ⟨o + j.val, by omega⟩ k

/-- A sum over 2816, in 11 stretches of 256. -/
theorem sum_stretches (F : Fin 2816 → EReal) : ∑ f, F f = ∑ c : Fin 11, ∑ j : Fin 256, F ⟨256 * c.val + j.val, by omega⟩ := by
  rw [← Finset.sum_product' (f := fun (c : Fin 11) (j : Fin 256) => F ⟨256 * c.val + j.val, by omega⟩), Finset.univ_product_univ]
  refine (Fintype.sum_equiv (finProdFinEquiv (m := 11) (n := 256)) _ _ fun p => congrArg F (Fin.ext ?_)).symm
  show 256 * p.1.val + p.2.val = p.2.val + 256 * p.1.val
  omega

theorem ffn_parts (act : EReal → EReal) (x g : Fin 1024 → EReal) (U : Fin 1024 → Fin 5632 → EReal) (D : Fin 2816 → Fin 1024 → EReal) (k : Fin 1024) :
    ffn act x g U D k = x k + (part act (rmsn x g) U D k 0 (by omega) + part act (rmsn x g) U D k 256 (by omega)
      + part act (rmsn x g) U D k 512 (by omega) + part act (rmsn x g) U D k 768 (by omega) + part act (rmsn x g) U D k 1024 (by omega)
      + part act (rmsn x g) U D k 1280 (by omega) + part act (rmsn x g) U D k 1536 (by omega) + part act (rmsn x g) U D k 1792 (by omega)
      + part act (rmsn x g) U D k 2048 (by omega) + part act (rmsn x g) U D k 2304 (by omega) + part act (rmsn x g) U D k 2560 (by omega)) := by
  unfold ffn
  refine congrArg (fun z : EReal => x k + z) ?_
  rw [sum_stretches]
  have e (c : Fin 11) : (∑ j : Fin 256, hid act (rmsn x g) (fun l => U l ⟨256 * c.val + j.val, by omega⟩) (fun l => U l ⟨2816 + (256 * c.val + j.val), by omega⟩)
      * D ⟨256 * c.val + j.val, by omega⟩ k) = part act (rmsn x g) U D k (256 * c.val) (by omega) := by
    unfold part
    refine Finset.sum_congr rfl fun j _ => ?_
    refine congrArg (fun u => hid act (rmsn x g) _ u * _) (funext fun l => congrArg (U l) (Fin.ext ?_))
    show 2816 + (256 * c.val + j.val) = 2816 + 256 * c.val + j.val
    omega
  rw [Finset.sum_congr rfl fun c _ => e c]
  simp only [Fin.sum_univ_castSucc, Fin.sum_univ_zero, zero_add]
  rfl

/-! ## Both spellings of the activation agree -/

theorem num_sum {ι : Type} (s : Finset ι) (f : ι → EReal) (h : ∀ j, Num (f j)) : Num (∑ j ∈ s, f j) := by
  classical
  induction s using Finset.induction_on with
  | empty => exact ⟨0, by simp⟩
  | insert a t ha ih => rw [Finset.sum_insert ha]; exact (h a).add ih

theorem sq_nonneg (x : EReal) : 0 ≤ x * x := by
  induction x with
  | bot => simp
  | coe r => rw [← EReal.coe_mul]; exact_mod_cast mul_self_nonneg r
  | top => simp

theorem k1024 : ∃ c : ℝ, 0 < c ∧ Ideal.ofBits .f32 0x44800000#32 = (c : EReal) := by
  refine ⟨8388608 * (2 ^ 13)⁻¹, by positivity, ?_⟩
  simp [Ideal.ofBits, Ideal.ieee, -EReal.coe_mul]

theorem keps : ∃ e : ℝ, 0 < e ∧ Ideal.ofBits .f32 0x3727C5AC#32 = (e : EReal) := by
  refine ⟨10995116 * (2 ^ 40)⁻¹, by positivity, ?_⟩
  simp [Ideal.ofBits, Ideal.ieee, -EReal.coe_mul]

/-- A normalised row is finite whatever the row, the gain being finite: an infinite row normalises to zero. -/
theorem rmsn_num (x g : Fin 1024 → EReal) (hg : ∀ k, Num (g k)) (k : Fin 1024) : Num (rmsn x g k) := by
  unfold rmsn
  refine Num.mul ?_ (hg k)
  obtain ⟨e, he, hk⟩ := keps
  obtain ⟨n, hn, hc⟩ := k1024
  have h0 : (0 : EReal) ≤ ∑ j, x j * x j := Finset.sum_nonneg fun j _ => sq_nonneg (x j)
  have hle : x k * x k ≤ ∑ j, x j * x j := Finset.single_le_sum (f := fun j => x j * x j) (fun j _ => sq_nonneg (x j)) (Finset.mem_univ k)
  rw [hk, hc, Ideal.div_coe hn.ne']
  generalize (∑ j, x j * x j) = s at h0 hle
  induction s with
  | bot => simp at h0
  | top =>
    rw [EReal.top_mul_coe_of_pos (by positivity), EReal.top_add_coe, Ideal.rsqrt_top, mul_zero]
    exact ⟨0, EReal.coe_zero.symm⟩
  | coe s =>
    have hs : 0 ≤ s := by exact_mod_cast h0
    rw [← EReal.coe_mul, ← EReal.coe_add, Ideal.rsqrt_coe]
    have hp : 0 < s * (1 / n) + e := by positivity
    rw [if_neg (not_lt.mpr hp.le), if_neg hp.ne']
    refine Num.mul ?_ ⟨_, rfl⟩
    generalize x k = v at hle
    induction v with
    | bot => simp at hle
    | coe r => exact ⟨r, rfl⟩
    | top => simp at hle

theorem ffn_silu (x g : Fin 1024 → EReal) (U : Fin 1024 → Fin 5632 → EReal) (D : Fin 2816 → Fin 1024 → EReal)
    (hg : ∀ k, Num (g k)) (hU : ∀ l f, Num (U l f)) (k : Fin 1024) : ffn siluT x g U D k = ffn silu x g U D k := by
  unfold ffn hid
  refine congrArg (fun z : EReal => x k + z) (Finset.sum_congr rfl fun f _ => ?_)
  rw [siluT_eq (num_sum _ _ fun l => (rmsn_num x g hg l).mul (hU l _))]

end Layer.Ffn
-- ==== Proof.Mix.lean ====
/-
  The two mixes of the layers: a row of the residual after the projection of the mixer's output, then the feed-forward.
-/
module

public import proofs.«01_k».proof.Proof.Ffn
public import Idealize.ShloMosaic.Lib.Pointwise

@[expose] public section

noncomputable section
namespace Layer.Ffn
open Idealize.ShloMosaic Layer

/-- Rank 3, over the extended reals. -/
abbrev V3 (a b c : Nat) := (⟨3, ![a, b, c]⟩ : Shape).Idx → EReal

/-- Two rows side by side. -/
def beside (y h : Fin 1024 → EReal) (f : Fin 2048) : EReal := if q : f.val < 1024 then y ⟨f.val, q⟩ else h ⟨f.val - 1024, by omega⟩

/-- The residual row of layer 0 after the output projection. -/
def res0 (y h x : V2 16384 1024) (w : V2 2048 1024) (r : Fin 16384) (k : Fin 1024) : EReal :=
  x (ix2 r k) + ∑ f : Fin 2048, beside (fun j => y (ix2 r j)) (fun j => h (ix2 r j)) f * w (ix2 f k)

/-- The residual row of layer 1 after the gated output projection. -/
def res1 (y g x : V2 16384 1024) (w : V2 1024 1024) (r : Fin 16384) (k : Fin 1024) : EReal :=
  x (ix2 r k) + ∑ f : Fin 1024, (y (ix2 r f) * g (ix2 r f)) * w (ix2 f k)

/-- A row after layer `a`'s feed-forward. -/
def out (act : EReal → EReal) (row : Fin 1024 → EReal) (g : V2 2 1024) (U : V3 2 1024 5632) (D : V3 2 2816 1024) (a : Fin 2) (k : Fin 1024) : EReal :=
  ffn act row (fun j => g (ix2 a j)) (fun l f => U (ix3 a l f)) (fun f k => D (ix3 a f k)) k

end Layer.Ffn
-- ==== Proof.Mix0Pay.lean ====
/-
  The body of the first mix, value by value at an index: the residual row, its normalisation, the hidden units 256 at a time.
-/
module

public import proofs.«01_k».proof.Proof.Gen.Mix0Ideal.Value
public import proofs.«01_k».proof.Proof.Mix

@[expose] public section
set_option maxRecDepth 16384

noncomputable section
namespace Layer.Mix0Pay
open Idealize.ShloMosaic Idealize.ShloMosaic.TcCoe Idealize.SL.Sem Layer.Ffn
open Layer.Ssd (siluT)
open Cert.Mix0Ideal Cert.Mix0Ideal.Gen

theorem pay3_at (y : Vec Ideal S512x1024 .bf16) (h : Vec Ideal S512x1024 .bf16) (x : Vec Ideal S512x1024 .f32) (w : Vec Ideal S2048x1024 .bf16) (r : Fin 512) (k : Fin 1024) :
    k0_pay3 y h x w (ix2 r k) = x (ix2 r k) + ∑ f : Fin 2048, beside (fun q => y (ix2 r q)) (fun q => h (ix2 r q)) f * w (ix2 f k) := by
  pointwise [k0_pay3, beside]

theorem pay4_at (y : Vec Ideal S512x1024 .bf16) (h : Vec Ideal S512x1024 .bf16) (x : Vec Ideal S512x1024 .f32) (w : Vec Ideal S2048x1024 .bf16) (g : Vec Ideal S1x1024 .f32) (r : Fin 512) (k : Fin 1024) :
    k0_pay4 y h x w g (ix2 r k) = rmsn (fun q => k0_pay3 y h x w (ix2 r q)) (fun q => g (ix2 0 q)) k := by
  pointwise [k0_pay4, rmsn]

theorem pay5_at (y : Vec Ideal S512x1024 .bf16) (h : Vec Ideal S512x1024 .bf16) (x : Vec Ideal S512x1024 .f32) (w : Vec Ideal S2048x1024 .bf16) (n : Vec Ideal S1x1024 .f32) (g : Vec Ideal S1x1024x256 .bf16) (u : Vec Ideal S1x1024x256 .bf16) (r : Fin 512) (j : Fin 256) :
    k0_pay5 y h x w n g u (ix2 r j) = hid siluT (fun l => k0_pay4 y h x w n (ix2 r l)) (fun l => g (ix3 0 l j)) (fun l => u (ix3 0 l j)) := by
  pointwise [k0_pay5, hid, siluT]

theorem pay6_at (xn : FVec Ideal S512x1024 .bf16) (hd : FVec Ideal S512x256 .f32) (d : Vec Ideal S1x256x1024 .bf16) (g : Vec Ideal S1x1024x256 .bf16) (u : Vec Ideal S1x1024x256 .bf16) (e : Vec Ideal S1x256x1024 .bf16) (r : Fin 512) (k : Fin 1024) :
    k0_pay6 xn hd d g u e (ix2 r k) = (∑ j : Fin 256, hd (ix2 r j) * d (ix3 0 j k)) + ∑ j : Fin 256, hid siluT (fun l => xn (ix2 r l)) (fun l => g (ix3 0 l j)) (fun l => u (ix3 0 l j)) * e (ix3 0 j k) := by
  pointwise [k0_pay6, hid, siluT]

theorem pay7_at (xn : FVec Ideal S512x1024 .bf16) (g : Vec Ideal S1x1024x256 .bf16) (u : Vec Ideal S1x1024x256 .bf16) (r : Fin 512) (j : Fin 256) :
    k0_pay7 xn g u (ix2 r j) = hid siluT (fun l => xn (ix2 r l)) (fun l => g (ix3 0 l j)) (fun l => u (ix3 0 l j)) := by
  pointwise [k0_pay7, hid, siluT]

theorem pay9_at (xn : FVec Ideal S512x1024 .bf16) (g : Vec Ideal S1x1024x256 .bf16) (u : Vec Ideal S1x1024x256 .bf16) (r : Fin 512) (j : Fin 256) :
    k0_pay9 xn g u (ix2 r j) = hid siluT (fun l => xn (ix2 r l)) (fun l => g (ix3 0 l j)) (fun l => u (ix3 0 l j)) := by
  pointwise [k0_pay9, hid, siluT]

theorem pay11_at (xn : FVec Ideal S512x1024 .bf16) (g : Vec Ideal S1x1024x256 .bf16) (u : Vec Ideal S1x1024x256 .bf16) (r : Fin 512) (j : Fin 256) :
    k0_pay11 xn g u (ix2 r j) = hid siluT (fun l => xn (ix2 r l)) (fun l => g (ix3 0 l j)) (fun l => u (ix3 0 l j)) := by
  pointwise [k0_pay11, hid, siluT]

theorem pay13_at (xn : FVec Ideal S512x1024 .bf16) (g : Vec Ideal S1x1024x256 .bf16) (u : Vec Ideal S1x1024x256 .bf16) (r : Fin 512) (j : Fin 256) :
    k0_pay13 xn g u (ix2 r j) = hid siluT (fun l => xn (ix2 r l)) (fun l => g (ix3 0 l j)) (fun l => u (ix3 0 l j)) := by
  pointwise [k0_pay13, hid, siluT]

theorem pay15_at (xn : FVec Ideal S512x1024 .bf16) (g : Vec Ideal S1x1024x256 .bf16) (u : Vec Ideal S1x1024x256 .bf16) (r : Fin 512) (j : Fin 256) :
    k0_pay15 xn g u (ix2 r j) = hid siluT (fun l => xn (ix2 r l)) (fun l => g (ix3 0 l j)) (fun l => u (ix3 0 l j)) := by
  pointwise [k0_pay15, hid, siluT]

theorem pay8_at (xn : FVec Ideal S512x1024 .bf16) (acc : FVec Ideal S512x1024 .f32) (hd : FVec Ideal S512x256 .f32) (d : Vec Ideal S1x256x1024 .bf16) (g : Vec Ideal S1x1024x256 .bf16) (u : Vec Ideal S1x1024x256 .bf16) (e : Vec Ideal S1x256x1024 .bf16) (r : Fin 512) (k : Fin 1024) :
    k0_pay8 xn acc hd d g u e (ix2 r k) = acc (ix2 r k) + (∑ j : Fin 256, hd (ix2 r j) * d (ix3 0 j k)) + ∑ j : Fin 256, hid siluT (fun l => xn (ix2 r l)) (fun l => g (ix3 0 l j)) (fun l => u (ix3 0 l j)) * e (ix3 0 j k) := by
  pointwise [k0_pay8, hid, siluT]

theorem pay10_at (xn : FVec Ideal S512x1024 .bf16) (acc : FVec Ideal S512x1024 .f32) (hd : FVec Ideal S512x256 .f32) (d : Vec Ideal S1x256x1024 .bf16) (g : Vec Ideal S1x1024x256 .bf16) (u : Vec Ideal S1x1024x256 .bf16) (e : Vec Ideal S1x256x1024 .bf16) (r : Fin 512) (k : Fin 1024) :
    k0_pay10 xn acc hd d g u e (ix2 r k) = acc (ix2 r k) + (∑ j : Fin 256, hd (ix2 r j) * d (ix3 0 j k)) + ∑ j : Fin 256, hid siluT (fun l => xn (ix2 r l)) (fun l => g (ix3 0 l j)) (fun l => u (ix3 0 l j)) * e (ix3 0 j k) := by
  pointwise [k0_pay10, hid, siluT]

theorem pay12_at (xn : FVec Ideal S512x1024 .bf16) (acc : FVec Ideal S512x1024 .f32) (hd : FVec Ideal S512x256 .f32) (d : Vec Ideal S1x256x1024 .bf16) (g : Vec Ideal S1x1024x256 .bf16) (u : Vec Ideal S1x1024x256 .bf16) (e : Vec Ideal S1x256x1024 .bf16) (r : Fin 512) (k : Fin 1024) :
    k0_pay12 xn acc hd d g u e (ix2 r k) = acc (ix2 r k) + (∑ j : Fin 256, hd (ix2 r j) * d (ix3 0 j k)) + ∑ j : Fin 256, hid siluT (fun l => xn (ix2 r l)) (fun l => g (ix3 0 l j)) (fun l => u (ix3 0 l j)) * e (ix3 0 j k) := by
  pointwise [k0_pay12, hid, siluT]

theorem pay14_at (xn : FVec Ideal S512x1024 .bf16) (acc : FVec Ideal S512x1024 .f32) (hd : FVec Ideal S512x256 .f32) (d : Vec Ideal S1x256x1024 .bf16) (g : Vec Ideal S1x1024x256 .bf16) (u : Vec Ideal S1x1024x256 .bf16) (e : Vec Ideal S1x256x1024 .bf16) (r : Fin 512) (k : Fin 1024) :
    k0_pay14 xn acc hd d g u e (ix2 r k) = acc (ix2 r k) + (∑ j : Fin 256, hd (ix2 r j) * d (ix3 0 j k)) + ∑ j : Fin 256, hid siluT (fun l => xn (ix2 r l)) (fun l => g (ix3 0 l j)) (fun l => u (ix3 0 l j)) * e (ix3 0 j k) := by
  pointwise [k0_pay14, hid, siluT]

theorem pay1_at (x1 : FVec Ideal S512x1024 .f32) (acc : FVec Ideal S512x1024 .f32) (hd : FVec Ideal S512x256 .f32) (d : Vec Ideal S1x256x1024 .bf16) (r : Fin 512) (k : Fin 1024) :
    k0_pay1 x1 acc hd d (ix2 r k) = x1 (ix2 r k) + (acc (ix2 r k) + ∑ j : Fin 256, hd (ix2 r j) * d (ix3 0 j k)) := by
  pointwise [k0_pay1, rmsn]

theorem pay2_at (x1 : FVec Ideal S512x1024 .f32) (acc : FVec Ideal S512x1024 .f32) (hd : FVec Ideal S512x256 .f32) (d : Vec Ideal S1x256x1024 .bf16) (g : Vec Ideal S1x1024 .f32) (r : Fin 512) (k : Fin 1024) :
    k0_pay2 x1 acc hd d g (ix2 r k) = rmsn (fun q => k0_pay1 x1 acc hd d (ix2 r q)) (fun q => g (ix2 0 q)) k := by
  pointwise [k0_pay2, rmsn]

end Layer.Mix0Pay
-- ==== Proof.Mix0Kernel.lean ====
/-
  The first mix as the kernel computes it: every point writes 512 rows, and together the 32 points write the result whole.
-/
module

public import proofs.«01_k».proof.Proof.Mix0Pay

@[expose] public section
set_option maxRecDepth 16384

noncomputable section
namespace Layer.Mix0
open Idealize.ShloMosaic Idealize.ShloMosaic.TcCoe Idealize.SL.Sem Layer.Ffn Layer.Mix0Pay
open Idealize.ShloMosaic.Pipeline (Dat)
open Layer.Ssd (siluT)
open Cert.Mix0Ideal Cert.Mix0Ideal.Gen

theorem hz : (![0, 0] : Fin 2 → Nat) = fun _ => 0 := funext fun a => by fin_cases a <;> rfl

/-! ## Stretches of the two weights -/

/-- 256 columns of the wide weights from `o` on. -/
def cols (U : Vec Ideal S1x1024x5632 .bf16) (o : Nat) (ho : o + 256 ≤ 5632) : Vec Ideal S1x1024x256 .bf16 :=
  fun i => U (ix3 0 ⟨(i 1).val, (i 1).isLt⟩ ⟨o + (i 2).val, lt_of_lt_of_le (Nat.add_lt_add_left (i 2).isLt o) ho⟩)

theorem cols_at (U : Vec Ideal S1x1024x5632 .bf16) (o : Nat) (ho : o + 256 ≤ 5632) (l : Fin 1024) (j : Fin 256) :
    (cols U o ho (ix3 0 l j) : EReal) = U (ix3 0 l ⟨o + j.val, by omega⟩) := rfl

theorem ld_cols (U : Vec Ideal S1x1024x5632 .bf16) (o : Nat) (h : ∀ a, (![0, 0, o] : Fin 3 → Nat) a + S1x1024x256.size a ≤ S1x1024x5632.size a) (ho : o + 256 ≤ 5632) :
    View.ld U (Rect.unit ![0, 0, o] S1x1024x256.size h) = cols U o ho := by
  funext i
  refine congrArg U (funext fun a => Fin.ext ?_)
  match a with
  | ⟨0, _⟩ => show 0 + 1 * (i 0).val = 0; have : (i 0).val < 1 := (i 0).isLt; omega
  | ⟨1, _⟩ => show 0 + 1 * (i 1).val = (i 1).val; omega
  | ⟨2, _⟩ => show o + 1 * (i 2).val = o + (i 2).val; omega

/-- 256 rows of the second weights from `o` on. -/
def rows (D : Vec Ideal S1x2816x1024 .bf16) (o : Nat) (ho : o + 256 ≤ 2816) : Vec Ideal S1x256x1024 .bf16 :=
  fun i => D (ix3 0 ⟨o + (i 1).val, lt_of_lt_of_le (Nat.add_lt_add_left (i 1).isLt o) ho⟩ ⟨(i 2).val, (i 2).isLt⟩)

theorem rows_at (D : Vec Ideal S1x2816x1024 .bf16) (o : Nat) (ho : o + 256 ≤ 2816) (j : Fin 256) (k : Fin 1024) :
    (rows D o ho (ix3 0 j k) : EReal) = D (ix3 0 ⟨o + j.val, by omega⟩ k) := rfl

theorem ld_rows (D : Vec Ideal S1x2816x1024 .bf16) (o : Nat) (h : ∀ a, (![0, o, 0] : Fin 3 → Nat) a + S1x256x1024.size a ≤ S1x2816x1024.size a) (ho : o + 256 ≤ 2816) :
    View.ld D (Rect.unit ![0, o, 0] S1x256x1024.size h) = rows D o ho := by
  funext i
  refine congrArg D (funext fun a => Fin.ext ?_)
  match a with
  | ⟨0, _⟩ => show 0 + 1 * (i 0).val = 0; have : (i 0).val < 1 := (i 0).isLt; omega
  | ⟨1, _⟩ => show o + 1 * (i 1).val = o + (i 1).val; omega
  | ⟨2, _⟩ => show 0 + 1 * (i 2).val = (i 2).val; omega

theorem whole_b (x : Vec Ideal S512x1024 .bf16) : View.ld x r0_0 = x := View.ld_unit_zero hz _ _
theorem whole_f (x : Vec Ideal S512x1024 .f32) : View.ld x r0_0 = x := View.ld_unit_zero hz _ _
theorem whole_w (x : Vec Ideal S2048x1024 .bf16) : View.ld x r0_1 = x := View.ld_unit_zero hz _ _
theorem whole_g (x : Vec Ideal S1x1024 .f32) : View.ld x r0_2 = x := View.ld_unit_zero hz _ _

/-! ## Each stretch the body takes -/

theorem ld3 (U : Vec Ideal S1x1024x5632 .bf16) : View.ld U r0_3 = cols U 0 (by omega) := ld_cols U 0 _ _
theorem ld4 (U : Vec Ideal S1x1024x5632 .bf16) : View.ld U r0_4 = cols U (2816 + 0) (by omega) := ld_cols U (2816 + 0) _ _
theorem ld5 (D : Vec Ideal S1x2816x1024 .bf16) : View.ld D r0_5 = rows D 0 (by omega) := ld_rows D 0 _ _
theorem ld6 (U : Vec Ideal S1x1024x5632 .bf16) : View.ld U r0_6 = cols U 256 (by omega) := ld_cols U 256 _ _
theorem ld7 (U : Vec Ideal S1x1024x5632 .bf16) : View.ld U r0_7 = cols U (2816 + 256) (by omega) := ld_cols U (2816 + 256) _ _
theorem ld8 (D : Vec Ideal S1x2816x1024 .bf16) : View.ld D r0_8 = rows D 256 (by omega) := ld_rows D 256 _ _
theorem ld9 (U : Vec Ideal S1x1024x5632 .bf16) : View.ld U r0_9 = cols U 512 (by omega) := ld_cols U 512 _ _
theorem ld10 (U : Vec Ideal S1x1024x5632 .bf16) : View.ld U r0_10 = cols U (2816 + 512) (by omega) := ld_cols U (2816 + 512) _ _
theorem ld11 (D : Vec Ideal S1x2816x1024 .bf16) : View.ld D r0_11 = rows D 512 (by omega) := ld_rows D 512 _ _
theorem ld12 (U : Vec Ideal S1x1024x5632 .bf16) : View.ld U r0_12 = cols U 768 (by omega) := ld_cols U 768 _ _
theorem ld13 (U : Vec Ideal S1x1024x5632 .bf16) : View.ld U r0_13 = cols U (2816 + 768) (by omega) := ld_cols U (2816 + 768) _ _
theorem ld14 (D : Vec Ideal S1x2816x1024 .bf16) : View.ld D r0_14 = rows D 768 (by omega) := ld_rows D 768 _ _
theorem ld15 (U : Vec Ideal S1x1024x5632 .bf16) : View.ld U r0_15 = cols U 1024 (by omega) := ld_cols U 1024 _ _
theorem ld16 (U : Vec Ideal S1x1024x5632 .bf16) : View.ld U r0_16 = cols U (2816 + 1024) (by omega) := ld_cols U (2816 + 1024) _ _
theorem ld17 (D : Vec Ideal S1x2816x1024 .bf16) : View.ld D r0_17 = rows D 1024 (by omega) := ld_rows D 1024 _ _
theorem ld18 (U : Vec Ideal S1x1024x5632 .bf16) : View.ld U r0_18 = cols U 1280 (by omega) := ld_cols U 1280 _ _
theorem ld19 (U : Vec Ideal S1x1024x5632 .bf16) : View.ld U r0_19 = cols U (2816 + 1280) (by omega) := ld_cols U (2816 + 1280) _ _
theorem ld20 (D : Vec Ideal S1x2816x1024 .bf16) : View.ld D r0_20 = rows D 1280 (by omega) := ld_rows D 1280 _ _
theorem ld21 (U : Vec Ideal S1x1024x5632 .bf16) : View.ld U r0_21 = cols U 1536 (by omega) := ld_cols U 1536 _ _
theorem ld22 (U : Vec Ideal S1x1024x5632 .bf16) : View.ld U r0_22 = cols U (2816 + 1536) (by omega) := ld_cols U (2816 + 1536) _ _
theorem ld23 (D : Vec Ideal S1x2816x1024 .bf16) : View.ld D r0_23 = rows D 1536 (by omega) := ld_rows D 1536 _ _
theorem ld24 (U : Vec Ideal S1x1024x5632 .bf16) : View.ld U r0_24 = cols U 1792 (by omega) := ld_cols U 1792 _ _
theorem ld25 (U : Vec Ideal S1x1024x5632 .bf16) : View.ld U r0_25 = cols U (2816 + 1792) (by omega) := ld_cols U (2816 + 1792) _ _
theorem ld26 (D : Vec Ideal S1x2816x1024 .bf16) : View.ld D r0_26 = rows D 1792 (by omega) := ld_rows D 1792 _ _
theorem ld27 (U : Vec Ideal S1x1024x5632 .bf16) : View.ld U r0_27 = cols U 2048 (by omega) := ld_cols U 2048 _ _
theorem ld28 (U : Vec Ideal S1x1024x5632 .bf16) : View.ld U r0_28 = cols U (2816 + 2048) (by omega) := ld_cols U (2816 + 2048) _ _
theorem ld29 (D : Vec Ideal S1x2816x1024 .bf16) : View.ld D r0_29 = rows D 2048 (by omega) := ld_rows D 2048 _ _
theorem ld30 (U : Vec Ideal S1x1024x5632 .bf16) : View.ld U r0_30 = cols U 2304 (by omega) := ld_cols U 2304 _ _
theorem ld31 (U : Vec Ideal S1x1024x5632 .bf16) : View.ld U r0_31 = cols U (2816 + 2304) (by omega) := ld_cols U (2816 + 2304) _ _
theorem ld32 (D : Vec Ideal S1x2816x1024 .bf16) : View.ld D r0_32 = rows D 2304 (by omega) := ld_rows D 2304 _ _
theorem ld33 (U : Vec Ideal S1x1024x5632 .bf16) : View.ld U r0_33 = cols U 2560 (by omega) := ld_cols U 2560 _ _
theorem ld34 (U : Vec Ideal S1x1024x5632 .bf16) : View.ld U r0_34 = cols U (2816 + 2560) (by omega) := ld_cols U (2816 + 2560) _ _
theorem ld35 (D : Vec Ideal S1x2816x1024 .bf16) : View.ld D r0_35 = rows D 2560 (by omega) := ld_rows D 2560 _ _

/-! ## One point's block -/

/-- A row after the feed-forward, of the blocks at a point. -/
def brow (x0 : Vec Ideal S512x1024 .bf16) (x1 : Vec Ideal S512x1024 .bf16) (x2 : Vec Ideal S512x1024 .f32) (x3 : Vec Ideal S2048x1024 .bf16) (x4 : Vec Ideal S1x1024 .f32) (x5 : Vec Ideal S1x1024x5632 .bf16) (x6 : Vec Ideal S1x2816x1024 .bf16) (x7 : Vec Ideal S1x1024 .f32) (r : Fin 512) (k : Fin 1024) : EReal :=
  ffn siluT (fun k => x2 (ix2 r k) + ∑ f : Fin 2048, beside (fun q => x0 (ix2 r q)) (fun q => x1 (ix2 r q)) f * x3 (ix2 f k)) (fun j => x4 (ix2 0 j)) (fun l f => x5 (ix3 0 l f)) (fun f k => x6 (ix3 0 f k)) k

theorem out9_at (x0 : Vec Ideal S512x1024 .bf16) (x1 : Vec Ideal S512x1024 .bf16) (x2 : Vec Ideal S512x1024 .f32) (x3 : Vec Ideal S2048x1024 .bf16) (x4 : Vec Ideal S1x1024 .f32) (x5 : Vec Ideal S1x1024x5632 .bf16) (x6 : Vec Ideal S1x2816x1024 .bf16) (x7 : Vec Ideal S1x1024 .f32) (r : Fin 512) (k : Fin 1024) :
    (out0_9 (F := Ideal) x0 x1 x2 x3 x4 x5 x6 x7 (ix2 r k) : EReal) = brow x0 x1 x2 x3 x4 x5 x6 x7 r k := by
  unfold_out out0_9
  rw [View.canon_unit_zero hz]
  simp only [whole_b, whole_f, whole_w, whole_g]
  unfold brow
  rw [ffn_parts]
  unfold part
  simp only [pay1_at, pay3_at, pay4_at, pay5_at, pay6_at, pay7_at, pay8_at, pay9_at, pay10_at, pay11_at, pay12_at, pay13_at, pay14_at, pay15_at, hid,
    ld3, ld4, ld5, ld6, ld7, ld8, ld9, ld10, ld11, ld12, ld13, ld14, ld15, ld16, ld17, ld18, ld19, ld20, ld21, ld22, ld23, ld24, ld25, ld26, ld27, ld28, ld29, ld30, ld31, ld32, ld33, ld34, ld35, cols_at, rows_at]
  repeat' first
    | with_reducible rfl
    | with_reducible refine congrArg₂ (· + ·) ?_ ?_

theorem out8_at (x0 : Vec Ideal S512x1024 .bf16) (x1 : Vec Ideal S512x1024 .bf16) (x2 : Vec Ideal S512x1024 .f32) (x3 : Vec Ideal S2048x1024 .bf16) (x4 : Vec Ideal S1x1024 .f32) (x5 : Vec Ideal S1x1024x5632 .bf16) (x6 : Vec Ideal S1x2816x1024 .bf16) (x7 : Vec Ideal S1x1024 .f32) (r : Fin 512) (k : Fin 1024) :
    (out0_8 (F := Ideal) x0 x1 x2 x3 x4 x5 x6 x7 (ix2 r k) : EReal) = rmsn (brow x0 x1 x2 x3 x4 x5 x6 x7 r) (fun q => x7 (ix2 0 q)) k := by
  have e := fun q => out9_at x0 x1 x2 x3 x4 x5 x6 x7 r q
  unfold out0_9 at e
  rw [View.canon_unit_zero hz] at e
  unfold out0_8
  rw [View.canon_unit_zero hz, pay2_at, whole_g]
  exact congrArg (fun f => rmsn f (fun q => x7 (ix2 0 q)) k) (funext e)

/-! ## The staged arrays -/

variable (m : (ℓ : Loc nD τ sig) → Buf (Elt Ideal) ℓ)

abbrev argY (c : Dev nD) : V2 16384 1024 := m ((c : Thread nD τ).loc main_arg0)
abbrev argH (c : Dev nD) : V2 16384 1024 := m ((c : Thread nD τ).loc main_arg1)
abbrev argX (c : Dev nD) : V2 16384 1024 := m ((c : Thread nD τ).loc main_arg2)
abbrev argW (c : Dev nD) : V2 2048 1024 := m ((c : Thread nD τ).loc main_arg3)
abbrev argG (c : Dev nD) : V2 2 1024 := m ((c : Thread nD τ).loc main_arg4)
abbrev argU (c : Dev nD) : V3 2 1024 5632 := m ((c : Thread nD τ).loc main_arg5)
abbrev argD (c : Dev nD) : V3 2 2816 1024 := m ((c : Thread nD τ).loc main_arg6)
abbrev argN (c : Dev nD) : V2 2 1024 := m ((c : Thread nD τ).loc main_arg7)

theorem w_at (c : Dev nD) (f : Fin 2048) (k : Fin 1024) : (V m c main_v0 (ix2 f k) : EReal) = argW m c (ix2 f k) := by
  simp only [V, hostOps0]
  after_results_simp
  pointwise

theorem g_at (c : Dev nD) (k : Fin 1024) : (V m c main_v3 (ix2 0 k) : EReal) = argG m c (ix2 0 k) := by
  simp only [V, hostOps0]
  after_results_simp
  pointwise

theorem u_at (c : Dev nD) (a : Fin 2) (l : Fin 1024) (f : Fin 5632) : (V m c main_v4 (ix3 a l f) : EReal) = argU m c (ix3 a l f) := by
  simp only [V, hostOps0]
  after_results_simp
  pointwise

theorem d_at (c : Dev nD) (a : Fin 2) (f : Fin 2816) (k : Fin 1024) : (V m c main_v5 (ix3 a f k) : EReal) = argD m c (ix3 a f k) := by
  simp only [V, hostOps0]
  after_results_simp
  pointwise

theorem n_at (c : Dev nD) (k : Fin 1024) : (V m c main_v8 (ix2 0 k) : EReal) = argN m c (ix2 1 k) := by
  simp only [V, hostOps0]
  after_results_simp
  pointwise

theorem lt32 (t : Fin cfg0.N) : t.val < 32 := lt_of_lt_of_eq t.isLt N_0

theorem idx0 : ∀ t : Fin cfg0.N, win0_0.index t 0 = t.val ∧ win0_0.index t 1 = 0 :=
  (by decide +kernel : ∀ t : Fin grid0.N, _)
theorem idx1 : ∀ t : Fin cfg0.N, win0_1.index t 0 = t.val ∧ win0_1.index t 1 = 0 :=
  (by decide +kernel : ∀ t : Fin grid0.N, _)
theorem idx2 : ∀ t : Fin cfg0.N, win0_2.index t 0 = t.val ∧ win0_2.index t 1 = 0 :=
  (by decide +kernel : ∀ t : Fin grid0.N, _)
theorem idx3 : ∀ t : Fin cfg0.N, win0_3.index t 0 = 0 ∧ win0_3.index t 1 = 0 :=
  (by decide +kernel : ∀ t : Fin grid0.N, _)
theorem idx4 : ∀ t : Fin cfg0.N, win0_4.index t 0 = 0 ∧ win0_4.index t 1 = 0 :=
  (by decide +kernel : ∀ t : Fin grid0.N, _)
theorem idx5 : ∀ t : Fin cfg0.N, win0_5.index t 0 = 0 ∧ win0_5.index t 1 = 0 ∧ win0_5.index t 2 = 0 :=
  (by decide +kernel : ∀ t : Fin grid0.N, _)
theorem idx6 : ∀ t : Fin cfg0.N, win0_6.index t 0 = 0 ∧ win0_6.index t 1 = 0 ∧ win0_6.index t 2 = 0 :=
  (by decide +kernel : ∀ t : Fin grid0.N, _)
theorem idx7 : ∀ t : Fin cfg0.N, win0_7.index t 0 = 0 ∧ win0_7.index t 1 = 0 :=
  (by decide +kernel : ∀ t : Fin grid0.N, _)
theorem idx8 : ∀ t : Fin cfg0.N, win0_8.index t 0 = t.val ∧ win0_8.index t 1 = 0 :=
  (by decide +kernel : ∀ t : Fin grid0.N, _)
theorem idx9 : ∀ t : Fin cfg0.N, win0_9.index t 0 = t.val ∧ win0_9.index t 1 = 0 :=
  (by decide +kernel : ∀ t : Fin grid0.N, _)

/-! ## The blocks at a point -/

theorem blk0_at (c : Dev nD) (t : Fin cfg0.N) (r : Fin 512) (j : Fin 1024) (h : 512 * t.val + r.val < 16384) :
    (iblk m c 0 t (ix2 r j) : EReal) = argY m c (ix2 ⟨512 * t.val + r.val, h⟩ j) := by
  show V m c main_arg0 (((cfg0.win 0).blk t).view.emb (ix2 r j)) = _
  rw [V_main_arg0]
  refine congrArg _ (funext fun a => Fin.ext ?_)
  obtain ⟨e0, e1⟩ := idx0 t
  match a with
  | ⟨0, _⟩ => show win0_0.index t 0 * 512 + 1 * r.val = 512 * t.val + r.val; omega
  | ⟨1, _⟩ => show win0_0.index t 1 * 1024 + 1 * j.val = j.val; omega

theorem blk1_at (c : Dev nD) (t : Fin cfg0.N) (r : Fin 512) (j : Fin 1024) (h : 512 * t.val + r.val < 16384) :
    (iblk m c 1 t (ix2 r j) : EReal) = argH m c (ix2 ⟨512 * t.val + r.val, h⟩ j) := by
  show V m c main_arg1 (((cfg0.win 1).blk t).view.emb (ix2 r j)) = _
  rw [V_main_arg1]
  refine congrArg _ (funext fun a => Fin.ext ?_)
  obtain ⟨e0, e1⟩ := idx1 t
  match a with
  | ⟨0, _⟩ => show win0_1.index t 0 * 512 + 1 * r.val = 512 * t.val + r.val; omega
  | ⟨1, _⟩ => show win0_1.index t 1 * 1024 + 1 * j.val = j.val; omega

theorem blk2_at (c : Dev nD) (t : Fin cfg0.N) (r : Fin 512) (j : Fin 1024) (h : 512 * t.val + r.val < 16384) :
    (iblk m c 2 t (ix2 r j) : EReal) = argX m c (ix2 ⟨512 * t.val + r.val, h⟩ j) := by
  show V m c main_arg2 (((cfg0.win 2).blk t).view.emb (ix2 r j)) = _
  rw [V_main_arg2]
  refine congrArg _ (funext fun a => Fin.ext ?_)
  obtain ⟨e0, e1⟩ := idx2 t
  match a with
  | ⟨0, _⟩ => show win0_2.index t 0 * 512 + 1 * r.val = 512 * t.val + r.val; omega
  | ⟨1, _⟩ => show win0_2.index t 1 * 1024 + 1 * j.val = j.val; omega

theorem blk3_at (c : Dev nD) (t : Fin cfg0.N) (f : Fin 2048) (k : Fin 1024) : (iblk m c 3 t (ix2 f k) : EReal) = argW m c (ix2 f k) := by
  rw [← w_at]
  show V m c main_v0 (((cfg0.win 3).blk t).view.emb (ix2 f k)) = _
  refine congrArg _ (funext fun a => Fin.ext ?_)
  obtain ⟨e0, e1⟩ := idx3 t
  match a with
  | ⟨0, _⟩ => show win0_3.index t 0 * 2048 + 1 * f.val = f.val; omega
  | ⟨1, _⟩ => show win0_3.index t 1 * 1024 + 1 * k.val = k.val; omega

theorem blk4_at (c : Dev nD) (t : Fin cfg0.N) (k : Fin 1024) : (iblk m c 4 t (ix2 0 k) : EReal) = argG m c (ix2 0 k) := by
  rw [← g_at]
  show V m c main_v3 (((cfg0.win 4).blk t).view.emb (ix2 0 k)) = _
  refine congrArg _ (funext fun a => Fin.ext ?_)
  obtain ⟨e0, e1⟩ := idx4 t
  match a with
  | ⟨0, _⟩ => show win0_4.index t 0 * 1 + 1 * 0 = 0; omega
  | ⟨1, _⟩ => show win0_4.index t 1 * 1024 + 1 * k.val = k.val; omega

theorem blk7_at (c : Dev nD) (t : Fin cfg0.N) (k : Fin 1024) : (iblk m c 7 t (ix2 0 k) : EReal) = argN m c (ix2 1 k) := by
  rw [← n_at]
  show V m c main_v8 (((cfg0.win 7).blk t).view.emb (ix2 0 k)) = _
  refine congrArg _ (funext fun a => Fin.ext ?_)
  obtain ⟨e0, e1⟩ := idx7 t
  match a with
  | ⟨0, _⟩ => show win0_7.index t 0 * 1 + 1 * 0 = 0; omega
  | ⟨1, _⟩ => show win0_7.index t 1 * 1024 + 1 * k.val = k.val; omega

theorem blk5_at (c : Dev nD) (t : Fin cfg0.N) (l : Fin 1024) (f : Fin 5632) : (iblk m c 5 t (ix3 0 l f) : EReal) = argU m c (ix3 0 l f) := by
  rw [← u_at]
  show V m c main_v4 (((cfg0.win 5).blk t).view.emb (ix3 0 l f)) = _
  refine congrArg _ (funext fun a => Fin.ext ?_)
  obtain ⟨e0, e1, e2⟩ := idx5 t
  match a with
  | ⟨0, _⟩ => show win0_5.index t 0 * 1 + 1 * 0 = 0; omega
  | ⟨1, _⟩ => show win0_5.index t 1 * 1024 + 1 * l.val = l.val; omega
  | ⟨2, _⟩ => show win0_5.index t 2 * 5632 + 1 * f.val = f.val; omega

theorem blk6_at (c : Dev nD) (t : Fin cfg0.N) (l : Fin 2816) (f : Fin 1024) : (iblk m c 6 t (ix3 0 l f) : EReal) = argD m c (ix3 0 l f) := by
  rw [← d_at]
  show V m c main_v5 (((cfg0.win 6).blk t).view.emb (ix3 0 l f)) = _
  refine congrArg _ (funext fun a => Fin.ext ?_)
  obtain ⟨e0, e1, e2⟩ := idx6 t
  match a with
  | ⟨0, _⟩ => show win0_6.index t 0 * 1 + 1 * 0 = 0; omega
  | ⟨1, _⟩ => show win0_6.index t 1 * 2816 + 1 * l.val = l.val; omega
  | ⟨2, _⟩ => show win0_6.index t 2 * 1024 + 1 * f.val = f.val; omega

/-! ## The results -/

/-- The row after the feed-forward. -/
def after (c : Dev nD) (r : Fin 16384) (k : Fin 1024) : EReal :=
  out siluT (res0 (argY m c) (argH m c) (argX m c) (argW m c) r) (argG m c) (argU m c) (argD m c) 0 k

abbrev B0 (c : Dev nD) (t : Fin cfg0.N) : Vec Ideal S512x1024 .bf16 := iblk m c 0 t
abbrev B1 (c : Dev nD) (t : Fin cfg0.N) : Vec Ideal S512x1024 .bf16 := iblk m c 1 t
abbrev B2 (c : Dev nD) (t : Fin cfg0.N) : Vec Ideal S512x1024 .f32 := iblk m c 2 t
abbrev B3 (c : Dev nD) (t : Fin cfg0.N) : Vec Ideal S2048x1024 .bf16 := iblk m c 3 t

/-- It is what a point computes of its blocks. -/
theorem brow_at (c : Dev nD) (t : Fin cfg0.N) (r : Fin 512) (h : 512 * t.val + r.val < 16384) (k : Fin 1024) :
    brow (iblk m c 0 t) (iblk m c 1 t) (iblk m c 2 t) (iblk m c 3 t) (iblk m c 4 t) (iblk m c 5 t) (iblk m c 6 t) (iblk m c 7 t) r k
      = after m c ⟨512 * t.val + r.val, h⟩ k := by
  unfold brow after out
  have e1 : (fun k : Fin 1024 => ((B2 m c t (ix2 r k) + ∑ f : Fin 2048, beside (fun q => B0 m c t (ix2 r q)) (fun q => B1 m c t (ix2 r q)) f * B3 m c t (ix2 f k)) : EReal)) = res0 (argY m c) (argH m c) (argX m c) (argW m c) ⟨512 * t.val + r.val, h⟩ := by
    funext q
    unfold res0
    simp only [B0, B1, B2, B3, blk0_at m c t _ _ h, blk1_at m c t _ _ h, blk2_at m c t _ _ h, blk3_at]
  have e2 : (fun j => (iblk m c 4 t (ix2 0 j) : EReal)) = fun j => argG m c (ix2 0 j) := funext fun j => blk4_at m c t j
  have e3 : (fun (l : Fin 1024) (f : Fin 5632) => (iblk m c 5 t (ix3 0 l f) : EReal)) = fun l f => argU m c (ix3 0 l f) :=
    funext fun l => funext fun f => blk5_at m c t l f
  have e4 : (fun (f : Fin 2816) (k : Fin 1024) => (iblk m c 6 t (ix3 0 f k) : EReal)) = fun f k => argD m c (ix3 0 f k) :=
    funext fun l => funext fun f => blk6_at m c t l f
  exact (congrArg (fun z => ffn siluT z _ _ _ k) e1).trans ((congrArg (fun z => ffn siluT _ z _ _ k) e2).trans
    ((congrArg (fun z => ffn siluT _ _ z _ k) e3).trans (congrArg (fun z => ffn siluT _ _ _ z k) e4)))

/-- The normalised rows, as an array. -/
def normed (c : Dev nD) : V2 16384 1024 := fun i => rmsn (after m c (i 0)) (fun q => argN m c (ix2 1 q)) (i 1)

/-- The rows, as an array. -/
def rowsOf (c : Dev nD) : V2 16384 1024 := fun i => after m c (i 0) (i 1)

theorem flushed8_eq (c : Dev nD) (t : Fin cfg0.N) : (dats m 0 c).flushed 8 t = ((cfg0.win 8).blk t).view.read (Elt Ideal) (normed m c) := by
  rw [Value.flushed8]
  funext y
  obtain ⟨r, k, rfl⟩ : ∃ (r : Fin 512) (k : Fin 1024), y = ix2 r k := ⟨y 0, y 1, eq_ix2 y⟩
  have ht := lt32 t
  have e : ((cfg0.win 8).blk t).view.emb (ix2 r k) = ix2 (⟨512 * t.val + r.val, by omega⟩ : Fin 16384) k := by
    obtain ⟨e0, e1⟩ := idx8 t
    funext a; apply Fin.ext
    match a with
    | ⟨0, _⟩ => show win0_8.index t 0 * 512 + 1 * r.val = 512 * t.val + r.val; omega
    | ⟨1, _⟩ => show win0_8.index t 1 * 1024 + 1 * k.val = k.val; omega
  show (out0_8 (F := Ideal) (iblk m c 0 t) (iblk m c 1 t) (iblk m c 2 t) (iblk m c 3 t) (iblk m c 4 t) (iblk m c 5 t) (iblk m c 6 t) (iblk m c 7 t) (ix2 r k) : EReal)
    = (normed m c) (((cfg0.win 8).blk t).view.emb (ix2 r k))
  rw [e]
  rw [out8_at]
  show rmsn _ _ k = rmsn (after m c ⟨512 * t.val + r.val, by omega⟩) (fun q => argN m c (ix2 1 q)) k
  rw [show brow (iblk m c 0 t) (iblk m c 1 t) (iblk m c 2 t) (iblk m c 3 t) (iblk m c 4 t) (iblk m c 5 t) (iblk m c 6 t) (iblk m c 7 t) r
    = after m c ⟨512 * t.val + r.val, by omega⟩ from funext fun q => brow_at m c t r (by omega) q]
  exact congrArg (fun z => rmsn _ z k) (funext fun q => blk7_at m c t q)

theorem mem8 (t : Fin cfg0.N) (i : (main_v9_0 : Ref sig .tc).ty.Idx) :
    i ∈ ((cfg0.win 8).blk t).view.set ↔ ∀ a : Fin 2, win0_8.index t a * win0_8.size a ≤ (i a).val ∧ (i a).val < win0_8.index t a * win0_8.size a + win0_8.size a := by
  show i ∈ ((View.whole main_v9_0).slice (win0_8.rect t)).set ↔ _
  rw [View.set_slice_whole, Rect.mem_set_unit]
  exact Iff.rfl

theorem final8 (c : Dev nD) : (dats m 0 c).arrAt 8 cfg0.N = normed m c :=
  (dats m 0 c).arrAt_eq_of_cover 8 _ (fun t _ => flushed8_eq m c t) fun i => by
    have h0 : (i 0).val < 16384 := (i 0).isLt
    have h1 : (i 1).val < 1024 := (i 1).isLt
    have hN : cfg0.N = 32 := N_0
    refine ⟨⟨(i 0).val / 512, by omega⟩, flush0_8 _, ?_⟩
    rw [mem8]
    obtain ⟨e0, e1⟩ := idx8 ⟨(i 0).val / 512, by omega⟩
    intro a
    match a with
    | ⟨0, _⟩ => show win0_8.index _ 0 * 512 ≤ (i 0).val ∧ (i 0).val < win0_8.index _ 0 * 512 + 512
                rw [e0]; dsimp only; omega
    | ⟨1, _⟩ => show win0_8.index _ 1 * 1024 ≤ (i 1).val ∧ (i 1).val < win0_8.index _ 1 * 1024 + 1024
                rw [e1]; omega

theorem flushed9_eq (c : Dev nD) (t : Fin cfg0.N) : (dats m 0 c).flushed 9 t = ((cfg0.win 9).blk t).view.read (Elt Ideal) (rowsOf m c) := by
  rw [Value.flushed9]
  funext y
  obtain ⟨r, k, rfl⟩ : ∃ (r : Fin 512) (k : Fin 1024), y = ix2 r k := ⟨y 0, y 1, eq_ix2 y⟩
  have ht := lt32 t
  have e : ((cfg0.win 9).blk t).view.emb (ix2 r k) = ix2 (⟨512 * t.val + r.val, by omega⟩ : Fin 16384) k := by
    obtain ⟨e0, e1⟩ := idx9 t
    funext a; apply Fin.ext
    match a with
    | ⟨0, _⟩ => show win0_9.index t 0 * 512 + 1 * r.val = 512 * t.val + r.val; omega
    | ⟨1, _⟩ => show win0_9.index t 1 * 1024 + 1 * k.val = k.val; omega
  show (out0_9 (F := Ideal) (iblk m c 0 t) (iblk m c 1 t) (iblk m c 2 t) (iblk m c 3 t) (iblk m c 4 t) (iblk m c 5 t) (iblk m c 6 t) (iblk m c 7 t) (ix2 r k) : EReal)
    = (rowsOf m c) (((cfg0.win 9).blk t).view.emb (ix2 r k))
  rw [e]
  rw [out9_at]
  exact brow_at m c t r (by omega) k

theorem mem9 (t : Fin cfg0.N) (i : (main_v9_1 : Ref sig .tc).ty.Idx) :
    i ∈ ((cfg0.win 9).blk t).view.set ↔ ∀ a : Fin 2, win0_9.index t a * win0_9.size a ≤ (i a).val ∧ (i a).val < win0_9.index t a * win0_9.size a + win0_9.size a := by
  show i ∈ ((View.whole main_v9_1).slice (win0_9.rect t)).set ↔ _
  rw [View.set_slice_whole, Rect.mem_set_unit]
  exact Iff.rfl

theorem final9 (c : Dev nD) : (dats m 0 c).arrAt 9 cfg0.N = rowsOf m c :=
  (dats m 0 c).arrAt_eq_of_cover 9 _ (fun t _ => flushed9_eq m c t) fun i => by
    have h0 : (i 0).val < 16384 := (i 0).isLt
    have h1 : (i 1).val < 1024 := (i 1).isLt
    have hN : cfg0.N = 32 := N_0
    refine ⟨⟨(i 0).val / 512, by omega⟩, flush0_9 _, ?_⟩
    rw [mem9]
    obtain ⟨e0, e1⟩ := idx9 ⟨(i 0).val / 512, by omega⟩
    intro a
    match a with
    | ⟨0, _⟩ => show win0_9.index _ 0 * 512 ≤ (i 0).val ∧ (i 0).val < win0_9.index _ 0 * 512 + 512
                rw [e0]; dsimp only; omega
    | ⟨1, _⟩ => show win0_9.index _ 1 * 1024 ≤ (i 1).val ∧ (i 1).val < win0_9.index _ 1 * 1024 + 1024
                rw [e1]; omega

/-- The run, read: the results as functions of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v9_0) = normed m c
      ∧ r.2.mem ((c : Thread nD τ).loc main_v9_1) = rowsOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => by
    obtain ⟨h0, h1, hk⟩ := h c
    exact ⟨h0.trans (final8 m c), h1.trans (final9 m c), hk⟩)
    (Value.run_blocks m ρ)

end Layer.Mix0
-- ==== Proof.Mix0Plain.lean ====
/-
  The first mix as the plain program computes it, as a function of the arguments.
-/
module

public import proofs.«01_k».proof.Proof.Gen.Mix0RefIdeal.Run
public import proofs.«01_k».proof.Proof.Mix

@[expose] public section
set_option maxRecDepth 16384

noncomputable section
namespace Layer.Mix0Plain
open Idealize.ShloMosaic Idealize.ShloMosaic.TcCoe Idealize.SL.Sem Layer.Ffn
open Layer.Ssd (silu)
open Cert.Mix0RefIdeal Cert.Mix0RefIdeal.Gen

variable (m : (ℓ : Loc nD τ sig) → Buf (Elt Ideal) ℓ)

abbrev argY (c : Dev nD) : V2 16384 1024 := m ((c : Thread nD τ).loc main_arg0)
abbrev argH (c : Dev nD) : V2 16384 1024 := m ((c : Thread nD τ).loc main_arg1)
abbrev argX (c : Dev nD) : V2 16384 1024 := m ((c : Thread nD τ).loc main_arg2)
abbrev argW (c : Dev nD) : V2 2048 1024 := m ((c : Thread nD τ).loc main_arg3)
abbrev argG (c : Dev nD) : V2 2 1024 := m ((c : Thread nD τ).loc main_arg4)
abbrev argU (c : Dev nD) : V3 2 1024 5632 := m ((c : Thread nD τ).loc main_arg5)
abbrev argD (c : Dev nD) : V3 2 2816 1024 := m ((c : Thread nD τ).loc main_arg6)
abbrev argN (c : Dev nD) : V2 2 1024 := m ((c : Thread nD τ).loc main_arg7)

/-- The row after the feed-forward. -/
def after (c : Dev nD) (r : Fin 16384) (k : Fin 1024) : EReal :=
  out silu (res0 (argY m c) (argH m c) (argX m c) (argW m c) r) (argG m c) (argU m c) (argD m c) 0 k

theorem after_at (c : Dev nD) (r : Fin 16384) (k : Fin 1024) : (Value.res_main_v29 (F := Ideal) m c (ix2 r k) : EReal) = after m c r k := by
  pointwise [Value.res_main_v29, after, out, ffn, hid, res0, rmsn, silu, beside]

theorem norm_at (c : Dev nD) (r : Fin 16384) (k : Fin 1024) : (Value.res_main_v45 (F := Ideal) m c (ix2 r k) : EReal) = rmsn (after m c r) (fun q => argN m c (ix2 1 q)) k := by
  pointwise [Value.res_main_v45, after, out, ffn, hid, res0, rmsn, silu, beside]

end Layer.Mix0Plain
-- ==== Proof.Mix1Pay.lean ====
/-
  The body of the second mix, value by value at an index: the residual row, its normalisation, the hidden units 256 at a time.
-/
module

public import proofs.«01_k».proof.Proof.Gen.Mix1Ideal.Value
public import proofs.«01_k».proof.Proof.Mix

@[expose] public section
set_option maxRecDepth 16384

noncomputable section
namespace Layer.Mix1Pay
open Idealize.ShloMosaic Idealize.ShloMosaic.TcCoe Idealize.SL.Sem Layer.Ffn
open Layer.Ssd (siluT)
open Cert.Mix1Ideal Cert.Mix1Ideal.Gen

/-- Half the gate. -/
def halved (s : EReal) : EReal := Ideal.ofBits .f32 0x3F000000#32 * s

theorem pay2_at (x : Vec Ideal S512x1024 .f32) (y : Vec Ideal S512x1024 .bf16) (a : Vec Ideal S512x1024 .bf16) (w : Vec Ideal S1024x1024 .bf16) (r : Fin 512) (k : Fin 1024) :
    k0_pay2 x y a w (ix2 r k) = x (ix2 r k) + ∑ f : Fin 1024, (y (ix2 r f) * a (ix2 r f)) * w (ix2 f k) := by
  pointwise [k0_pay2, rmsn]

theorem pay3_at (x : Vec Ideal S512x1024 .f32) (y : Vec Ideal S512x1024 .bf16) (a : Vec Ideal S512x1024 .bf16) (w : Vec Ideal S1024x1024 .bf16) (g : Vec Ideal S1x1024 .f32) (r : Fin 512) (k : Fin 1024) :
    k0_pay3 x y a w g (ix2 r k) = rmsn (fun q => k0_pay2 x y a w (ix2 r q)) (fun q => g (ix2 0 q)) k := by
  pointwise [k0_pay3, rmsn]

theorem pay4_at (x : Vec Ideal S512x1024 .f32) (y : Vec Ideal S512x1024 .bf16) (a : Vec Ideal S512x1024 .bf16) (w : Vec Ideal S1024x1024 .bf16) (n : Vec Ideal S1x1024 .f32) (u : Vec Ideal S1x1024x256 .bf16) (r : Fin 512) (j : Fin 256) :
    k0_pay4 x y a w n u (ix2 r j) = ∑ l : Fin 1024, k0_pay3 x y a w n (ix2 r l) * u (ix3 0 l j) := by
  pointwise [k0_pay4, rmsn]

theorem pay5_at (x : Vec Ideal S512x1024 .f32) (y : Vec Ideal S512x1024 .bf16) (a : Vec Ideal S512x1024 .bf16) (w : Vec Ideal S1024x1024 .bf16) (n : Vec Ideal S1x1024 .f32) (g : Vec Ideal S1x1024x256 .bf16) (r : Fin 512) (j : Fin 256) :
    k0_pay5 x y a w n g (ix2 r j) = halved (∑ l : Fin 1024, k0_pay3 x y a w n (ix2 r l) * g (ix3 0 l j)) := by
  pointwise [k0_pay5, halved]

theorem pay6_at (x : Vec Ideal S512x1024 .f32) (y : Vec Ideal S512x1024 .bf16) (a : Vec Ideal S512x1024 .bf16) (w : Vec Ideal S1024x1024 .bf16) (n : Vec Ideal S1x1024 .f32) (g : Vec Ideal S1x1024x256 .bf16) (r : Fin 512) (j : Fin 256) :
    k0_pay6 x y a w n g (ix2 r j) = halved (∑ l : Fin 1024, k0_pay3 x y a w n (ix2 r l) * g (ix3 0 l j)) * Ideal.tanh (halved (∑ l : Fin 1024, k0_pay3 x y a w n (ix2 r l) * g (ix3 0 l j))) := by
  pointwise [k0_pay6, pay5_at]

theorem pay7_at (xn : FVec Ideal S512x1024 .bf16) (up : FVec Ideal S512x256 .f32) (s : FVec Ideal S512x256 .f32) (t : FVec Ideal S512x256 .f32) (d : Vec Ideal S1x256x1024 .bf16) (g : Vec Ideal S1x1024x256 .bf16) (u : Vec Ideal S1x1024x256 .bf16) (e : Vec Ideal S1x256x1024 .bf16) (r : Fin 512) (k : Fin 1024) :
    k0_pay7 xn up s t d g u e (ix2 r k) = (∑ j : Fin 256, ((t (ix2 r j) + s (ix2 r j)) * up (ix2 r j)) * d (ix3 0 j k)) + ∑ j : Fin 256, hid siluT (fun l => xn (ix2 r l)) (fun l => g (ix3 0 l j)) (fun l => u (ix3 0 l j)) * e (ix3 0 j k) := by
  pointwise [k0_pay7, hid, siluT]

theorem pay8_at (xn : FVec Ideal S512x1024 .bf16) (u : Vec Ideal S1x1024x256 .bf16) (r : Fin 512) (j : Fin 256) :
    k0_pay8 xn u (ix2 r j) = ∑ l : Fin 1024, xn (ix2 r l) * u (ix3 0 l j) := by
  pointwise [k0_pay8, rmsn]

theorem pay11_at (xn : FVec Ideal S512x1024 .bf16) (u : Vec Ideal S1x1024x256 .bf16) (r : Fin 512) (j : Fin 256) :
    k0_pay11 xn u (ix2 r j) = ∑ l : Fin 1024, xn (ix2 r l) * u (ix3 0 l j) := by
  pointwise [k0_pay11, rmsn]

theorem pay14_at (xn : FVec Ideal S512x1024 .bf16) (u : Vec Ideal S1x1024x256 .bf16) (r : Fin 512) (j : Fin 256) :
    k0_pay14 xn u (ix2 r j) = ∑ l : Fin 1024, xn (ix2 r l) * u (ix3 0 l j) := by
  pointwise [k0_pay14, rmsn]

theorem pay17_at (xn : FVec Ideal S512x1024 .bf16) (u : Vec Ideal S1x1024x256 .bf16) (r : Fin 512) (j : Fin 256) :
    k0_pay17 xn u (ix2 r j) = ∑ l : Fin 1024, xn (ix2 r l) * u (ix3 0 l j) := by
  pointwise [k0_pay17, rmsn]

theorem pay20_at (xn : FVec Ideal S512x1024 .bf16) (u : Vec Ideal S1x1024x256 .bf16) (r : Fin 512) (j : Fin 256) :
    k0_pay20 xn u (ix2 r j) = ∑ l : Fin 1024, xn (ix2 r l) * u (ix3 0 l j) := by
  pointwise [k0_pay20, rmsn]

theorem pay9_at (xn : FVec Ideal S512x1024 .bf16) (g : Vec Ideal S1x1024x256 .bf16) (r : Fin 512) (j : Fin 256) :
    k0_pay9 xn g (ix2 r j) = siluT (∑ l : Fin 1024, xn (ix2 r l) * g (ix3 0 l j)) := by
  pointwise [k0_pay9, siluT]

theorem pay12_at (xn : FVec Ideal S512x1024 .bf16) (g : Vec Ideal S1x1024x256 .bf16) (r : Fin 512) (j : Fin 256) :
    k0_pay12 xn g (ix2 r j) = siluT (∑ l : Fin 1024, xn (ix2 r l) * g (ix3 0 l j)) := by
  pointwise [k0_pay12, siluT]

theorem pay15_at (xn : FVec Ideal S512x1024 .bf16) (g : Vec Ideal S1x1024x256 .bf16) (r : Fin 512) (j : Fin 256) :
    k0_pay15 xn g (ix2 r j) = siluT (∑ l : Fin 1024, xn (ix2 r l) * g (ix3 0 l j)) := by
  pointwise [k0_pay15, siluT]

theorem pay18_at (xn : FVec Ideal S512x1024 .bf16) (g : Vec Ideal S1x1024x256 .bf16) (r : Fin 512) (j : Fin 256) :
    k0_pay18 xn g (ix2 r j) = siluT (∑ l : Fin 1024, xn (ix2 r l) * g (ix3 0 l j)) := by
  pointwise [k0_pay18, siluT]

theorem pay21_at (xn : FVec Ideal S512x1024 .bf16) (g : Vec Ideal S1x1024x256 .bf16) (r : Fin 512) (j : Fin 256) :
    k0_pay21 xn g (ix2 r j) = siluT (∑ l : Fin 1024, xn (ix2 r l) * g (ix3 0 l j)) := by
  pointwise [k0_pay21, siluT]

theorem pay10_at (xn : FVec Ideal S512x1024 .bf16) (acc : FVec Ideal S512x1024 .f32) (up : FVec Ideal S512x256 .f32) (si : FVec Ideal S512x256 .f32) (d : Vec Ideal S1x256x1024 .bf16) (g : Vec Ideal S1x1024x256 .bf16) (u : Vec Ideal S1x1024x256 .bf16) (e : Vec Ideal S1x256x1024 .bf16) (r : Fin 512) (k : Fin 1024) :
    k0_pay10 xn acc up si d g u e (ix2 r k) = acc (ix2 r k) + (∑ j : Fin 256, (si (ix2 r j) * up (ix2 r j)) * d (ix3 0 j k)) + ∑ j : Fin 256, hid siluT (fun l => xn (ix2 r l)) (fun l => g (ix3 0 l j)) (fun l => u (ix3 0 l j)) * e (ix3 0 j k) := by
  pointwise [k0_pay10, hid, siluT]

theorem pay13_at (xn : FVec Ideal S512x1024 .bf16) (acc : FVec Ideal S512x1024 .f32) (up : FVec Ideal S512x256 .f32) (si : FVec Ideal S512x256 .f32) (d : Vec Ideal S1x256x1024 .bf16) (g : Vec Ideal S1x1024x256 .bf16) (u : Vec Ideal S1x1024x256 .bf16) (e : Vec Ideal S1x256x1024 .bf16) (r : Fin 512) (k : Fin 1024) :
    k0_pay13 xn acc up si d g u e (ix2 r k) = acc (ix2 r k) + (∑ j : Fin 256, (si (ix2 r j) * up (ix2 r j)) * d (ix3 0 j k)) + ∑ j : Fin 256, hid siluT (fun l => xn (ix2 r l)) (fun l => g (ix3 0 l j)) (fun l => u (ix3 0 l j)) * e (ix3 0 j k) := by
  pointwise [k0_pay13, hid, siluT]

theorem pay16_at (xn : FVec Ideal S512x1024 .bf16) (acc : FVec Ideal S512x1024 .f32) (up : FVec Ideal S512x256 .f32) (si : FVec Ideal S512x256 .f32) (d : Vec Ideal S1x256x1024 .bf16) (g : Vec Ideal S1x1024x256 .bf16) (u : Vec Ideal S1x1024x256 .bf16) (e : Vec Ideal S1x256x1024 .bf16) (r : Fin 512) (k : Fin 1024) :
    k0_pay16 xn acc up si d g u e (ix2 r k) = acc (ix2 r k) + (∑ j : Fin 256, (si (ix2 r j) * up (ix2 r j)) * d (ix3 0 j k)) + ∑ j : Fin 256, hid siluT (fun l => xn (ix2 r l)) (fun l => g (ix3 0 l j)) (fun l => u (ix3 0 l j)) * e (ix3 0 j k) := by
  pointwise [k0_pay16, hid, siluT]

theorem pay19_at (xn : FVec Ideal S512x1024 .bf16) (acc : FVec Ideal S512x1024 .f32) (up : FVec Ideal S512x256 .f32) (si : FVec Ideal S512x256 .f32) (d : Vec Ideal S1x256x1024 .bf16) (g : Vec Ideal S1x1024x256 .bf16) (u : Vec Ideal S1x1024x256 .bf16) (e : Vec Ideal S1x256x1024 .bf16) (r : Fin 512) (k : Fin 1024) :
    k0_pay19 xn acc up si d g u e (ix2 r k) = acc (ix2 r k) + (∑ j : Fin 256, (si (ix2 r j) * up (ix2 r j)) * d (ix3 0 j k)) + ∑ j : Fin 256, hid siluT (fun l => xn (ix2 r l)) (fun l => g (ix3 0 l j)) (fun l => u (ix3 0 l j)) * e (ix3 0 j k) := by
  pointwise [k0_pay19, hid, siluT]

theorem pay1_at (x1 : FVec Ideal S512x1024 .f32) (acc : FVec Ideal S512x1024 .f32) (up : FVec Ideal S512x256 .f32) (si : FVec Ideal S512x256 .f32) (d : Vec Ideal S1x256x1024 .bf16) (g : Vec Ideal S1x1024 .f32) (r : Fin 512) (k : Fin 1024) :
    k0_pay1 x1 acc up si d g (ix2 r k) = rmsn (fun k => x1 (ix2 r k) + (acc (ix2 r k) + ∑ j : Fin 256, (si (ix2 r j) * up (ix2 r j)) * d (ix3 0 j k))) (fun q => g (ix2 0 q)) k := by
  pointwise [k0_pay1, rmsn]

end Layer.Mix1Pay
-- ==== Proof.Mix1Kernel.lean ====
/-
  The second mix as the kernel computes it: every point writes 512 rows, and together the 32 points write the result whole.
-/
module

public import proofs.«01_k».proof.Proof.Mix1Pay

@[expose] public section
set_option maxRecDepth 16384

noncomputable section
namespace Layer.Mix1
open Idealize.ShloMosaic Idealize.ShloMosaic.TcCoe Idealize.SL.Sem Layer.Ffn Layer.Mix1Pay
open Idealize.ShloMosaic.Pipeline (Dat)
open Layer.Ssd (siluT)
open Cert.Mix1Ideal Cert.Mix1Ideal.Gen

theorem hz : (![0, 0] : Fin 2 → Nat) = fun _ => 0 := funext fun a => by fin_cases a <;> rfl

/-! ## Stretches of the two weights -/

/-- 256 columns of the wide weights from `o` on. -/
def cols (U : Vec Ideal S1x1024x5632 .bf16) (o : Nat) (ho : o + 256 ≤ 5632) : Vec Ideal S1x1024x256 .bf16 :=
  fun i => U (ix3 0 ⟨(i 1).val, (i 1).isLt⟩ ⟨o + (i 2).val, lt_of_lt_of_le (Nat.add_lt_add_left (i 2).isLt o) ho⟩)

theorem cols_at (U : Vec Ideal S1x1024x5632 .bf16) (o : Nat) (ho : o + 256 ≤ 5632) (l : Fin 1024) (j : Fin 256) :
    (cols U o ho (ix3 0 l j) : EReal) = U (ix3 0 l ⟨o + j.val, by omega⟩) := rfl

theorem ld_cols (U : Vec Ideal S1x1024x5632 .bf16) (o : Nat) (h : ∀ a, (![0, 0, o] : Fin 3 → Nat) a + S1x1024x256.size a ≤ S1x1024x5632.size a) (ho : o + 256 ≤ 5632) :
    View.ld U (Rect.unit ![0, 0, o] S1x1024x256.size h) = cols U o ho := by
  funext i
  refine congrArg U (funext fun a => Fin.ext ?_)
  match a with
  | ⟨0, _⟩ => show 0 + 1 * (i 0).val = 0; have : (i 0).val < 1 := (i 0).isLt; omega
  | ⟨1, _⟩ => show 0 + 1 * (i 1).val = (i 1).val; omega
  | ⟨2, _⟩ => show o + 1 * (i 2).val = o + (i 2).val; omega

/-- 256 rows of the second weights from `o` on. -/
def rows (D : Vec Ideal S1x2816x1024 .bf16) (o : Nat) (ho : o + 256 ≤ 2816) : Vec Ideal S1x256x1024 .bf16 :=
  fun i => D (ix3 0 ⟨o + (i 1).val, lt_of_lt_of_le (Nat.add_lt_add_left (i 1).isLt o) ho⟩ ⟨(i 2).val, (i 2).isLt⟩)

theorem rows_at (D : Vec Ideal S1x2816x1024 .bf16) (o : Nat) (ho : o + 256 ≤ 2816) (j : Fin 256) (k : Fin 1024) :
    (rows D o ho (ix3 0 j k) : EReal) = D (ix3 0 ⟨o + j.val, by omega⟩ k) := rfl

theorem ld_rows (D : Vec Ideal S1x2816x1024 .bf16) (o : Nat) (h : ∀ a, (![0, o, 0] : Fin 3 → Nat) a + S1x256x1024.size a ≤ S1x2816x1024.size a) (ho : o + 256 ≤ 2816) :
    View.ld D (Rect.unit ![0, o, 0] S1x256x1024.size h) = rows D o ho := by
  funext i
  refine congrArg D (funext fun a => Fin.ext ?_)
  match a with
  | ⟨0, _⟩ => show 0 + 1 * (i 0).val = 0; have : (i 0).val < 1 := (i 0).isLt; omega
  | ⟨1, _⟩ => show o + 1 * (i 1).val = o + (i 1).val; omega
  | ⟨2, _⟩ => show 0 + 1 * (i 2).val = (i 2).val; omega

theorem whole_b (x : Vec Ideal S512x1024 .bf16) : View.ld x r0_0 = x := View.ld_unit_zero hz _ _
theorem whole_f (x : Vec Ideal S512x1024 .f32) : View.ld x r0_0 = x := View.ld_unit_zero hz _ _
theorem whole_w (x : Vec Ideal S1024x1024 .bf16) : View.ld x r0_1 = x := View.ld_unit_zero hz _ _
theorem whole_g (x : Vec Ideal S1x1024 .f32) : View.ld x r0_2 = x := View.ld_unit_zero hz _ _

/-! ## Each stretch the body takes -/

theorem ld3 (U : Vec Ideal S1x1024x5632 .bf16) : View.ld U r0_3 = cols U 0 (by omega) := ld_cols U 0 _ _
theorem ld4 (U : Vec Ideal S1x1024x5632 .bf16) : View.ld U r0_4 = cols U (2816 + 0) (by omega) := ld_cols U (2816 + 0) _ _
theorem ld5 (D : Vec Ideal S1x2816x1024 .bf16) : View.ld D r0_5 = rows D 0 (by omega) := ld_rows D 0 _ _
theorem ld6 (U : Vec Ideal S1x1024x5632 .bf16) : View.ld U r0_6 = cols U 256 (by omega) := ld_cols U 256 _ _
theorem ld7 (U : Vec Ideal S1x1024x5632 .bf16) : View.ld U r0_7 = cols U (2816 + 256) (by omega) := ld_cols U (2816 + 256) _ _
theorem ld8 (D : Vec Ideal S1x2816x1024 .bf16) : View.ld D r0_8 = rows D 256 (by omega) := ld_rows D 256 _ _
theorem ld9 (U : Vec Ideal S1x1024x5632 .bf16) : View.ld U r0_9 = cols U 512 (by omega) := ld_cols U 512 _ _
theorem ld10 (U : Vec Ideal S1x1024x5632 .bf16) : View.ld U r0_10 = cols U (2816 + 512) (by omega) := ld_cols U (2816 + 512) _ _
theorem ld11 (D : Vec Ideal S1x2816x1024 .bf16) : View.ld D r0_11 = rows D 512 (by omega) := ld_rows D 512 _ _
theorem ld12 (U : Vec Ideal S1x1024x5632 .bf16) : View.ld U r0_12 = cols U 768 (by omega) := ld_cols U 768 _ _
theorem ld13 (U : Vec Ideal S1x1024x5632 .bf16) : View.ld U r0_13 = cols U (2816 + 768) (by omega) := ld_cols U (2816 + 768) _ _
theorem ld14 (D : Vec Ideal S1x2816x1024 .bf16) : View.ld D r0_14 = rows D 768 (by omega) := ld_rows D 768 _ _
theorem ld15 (U : Vec Ideal S1x1024x5632 .bf16) : View.ld U r0_15 = cols U 1024 (by omega) := ld_cols U 1024 _ _
theorem ld16 (U : Vec Ideal S1x1024x5632 .bf16) : View.ld U r0_16 = cols U (2816 + 1024) (by omega) := ld_cols U (2816 + 1024) _ _
theorem ld17 (D : Vec Ideal S1x2816x1024 .bf16) : View.ld D r0_17 = rows D 1024 (by omega) := ld_rows D 1024 _ _
theorem ld18 (U : Vec Ideal S1x1024x5632 .bf16) : View.ld U r0_18 = cols U 1280 (by omega) := ld_cols U 1280 _ _
theorem ld19 (U : Vec Ideal S1x1024x5632 .bf16) : View.ld U r0_19 = cols U (2816 + 1280) (by omega) := ld_cols U (2816 + 1280) _ _
theorem ld20 (D : Vec Ideal S1x2816x1024 .bf16) : View.ld D r0_20 = rows D 1280 (by omega) := ld_rows D 1280 _ _
theorem ld21 (U : Vec Ideal S1x1024x5632 .bf16) : View.ld U r0_21 = cols U 1536 (by omega) := ld_cols U 1536 _ _
theorem ld22 (U : Vec Ideal S1x1024x5632 .bf16) : View.ld U r0_22 = cols U (2816 + 1536) (by omega) := ld_cols U (2816 + 1536) _ _
theorem ld23 (D : Vec Ideal S1x2816x1024 .bf16) : View.ld D r0_23 = rows D 1536 (by omega) := ld_rows D 1536 _ _
theorem ld24 (U : Vec Ideal S1x1024x5632 .bf16) : View.ld U r0_24 = cols U 1792 (by omega) := ld_cols U 1792 _ _
theorem ld25 (U : Vec Ideal S1x1024x5632 .bf16) : View.ld U r0_25 = cols U (2816 + 1792) (by omega) := ld_cols U (2816 + 1792) _ _
theorem ld26 (D : Vec Ideal S1x2816x1024 .bf16) : View.ld D r0_26 = rows D 1792 (by omega) := ld_rows D 1792 _ _
theorem ld27 (U : Vec Ideal S1x1024x5632 .bf16) : View.ld U r0_27 = cols U 2048 (by omega) := ld_cols U 2048 _ _
theorem ld28 (U : Vec Ideal S1x1024x5632 .bf16) : View.ld U r0_28 = cols U (2816 + 2048) (by omega) := ld_cols U (2816 + 2048) _ _
theorem ld29 (D : Vec Ideal S1x2816x1024 .bf16) : View.ld D r0_29 = rows D 2048 (by omega) := ld_rows D 2048 _ _
theorem ld30 (U : Vec Ideal S1x1024x5632 .bf16) : View.ld U r0_30 = cols U 2304 (by omega) := ld_cols U 2304 _ _
theorem ld31 (U : Vec Ideal S1x1024x5632 .bf16) : View.ld U r0_31 = cols U (2816 + 2304) (by omega) := ld_cols U (2816 + 2304) _ _
theorem ld32 (D : Vec Ideal S1x2816x1024 .bf16) : View.ld D r0_32 = rows D 2304 (by omega) := ld_rows D 2304 _ _
theorem ld33 (U : Vec Ideal S1x1024x5632 .bf16) : View.ld U r0_33 = cols U 2560 (by omega) := ld_cols U 2560 _ _
theorem ld34 (U : Vec Ideal S1x1024x5632 .bf16) : View.ld U r0_34 = cols U (2816 + 2560) (by omega) := ld_cols U (2816 + 2560) _ _
theorem ld35 (D : Vec Ideal S1x2816x1024 .bf16) : View.ld D r0_35 = rows D 2560 (by omega) := ld_rows D 2560 _ _

/-! ## One point's block -/

/-- A row after the feed-forward, of the blocks at a point. -/
def brow (x0 : Vec Ideal S512x1024 .bf16) (x1 : Vec Ideal S512x1024 .bf16) (x2 : Vec Ideal S512x1024 .f32) (x3 : Vec Ideal S1024x1024 .bf16) (x4 : Vec Ideal S1x1024 .f32) (x5 : Vec Ideal S1x1024x5632 .bf16) (x6 : Vec Ideal S1x2816x1024 .bf16) (x7 : Vec Ideal S1x1024 .f32) (r : Fin 512) (k : Fin 1024) : EReal :=
  ffn siluT (fun k => x2 (ix2 r k) + ∑ f : Fin 1024, (x0 (ix2 r f) * x1 (ix2 r f)) * x3 (ix2 f k)) (fun j => x4 (ix2 0 j)) (fun l f => x5 (ix3 0 l f)) (fun f k => x6 (ix3 0 f k)) k

theorem out8_at (x0 : Vec Ideal S512x1024 .bf16) (x1 : Vec Ideal S512x1024 .bf16) (x2 : Vec Ideal S512x1024 .f32) (x3 : Vec Ideal S1024x1024 .bf16) (x4 : Vec Ideal S1x1024 .f32) (x5 : Vec Ideal S1x1024x5632 .bf16) (x6 : Vec Ideal S1x2816x1024 .bf16) (x7 : Vec Ideal S1x1024 .f32) (r : Fin 512) (k : Fin 1024) :
    (out0_8 (F := Ideal) x0 x1 x2 x3 x4 x5 x6 x7 (ix2 r k) : EReal) = rmsn (brow x0 x1 x2 x3 x4 x5 x6 x7 r) (fun q => x7 (ix2 0 q)) k := by
  unfold_out out0_8
  rw [View.canon_unit_zero hz]
  simp only [whole_b, whole_f, whole_w, whole_g, ld35]
  rw [pay1_at]
  refine congrArg (fun f => rmsn f (fun q => x7 (ix2 0 q)) k) (funext fun k => ?_)
  unfold brow
  rw [ffn_parts]
  unfold part
  simp only [pay2_at, pay3_at, pay4_at, pay5_at, pay6_at, pay7_at, pay8_at, pay9_at, pay10_at, pay11_at, pay12_at, pay13_at, pay14_at, pay15_at, pay16_at, pay17_at, pay18_at, pay19_at, pay20_at, pay21_at, hid, halved, siluT,
    ld3, ld4, ld5, ld6, ld7, ld8, ld9, ld10, ld11, ld12, ld13, ld14, ld15, ld16, ld17, ld18, ld19, ld20, ld21, ld22, ld23, ld24, ld25, ld26, ld27, ld28, ld29, ld30, ld31, ld32, ld33, ld34, ld35, cols_at, rows_at]
  repeat' first
    | with_reducible rfl
    | with_reducible refine congrArg₂ (· + ·) ?_ ?_

/-! ## The staged arrays -/

variable (m : (ℓ : Loc nD τ sig) → Buf (Elt Ideal) ℓ)

abbrev argY (c : Dev nD) : V2 16384 1024 := m ((c : Thread nD τ).loc main_arg0)
abbrev argH (c : Dev nD) : V2 16384 1024 := m ((c : Thread nD τ).loc main_arg1)
abbrev argX (c : Dev nD) : V2 16384 1024 := m ((c : Thread nD τ).loc main_arg2)
abbrev argW (c : Dev nD) : V2 1024 1024 := m ((c : Thread nD τ).loc main_arg3)
abbrev argG (c : Dev nD) : V2 2 1024 := m ((c : Thread nD τ).loc main_arg4)
abbrev argU (c : Dev nD) : V3 2 1024 5632 := m ((c : Thread nD τ).loc main_arg5)
abbrev argD (c : Dev nD) : V3 2 2816 1024 := m ((c : Thread nD τ).loc main_arg6)
abbrev argN (c : Dev nD) : V1 1024 := m ((c : Thread nD τ).loc main_arg7)

theorem w_at (c : Dev nD) (f : Fin 1024) (k : Fin 1024) : (V m c main_v0 (ix2 f k) : EReal) = argW m c (ix2 f k) := by
  simp only [V, hostOps0]
  after_results_simp
  pointwise

theorem g_at (c : Dev nD) (k : Fin 1024) : (V m c main_v3 (ix2 0 k) : EReal) = argG m c (ix2 1 k) := by
  simp only [V, hostOps0]
  after_results_simp
  pointwise

theorem u_at (c : Dev nD) (a : Fin 2) (l : Fin 1024) (f : Fin 5632) : (V m c main_v4 (ix3 a l f) : EReal) = argU m c (ix3 a l f) := by
  simp only [V, hostOps0]
  after_results_simp
  pointwise

theorem d_at (c : Dev nD) (a : Fin 2) (f : Fin 2816) (k : Fin 1024) : (V m c main_v5 (ix3 a f k) : EReal) = argD m c (ix3 a f k) := by
  simp only [V, hostOps0]
  after_results_simp
  pointwise

theorem n_at (c : Dev nD) (k : Fin 1024) : (V m c main_v6 (ix2 0 k) : EReal) = argN m c (ix1 k) := by
  simp only [V, hostOps0]
  after_results_simp
  pointwise

theorem lt32 (t : Fin cfg0.N) : t.val < 32 := lt_of_lt_of_eq t.isLt N_0

theorem idx0 : ∀ t : Fin cfg0.N, win0_0.index t 0 = t.val ∧ win0_0.index t 1 = 0 :=
  (by decide +kernel : ∀ t : Fin grid0.N, _)
theorem idx1 : ∀ t : Fin cfg0.N, win0_1.index t 0 = t.val ∧ win0_1.index t 1 = 0 :=
  (by decide +kernel : ∀ t : Fin grid0.N, _)
theorem idx2 : ∀ t : Fin cfg0.N, win0_2.index t 0 = t.val ∧ win0_2.index t 1 = 0 :=
  (by decide +kernel : ∀ t : Fin grid0.N, _)
theorem idx3 : ∀ t : Fin cfg0.N, win0_3.index t 0 = 0 ∧ win0_3.index t 1 = 0 :=
  (by decide +kernel : ∀ t : Fin grid0.N, _)
theorem idx4 : ∀ t : Fin cfg0.N, win0_4.index t 0 = 0 ∧ win0_4.index t 1 = 0 :=
  (by decide +kernel : ∀ t : Fin grid0.N, _)
theorem idx5 : ∀ t : Fin cfg0.N, win0_5.index t 0 = 1 ∧ win0_5.index t 1 = 0 ∧ win0_5.index t 2 = 0 :=
  (by decide +kernel : ∀ t : Fin grid0.N, _)
theorem idx6 : ∀ t : Fin cfg0.N, win0_6.index t 0 = 1 ∧ win0_6.index t 1 = 0 ∧ win0_6.index t 2 = 0 :=
  (by decide +kernel : ∀ t : Fin grid0.N, _)
theorem idx7 : ∀ t : Fin cfg0.N, win0_7.index t 0 = 0 ∧ win0_7.index t 1 = 0 :=
  (by decide +kernel : ∀ t : Fin grid0.N, _)
theorem idx8 : ∀ t : Fin cfg0.N, win0_8.index t 0 = t.val ∧ win0_8.index t 1 = 0 :=
  (by decide +kernel : ∀ t : Fin grid0.N, _)

/-! ## The blocks at a point -/

theorem blk0_at (c : Dev nD) (t : Fin cfg0.N) (r : Fin 512) (j : Fin 1024) (h : 512 * t.val + r.val < 16384) :
    (iblk m c 0 t (ix2 r j) : EReal) = argY m c (ix2 ⟨512 * t.val + r.val, h⟩ j) := by
  show V m c main_arg0 (((cfg0.win 0).blk t).view.emb (ix2 r j)) = _
  rw [V_main_arg0]
  refine congrArg _ (funext fun a => Fin.ext ?_)
  obtain ⟨e0, e1⟩ := idx0 t
  match a with
  | ⟨0, _⟩ => show win0_0.index t 0 * 512 + 1 * r.val = 512 * t.val + r.val; omega
  | ⟨1, _⟩ => show win0_0.index t 1 * 1024 + 1 * j.val = j.val; omega

theorem blk1_at (c : Dev nD) (t : Fin cfg0.N) (r : Fin 512) (j : Fin 1024) (h : 512 * t.val + r.val < 16384) :
    (iblk m c 1 t (ix2 r j) : EReal) = argH m c (ix2 ⟨512 * t.val + r.val, h⟩ j) := by
  show V m c main_arg1 (((cfg0.win 1).blk t).view.emb (ix2 r j)) = _
  rw [V_main_arg1]
  refine congrArg _ (funext fun a => Fin.ext ?_)
  obtain ⟨e0, e1⟩ := idx1 t
  match a with
  | ⟨0, _⟩ => show win0_1.index t 0 * 512 + 1 * r.val = 512 * t.val + r.val; omega
  | ⟨1, _⟩ => show win0_1.index t 1 * 1024 + 1 * j.val = j.val; omega

theorem blk2_at (c : Dev nD) (t : Fin cfg0.N) (r : Fin 512) (j : Fin 1024) (h : 512 * t.val + r.val < 16384) :
    (iblk m c 2 t (ix2 r j) : EReal) = argX m c (ix2 ⟨512 * t.val + r.val, h⟩ j) := by
  show V m c main_arg2 (((cfg0.win 2).blk t).view.emb (ix2 r j)) = _
  rw [V_main_arg2]
  refine congrArg _ (funext fun a => Fin.ext ?_)
  obtain ⟨e0, e1⟩ := idx2 t
  match a with
  | ⟨0, _⟩ => show win0_2.index t 0 * 512 + 1 * r.val = 512 * t.val + r.val; omega
  | ⟨1, _⟩ => show win0_2.index t 1 * 1024 + 1 * j.val = j.val; omega

theorem blk3_at (c : Dev nD) (t : Fin cfg0.N) (f : Fin 1024) (k : Fin 1024) : (iblk m c 3 t (ix2 f k) : EReal) = argW m c (ix2 f k) := by
  rw [← w_at]
  show V m c main_v0 (((cfg0.win 3).blk t).view.emb (ix2 f k)) = _
  refine congrArg _ (funext fun a => Fin.ext ?_)
  obtain ⟨e0, e1⟩ := idx3 t
  match a with
  | ⟨0, _⟩ => show win0_3.index t 0 * 1024 + 1 * f.val = f.val; omega
  | ⟨1, _⟩ => show win0_3.index t 1 * 1024 + 1 * k.val = k.val; omega

theorem blk4_at (c : Dev nD) (t : Fin cfg0.N) (k : Fin 1024) : (iblk m c 4 t (ix2 0 k) : EReal) = argG m c (ix2 1 k) := by
  rw [← g_at]
  show V m c main_v3 (((cfg0.win 4).blk t).view.emb (ix2 0 k)) = _
  refine congrArg _ (funext fun a => Fin.ext ?_)
  obtain ⟨e0, e1⟩ := idx4 t
  match a with
  | ⟨0, _⟩ => show win0_4.index t 0 * 1 + 1 * 0 = 0; omega
  | ⟨1, _⟩ => show win0_4.index t 1 * 1024 + 1 * k.val = k.val; omega

theorem blk7_at (c : Dev nD) (t : Fin cfg0.N) (k : Fin 1024) : (iblk m c 7 t (ix2 0 k) : EReal) = argN m c (ix1 k) := by
  rw [← n_at]
  show V m c main_v6 (((cfg0.win 7).blk t).view.emb (ix2 0 k)) = _
  refine congrArg _ (funext fun a => Fin.ext ?_)
  obtain ⟨e0, e1⟩ := idx7 t
  match a with
  | ⟨0, _⟩ => show win0_7.index t 0 * 1 + 1 * 0 = 0; omega
  | ⟨1, _⟩ => show win0_7.index t 1 * 1024 + 1 * k.val = k.val; omega

theorem blk5_at (c : Dev nD) (t : Fin cfg0.N) (l : Fin 1024) (f : Fin 5632) : (iblk m c 5 t (ix3 0 l f) : EReal) = argU m c (ix3 1 l f) := by
  rw [← u_at]
  show V m c main_v4 (((cfg0.win 5).blk t).view.emb (ix3 0 l f)) = _
  refine congrArg _ (funext fun a => Fin.ext ?_)
  obtain ⟨e0, e1, e2⟩ := idx5 t
  match a with
  | ⟨0, _⟩ => show win0_5.index t 0 * 1 + 1 * 0 = 1; omega
  | ⟨1, _⟩ => show win0_5.index t 1 * 1024 + 1 * l.val = l.val; omega
  | ⟨2, _⟩ => show win0_5.index t 2 * 5632 + 1 * f.val = f.val; omega

theorem blk6_at (c : Dev nD) (t : Fin cfg0.N) (l : Fin 2816) (f : Fin 1024) : (iblk m c 6 t (ix3 0 l f) : EReal) = argD m c (ix3 1 l f) := by
  rw [← d_at]
  show V m c main_v5 (((cfg0.win 6).blk t).view.emb (ix3 0 l f)) = _
  refine congrArg _ (funext fun a => Fin.ext ?_)
  obtain ⟨e0, e1, e2⟩ := idx6 t
  match a with
  | ⟨0, _⟩ => show win0_6.index t 0 * 1 + 1 * 0 = 1; omega
  | ⟨1, _⟩ => show win0_6.index t 1 * 2816 + 1 * l.val = l.val; omega
  | ⟨2, _⟩ => show win0_6.index t 2 * 1024 + 1 * f.val = f.val; omega

/-! ## The results -/

/-- The row after the feed-forward. -/
def after (c : Dev nD) (r : Fin 16384) (k : Fin 1024) : EReal :=
  out siluT (res1 (argY m c) (argH m c) (argX m c) (argW m c) r) (argG m c) (argU m c) (argD m c) 1 k

abbrev B0 (c : Dev nD) (t : Fin cfg0.N) : Vec Ideal S512x1024 .bf16 := iblk m c 0 t
abbrev B1 (c : Dev nD) (t : Fin cfg0.N) : Vec Ideal S512x1024 .bf16 := iblk m c 1 t
abbrev B2 (c : Dev nD) (t : Fin cfg0.N) : Vec Ideal S512x1024 .f32 := iblk m c 2 t
abbrev B3 (c : Dev nD) (t : Fin cfg0.N) : Vec Ideal S1024x1024 .bf16 := iblk m c 3 t

/-- It is what a point computes of its blocks. -/
theorem brow_at (c : Dev nD) (t : Fin cfg0.N) (r : Fin 512) (h : 512 * t.val + r.val < 16384) (k : Fin 1024) :
    brow (iblk m c 0 t) (iblk m c 1 t) (iblk m c 2 t) (iblk m c 3 t) (iblk m c 4 t) (iblk m c 5 t) (iblk m c 6 t) (iblk m c 7 t) r k
      = after m c ⟨512 * t.val + r.val, h⟩ k := by
  unfold brow after out
  have e1 : (fun k : Fin 1024 => ((B2 m c t (ix2 r k) + ∑ f : Fin 1024, (B0 m c t (ix2 r f) * B1 m c t (ix2 r f)) * B3 m c t (ix2 f k)) : EReal)) = res1 (argY m c) (argH m c) (argX m c) (argW m c) ⟨512 * t.val + r.val, h⟩ := by
    funext q
    unfold res1
    simp only [B0, B1, B2, B3, blk0_at m c t _ _ h, blk1_at m c t _ _ h, blk2_at m c t _ _ h, blk3_at]
  have e2 : (fun j => (iblk m c 4 t (ix2 0 j) : EReal)) = fun j => argG m c (ix2 1 j) := funext fun j => blk4_at m c t j
  have e3 : (fun (l : Fin 1024) (f : Fin 5632) => (iblk m c 5 t (ix3 0 l f) : EReal)) = fun l f => argU m c (ix3 1 l f) :=
    funext fun l => funext fun f => blk5_at m c t l f
  have e4 : (fun (f : Fin 2816) (k : Fin 1024) => (iblk m c 6 t (ix3 0 f k) : EReal)) = fun f k => argD m c (ix3 1 f k) :=
    funext fun l => funext fun f => blk6_at m c t l f
  exact (congrArg (fun z => ffn siluT z _ _ _ k) e1).trans ((congrArg (fun z => ffn siluT _ z _ _ k) e2).trans
    ((congrArg (fun z => ffn siluT _ _ z _ k) e3).trans (congrArg (fun z => ffn siluT _ _ _ z k) e4)))

/-- The normalised rows, as an array. -/
def normed (c : Dev nD) : V2 16384 1024 := fun i => rmsn (after m c (i 0)) (fun q => argN m c (ix1 q)) (i 1)

theorem flushed8_eq (c : Dev nD) (t : Fin cfg0.N) : (dats m 0 c).flushed 8 t = ((cfg0.win 8).blk t).view.read (Elt Ideal) (normed m c) := by
  rw [Value.flushed8]
  funext y
  obtain ⟨r, k, rfl⟩ : ∃ (r : Fin 512) (k : Fin 1024), y = ix2 r k := ⟨y 0, y 1, eq_ix2 y⟩
  have ht := lt32 t
  have e : ((cfg0.win 8).blk t).view.emb (ix2 r k) = ix2 (⟨512 * t.val + r.val, by omega⟩ : Fin 16384) k := by
    obtain ⟨e0, e1⟩ := idx8 t
    funext a; apply Fin.ext
    match a with
    | ⟨0, _⟩ => show win0_8.index t 0 * 512 + 1 * r.val = 512 * t.val + r.val; omega
    | ⟨1, _⟩ => show win0_8.index t 1 * 1024 + 1 * k.val = k.val; omega
  show (out0_8 (F := Ideal) (iblk m c 0 t) (iblk m c 1 t) (iblk m c 2 t) (iblk m c 3 t) (iblk m c 4 t) (iblk m c 5 t) (iblk m c 6 t) (iblk m c 7 t) (ix2 r k) : EReal)
    = (normed m c) (((cfg0.win 8).blk t).view.emb (ix2 r k))
  rw [e]
  rw [out8_at]
  show rmsn _ _ k = rmsn (after m c ⟨512 * t.val + r.val, by omega⟩) (fun q => argN m c (ix1 q)) k
  rw [show brow (iblk m c 0 t) (iblk m c 1 t) (iblk m c 2 t) (iblk m c 3 t) (iblk m c 4 t) (iblk m c 5 t) (iblk m c 6 t) (iblk m c 7 t) r
    = after m c ⟨512 * t.val + r.val, by omega⟩ from funext fun q => brow_at m c t r (by omega) q]
  exact congrArg (fun z => rmsn _ z k) (funext fun q => blk7_at m c t q)

theorem mem8 (t : Fin cfg0.N) (i : (main_v7 : Ref sig .tc).ty.Idx) :
    i ∈ ((cfg0.win 8).blk t).view.set ↔ ∀ a : Fin 2, win0_8.index t a * win0_8.size a ≤ (i a).val ∧ (i a).val < win0_8.index t a * win0_8.size a + win0_8.size a := by
  show i ∈ ((View.whole main_v7).slice (win0_8.rect t)).set ↔ _
  rw [View.set_slice_whole, Rect.mem_set_unit]
  exact Iff.rfl

theorem final8 (c : Dev nD) : (dats m 0 c).arrAt 8 cfg0.N = normed m c :=
  (dats m 0 c).arrAt_eq_of_cover 8 _ (fun t _ => flushed8_eq m c t) fun i => by
    have h0 : (i 0).val < 16384 := (i 0).isLt
    have h1 : (i 1).val < 1024 := (i 1).isLt
    have hN : cfg0.N = 32 := N_0
    refine ⟨⟨(i 0).val / 512, by omega⟩, flush0_8 _, ?_⟩
    rw [mem8]
    obtain ⟨e0, e1⟩ := idx8 ⟨(i 0).val / 512, by omega⟩
    intro a
    match a with
    | ⟨0, _⟩ => show win0_8.index _ 0 * 512 ≤ (i 0).val ∧ (i 0).val < win0_8.index _ 0 * 512 + 512
                rw [e0]; dsimp only; omega
    | ⟨1, _⟩ => show win0_8.index _ 1 * 1024 ≤ (i 1).val ∧ (i 1).val < win0_8.index _ 1 * 1024 + 1024
                rw [e1]; omega

/-- The run, read: the results as functions of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v7) = normed m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => by
    obtain ⟨h0, hk⟩ := h c
    exact ⟨h0.trans (final8 m c), hk⟩)
    (Value.run_blocks m ρ)

end Layer.Mix1
-- ==== Proof.Mix1Plain.lean ====
/-
  The second mix as the plain program computes it, as a function of the arguments.
-/
module

public import proofs.«01_k».proof.Proof.Gen.Mix1RefIdeal.Run
public import proofs.«01_k».proof.Proof.Mix

@[expose] public section
set_option maxRecDepth 16384

noncomputable section
namespace Layer.Mix1Plain
open Idealize.ShloMosaic Idealize.ShloMosaic.TcCoe Idealize.SL.Sem Layer.Ffn
open Layer.Ssd (silu)
open Cert.Mix1RefIdeal Cert.Mix1RefIdeal.Gen

variable (m : (ℓ : Loc nD τ sig) → Buf (Elt Ideal) ℓ)

abbrev argY (c : Dev nD) : V2 16384 1024 := m ((c : Thread nD τ).loc main_arg0)
abbrev argH (c : Dev nD) : V2 16384 1024 := m ((c : Thread nD τ).loc main_arg1)
abbrev argX (c : Dev nD) : V2 16384 1024 := m ((c : Thread nD τ).loc main_arg2)
abbrev argW (c : Dev nD) : V2 1024 1024 := m ((c : Thread nD τ).loc main_arg3)
abbrev argG (c : Dev nD) : V2 2 1024 := m ((c : Thread nD τ).loc main_arg4)
abbrev argU (c : Dev nD) : V3 2 1024 5632 := m ((c : Thread nD τ).loc main_arg5)
abbrev argD (c : Dev nD) : V3 2 2816 1024 := m ((c : Thread nD τ).loc main_arg6)
abbrev argN (c : Dev nD) : V1 1024 := m ((c : Thread nD τ).loc main_arg7)

/-- The row after the feed-forward. -/
def after (c : Dev nD) (r : Fin 16384) (k : Fin 1024) : EReal :=
  out silu (res1 (argY m c) (argH m c) (argX m c) (argW m c) r) (argG m c) (argU m c) (argD m c) 1 k

theorem norm_at (c : Dev nD) (r : Fin 16384) (k : Fin 1024) : (Value.res_main_v43 (F := Ideal) m c (ix2 r k) : EReal) = rmsn (after m c r) (fun q => argN m c (ix1 q)) k := by
  pointwise [Value.res_main_v43, after, out, ffn, hid, res1, rmsn, silu]

end Layer.Mix1Plain
-- ==== Proof.MixEnd.lean ====
/-
  The two mixes: with the feed-forward's gain and gate weights finite both programs of each leave the same arrays.
-/
module

public import proofs.«01_k».proof.Defs
public import proofs.«01_k».proof.Proof.SsdPre
public import proofs.«01_k».proof.Proof.Mix0Kernel
public import proofs.«01_k».proof.Proof.Mix0Plain
public import proofs.«01_k».proof.Proof.Mix1Kernel
public import proofs.«01_k».proof.Proof.Mix1Plain

@[expose] public section
set_option maxRecDepth 16384

noncomputable section
namespace Layer.MixEnd
open Idealize.ShloMosaic Idealize.ShloMosaic.TcCoe Idealize.SL.Sem Layer.Ffn Layer.Ssd

/-! ## Mix 0 -/

/-- The shape relations the precondition's operations take. -/
theorem facts0 : Cert.Pre_finite_gates0.Facts where
  slices_S2x1024_S1x1024_0_0 := by decide
  shapeCasts_S1x1024_S1024 := by decide
  bcast_S_S1024 := by decide
  slices_S2x1024x5632_S1x1024x5632_0_0_0 := by decide
  shapeCasts_S1x1024x5632_S1024x5632 := by decide
  bcast_S_S1024x5632 := by decide

section
open Cert.Pre_finite_gates0
variable [Cert.Pre_finite_gates0.Facts]
variable (a0 : FVec Ideal S16384x1024 .bf16) (a1 : FVec Ideal S16384x1024 .bf16) (a2 : FVec Ideal S16384x1024 .f32) (a3 : FVec Ideal S2048x1024 .f32) (a4 : FVec Ideal S2x1024 .f32) (a5 : FVec Ideal S2x1024x5632 .f32) (a6 : FVec Ideal S2x2816x1024 .f32) (a7 : FVec Ideal S2x1024 .f32)

theorem num_gain0 (H : (fn (F := Ideal) a0 a1 a2 a3 a4 a5 a6 a7).1 = fun _ => 1#1) (k : Fin 1024) : Num (a4 (ix2 0 k)) := by
  have h := congrFun H (ix1 k)
  unfold fn at h
  dsimp only at h
  pointwise at h
  exact SsdPre.num_of_mask h

theorem num_gate0 (H : (fn (F := Ideal) a0 a1 a2 a3 a4 a5 a6 a7).2 = fun _ => 1#1) (l : Fin 1024) (f : Fin 5632) : Num (a5 (ix3 0 l f)) := by
  have h := congrFun H (ix2 l f)
  unfold fn at h
  dsimp only at h
  pointwise at h
  exact SsdPre.num_of_mask h
end

/-- The two programs' rows agree. -/
theorem after0 (m : (ℓ : Loc Cert.Mix0Ideal.nD Cert.Mix0Ideal.τ Cert.Mix0Ideal.sig) → Buf (Elt Ideal) ℓ)
    (m' : (ℓ : Loc Cert.Mix0RefIdeal.nD Cert.Mix0RefIdeal.τ Cert.Mix0RefIdeal.sig) → Buf (Elt Ideal) ℓ) (c : Dev Cert.Mix0Ideal.nD)
    (hg : ∀ k, Num (Mix0.argG m c (ix2 0 k))) (hu : ∀ l f, Num (Mix0.argU m c (ix3 0 l f)))
    (e0 : Mix0Plain.argY m' c = Mix0.argY m c) (e1 : Mix0Plain.argH m' c = Mix0.argH m c) (e2 : Mix0Plain.argX m' c = Mix0.argX m c)
    (e3 : Mix0Plain.argW m' c = Mix0.argW m c) (e4 : Mix0Plain.argG m' c = Mix0.argG m c) (e5 : Mix0Plain.argU m' c = Mix0.argU m c)
    (e6 : Mix0Plain.argD m' c = Mix0.argD m c) (r : Fin 16384) (k : Fin 1024) : Mix0Plain.after m' c r k = Mix0.after m c r k := by
  unfold Mix0Plain.after Mix0.after Ffn.out
  rw [e0, e1, e2, e3, e4, e5, e6, ffn_silu _ _ _ _ hg hu]

theorem mix0 : Cert.algebraic_Mix0Ideal_Mix0RefIdeal_pre_finite_gates0 (hMix0Ideal := Cert.Mix0Ideal.Gen.facts)
    (hMix0RefIdeal := Cert.Mix0RefIdeal.Gen.facts) (hPre_finite_gates0 := facts0) := by
  intro m ρ m' ρ' hpre hag
  haveI := facts0
  refine ⟨Mix0.normed m, Mix0.rowsOf m, Mix0.run m ρ, (θ_run _ _ _).mono (fun r h c => ?_) (Cert.Mix0RefIdeal.Value.run m' ρ')⟩
  obtain ⟨e0, e1, e2, e3, e4, e5, e6, e7⟩ := hag c
  have hg : ∀ k, Num (Mix0.argG m c (ix2 0 k)) := num_gain0 _ _ _ _ _ _ _ _ (hpre c).1
  have hu : ∀ l f, Num (Mix0.argU m c (ix3 0 l f)) := num_gate0 _ _ _ _ _ _ _ _ (hpre c).2
  have ha := after0 m m' c hg hu e0 e1 e2 e3 e4 e5 e6
  obtain ⟨h0, h1, hk⟩ := h c
  refine ⟨h0.trans (funext fun i => ?_), h1.trans (funext fun i => ?_), hk⟩
  · obtain ⟨r, k, rfl⟩ : ∃ (r : Fin 16384) (k : Fin 1024), i = ix2 r k := ⟨i 0, i 1, eq_ix2 i⟩
    refine (Mix0Plain.norm_at m' c r k).trans ?_
    show rmsn (Mix0Plain.after m' c r) (fun q => Mix0Plain.argN m' c (ix2 1 q)) k = rmsn (Mix0.after m c r) (fun q => Mix0.argN m c (ix2 1 q)) k
    have e7' : Mix0Plain.argN m' c = Mix0.argN m c := e7
    rw [e7', show Mix0Plain.after m' c r = Mix0.after m c r from funext fun q => ha r q]
  · obtain ⟨r, k, rfl⟩ : ∃ (r : Fin 16384) (k : Fin 1024), i = ix2 r k := ⟨i 0, i 1, eq_ix2 i⟩
    exact (Mix0Plain.after_at m' c r k).trans (ha r k)

/-! ## Mix 1 -/

/-- The shape relations the precondition's operations take. -/
theorem facts1 : Cert.Pre_finite_gates1.Facts where
  slices_S2x1024_S1x1024_1_0 := by decide
  shapeCasts_S1x1024_S1024 := by decide
  bcast_S_S1024 := by decide
  slices_S2x1024x5632_S1x1024x5632_1_0_0 := by decide
  shapeCasts_S1x1024x5632_S1024x5632 := by decide
  bcast_S_S1024x5632 := by decide

section
open Cert.Pre_finite_gates1
variable [Cert.Pre_finite_gates1.Facts]
variable (a0 : FVec Ideal S16384x1024 .bf16) (a1 : FVec Ideal S16384x1024 .bf16) (a2 : FVec Ideal S16384x1024 .f32) (a3 : FVec Ideal S1024x1024 .f32) (a4 : FVec Ideal S2x1024 .f32) (a5 : FVec Ideal S2x1024x5632 .f32) (a6 : FVec Ideal S2x2816x1024 .f32) (a7 : FVec Ideal S1024 .f32)

theorem num_gain1 (H : (fn (F := Ideal) a0 a1 a2 a3 a4 a5 a6 a7).1 = fun _ => 1#1) (k : Fin 1024) : Num (a4 (ix2 1 k)) := by
  have h := congrFun H (ix1 k)
  unfold fn at h
  dsimp only at h
  pointwise at h
  exact SsdPre.num_of_mask h

theorem num_gate1 (H : (fn (F := Ideal) a0 a1 a2 a3 a4 a5 a6 a7).2 = fun _ => 1#1) (l : Fin 1024) (f : Fin 5632) : Num (a5 (ix3 1 l f)) := by
  have h := congrFun H (ix2 l f)
  unfold fn at h
  dsimp only at h
  pointwise at h
  exact SsdPre.num_of_mask h
end

/-- The two programs' rows agree. -/
theorem after1 (m : (ℓ : Loc Cert.Mix1Ideal.nD Cert.Mix1Ideal.τ Cert.Mix1Ideal.sig) → Buf (Elt Ideal) ℓ)
    (m' : (ℓ : Loc Cert.Mix1RefIdeal.nD Cert.Mix1RefIdeal.τ Cert.Mix1RefIdeal.sig) → Buf (Elt Ideal) ℓ) (c : Dev Cert.Mix1Ideal.nD)
    (hg : ∀ k, Num (Mix1.argG m c (ix2 1 k))) (hu : ∀ l f, Num (Mix1.argU m c (ix3 1 l f)))
    (e0 : Mix1Plain.argY m' c = Mix1.argY m c) (e1 : Mix1Plain.argH m' c = Mix1.argH m c) (e2 : Mix1Plain.argX m' c = Mix1.argX m c)
    (e3 : Mix1Plain.argW m' c = Mix1.argW m c) (e4 : Mix1Plain.argG m' c = Mix1.argG m c) (e5 : Mix1Plain.argU m' c = Mix1.argU m c)
    (e6 : Mix1Plain.argD m' c = Mix1.argD m c) (r : Fin 16384) (k : Fin 1024) : Mix1Plain.after m' c r k = Mix1.after m c r k := by
  unfold Mix1Plain.after Mix1.after Ffn.out
  rw [e0, e1, e2, e3, e4, e5, e6, ffn_silu _ _ _ _ hg hu]

theorem mix1 : Cert.algebraic_Mix1Ideal_Mix1RefIdeal_pre_finite_gates1 (hMix1Ideal := Cert.Mix1Ideal.Gen.facts)
    (hMix1RefIdeal := Cert.Mix1RefIdeal.Gen.facts) (hPre_finite_gates1 := facts1) := by
  intro m ρ m' ρ' hpre hag
  haveI := facts1
  refine ⟨Mix1.normed m, Mix1.run m ρ, (θ_run _ _ _).mono (fun r h c => ?_) (Cert.Mix1RefIdeal.Value.run m' ρ')⟩
  obtain ⟨e0, e1, e2, e3, e4, e5, e6, e7⟩ := hag c
  have hg : ∀ k, Num (Mix1.argG m c (ix2 1 k)) := num_gain1 _ _ _ _ _ _ _ _ (hpre c).1
  have hu : ∀ l f, Num (Mix1.argU m c (ix3 1 l f)) := num_gate1 _ _ _ _ _ _ _ _ (hpre c).2
  have ha := after1 m m' c hg hu e0 e1 e2 e3 e4 e5 e6
  obtain ⟨h0, hk⟩ := h c
  refine ⟨h0.trans (funext fun i => ?_), hk⟩
  · obtain ⟨r, k, rfl⟩ : ∃ (r : Fin 16384) (k : Fin 1024), i = ix2 r k := ⟨i 0, i 1, eq_ix2 i⟩
    refine (Mix1Plain.norm_at m' c r k).trans ?_
    show rmsn (Mix1Plain.after m' c r) (fun q => Mix1Plain.argN m' c (ix1 q)) k = rmsn (Mix1.after m c r) (fun q => Mix1.argN m c (ix1 q)) k
    have e7' : Mix1Plain.argN m' c = Mix1.argN m c := e7
    rw [e7', show Mix1Plain.after m' c r = Mix1.after m c r from funext fun q => ha r q]

end Layer.MixEnd
-- ==== Proof.RwInRow.lean ====
/-
  The entry of the second mixer, row by row: the mix with the previous token, the bottlenecks, the two logistic gates,
  and the keys scaled to unit length head by head.
-/
module

public import proofs.«01_k».proof.Proof.Rows
public import proofs.«01_k».proof.Proof.SsdReal

@[expose] public section

noncomputable section
namespace Layer.RwIn
open Idealize.ShloMosaic

/-- The logistic function as the kernel computes it, through the hyperbolic tangent. -/
def sigT (x : EReal) : EReal := Ideal.ofBits FTy.f32 0x3F000000#32 * Ideal.tanh (Ideal.ofBits FTy.f32 0x3F000000#32 * x) + Ideal.ofBits FTy.f32 0x3F000000#32

/-- The logistic function as a quotient. -/
def sig (x : EReal) : EReal := Ideal.div 1 (1 + Ideal.exp (-x))

/-- The two agree everywhere, the infinities included. -/
theorem sigT_eq (x : EReal) : sigT x = sig x := by
  have hp : (0 : ℝ) < 1 / 2 := by norm_num
  have hs : sig x = Ideal.logistic x := rfl
  rw [hs]
  unfold sigT
  rw [Ssd.half]
  induction x with
  | bot =>
    rw [EReal.coe_mul_bot_of_pos hp, Ideal.tanh_bot, Ideal.logistic_bot, mul_neg, mul_one, ← EReal.coe_neg, ← EReal.coe_add]
    norm_num
  | top =>
    rw [EReal.coe_mul_top_of_pos hp, Ideal.tanh_top, Ideal.logistic_top, mul_one, ← EReal.coe_add]
    norm_num
  | coe r =>
    rw [← EReal.coe_mul, Ideal.tanh_coe, Ideal.logistic_coe, ← EReal.coe_mul, ← EReal.coe_add]
    refine congrArg _ ?_
    have u : Real.exp (-r) = Real.exp (-(1 / 2 * r)) * Real.exp (-(1 / 2 * r)) := by rw [← Real.exp_add]; congr 1; ring
    have v : Real.exp (-(1 / 2 * r)) = (Real.exp (1 / 2 * r))⁻¹ := Real.exp_neg _
    rw [Real.tanh_eq_sinh_div_cosh, Real.sinh_eq, Real.cosh_eq, u, v]
    have w2 : 0 < Real.exp (1 / 2 * r) := Real.exp_pos _
    generalize Real.exp (1 / 2 * r) = z at *
    field_simp
    ring

/-- The least length a head is divided by, and its square. -/
def tiny : ℝ := 2305843 / 2305843009213693952
def tinySq : ℝ := 5316911940649 / 5316911983139663491615228241121378304

theorem tiny_at : Ideal.ofBits FTy.f32 0x2B8CBCCC#32 = ((tiny : ℝ) : EReal) := by
  unfold tiny
  simp [Ideal.ofBits, Ideal.ieee, -EReal.coe_mul]
  norm_num

/-- Scaling by the reciprocal root of the bounded sum of squares is dividing by the bounded root. -/
theorem unit_eq (y s : EReal) (hs : 0 ≤ s) :
    y * Ideal.rsqrt (max s ((tinySq : ℝ) : EReal)) = Ideal.div y (max (Ideal.sqrt s) ((tiny : ℝ) : EReal)) := by
  have ht : (0 : ℝ) < tiny := by unfold tiny; norm_num
  have hq : tinySq = tiny * tiny := by unfold tinySq tiny; norm_num
  induction s with
  | bot => exact absurd hs (by simp)
  | top =>
    rw [max_eq_left le_top, Ideal.rsqrt_top, Ideal.sqrt_top, max_eq_left le_top, mul_zero, Ideal.div, if_neg EReal.top_ne_zero,
      EReal.inv_top, mul_zero]
  | coe r =>
    have hr : (0 : ℝ) ≤ r := by exact_mod_cast hs
    have hm : (0 : ℝ) < max r tinySq := lt_max_of_lt_right (by rw [hq]; positivity)
    have cm : ∀ a b : ℝ, max (a : EReal) (b : EReal) = ((max a b : ℝ) : EReal) := fun a b => (EReal.coe_strictMono.monotone.map_max (a := a) (b := b)).symm
    rw [cm, Ideal.rsqrt_coe, if_neg (not_lt.mpr hm.le), if_neg hm.ne', Ideal.sqrt_coe, if_neg (not_lt.mpr hr), cm,
      Ideal.div_coe (lt_max_of_lt_right ht).ne', one_div]
    refine congrArg (fun z : ℝ => y * ((z⁻¹ : ℝ) : EReal)) ?_
    have e : Real.sqrt tinySq = tiny := by rw [hq]; exact Real.sqrt_mul_self ht.le
    rcases le_total r tinySq with h | h
    · rw [max_eq_right h, e, max_eq_right]
      rw [← e]; exact Real.sqrt_le_sqrt h
    · rw [max_eq_left h, max_eq_left]
      rw [← e]; exact Real.sqrt_le_sqrt h

/-- Terms that vanish past `n` add nothing. -/
theorem sum_pad {n p : Nat} (h : n ≤ p) (f : Fin n → EReal) (g : Fin p → EReal) (h1 : ∀ (j : Fin p) (hj : j.val < n), g j = f ⟨j.val, hj⟩)
    (h2 : ∀ j : Fin p, n ≤ j.val → g j = 0) : ∑ j, g j = ∑ j, f j := by
  obtain ⟨d, rfl⟩ := Nat.exists_eq_add_of_le h
  rw [Fin.sum_univ_add, Finset.sum_eq_zero (s := Finset.univ) (f := fun i : Fin d => g (Fin.natAdd n i)) (fun i _ => h2 _ (by simp)), add_zero]
  exact Finset.sum_congr rfl fun i _ => h1 _ (by simp)

/-- The lower and the upper half of 128 lanes. -/
theorem lower (x : Fin 128 → EReal) : ∑ l : Fin 128, (if l.val < 64 then x l else 0) = ∑ e : Fin 64, x ⟨e.val, by omega⟩ :=
  sum_pad (by omega) (fun e : Fin 64 => x ⟨e.val, by omega⟩) _ (fun j hj => if_pos hj) (fun j hj => if_neg (not_lt.mpr hj))

theorem upper (x : Fin 128 → EReal) : ∑ l : Fin 128, (if l.val < 64 then 0 else x l) = ∑ e : Fin 64, x ⟨64 + e.val, by omega⟩ := by
  show ∑ l : Fin (64 + 64), (if l.val < 64 then 0 else x l) = _
  rw [Fin.sum_univ_add, Finset.sum_eq_zero (fun i _ => by simp), zero_add]
  exact Finset.sum_congr rfl fun i _ => by simp [Fin.natAdd]

/-- The sum over the head a channel lies in. -/
def head (x : Fin 1024 → EReal) (k : Fin 1024) : EReal := ∑ e : Fin 64, x ⟨64 * (k.val / 64) + e.val, by omega⟩

/-- A group of 128 channels holds two heads. -/
theorem head_at (x : Fin 1024 → EReal) (q : Fin 8) (l : Fin 128) :
    (if l.val < 64 then ∑ j : Fin 128, (if j.val < 64 then x ⟨128 * q.val + j.val, by omega⟩ else 0)
      else ∑ j : Fin 128, (if j.val < 64 then 0 else x ⟨128 * q.val + j.val, by omega⟩)) = head x ⟨128 * q.val + l.val, by omega⟩ := by
  rw [lower (fun j => x ⟨128 * q.val + j.val, by omega⟩), upper (fun j => x ⟨128 * q.val + j.val, by omega⟩)]
  unfold head
  split
  · exact Finset.sum_congr rfl fun e _ => congrArg x (Fin.ext (by dsimp only; omega))
  · exact Finset.sum_congr rfl fun e _ => congrArg x (Fin.ext (by dsimp only; omega))

/-- A row mixed with the row before it. -/
def mixr (x p u : Fin 1024 → EReal) (k : Fin 1024) : EReal := x k + (p k - x k) * u k

/-- A row against the columns of a weight. -/
def dotr {a n : Nat} (x : Fin a → EReal) (w : Fin a → Fin n → EReal) (j : Fin n) : EReal := ∑ l, x l * w l j

/-- The unit keys, as the reference scales them. -/
def unit (k u : Fin 1024 → EReal) (j : Fin 1024) : EReal :=
  Ideal.div (k j * u j) (max (Ideal.sqrt (head (fun q => (k q * u q) * (k q * u q)) j)) ((tiny : ℝ) : EReal))

/-- The keys weighted by the gate. -/
def gated (k a u : Fin 1024 → EReal) (j : Fin 1024) : EReal := k j * (1 + (a j - 1) * u j)

/-- Rows of a second weight that vanish past `n` drop out of a product. -/
theorem dotr_pad {n p o : Nat} (h : n ≤ p) (x : Fin p → EReal) (y : Fin n → EReal) (w : Fin p → Fin o → EReal) (u : Fin n → Fin o → EReal)
    (hx : ∀ (j : Fin p) (hj : j.val < n), x j = y ⟨j.val, hj⟩) (hw : ∀ (j : Fin p) (hj : j.val < n) (k : Fin o), w j k = u ⟨j.val, hj⟩ k)
    (hz : ∀ j : Fin p, n ≤ j.val → ∀ k : Fin o, w j k = 0) (k : Fin o) : dotr x w k = dotr y u k :=
  sum_pad h _ _ (fun j hj => by rw [hx j hj, hw j hj]) (fun j hj => by rw [hz j hj, mul_zero])

/-! ## The layer's rows -/

variable (sg : EReal → EReal) (X : V2 16384 1024) (S : V2 8 1024) (M : V2 6 1024)

/-- The row before row `r`: the carried one where a sequence opens. -/
def prev (r : Fin 16384) (k : Fin 1024) : EReal :=
  if r.val % 2048 = 0 then S (ix2 ⟨r.val / 2048, by omega⟩ k) else X (ix2 ⟨r.val - 1, by omega⟩ k)

/-- The row `r` mixed for the product `c`. -/
def mixed (c : Fin 6) (r : Fin 16384) (k : Fin 1024) : EReal := mixr (fun k => X (ix2 r k)) (prev X S r) (fun k => M (ix2 c k)) k

/-- The product `c` against its weight. -/
def prod (c : Fin 6) (W : V2 1024 1024) (r : Fin 16384) (k : Fin 1024) : EReal := dotr (mixed X S M c r) (fun l j => W (ix2 l j)) k

/-- The gate on the keys. -/
def gate (A0 : V1 1024) (A1 : V2 1024 64) (A2 : V2 64 1024) (r : Fin 16384) (k : Fin 1024) : EReal :=
  sg (A0 (ix1 k) + dotr (fun j => dotr (mixed X S M 4 r) (fun l j => A1 (ix2 l j)) j) (fun j k => A2 (ix2 j k)) k)

/-- The gate on the output. -/
def outgate (G1 : V2 1024 160) (G2 : V2 160 1024) (r : Fin 16384) (k : Fin 1024) : EReal :=
  dotr (fun j => sg (dotr (mixed X S M 5 r) (fun l j => G1 (ix2 l j)) j)) (fun j k => G2 (ix2 j k)) k

/-! ## The results -/

/-- The product `c` as an array. -/
def arrP (c : Fin 6) (W : V2 1024 1024) : V2 16384 1024 := fun i => prod X S M c W (i 0) (i 1)

/-- The gate on the keys as an array. -/
def arrA (A0 : V1 1024) (A1 : V2 1024 64) (A2 : V2 64 1024) : V2 16384 1024 := fun i => gate sg X S M A0 A1 A2 (i 0) (i 1)

/-- The gated keys as an array. -/
def arrK (W : V2 1024 1024) (A0 : V1 1024) (A1 : V2 1024 64) (A2 : V2 64 1024) (Ka : V1 1024) : V2 16384 1024 :=
  fun i => gated (prod X S M 2 W (i 0)) (gate sg X S M A0 A1 A2 (i 0)) (fun q => Ka (ix1 q)) (i 1)

/-- The unit keys as an array. -/
def arrU (W : V2 1024 1024) (Kk : V1 1024) : V2 16384 1024 := fun i => unit (prod X S M 2 W (i 0)) (fun q => Kk (ix1 q)) (i 1)

/-- The gate on the output as an array. -/
def arrG (G1 : V2 1024 160) (G2 : V2 160 1024) : V2 16384 1024 := fun i => outgate sg X S M G1 G2 (i 0) (i 1)

end Layer.RwIn
-- ==== Proof.RwInPay.lean ====
/-
  The pieces of the entry kernel's body, entry by entry.
-/
module

public import proofs.«01_k».proof.Proof.RwInRow
public import proofs.«01_k».proof.Proof.Ffn
public import proofs.«01_k».proof.Proof.Gen.RwInIdeal.Value

@[expose] public section
set_option maxRecDepth 16384

noncomputable section
namespace Layer.RwInPay
open Idealize.ShloMosaic Idealize.ShloMosaic.TcCoe Idealize.SL.Sem Layer.RwIn
open Cert.RwInIdeal Cert.RwInIdeal.Gen

/-! ## The choices the body makes -/

theorem lane_bit : ∀ l : Fin 128, IntOp.cmpi .slt (BitVec.ofNat 32 l.val) 64#32 = if l.val < 64 then 1#1 else 0#1 := by decide +kernel

/-- A choice by the half of 128 lanes. -/
theorem sel_lane (l : Fin 128) (a b : EReal) : Scalar.select (IntOp.cmpi .slt (BitVec.ofNat 32 l.val) 64#32) a b = if l.val < 64 then a else b := by
  rw [lane_bit]
  split <;> rfl

theorem row_bit : ∀ r : Fin 512, IntOp.cmpi .eq (BitVec.ofNat 32 r.val) 0#32 = if r.val = 0 then 1#1 else 0#1 := by decide +kernel

/-- A choice by the first of 512 rows. -/
theorem sel_row (r : Fin 512) (a b : EReal) : Scalar.select (IntOp.cmpi .eq (BitVec.ofNat 32 r.val) 0#32) a b = if r.val = 0 then a else b := by
  rw [row_bit]
  split <;> rfl

/-- Whether a point opens a sequence: four points make one. -/
def opens (n : BitVec 32) : BitVec 1 :=
  Scalar.cmpi CmpIPredicate.eq
    (Scalar.select
      (Scalar.andi
        (Scalar.xori
          (Scalar.cmpi CmpIPredicate.slt (Scalar.remsi n (Scalar.select (Scalar.cmpi CmpIPredicate.eq 4#32 0#32) 1#32 4#32)) 0#32)
          (Scalar.cmpi CmpIPredicate.slt (Scalar.select (Scalar.cmpi CmpIPredicate.eq 4#32 0#32) 1#32 4#32) 0#32))
        (Scalar.cmpi CmpIPredicate.ne (Scalar.remsi n (Scalar.select (Scalar.cmpi CmpIPredicate.eq 4#32 0#32) 1#32 4#32)) 0#32))
      (Scalar.addi (Scalar.remsi n (Scalar.select (Scalar.cmpi CmpIPredicate.eq 4#32 0#32) 1#32 4#32))
        (Scalar.select (Scalar.cmpi CmpIPredicate.eq 4#32 0#32) 1#32 4#32))
      (Scalar.remsi n (Scalar.select (Scalar.cmpi CmpIPredicate.eq 4#32 0#32) 1#32 4#32)))
    0#32

theorem opens_bit : ∀ q : Fin 32, opens (BitVec.ofNat 32 q.val) = if q.val % 4 = 0 then 1#1 else 0#1 := by decide +kernel

theorem sel_opens (q : Fin 32) (a b : EReal) : Scalar.select (opens (BitVec.ofNat 32 q.val)) a b = if q.val % 4 = 0 then a else b := by
  rw [opens_bit]
  split <;> rfl

/-- The row before row `r` of a block: within the block the one above, at its top the carried row or the last row of the block before. -/
def above (q : Nat) (v0 : Vec Ideal S512x1024 .bf16) (v13 : Vec Ideal S1x1x1024 .f32) (v15 : Vec Ideal S1x1024 .bf16) (r : Fin 512) (k : Fin 1024) : EReal :=
  if r.val = 0 then (if q % 4 = 0 then v13 (ix3 0 0 k) else v15 (ix2 0 k)) else v0 (ix2 ⟨(r.val + 512 - 1) % 512, Nat.mod_lt _ (by norm_num)⟩ k)

theorem pay3_at (v0 : Vec Ideal S512x1024 .bf16) (r : Fin 512) (k : Fin 1024) : (k0_pay3 (F := Ideal) v0 (ix2 r k) : EReal) = v0 (ix2 r k) := by
  pointwise [k0_pay3]

theorem pay4_at (i : grid0.Coords) (v0 : Vec Ideal S512x1024 .bf16) (v13 : Vec Ideal S1x1x1024 .f32) (v15 : Vec Ideal S1x1024 .bf16) (r : Fin 512) (k : Fin 1024) :
    (k0_pay4 (F := Ideal) i v0 v13 v15 (ix2 r k) : EReal) = above (i 0).val v0 v13 v15 r k - v0 (ix2 r k) := by
  pointwise [k0_pay4, k0_pay3]
  rw [sel_row]
  refine congrArg (· - _) ?_
  unfold above
  refine if_congr Iff.rfl ?_ rfl
  exact sel_opens (i 0) _ _

/-! ## The mixes and the products -/

theorem pay5_at (i : grid0.Coords) (v0 : Vec Ideal S512x1024 .bf16) (v13 : Vec Ideal S1x1x1024 .f32) (v15 : Vec Ideal S1x1024 .bf16) (u : Vec Ideal S1x1024 .f32) (r : Fin 512) (k : Fin 1024) :
    (k0_pay5 (F := Ideal) i v0 v13 v15 u (ix2 r k) : EReal) = v0 (ix2 r k) + k0_pay4 (F := Ideal) i v0 v13 v15 (ix2 r k) * u (ix2 0 k) := by
  pointwise [k0_pay5, k0_pay3]

theorem pay7_at (v1 v25 : FVec Ideal S512x1024 .f32) (u : Vec Ideal S1x1024 .f32) (r : Fin 512) (k : Fin 1024) :
    (k0_pay7 (F := Ideal) v1 v25 u (ix2 r k) : EReal) = v1 (ix2 r k) + v25 (ix2 r k) * u (ix2 0 k) := by
  pointwise [k0_pay7]

theorem pay8_at (v1 v25 : FVec Ideal S512x1024 .f32) (u : Vec Ideal S1x1024 .f32) (r : Fin 512) (k : Fin 1024) :
    (k0_pay8 (F := Ideal) v1 v25 u (ix2 r k) : EReal) = v1 (ix2 r k) + v25 (ix2 r k) * u (ix2 0 k) := by
  pointwise [k0_pay8]

theorem pay9_at (v30 : FVec Ideal S512x1024 .f32) (w : Vec Ideal S1024x1024 .bf16) (r : Fin 512) (k : Fin 1024) :
    (k0_pay9 (F := Ideal) v30 w (ix2 r k) : EReal) = dotr (fun l => v30 (ix2 r l)) (fun l j => w (ix2 l j)) k := by
  pointwise [k0_pay9, dotr]

theorem pay10_at (v1 v25 : FVec Ideal S512x1024 .f32) (u : Vec Ideal S1x1024 .f32) (w : Vec Ideal S1024x1024 .bf16) (r : Fin 512) (k : Fin 1024) :
    (k0_pay10 (F := Ideal) v1 v25 u w (ix2 r k) : EReal) = dotr (fun l => v1 (ix2 r l) + v25 (ix2 r l) * u (ix2 0 l)) (fun l j => w (ix2 l j)) k := by
  pointwise [k0_pay10, dotr]

theorem pay11_at (v1 v25 : FVec Ideal S512x1024 .f32) (u : Vec Ideal S1x1024 .f32) (w : Vec Ideal S1024x1024 .bf16) (r : Fin 512) (k : Fin 1024) :
    (k0_pay11 (F := Ideal) v1 v25 u w (ix2 r k) : EReal) = dotr (fun l => v1 (ix2 r l) + v25 (ix2 r l) * u (ix2 0 l)) (fun l j => w (ix2 l j)) k := by
  pointwise [k0_pay11, dotr]

/-! ## The gates -/

theorem pay16_at (v50 : FVec Ideal S512x1024 .f32) (v95 : Vec Ideal S1x1024 .f32) (v97 : Vec Ideal S1024x128 .bf16) (v101 : Vec Ideal S128x1024 .bf16) (r : Fin 512) (k : Fin 1024) :
    (k0_pay16 (F := Ideal) (k0_pay14 v50 v95 v97 v101) k0_pay15 (ix2 r k) : EReal)
      = sigT (v95 (ix2 0 k) + dotr (fun j => dotr (fun l => v50 (ix2 r l)) (fun l j => v97 (ix2 l j)) j) (fun j k => v101 (ix2 j k)) k) := by
  pointwise [k0_pay16, k0_pay14, k0_pay15, sigT, dotr]

theorem pay17_at (v50 : FVec Ideal S512x1024 .f32) (v95 : Vec Ideal S1x1024 .f32) (v97 : Vec Ideal S1024x128 .bf16) (v101 : Vec Ideal S128x1024 .bf16) (r : Fin 512) (k : Fin 1024) :
    (k0_pay17 (F := Ideal) (k0_pay14 v50 v95 v97 v101) k0_pay15 (ix2 r k) : EReal)
      = sigT (v95 (ix2 0 k) + dotr (fun j => dotr (fun l => v50 (ix2 r l)) (fun l j => v97 (ix2 l j)) j) (fun j k => v101 (ix2 j k)) k) := by
  pointwise [k0_pay17, k0_pay16, k0_pay14, k0_pay15, sigT, dotr]

theorem pay18_at (v55 : FVec Ideal S512x1024 .f32) (v116 : Vec Ideal S1024x256 .bf16) (v127 : Vec Ideal S256x1024 .bf16) (r : Fin 512) (k : Fin 1024) :
    (k0_pay18 (F := Ideal) v55 v116 v127 (ix2 r k) : EReal)
      = dotr (fun j => sigT (dotr (fun l => v55 (ix2 r l)) (fun l j => v116 (ix2 l j)) j)) (fun j k => v127 (ix2 j k)) k := by
  pointwise [k0_pay18, sigT, dotr]

theorem pay2_at (v65 v113 : FVec Ideal S512x1024 .f32) (u : Vec Ideal S1x1024 .f32) (r : Fin 512) (k : Fin 1024) :
    (k0_pay2 (F := Ideal) v65 v113 u (ix2 r k) : EReal) = gated (fun q => v65 (ix2 r q)) (fun q => v113 (ix2 r q)) (fun q => u (ix2 0 q)) k := by
  pointwise [k0_pay2, gated]

/-! ## The unit keys -/

theorem pay19_at (v65 : FVec Ideal S512x1024 .f32) (u : Vec Ideal S1x1024 .f32) (r : Fin 512) (k : Fin 1024) :
    (k0_pay19 (F := Ideal) v65 u (ix2 r k) : EReal) = v65 (ix2 r k) * u (ix2 0 k) := by
  pointwise [k0_pay19]

theorem pay20_at (v65 : FVec Ideal S512x1024 .f32) (u : Vec Ideal S1x1024 .f32) (r : Fin 512) (k : Fin 1024) :
    (k0_pay20 (F := Ideal) v65 u (ix2 r k) : EReal) = (v65 (ix2 r k) * u (ix2 0 k)) * (v65 (ix2 r k) * u (ix2 0 k)) := by
  pointwise [k0_pay20, k0_pay19]

/-- The squares of a row. -/
abbrev sq (v65 : FVec Ideal S512x1024 .f32) (u : Vec Ideal S1x1024 .f32) (r : Fin 512) : Fin 1024 → EReal :=
  fun q => k0_pay20 (F := Ideal) v65 u (ix2 r q)

theorem group0 (v65 : FVec Ideal S512x1024 .f32) (u : Vec Ideal S1x1024 .f32) (r : Fin 512) (l : Fin 128) :
    (k0_pay25 (F := Ideal) k0_pay21 (k0_pay23 v65 u) (k0_pay24 v65 u) (ix2 r l) : EReal) = head (sq v65 u r) ⟨128 * 0 + l.val, by omega⟩ := by
  have h := head_at (sq v65 u r) 0 l
  revert h
  unfold sq
  generalize head _ _ = y
  generalize e : k0_pay20 (F := Ideal) v65 u = v
  intro h
  pointwise [k0_pay25, k0_pay24, k0_pay23, k0_pay22, k0_pay21]
  simp only [sel_lane]
  rw [e]
  have z : ∀ j : Fin 128, (⟨128 * (0 : Fin 8).val + j.val, by have := j.isLt; show 128 * 0 + j.val < 1024; omega⟩ : Fin 1024) = ⟨j.val, by omega⟩ :=
    fun j => Fin.ext (by show 128 * 0 + j.val = j.val; omega)
  simp only [z] at h
  exact h

theorem group1 (v : FVec Ideal S512x1024 .f32) (r : Fin 512) (l : Fin 128) :
    (k0_pay26 (F := Ideal) v k0_pay21 (ix2 r l) : EReal) = head (fun q => v (ix2 r q)) ⟨128 * 1 + l.val, by omega⟩ := by
  generalize e : head _ _ = y
  pointwise [k0_pay26, k0_pay21]
  simp only [sel_lane]
  exact (head_at (fun q => v (ix2 r q)) 1 l).trans e

theorem group2 (v : FVec Ideal S512x1024 .f32) (r : Fin 512) (l : Fin 128) :
    (k0_pay27 (F := Ideal) v k0_pay21 (ix2 r l) : EReal) = head (fun q => v (ix2 r q)) ⟨128 * 2 + l.val, by omega⟩ := by
  generalize e : head _ _ = y
  pointwise [k0_pay27, k0_pay21]
  simp only [sel_lane]
  exact (head_at (fun q => v (ix2 r q)) 2 l).trans e

theorem group3 (v : FVec Ideal S512x1024 .f32) (r : Fin 512) (l : Fin 128) :
    (k0_pay31 (F := Ideal) k0_pay21 (k0_pay29 v k0_pay21) (k0_pay30 v k0_pay21) (ix2 r l) : EReal) = head (fun q => v (ix2 r q)) ⟨128 * 3 + l.val, by omega⟩ := by
  generalize e : head _ _ = y
  pointwise [k0_pay31, k0_pay30, k0_pay29, k0_pay28, k0_pay21]
  simp only [sel_lane]
  exact (head_at (fun q => v (ix2 r q)) 3 l).trans e

theorem group4 (v : FVec Ideal S512x1024 .f32) (r : Fin 512) (l : Fin 128) :
    (k0_pay32 (F := Ideal) v k0_pay21 (ix2 r l) : EReal) = head (fun q => v (ix2 r q)) ⟨128 * 4 + l.val, by omega⟩ := by
  generalize e : head _ _ = y
  pointwise [k0_pay32, k0_pay21]
  simp only [sel_lane]
  exact (head_at (fun q => v (ix2 r q)) 4 l).trans e

theorem group5 (v : FVec Ideal S512x1024 .f32) (r : Fin 512) (l : Fin 128) :
    (k0_pay33 (F := Ideal) v k0_pay21 (ix2 r l) : EReal) = head (fun q => v (ix2 r q)) ⟨128 * 5 + l.val, by omega⟩ := by
  generalize e : head _ _ = y
  pointwise [k0_pay33, k0_pay21]
  simp only [sel_lane]
  exact (head_at (fun q => v (ix2 r q)) 5 l).trans e

theorem group6 (v : FVec Ideal S512x1024 .f32) (r : Fin 512) (l : Fin 128) :
    (k0_pay34 (F := Ideal) v k0_pay21 (ix2 r l) : EReal) = head (fun q => v (ix2 r q)) ⟨128 * 6 + l.val, by omega⟩ := by
  generalize e : head _ _ = y
  pointwise [k0_pay34, k0_pay21]
  simp only [sel_lane]
  exact (head_at (fun q => v (ix2 r q)) 6 l).trans e

theorem pay35_at (v : FVec Ideal S512x1024 .f32) (r : Fin 512) (l : Fin 128) :
    (k0_pay35 (F := Ideal) v (ix2 r l) : EReal) = v (ix2 r ⟨896 + l.val, by omega⟩) := by
  pointwise [k0_pay35]

theorem pay36_at (v : FVec Ideal S512x1024 .f32) (r : Fin 512) (l : Fin 128) :
    (k0_pay36 (F := Ideal) v k0_pay21 (ix2 r l) : EReal) = if l.val < 64 then v (ix2 r ⟨896 + l.val, by omega⟩) else 0 := by
  pointwise [k0_pay36, k0_pay35, k0_pay21]
  exact sel_lane l _ _

theorem named_at : (Named.named (F := Ideal) (φ := .f32) κ "tiny_sq" 396017173#32 : EReal) = ((tinySq : ℝ) : EReal) :=
  IdealRules.named_const.ideal_named_scalar _ _ _ _ rfl

/-- The keys over the bounded roots of the sums the eight groups hold. -/
theorem pay1_at (v136 : FVec Ideal S512x1024 .f32) (v154 v168 v182 v196 v210 v224 v238 v239 v241 : FVec Ideal S512x128 .f32) (r : Fin 512) (k : Fin 1024)
    (x : Fin 1024 → EReal)
    (h0 : ∀ l : Fin 128, v154 (ix2 r l) = head x ⟨128 * 0 + l.val, by omega⟩)
    (h1 : ∀ l : Fin 128, v168 (ix2 r l) = head x ⟨128 * 1 + l.val, by omega⟩)
    (h2 : ∀ l : Fin 128, v182 (ix2 r l) = head x ⟨128 * 2 + l.val, by omega⟩)
    (h3 : ∀ l : Fin 128, v196 (ix2 r l) = head x ⟨128 * 3 + l.val, by omega⟩)
    (h4 : ∀ l : Fin 128, v210 (ix2 r l) = head x ⟨128 * 4 + l.val, by omega⟩)
    (h5 : ∀ l : Fin 128, v224 (ix2 r l) = head x ⟨128 * 5 + l.val, by omega⟩)
    (h6 : ∀ l : Fin 128, v238 (ix2 r l) = head x ⟨128 * 6 + l.val, by omega⟩)
    (h7 : ∀ l : Fin 128, (if l.val < 64 then ∑ j : Fin 128, v241 (ix2 r j) else ∑ j : Fin 128, (if j.val < 64 then 0 else v239 (ix2 r j)) : EReal) = head x ⟨128 * 7 + l.val, by omega⟩) :
    (k0_pay1 (F := Ideal) v136 k0_pay21 v154 v168 v182 v196 v210 v224 v238 v239 v241 (ix2 r k) : EReal)
      = v136 (ix2 r k) * Ideal.rsqrt (max (head x k) ((tinySq : ℝ) : EReal)) := by
  pointwise [k0_pay1, k0_pay21]
  rw [named_at]
  refine congrArg (fun z => v136 (ix2 r k) * Ideal.rsqrt (max z ((tinySq : ℝ) : EReal))) ?_
  split
  · rw [h0]; exact congrArg (head x) (Fin.ext (by dsimp only; omega))
  split
  · rw [h1]; exact congrArg (head x) (Fin.ext (by dsimp only; omega))
  split
  · rw [h2]; exact congrArg (head x) (Fin.ext (by dsimp only; omega))
  split
  · rw [h3]; exact congrArg (head x) (Fin.ext (by dsimp only; omega))
  split
  · rw [h4]; exact congrArg (head x) (Fin.ext (by dsimp only; omega))
  split
  · rw [h5]; exact congrArg (head x) (Fin.ext (by dsimp only; omega))
  split
  · rw [h6]; exact congrArg (head x) (Fin.ext (by dsimp only; omega))
  · have hk := k.isLt
    have e := h7 ⟨k.val - 128 - 128 - 128 - 128 - 128 - 128 - 128, by omega⟩
    simp only [sel_lane]
    rw [sel_lane ⟨k.val - 128 - 128 - 128 - 128 - 128 - 128 - 128, by omega⟩]
    exact e.trans (congrArg (head x) (Fin.ext (by dsimp only; omega)))

/-- The keys as the body leaves them are the unit keys. -/
theorem keys_at (v65 : FVec Ideal S512x1024 .f32) (u : Vec Ideal S1x1024 .f32) (r : Fin 512) (k : Fin 1024) :
    (k0_pay1 (F := Ideal) (k0_pay19 v65 u) k0_pay21 (k0_pay25 k0_pay21 (k0_pay23 v65 u) (k0_pay24 v65 u)) (k0_pay26 (k0_pay20 v65 u) k0_pay21) (k0_pay27 (k0_pay20 v65 u) k0_pay21)
        (k0_pay31 k0_pay21 (k0_pay29 (k0_pay20 v65 u) k0_pay21) (k0_pay30 (k0_pay20 v65 u) k0_pay21)) (k0_pay32 (k0_pay20 v65 u) k0_pay21) (k0_pay33 (k0_pay20 v65 u) k0_pay21)
        (k0_pay34 (k0_pay20 v65 u) k0_pay21) (k0_pay35 (k0_pay20 v65 u)) (k0_pay36 (k0_pay20 v65 u) k0_pay21) (ix2 r k) : EReal)
      = unit (fun q => v65 (ix2 r q)) (fun q => u (ix2 0 q)) k := by
  rw [pay1_at _ _ _ _ _ _ _ _ _ _ r k (sq v65 u r) (group0 v65 u r) (group1 _ r) (group2 _ r) (group3 _ r) (group4 _ r) (group5 _ r) (group6 _ r)
    (fun l => by
      simp only [pay35_at, pay36_at]
      exact head_at (sq v65 u r) 7 l)]
  have e : sq v65 u r = fun q => (v65 (ix2 r q) * u (ix2 0 q)) * (v65 (ix2 r q) * u (ix2 0 q)) := funext fun q => pay20_at v65 u r q
  rw [e, pay19_at]
  exact unit_eq _ _ (Finset.sum_nonneg fun j _ => Ffn.sq_nonneg _)

end Layer.RwInPay
-- ==== Proof.RwInBlock.lean ====
/-
  The entry of the second mixer as the kernel computes it: every point writes 512 rows of each result, and together the 32 points write
  the results whole.
-/
module

public import proofs.«01_k».proof.Proof.RwInPay

@[expose] public section
set_option maxRecDepth 16384

noncomputable section
namespace Layer.RwInKernel
open Idealize.ShloMosaic Idealize.ShloMosaic.TcCoe Idealize.SL.Sem Layer.RwIn Layer.RwInPay
open Idealize.ShloMosaic.Pipeline (Dat)
open Cert.RwInIdeal Cert.RwInIdeal.Gen

theorem hz : (![0, 0] : Fin 2 → Nat) = fun _ => 0 := funext fun a => by fin_cases a <;> rfl
theorem hz3 : (![0, 0, 0] : Fin 3 → Nat) = fun _ => 0 := funext fun a => by fin_cases a <;> rfl

/-! ## What the body loads -/

/-- The last of the sixteen rows before a block. -/
def lastRow (x : Vec Ideal S16x1024 .bf16) : Vec Ideal S1x1024 .bf16 := fun i => x (ix2 15 ⟨(i 1).val, (i 1).isLt⟩)

theorem lastRow_at (x : Vec Ideal S16x1024 .bf16) (k : Fin 1024) : (lastRow x (ix2 0 k) : EReal) = x (ix2 15 k) := rfl

theorem ld_last (x : Vec Ideal S16x1024 .bf16) : View.ld x r0_2 = lastRow x := by
  funext i
  refine congrArg x (funext fun a => Fin.ext ?_)
  match a with
  | ⟨0, _⟩ => show 15 + 1 * (i 0).val = 15; have : (i 0).val < 1 := (i 0).isLt; omega
  | ⟨1, _⟩ => show 0 + 1 * (i 1).val = (i 1).val; omega

/-- One row of the mixing weights. -/
def muRow (x : Vec Ideal S8x1024 .f32) (c : Fin 8) : Vec Ideal S1x1024 .f32 := fun i => x (ix2 c ⟨(i 1).val, (i 1).isLt⟩)

theorem muRow_at (x : Vec Ideal S8x1024 .f32) (c : Fin 8) (k : Fin 1024) : (muRow x c (ix2 0 k) : EReal) = x (ix2 c k) := rfl

theorem ld_mu (x : Vec Ideal S8x1024 .f32) (c : Fin 8) (h : ∀ a, (![c.val, 0] : Fin 2 → Nat) a + S1x1024.size a ≤ S8x1024.size a) :
    View.ld x (Rect.unit ![c.val, 0] S1x1024.size h) = muRow x c := by
  funext i
  refine congrArg x (funext fun a => Fin.ext ?_)
  match a with
  | ⟨0, _⟩ => show c.val + 1 * (i 0).val = c.val; have : (i 0).val < 1 := (i 0).isLt; omega
  | ⟨1, _⟩ => show 0 + 1 * (i 1).val = (i 1).val; omega

theorem mu0 (x : Vec Ideal S8x1024 .f32) : View.ld x r0_3 = muRow x 0 := ld_mu x 0 _
theorem mu2 (x : Vec Ideal S8x1024 .f32) : View.ld x r0_5 = muRow x 2 := ld_mu x 2 _
theorem mu3 (x : Vec Ideal S8x1024 .f32) : View.ld x r0_6 = muRow x 3 := ld_mu x 3 _
theorem mu4 (x : Vec Ideal S8x1024 .f32) : View.ld x r0_7 = muRow x 4 := ld_mu x 4 _
theorem mu5 (x : Vec Ideal S8x1024 .f32) : View.ld x r0_8 = muRow x 5 := ld_mu x 5 _
theorem whole_x (x : Vec Ideal S512x1024 .bf16) : View.ld x r0_0 = x := View.ld_unit_zero hz _ _
theorem whole_s (x : Vec Ideal S1x1x1024 .f32) : View.ld x r0_1 = x := View.ld_unit_zero hz3 _ _
theorem whole_w (x : Vec Ideal S1024x1024 .bf16) : View.ld x r0_9 = x := View.ld_unit_zero hz _ _
theorem whole_g (x : Vec Ideal S1x1024 .f32) : View.ld x r0_10 = x := View.ld_unit_zero hz _ _
theorem whole_a (x : Vec Ideal S1024x128 .bf16) : View.ld x r0_11 = x := View.ld_unit_zero hz _ _
theorem whole_b (x : Vec Ideal S128x1024 .bf16) : View.ld x r0_12 = x := View.ld_unit_zero hz _ _
theorem whole_c (x : Vec Ideal S1024x256 .bf16) : View.ld x r0_13 = x := View.ld_unit_zero hz _ _
theorem whole_d (x : Vec Ideal S256x1024 .bf16) : View.ld x r0_14 = x := View.ld_unit_zero hz _ _

/-! ## One point's blocks -/

/-- A row of a block mixed with the row before it. -/
def bmix (q : Nat) (x0 : Vec Ideal S512x1024 .bf16) (x1 : Vec Ideal S16x1024 .bf16) (x2 : Vec Ideal S1x1x1024 .f32) (x3 : Vec Ideal S8x1024 .f32) (c : Fin 8) (r : Fin 512) (l : Fin 1024) : EReal :=
  mixr (fun k => x0 (ix2 r k)) (above q x0 x2 (lastRow x1) r) (fun k => x3 (ix2 c k)) l

variable (i : grid0.Coords) (x0 : Vec Ideal S512x1024 .bf16) (x1 : Vec Ideal S16x1024 .bf16) (x2 : Vec Ideal S1x1x1024 .f32) (x3 : Vec Ideal S8x1024 .f32) (x4 : Vec Ideal S1024x1024 .bf16) (x5 : Vec Ideal S1024x1024 .bf16) (x6 : Vec Ideal S1024x1024 .bf16) (x7 : Vec Ideal S1024x128 .bf16) (x8 : Vec Ideal S128x1024 .bf16) (x9 : Vec Ideal S1024x128 .bf16) (x10 : Vec Ideal S128x1024 .bf16) (x11 : Vec Ideal S1024x256 .bf16) (x12 : Vec Ideal S256x1024 .bf16) (x13 : Vec Ideal S1x1024 .f32) (x14 : Vec Ideal S1x1024 .f32) (x15 : Vec Ideal S1x1024 .f32) (x16 : Vec Ideal S1x1024 .f32) (r : Fin 512) (k : Fin 1024)

theorem out17_at : (out0_17 (F := Ideal) i x0 x1 x2 x3 x4 x5 x6 x7 x8 x9 x10 x11 x12 x13 x14 x15 x16 (ix2 r k) : EReal) = dotr (bmix (i 0).val x0 x1 x2 x3 0 r) (fun l j => x4 (ix2 l j)) k := by
  unfold_out out0_17
  rw [View.canon_unit_zero hz]
  simp only [whole_x, whole_s, whole_w, whole_g, whole_a, whole_b, whole_c, whole_d, ld_last, mu0, mu2, mu3, mu4, mu5]
  rw [pay9_at]
  simp only [pay3_at, pay4_at, pay5_at, pay7_at, pay8_at, pay10_at, pay16_at, muRow_at]
  rfl

theorem out19_at : (out0_19 (F := Ideal) i x0 x1 x2 x3 x4 x5 x6 x7 x8 x9 x10 x11 x12 x13 x14 x15 x16 (ix2 r k) : EReal) = gated (fun q => dotr (bmix (i 0).val x0 x1 x2 x3 2 r) (fun l j => x5 (ix2 l j)) q) (fun q => sigT (x14 (ix2 0 q) + dotr (fun j => dotr (bmix (i 0).val x0 x1 x2 x3 4 r) (fun l j => x9 (ix2 l j)) j) (fun j k => x10 (ix2 j k)) q)) (fun q => x16 (ix2 0 q)) k := by
  unfold_out out0_19
  rw [View.canon_unit_zero hz]
  simp only [whole_x, whole_s, whole_w, whole_g, whole_a, whole_b, whole_c, whole_d, ld_last, mu0, mu2, mu3, mu4, mu5]
  rw [pay2_at]
  simp only [pay3_at, pay4_at, pay5_at, pay7_at, pay8_at, pay10_at, pay16_at, muRow_at]
  rfl

theorem out20_at : (out0_20 (F := Ideal) i x0 x1 x2 x3 x4 x5 x6 x7 x8 x9 x10 x11 x12 x13 x14 x15 x16 (ix2 r k) : EReal) = dotr (bmix (i 0).val x0 x1 x2 x3 3 r) (fun l j => x6 (ix2 l j)) k := by
  unfold_out out0_20
  rw [View.canon_unit_zero hz]
  simp only [whole_x, whole_s, whole_w, whole_g, whole_a, whole_b, whole_c, whole_d, ld_last, mu0, mu2, mu3, mu4, mu5]
  rw [pay11_at]
  simp only [pay3_at, pay4_at, pay5_at, pay7_at, pay8_at, pay10_at, pay16_at, muRow_at]
  rfl

theorem out21_at : (out0_21 (F := Ideal) i x0 x1 x2 x3 x4 x5 x6 x7 x8 x9 x10 x11 x12 x13 x14 x15 x16 (ix2 r k) : EReal) = unit (fun q => dotr (bmix (i 0).val x0 x1 x2 x3 2 r) (fun l j => x5 (ix2 l j)) q) (fun q => x15 (ix2 0 q)) k := by
  unfold_out out0_21
  rw [View.canon_unit_zero hz]
  simp only [whole_x, whole_s, whole_w, whole_g, whole_a, whole_b, whole_c, whole_d, ld_last, mu0, mu2, mu3, mu4, mu5]
  rw [keys_at]
  simp only [pay3_at, pay4_at, pay5_at, pay7_at, pay8_at, pay10_at, pay16_at, muRow_at]
  rfl

theorem out22_at : (out0_22 (F := Ideal) i x0 x1 x2 x3 x4 x5 x6 x7 x8 x9 x10 x11 x12 x13 x14 x15 x16 (ix2 r k) : EReal) = sigT (x14 (ix2 0 k) + dotr (fun j => dotr (bmix (i 0).val x0 x1 x2 x3 4 r) (fun l j => x9 (ix2 l j)) j) (fun j k => x10 (ix2 j k)) k) := by
  unfold_out out0_22
  rw [View.canon_unit_zero hz]
  simp only [whole_x, whole_s, whole_w, whole_g, whole_a, whole_b, whole_c, whole_d, ld_last, mu0, mu2, mu3, mu4, mu5]
  rw [pay17_at]
  simp only [pay3_at, pay4_at, pay5_at, pay7_at, pay8_at, pay10_at, pay16_at, muRow_at]
  rfl

theorem out23_at : (out0_23 (F := Ideal) i x0 x1 x2 x3 x4 x5 x6 x7 x8 x9 x10 x11 x12 x13 x14 x15 x16 (ix2 r k) : EReal) = dotr (fun j => sigT (dotr (bmix (i 0).val x0 x1 x2 x3 5 r) (fun l j => x11 (ix2 l j)) j)) (fun j k => x12 (ix2 j k)) k := by
  unfold_out out0_23
  rw [View.canon_unit_zero hz]
  simp only [whole_x, whole_s, whole_w, whole_g, whole_a, whole_b, whole_c, whole_d, ld_last, mu0, mu2, mu3, mu4, mu5]
  rw [pay18_at]
  simp only [pay3_at, pay4_at, pay5_at, pay7_at, pay8_at, pay10_at, pay16_at, muRow_at]
  rfl

end Layer.RwInKernel
-- ==== Proof.RwInStage.lean ====
/-
  The arrays the entry kernel is handed, and the blocks of them a point sees.
-/
module

public import proofs.«01_k».proof.Proof.RwInBlock

@[expose] public section
set_option maxRecDepth 16384

noncomputable section
namespace Layer.RwInKernel
open Idealize.ShloMosaic Idealize.ShloMosaic.TcCoe Idealize.SL.Sem Layer.RwIn Layer.RwInPay
open Idealize.ShloMosaic.Pipeline (Dat)
open Cert.RwInIdeal Cert.RwInIdeal.Gen

variable (m : (ℓ : Loc nD τ sig) → Buf (Elt Ideal) ℓ)

abbrev argX (c : Dev nD) : V2 16384 1024 := m ((c : Thread nD τ).loc main_arg0)
abbrev argS (c : Dev nD) : V2 8 1024 := m ((c : Thread nD τ).loc main_arg1)
abbrev argM (c : Dev nD) : V2 6 1024 := m ((c : Thread nD τ).loc main_arg2)
abbrev argWr (c : Dev nD) : V2 1024 1024 := m ((c : Thread nD τ).loc main_arg3)
abbrev argWk (c : Dev nD) : V2 1024 1024 := m ((c : Thread nD τ).loc main_arg4)
abbrev argWv (c : Dev nD) : V2 1024 1024 := m ((c : Thread nD τ).loc main_arg5)
abbrev argD0 (c : Dev nD) : V1 1024 := m ((c : Thread nD τ).loc main_arg6)
abbrev argD1 (c : Dev nD) : V2 1024 64 := m ((c : Thread nD τ).loc main_arg7)
abbrev argD2 (c : Dev nD) : V2 64 1024 := m ((c : Thread nD τ).loc main_arg8)
abbrev argA0 (c : Dev nD) : V1 1024 := m ((c : Thread nD τ).loc main_arg9)
abbrev argA1 (c : Dev nD) : V2 1024 64 := m ((c : Thread nD τ).loc main_arg10)
abbrev argA2 (c : Dev nD) : V2 64 1024 := m ((c : Thread nD τ).loc main_arg11)
abbrev argG1 (c : Dev nD) : V2 1024 160 := m ((c : Thread nD τ).loc main_arg12)
abbrev argG2 (c : Dev nD) : V2 160 1024 := m ((c : Thread nD τ).loc main_arg13)
abbrev argKk (c : Dev nD) : V1 1024 := m ((c : Thread nD τ).loc main_arg14)
abbrev argKa (c : Dev nD) : V1 1024 := m ((c : Thread nD τ).loc main_arg15)

/-! ## The staged arrays -/

theorem s_at (c : Dev nD) (b : Fin 8) (k : Fin 1024) : @Eq EReal (V m c main_v20 (ix3 b 0 k)) (argS m c (ix2 b k)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  pointwise

theorem m_at (c : Dev nD) (a : Fin 6) (k : Fin 1024) : @Eq EReal (V m c main_v12 (ix2 ⟨a.val, by omega⟩ k)) (argM m c (ix2 a k)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  pointwise
  show @Eq EReal (pad S8x1024 ![0, 0] ![2, 0] ![0, 0] (show FVec Ideal _ .f32 from argM m c) (sitofp (F := Ideal) .f32 (constantI S_ 32 0#32)) pads_S6x1024_S8x1024_020_000 h_S_ (ix2 ⟨a.val, by omega⟩ k)) _
  pointwise

theorem wr_at (c : Dev nD) (f k : Fin 1024) : @Eq EReal (V m c main_v13 (ix2 f k)) (argWr m c (ix2 f k)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  pointwise

theorem wk_at (c : Dev nD) (f k : Fin 1024) : @Eq EReal (V m c main_v14 (ix2 f k)) (argWk m c (ix2 f k)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  pointwise

theorem wv_at (c : Dev nD) (f k : Fin 1024) : @Eq EReal (V m c main_v15 (ix2 f k)) (argWv m c (ix2 f k)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  pointwise

theorem a0_at (c : Dev nD) (k : Fin 1024) : @Eq EReal (V m c main_v17 (ix2 0 k)) (argA0 m c (ix1 k)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  pointwise

theorem kk_at (c : Dev nD) (k : Fin 1024) : @Eq EReal (V m c main_v18 (ix2 0 k)) (argKk m c (ix1 k)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  pointwise

theorem ka_at (c : Dev nD) (k : Fin 1024) : @Eq EReal (V m c main_v19 (ix2 0 k)) (argKa m c (ix1 k)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  pointwise

theorem a1_at (c : Dev nD) (l : Fin 1024) (j : Fin 128) (h : j.val < 64) : @Eq EReal (V m c main_v5 (ix2 l j)) (argA1 m c (ix2 l ⟨j.val, h⟩)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  pointwise
  show @Eq EReal (pad S1024x128 ![0, 0] ![0, 64] ![0, 0] (show FVec Ideal _ .f32 from argA1 m c) (sitofp (F := Ideal) .f32 (constantI S_ 32 0#32)) pads_S1024x64_S1024x128_000_0640 h_S_ (ix2 l j)) _
  pointwise
  rw [dif_pos h]

theorem a2_at (c : Dev nD) (j : Fin 128) (h : j.val < 64) (k : Fin 1024) : @Eq EReal (V m c main_v7 (ix2 j k)) (argA2 m c (ix2 ⟨j.val, h⟩ k)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  pointwise
  show @Eq EReal (pad S128x1024 ![0, 0] ![64, 0] ![0, 0] (show FVec Ideal _ .f32 from argA2 m c) (sitofp (F := Ideal) .f32 (constantI S_ 32 0#32)) pads_S64x1024_S128x1024_0640_000 h_S_ (ix2 j k)) _
  pointwise
  rw [dif_pos h]

theorem a2_zero (c : Dev nD) (j : Fin 128) (h : 64 ≤ j.val) (k : Fin 1024) : @Eq EReal (V m c main_v7 (ix2 j k)) ((0 : EReal)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  pointwise
  show @Eq EReal (pad S128x1024 ![0, 0] ![64, 0] ![0, 0] (show FVec Ideal _ .f32 from argA2 m c) (sitofp (F := Ideal) .f32 (constantI S_ 32 0#32)) pads_S64x1024_S128x1024_0640_000 h_S_ (ix2 j k)) _
  pointwise
  rw [dif_neg (by omega)]
  show (((0#32 : BitVec 32).toInt : ℝ) : EReal) = 0
  simp

theorem g1_at (c : Dev nD) (l : Fin 1024) (j : Fin 256) (h : j.val < 160) : @Eq EReal (V m c main_v9 (ix2 l j)) (argG1 m c (ix2 l ⟨j.val, h⟩)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  pointwise
  show @Eq EReal (pad S1024x256 ![0, 0] ![0, 96] ![0, 0] (show FVec Ideal _ .f32 from argG1 m c) (sitofp (F := Ideal) .f32 (constantI S_ 32 0#32)) pads_S1024x160_S1024x256_000_0960 h_S_ (ix2 l j)) _
  pointwise
  rw [dif_pos h]

theorem g2_at (c : Dev nD) (j : Fin 256) (h : j.val < 160) (k : Fin 1024) : @Eq EReal (V m c main_v11 (ix2 j k)) (argG2 m c (ix2 ⟨j.val, h⟩ k)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  pointwise
  show @Eq EReal (pad S256x1024 ![0, 0] ![96, 0] ![0, 0] (show FVec Ideal _ .f32 from argG2 m c) (sitofp (F := Ideal) .f32 (constantI S_ 32 0#32)) pads_S160x1024_S256x1024_0960_000 h_S_ (ix2 j k)) _
  pointwise
  rw [dif_pos h]

theorem g2_zero (c : Dev nD) (j : Fin 256) (h : 160 ≤ j.val) (k : Fin 1024) : @Eq EReal (V m c main_v11 (ix2 j k)) ((0 : EReal)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  pointwise
  show @Eq EReal (pad S256x1024 ![0, 0] ![96, 0] ![0, 0] (show FVec Ideal _ .f32 from argG2 m c) (sitofp (F := Ideal) .f32 (constantI S_ 32 0#32)) pads_S160x1024_S256x1024_0960_000 h_S_ (ix2 j k)) _
  pointwise
  rw [dif_neg (by omega)]
  show (((0#32 : BitVec 32).toInt : ℝ) : EReal) = 0
  simp

theorem lt32 (t : Fin cfg0.N) : t.val < 32 := lt_of_lt_of_eq t.isLt N_0

theorem coord : ∀ t : Fin cfg0.N, (grid0.coords t 0).val = t.val :=
  (by decide +kernel : ∀ t : Fin grid0.N, _)

theorem idx0 : ∀ t : Fin cfg0.N, win0_0.index t 0 = t.val ∧ win0_0.index t 1 = 0 :=
  (by decide +kernel : ∀ t : Fin grid0.N, _)
theorem idx1 : ∀ t : Fin cfg0.N, win0_1.index t 0 = 32 * t.val - 1 ∧ win0_1.index t 1 = 0 :=
  (by decide +kernel : ∀ t : Fin grid0.N, _)
theorem idx2 : ∀ t : Fin cfg0.N, win0_2.index t 0 = t.val / 4 ∧ win0_2.index t 1 = 0 ∧ win0_2.index t 2 = 0 :=
  (by decide +kernel : ∀ t : Fin grid0.N, _)
theorem idx3 : ∀ t : Fin cfg0.N, win0_3.index t 0 = 0 ∧ win0_3.index t 1 = 0 :=
  (by decide +kernel : ∀ t : Fin grid0.N, _)
theorem idx4 : ∀ t : Fin cfg0.N, win0_4.index t 0 = 0 ∧ win0_4.index t 1 = 0 :=
  (by decide +kernel : ∀ t : Fin grid0.N, _)
theorem idx5 : ∀ t : Fin cfg0.N, win0_5.index t 0 = 0 ∧ win0_5.index t 1 = 0 :=
  (by decide +kernel : ∀ t : Fin grid0.N, _)
theorem idx6 : ∀ t : Fin cfg0.N, win0_6.index t 0 = 0 ∧ win0_6.index t 1 = 0 :=
  (by decide +kernel : ∀ t : Fin grid0.N, _)
theorem idx9 : ∀ t : Fin cfg0.N, win0_9.index t 0 = 0 ∧ win0_9.index t 1 = 0 :=
  (by decide +kernel : ∀ t : Fin grid0.N, _)
theorem idx10 : ∀ t : Fin cfg0.N, win0_10.index t 0 = 0 ∧ win0_10.index t 1 = 0 :=
  (by decide +kernel : ∀ t : Fin grid0.N, _)
theorem idx11 : ∀ t : Fin cfg0.N, win0_11.index t 0 = 0 ∧ win0_11.index t 1 = 0 :=
  (by decide +kernel : ∀ t : Fin grid0.N, _)
theorem idx12 : ∀ t : Fin cfg0.N, win0_12.index t 0 = 0 ∧ win0_12.index t 1 = 0 :=
  (by decide +kernel : ∀ t : Fin grid0.N, _)
theorem idx14 : ∀ t : Fin cfg0.N, win0_14.index t 0 = 0 ∧ win0_14.index t 1 = 0 :=
  (by decide +kernel : ∀ t : Fin grid0.N, _)
theorem idx15 : ∀ t : Fin cfg0.N, win0_15.index t 0 = 0 ∧ win0_15.index t 1 = 0 :=
  (by decide +kernel : ∀ t : Fin grid0.N, _)
theorem idx16 : ∀ t : Fin cfg0.N, win0_16.index t 0 = 0 ∧ win0_16.index t 1 = 0 :=
  (by decide +kernel : ∀ t : Fin grid0.N, _)
theorem idx17 : ∀ t : Fin cfg0.N, win0_17.index t 0 = t.val ∧ win0_17.index t 1 = 0 :=
  (by decide +kernel : ∀ t : Fin grid0.N, _)
theorem idx19 : ∀ t : Fin cfg0.N, win0_19.index t 0 = t.val ∧ win0_19.index t 1 = 0 :=
  (by decide +kernel : ∀ t : Fin grid0.N, _)
theorem idx20 : ∀ t : Fin cfg0.N, win0_20.index t 0 = t.val ∧ win0_20.index t 1 = 0 :=
  (by decide +kernel : ∀ t : Fin grid0.N, _)
theorem idx21 : ∀ t : Fin cfg0.N, win0_21.index t 0 = t.val ∧ win0_21.index t 1 = 0 :=
  (by decide +kernel : ∀ t : Fin grid0.N, _)
theorem idx22 : ∀ t : Fin cfg0.N, win0_22.index t 0 = t.val ∧ win0_22.index t 1 = 0 :=
  (by decide +kernel : ∀ t : Fin grid0.N, _)
theorem idx23 : ∀ t : Fin cfg0.N, win0_23.index t 0 = t.val ∧ win0_23.index t 1 = 0 :=
  (by decide +kernel : ∀ t : Fin grid0.N, _)

/-! ## The blocks at a point -/

abbrev B0 (c : Dev nD) (t : Fin cfg0.N) : Vec Ideal S512x1024 .bf16 := iblk m c 0 t
abbrev B1 (c : Dev nD) (t : Fin cfg0.N) : Vec Ideal S16x1024 .bf16 := iblk m c 1 t
abbrev B2 (c : Dev nD) (t : Fin cfg0.N) : Vec Ideal S1x1x1024 .f32 := iblk m c 2 t
abbrev B3 (c : Dev nD) (t : Fin cfg0.N) : Vec Ideal S8x1024 .f32 := iblk m c 3 t
abbrev B4 (c : Dev nD) (t : Fin cfg0.N) : Vec Ideal S1024x1024 .bf16 := iblk m c 4 t
abbrev B5 (c : Dev nD) (t : Fin cfg0.N) : Vec Ideal S1024x1024 .bf16 := iblk m c 5 t
abbrev B6 (c : Dev nD) (t : Fin cfg0.N) : Vec Ideal S1024x1024 .bf16 := iblk m c 6 t
abbrev B9 (c : Dev nD) (t : Fin cfg0.N) : Vec Ideal S1024x128 .bf16 := iblk m c 9 t
abbrev B10 (c : Dev nD) (t : Fin cfg0.N) : Vec Ideal S128x1024 .bf16 := iblk m c 10 t
abbrev B11 (c : Dev nD) (t : Fin cfg0.N) : Vec Ideal S1024x256 .bf16 := iblk m c 11 t
abbrev B12 (c : Dev nD) (t : Fin cfg0.N) : Vec Ideal S256x1024 .bf16 := iblk m c 12 t
abbrev B14 (c : Dev nD) (t : Fin cfg0.N) : Vec Ideal S1x1024 .f32 := iblk m c 14 t
abbrev B15 (c : Dev nD) (t : Fin cfg0.N) : Vec Ideal S1x1024 .f32 := iblk m c 15 t
abbrev B16 (c : Dev nD) (t : Fin cfg0.N) : Vec Ideal S1x1024 .f32 := iblk m c 16 t

theorem blk0_at (c : Dev nD) (t : Fin cfg0.N) (r : Fin 512) (j : Fin 1024) (h : 512 * t.val + r.val < 16384) :
    (B0 m c t (ix2 r j) : EReal) = argX m c (ix2 ⟨512 * t.val + r.val, h⟩ j) := by
  show V m c main_arg0 (((cfg0.win 0).blk t).view.emb (ix2 r j)) = _
  rw [V_main_arg0]
  refine congrArg _ (funext fun a => Fin.ext ?_)
  obtain ⟨e0, e1⟩ := idx0 t
  match a with
  | ⟨0, _⟩ => show win0_0.index t 0 * 512 + 1 * r.val = 512 * t.val + r.val; omega
  | ⟨1, _⟩ => show win0_0.index t 1 * 1024 + 1 * j.val = j.val; omega

theorem blk1_at (c : Dev nD) (t : Fin cfg0.N) (j : Fin 1024) (h0 : 0 < t.val) (h : 512 * t.val - 1 < 16384) :
    (B1 m c t (ix2 15 j) : EReal) = argX m c (ix2 ⟨512 * t.val - 1, h⟩ j) := by
  show V m c main_arg0 (((cfg0.win 1).blk t).view.emb (ix2 15 j)) = _
  rw [V_main_arg0]
  refine congrArg _ (funext fun a => Fin.ext ?_)
  obtain ⟨e0, e1⟩ := idx1 t
  match a with
  | ⟨0, _⟩ => show win0_1.index t 0 * 16 + 1 * 15 = 512 * t.val - 1; omega
  | ⟨1, _⟩ => show win0_1.index t 1 * 1024 + 1 * j.val = j.val; omega

theorem blk2_at (c : Dev nD) (t : Fin cfg0.N) (j : Fin 1024) (h : t.val / 4 < 8) :
    (B2 m c t (ix3 0 0 j) : EReal) = argS m c (ix2 ⟨t.val / 4, h⟩ j) := by
  rw [← s_at]
  show V m c main_v20 (((cfg0.win 2).blk t).view.emb (ix3 0 0 j)) = _
  refine congrArg _ (funext fun a => Fin.ext ?_)
  obtain ⟨e0, e1, e2⟩ := idx2 t
  match a with
  | ⟨0, _⟩ => show win0_2.index t 0 * 1 + 1 * 0 = t.val / 4; omega
  | ⟨1, _⟩ => show win0_2.index t 1 * 1 + 1 * 0 = 0; omega
  | ⟨2, _⟩ => show win0_2.index t 2 * 1024 + 1 * j.val = j.val; omega

theorem blk3_eq (c : Dev nD) (t : Fin cfg0.N) (a : Fin 8) (b : Fin 1024) : (B3 m c t (ix2 a b) : EReal) = V m c main_v12 (ix2 a b) := by
  show V m c main_v12 (((cfg0.win 3).blk t).view.emb (ix2 a b)) = _
  refine congrArg _ (funext fun q => Fin.ext ?_)
  obtain ⟨e0, e1⟩ := idx3 t
  match q with
  | ⟨0, _⟩ => show win0_3.index t 0 * 8 + 1 * a.val = a.val; omega
  | ⟨1, _⟩ => show win0_3.index t 1 * 1024 + 1 * b.val = b.val; omega

theorem blk4_eq (c : Dev nD) (t : Fin cfg0.N) (a : Fin 1024) (b : Fin 1024) : (B4 m c t (ix2 a b) : EReal) = V m c main_v13 (ix2 a b) := by
  show V m c main_v13 (((cfg0.win 4).blk t).view.emb (ix2 a b)) = _
  refine congrArg _ (funext fun q => Fin.ext ?_)
  obtain ⟨e0, e1⟩ := idx4 t
  match q with
  | ⟨0, _⟩ => show win0_4.index t 0 * 1024 + 1 * a.val = a.val; omega
  | ⟨1, _⟩ => show win0_4.index t 1 * 1024 + 1 * b.val = b.val; omega

theorem blk5_eq (c : Dev nD) (t : Fin cfg0.N) (a : Fin 1024) (b : Fin 1024) : (B5 m c t (ix2 a b) : EReal) = V m c main_v14 (ix2 a b) := by
  show V m c main_v14 (((cfg0.win 5).blk t).view.emb (ix2 a b)) = _
  refine congrArg _ (funext fun q => Fin.ext ?_)
  obtain ⟨e0, e1⟩ := idx5 t
  match q with
  | ⟨0, _⟩ => show win0_5.index t 0 * 1024 + 1 * a.val = a.val; omega
  | ⟨1, _⟩ => show win0_5.index t 1 * 1024 + 1 * b.val = b.val; omega

theorem blk6_eq (c : Dev nD) (t : Fin cfg0.N) (a : Fin 1024) (b : Fin 1024) : (B6 m c t (ix2 a b) : EReal) = V m c main_v15 (ix2 a b) := by
  show V m c main_v15 (((cfg0.win 6).blk t).view.emb (ix2 a b)) = _
  refine congrArg _ (funext fun q => Fin.ext ?_)
  obtain ⟨e0, e1⟩ := idx6 t
  match q with
  | ⟨0, _⟩ => show win0_6.index t 0 * 1024 + 1 * a.val = a.val; omega
  | ⟨1, _⟩ => show win0_6.index t 1 * 1024 + 1 * b.val = b.val; omega

theorem blk9_eq (c : Dev nD) (t : Fin cfg0.N) (a : Fin 1024) (b : Fin 128) : (B9 m c t (ix2 a b) : EReal) = V m c main_v5 (ix2 a b) := by
  show V m c main_v5 (((cfg0.win 9).blk t).view.emb (ix2 a b)) = _
  refine congrArg _ (funext fun q => Fin.ext ?_)
  obtain ⟨e0, e1⟩ := idx9 t
  match q with
  | ⟨0, _⟩ => show win0_9.index t 0 * 1024 + 1 * a.val = a.val; omega
  | ⟨1, _⟩ => show win0_9.index t 1 * 128 + 1 * b.val = b.val; omega

theorem blk10_eq (c : Dev nD) (t : Fin cfg0.N) (a : Fin 128) (b : Fin 1024) : (B10 m c t (ix2 a b) : EReal) = V m c main_v7 (ix2 a b) := by
  show V m c main_v7 (((cfg0.win 10).blk t).view.emb (ix2 a b)) = _
  refine congrArg _ (funext fun q => Fin.ext ?_)
  obtain ⟨e0, e1⟩ := idx10 t
  match q with
  | ⟨0, _⟩ => show win0_10.index t 0 * 128 + 1 * a.val = a.val; omega
  | ⟨1, _⟩ => show win0_10.index t 1 * 1024 + 1 * b.val = b.val; omega

theorem blk11_eq (c : Dev nD) (t : Fin cfg0.N) (a : Fin 1024) (b : Fin 256) : (B11 m c t (ix2 a b) : EReal) = V m c main_v9 (ix2 a b) := by
  show V m c main_v9 (((cfg0.win 11).blk t).view.emb (ix2 a b)) = _
  refine congrArg _ (funext fun q => Fin.ext ?_)
  obtain ⟨e0, e1⟩ := idx11 t
  match q with
  | ⟨0, _⟩ => show win0_11.index t 0 * 1024 + 1 * a.val = a.val; omega
  | ⟨1, _⟩ => show win0_11.index t 1 * 256 + 1 * b.val = b.val; omega

theorem blk12_eq (c : Dev nD) (t : Fin cfg0.N) (a : Fin 256) (b : Fin 1024) : (B12 m c t (ix2 a b) : EReal) = V m c main_v11 (ix2 a b) := by
  show V m c main_v11 (((cfg0.win 12).blk t).view.emb (ix2 a b)) = _
  refine congrArg _ (funext fun q => Fin.ext ?_)
  obtain ⟨e0, e1⟩ := idx12 t
  match q with
  | ⟨0, _⟩ => show win0_12.index t 0 * 256 + 1 * a.val = a.val; omega
  | ⟨1, _⟩ => show win0_12.index t 1 * 1024 + 1 * b.val = b.val; omega

theorem blk14_eq (c : Dev nD) (t : Fin cfg0.N) (a : Fin 1) (b : Fin 1024) : (B14 m c t (ix2 a b) : EReal) = V m c main_v17 (ix2 a b) := by
  show V m c main_v17 (((cfg0.win 14).blk t).view.emb (ix2 a b)) = _
  refine congrArg _ (funext fun q => Fin.ext ?_)
  obtain ⟨e0, e1⟩ := idx14 t
  match q with
  | ⟨0, _⟩ => show win0_14.index t 0 * 1 + 1 * a.val = a.val; omega
  | ⟨1, _⟩ => show win0_14.index t 1 * 1024 + 1 * b.val = b.val; omega

theorem blk15_eq (c : Dev nD) (t : Fin cfg0.N) (a : Fin 1) (b : Fin 1024) : (B15 m c t (ix2 a b) : EReal) = V m c main_v18 (ix2 a b) := by
  show V m c main_v18 (((cfg0.win 15).blk t).view.emb (ix2 a b)) = _
  refine congrArg _ (funext fun q => Fin.ext ?_)
  obtain ⟨e0, e1⟩ := idx15 t
  match q with
  | ⟨0, _⟩ => show win0_15.index t 0 * 1 + 1 * a.val = a.val; omega
  | ⟨1, _⟩ => show win0_15.index t 1 * 1024 + 1 * b.val = b.val; omega

theorem blk16_eq (c : Dev nD) (t : Fin cfg0.N) (a : Fin 1) (b : Fin 1024) : (B16 m c t (ix2 a b) : EReal) = V m c main_v19 (ix2 a b) := by
  show V m c main_v19 (((cfg0.win 16).blk t).view.emb (ix2 a b)) = _
  refine congrArg _ (funext fun q => Fin.ext ?_)
  obtain ⟨e0, e1⟩ := idx16 t
  match q with
  | ⟨0, _⟩ => show win0_16.index t 0 * 1 + 1 * a.val = a.val; omega
  | ⟨1, _⟩ => show win0_16.index t 1 * 1024 + 1 * b.val = b.val; omega

end Layer.RwInKernel
-- ==== Proof.RwInKernel.lean ====
/-
  The entry kernel's results as functions of its arguments.
-/
module

public import proofs.«01_k».proof.Proof.RwInStage

@[expose] public section
set_option maxRecDepth 16384

noncomputable section
namespace Layer.RwInKernel
open Idealize.ShloMosaic Idealize.ShloMosaic.TcCoe Idealize.SL.Sem Layer.RwIn Layer.RwInPay
open Idealize.ShloMosaic.Pipeline (Dat)
open Cert.RwInIdeal Cert.RwInIdeal.Gen

variable (m : (ℓ : Loc nD τ sig) → Buf (Elt Ideal) ℓ)

/-! ## What a point computes of its blocks -/

theorem above_at (c : Dev nD) (t : Fin cfg0.N) (r : Fin 512) (h : 512 * t.val + r.val < 16384) (k : Fin 1024) :
    above t.val (B0 m c t) (B2 m c t) (lastRow (B1 m c t)) r k = prev (argX m c) (argS m c) ⟨512 * t.val + r.val, h⟩ k := by
  have hr := r.isLt
  have ht := lt32 t
  unfold above prev
  split
  · split
    · rw [if_pos (by dsimp only; omega), blk2_at m c t k (by omega)]
      exact congrArg (fun z => argS m c (ix2 z k)) (Fin.ext (by dsimp only; omega))
    · rw [if_neg (by dsimp only; omega), lastRow_at, blk1_at m c t k (by omega) (by omega)]
      exact congrArg (fun z => argX m c (ix2 z k)) (Fin.ext (by dsimp only; omega))
  · rw [if_neg (by dsimp only; omega), blk0_at m c t _ k (by dsimp only; omega)]
    exact congrArg (fun z => argX m c (ix2 z k)) (Fin.ext (by dsimp only; omega))

theorem bmix_at (c : Dev nD) (t : Fin cfg0.N) (e : Fin 8) (d : Fin 6) (he : e = ⟨d.val, by omega⟩) (r : Fin 512) (h : 512 * t.val + r.val < 16384) :
    bmix t.val (B0 m c t) (B1 m c t) (B2 m c t) (B3 m c t) e r = mixed (argX m c) (argS m c) (argM m c) d ⟨512 * t.val + r.val, h⟩ := by
  subst he
  funext k
  show (B0 m c t (ix2 r k) : EReal) + (above t.val (B0 m c t) (B2 m c t) (lastRow (B1 m c t)) r k - B0 m c t (ix2 r k)) * B3 m c t (ix2 ⟨d.val, by omega⟩ k) = _
  rw [above_at m c t r h, blk0_at m c t r k h, blk3_eq, m_at]
  rfl

theorem w4 (c : Dev nD) (t : Fin cfg0.N) : (fun l j => (B4 m c t (ix2 l j) : EReal)) = fun l j => argWr m c (ix2 l j) :=
  funext fun l => funext fun j => (blk4_eq m c t l j).trans (wr_at m c l j)
theorem w5 (c : Dev nD) (t : Fin cfg0.N) : (fun l j => (B5 m c t (ix2 l j) : EReal)) = fun l j => argWk m c (ix2 l j) :=
  funext fun l => funext fun j => (blk5_eq m c t l j).trans (wk_at m c l j)
theorem w6 (c : Dev nD) (t : Fin cfg0.N) : (fun l j => (B6 m c t (ix2 l j) : EReal)) = fun l j => argWv m c (ix2 l j) :=
  funext fun l => funext fun j => (blk6_eq m c t l j).trans (wv_at m c l j)

/-- The products of a point. -/
theorem prod4 (c : Dev nD) (t : Fin cfg0.N) (r : Fin 512) (h : 512 * t.val + r.val < 16384) (k : Fin 1024) :
    dotr (bmix t.val (B0 m c t) (B1 m c t) (B2 m c t) (B3 m c t) 0 r) (fun l j => B4 m c t (ix2 l j)) k = prod (argX m c) (argS m c) (argM m c) 0 (argWr m c) ⟨512 * t.val + r.val, h⟩ k := by
  rw [bmix_at m c t 0 0 rfl r h]
  exact congrArg (fun z => dotr _ z k) (w4 m c t)

theorem prod5 (c : Dev nD) (t : Fin cfg0.N) (r : Fin 512) (h : 512 * t.val + r.val < 16384) :
    (fun k => dotr (bmix t.val (B0 m c t) (B1 m c t) (B2 m c t) (B3 m c t) 2 r) (fun l j => B5 m c t (ix2 l j)) k) = prod (argX m c) (argS m c) (argM m c) 2 (argWk m c) ⟨512 * t.val + r.val, h⟩ := by
  rw [bmix_at m c t 2 2 rfl r h]
  exact funext fun k => congrArg (fun z => dotr _ z k) (w5 m c t)

theorem prod6 (c : Dev nD) (t : Fin cfg0.N) (r : Fin 512) (h : 512 * t.val + r.val < 16384) (k : Fin 1024) :
    dotr (bmix t.val (B0 m c t) (B1 m c t) (B2 m c t) (B3 m c t) 3 r) (fun l j => B6 m c t (ix2 l j)) k = prod (argX m c) (argS m c) (argM m c) 3 (argWv m c) ⟨512 * t.val + r.val, h⟩ k := by
  rw [bmix_at m c t 3 3 rfl r h]
  exact congrArg (fun z => dotr _ z k) (w6 m c t)

/-- The gate on the keys of a point: the columns past 64 drop out. -/
theorem gate_at (c : Dev nD) (t : Fin cfg0.N) (r : Fin 512) (h : 512 * t.val + r.val < 16384) (k : Fin 1024) :
    sigT (B14 m c t (ix2 0 k) + dotr (fun j => dotr (bmix t.val (B0 m c t) (B1 m c t) (B2 m c t) (B3 m c t) 4 r) (fun l j => B9 m c t (ix2 l j)) j) (fun j k => B10 m c t (ix2 j k)) k)
      = gate sigT (argX m c) (argS m c) (argM m c) (argA0 m c) (argA1 m c) (argA2 m c) ⟨512 * t.val + r.val, h⟩ k := by
  rw [bmix_at m c t 4 4 rfl r h]
  unfold gate
  refine congrArg sigT (congrArg₂ (· + ·) ((blk14_eq m c t 0 k).trans (a0_at m c k)) ?_)
  refine dotr_pad (n := 64) (by omega) _ _ _ _ (fun j hj => ?_) (fun j hj k => ?_) (fun j hj k => ?_) k
  · exact Finset.sum_congr rfl fun l _ => congrArg (_ * ·) ((blk9_eq m c t l j).trans (a1_at m c l j hj))
  · exact (blk10_eq m c t j k).trans (a2_at m c j hj k)
  · exact (blk10_eq m c t j k).trans (a2_zero m c j hj k)

/-- The gate on the output of a point: the columns past 160 drop out. -/
theorem outgate_at (c : Dev nD) (t : Fin cfg0.N) (r : Fin 512) (h : 512 * t.val + r.val < 16384) (k : Fin 1024) :
    dotr (fun j => sigT (dotr (bmix t.val (B0 m c t) (B1 m c t) (B2 m c t) (B3 m c t) 5 r) (fun l j => B11 m c t (ix2 l j)) j)) (fun j k => B12 m c t (ix2 j k)) k
      = outgate sigT (argX m c) (argS m c) (argM m c) (argG1 m c) (argG2 m c) ⟨512 * t.val + r.val, h⟩ k := by
  rw [bmix_at m c t 5 5 rfl r h]
  unfold outgate
  refine dotr_pad (n := 160) (by omega) _ _ _ _ (fun j hj => ?_) (fun j hj k => ?_) (fun j hj k => ?_) k
  · exact congrArg sigT (Finset.sum_congr rfl fun l _ => congrArg (_ * ·) ((blk11_eq m c t l j).trans (g1_at m c l j hj)))
  · exact (blk12_eq m c t j k).trans (g2_at m c j hj k)
  · exact (blk12_eq m c t j k).trans (g2_zero m c j hj k)

/-! ## The results -/

theorem flushed17_eq (c : Dev nD) (t : Fin cfg0.N) : (dats m 0 c).flushed 17 t = ((cfg0.win 17).blk t).view.read (Elt Ideal) (arrP (argX m c) (argS m c) (argM m c) 0 (argWr m c)) := by
  rw [Value.flushed17]
  funext y
  obtain ⟨r, k, rfl⟩ : ∃ (r : Fin 512) (k : Fin 1024), y = ix2 r k := ⟨y 0, y 1, eq_ix2 y⟩
  have ht := lt32 t
  have e : ((cfg0.win 17).blk t).view.emb (ix2 r k) = ix2 (⟨512 * t.val + r.val, by omega⟩ : Fin 16384) k := by
    obtain ⟨e0, e1⟩ := idx17 t
    funext a; apply Fin.ext
    match a with
    | ⟨0, _⟩ => show win0_17.index t 0 * 512 + 1 * r.val = 512 * t.val + r.val; omega
    | ⟨1, _⟩ => show win0_17.index t 1 * 1024 + 1 * k.val = k.val; omega
  show (out0_17 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r k) : EReal)
    = (arrP (argX m c) (argS m c) (argM m c) 0 (argWr m c)) (((cfg0.win 17).blk t).view.emb (ix2 r k))
  rw [e]
  rw [out17_at, coord]
  exact prod4 m c t r (by omega) k

theorem mem17 (t : Fin cfg0.N) (i : (main_v21_0 : Ref sig .tc).ty.Idx) :
    i ∈ ((cfg0.win 17).blk t).view.set ↔ ∀ a : Fin 2, win0_17.index t a * win0_17.size a ≤ (i a).val ∧ (i a).val < win0_17.index t a * win0_17.size a + win0_17.size a := by
  show i ∈ ((View.whole main_v21_0).slice (win0_17.rect t)).set ↔ _
  rw [View.set_slice_whole, Rect.mem_set_unit]
  exact Iff.rfl

theorem final17 (c : Dev nD) : (dats m 0 c).arrAt 17 cfg0.N = arrP (argX m c) (argS m c) (argM m c) 0 (argWr m c) :=
  (dats m 0 c).arrAt_eq_of_cover 17 _ (fun t _ => flushed17_eq m c t) fun i => by
    have h0 : (i 0).val < 16384 := (i 0).isLt
    have h1 : (i 1).val < 1024 := (i 1).isLt
    have hN : cfg0.N = 32 := N_0
    refine ⟨⟨(i 0).val / 512, by omega⟩, flush0_17 _, ?_⟩
    rw [mem17]
    obtain ⟨e0, e1⟩ := idx17 ⟨(i 0).val / 512, by omega⟩
    intro a
    match a with
    | ⟨0, _⟩ => show win0_17.index _ 0 * 512 ≤ (i 0).val ∧ (i 0).val < win0_17.index _ 0 * 512 + 512
                rw [e0]; dsimp only; omega
    | ⟨1, _⟩ => show win0_17.index _ 1 * 1024 ≤ (i 1).val ∧ (i 1).val < win0_17.index _ 1 * 1024 + 1024
                rw [e1]; omega

theorem flushed19_eq (c : Dev nD) (t : Fin cfg0.N) : (dats m 0 c).flushed 19 t = ((cfg0.win 19).blk t).view.read (Elt Ideal) (arrK sigT (argX m c) (argS m c) (argM m c) (argWk m c) (argA0 m c) (argA1 m c) (argA2 m c) (argKa m c)) := by
  rw [Value.flushed19]
  funext y
  obtain ⟨r, k, rfl⟩ : ∃ (r : Fin 512) (k : Fin 1024), y = ix2 r k := ⟨y 0, y 1, eq_ix2 y⟩
  have ht := lt32 t
  have e : ((cfg0.win 19).blk t).view.emb (ix2 r k) = ix2 (⟨512 * t.val + r.val, by omega⟩ : Fin 16384) k := by
    obtain ⟨e0, e1⟩ := idx19 t
    funext a; apply Fin.ext
    match a with
    | ⟨0, _⟩ => show win0_19.index t 0 * 512 + 1 * r.val = 512 * t.val + r.val; omega
    | ⟨1, _⟩ => show win0_19.index t 1 * 1024 + 1 * k.val = k.val; omega
  show (out0_19 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r k) : EReal)
    = (arrK sigT (argX m c) (argS m c) (argM m c) (argWk m c) (argA0 m c) (argA1 m c) (argA2 m c) (argKa m c)) (((cfg0.win 19).blk t).view.emb (ix2 r k))
  rw [e]
  rw [out19_at, coord]
  rw [prod5 m c t r (by omega)]
  exact (congrArg (fun z => gated _ z _ k) (funext fun q => gate_at m c t r (by omega) q)).trans
    (congrArg (fun z => gated _ _ z k) (funext fun q => (blk16_eq m c t 0 q).trans (ka_at m c q)))

theorem mem19 (t : Fin cfg0.N) (i : (main_v21_2 : Ref sig .tc).ty.Idx) :
    i ∈ ((cfg0.win 19).blk t).view.set ↔ ∀ a : Fin 2, win0_19.index t a * win0_19.size a ≤ (i a).val ∧ (i a).val < win0_19.index t a * win0_19.size a + win0_19.size a := by
  show i ∈ ((View.whole main_v21_2).slice (win0_19.rect t)).set ↔ _
  rw [View.set_slice_whole, Rect.mem_set_unit]
  exact Iff.rfl

theorem final19 (c : Dev nD) : (dats m 0 c).arrAt 19 cfg0.N = arrK sigT (argX m c) (argS m c) (argM m c) (argWk m c) (argA0 m c) (argA1 m c) (argA2 m c) (argKa m c) :=
  (dats m 0 c).arrAt_eq_of_cover 19 _ (fun t _ => flushed19_eq m c t) fun i => by
    have h0 : (i 0).val < 16384 := (i 0).isLt
    have h1 : (i 1).val < 1024 := (i 1).isLt
    have hN : cfg0.N = 32 := N_0
    refine ⟨⟨(i 0).val / 512, by omega⟩, flush0_19 _, ?_⟩
    rw [mem19]
    obtain ⟨e0, e1⟩ := idx19 ⟨(i 0).val / 512, by omega⟩
    intro a
    match a with
    | ⟨0, _⟩ => show win0_19.index _ 0 * 512 ≤ (i 0).val ∧ (i 0).val < win0_19.index _ 0 * 512 + 512
                rw [e0]; dsimp only; omega
    | ⟨1, _⟩ => show win0_19.index _ 1 * 1024 ≤ (i 1).val ∧ (i 1).val < win0_19.index _ 1 * 1024 + 1024
                rw [e1]; omega

theorem flushed20_eq (c : Dev nD) (t : Fin cfg0.N) : (dats m 0 c).flushed 20 t = ((cfg0.win 20).blk t).view.read (Elt Ideal) (arrP (argX m c) (argS m c) (argM m c) 3 (argWv m c)) := by
  rw [Value.flushed20]
  funext y
  obtain ⟨r, k, rfl⟩ : ∃ (r : Fin 512) (k : Fin 1024), y = ix2 r k := ⟨y 0, y 1, eq_ix2 y⟩
  have ht := lt32 t
  have e : ((cfg0.win 20).blk t).view.emb (ix2 r k) = ix2 (⟨512 * t.val + r.val, by omega⟩ : Fin 16384) k := by
    obtain ⟨e0, e1⟩ := idx20 t
    funext a; apply Fin.ext
    match a with
    | ⟨0, _⟩ => show win0_20.index t 0 * 512 + 1 * r.val = 512 * t.val + r.val; omega
    | ⟨1, _⟩ => show win0_20.index t 1 * 1024 + 1 * k.val = k.val; omega
  show (out0_20 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r k) : EReal)
    = (arrP (argX m c) (argS m c) (argM m c) 3 (argWv m c)) (((cfg0.win 20).blk t).view.emb (ix2 r k))
  rw [e]
  rw [out20_at, coord]
  exact prod6 m c t r (by omega) k

theorem mem20 (t : Fin cfg0.N) (i : (main_v21_3 : Ref sig .tc).ty.Idx) :
    i ∈ ((cfg0.win 20).blk t).view.set ↔ ∀ a : Fin 2, win0_20.index t a * win0_20.size a ≤ (i a).val ∧ (i a).val < win0_20.index t a * win0_20.size a + win0_20.size a := by
  show i ∈ ((View.whole main_v21_3).slice (win0_20.rect t)).set ↔ _
  rw [View.set_slice_whole, Rect.mem_set_unit]
  exact Iff.rfl

theorem final20 (c : Dev nD) : (dats m 0 c).arrAt 20 cfg0.N = arrP (argX m c) (argS m c) (argM m c) 3 (argWv m c) :=
  (dats m 0 c).arrAt_eq_of_cover 20 _ (fun t _ => flushed20_eq m c t) fun i => by
    have h0 : (i 0).val < 16384 := (i 0).isLt
    have h1 : (i 1).val < 1024 := (i 1).isLt
    have hN : cfg0.N = 32 := N_0
    refine ⟨⟨(i 0).val / 512, by omega⟩, flush0_20 _, ?_⟩
    rw [mem20]
    obtain ⟨e0, e1⟩ := idx20 ⟨(i 0).val / 512, by omega⟩
    intro a
    match a with
    | ⟨0, _⟩ => show win0_20.index _ 0 * 512 ≤ (i 0).val ∧ (i 0).val < win0_20.index _ 0 * 512 + 512
                rw [e0]; dsimp only; omega
    | ⟨1, _⟩ => show win0_20.index _ 1 * 1024 ≤ (i 1).val ∧ (i 1).val < win0_20.index _ 1 * 1024 + 1024
                rw [e1]; omega

theorem flushed21_eq (c : Dev nD) (t : Fin cfg0.N) : (dats m 0 c).flushed 21 t = ((cfg0.win 21).blk t).view.read (Elt Ideal) (arrU (argX m c) (argS m c) (argM m c) (argWk m c) (argKk m c)) := by
  rw [Value.flushed21]
  funext y
  obtain ⟨r, k, rfl⟩ : ∃ (r : Fin 512) (k : Fin 1024), y = ix2 r k := ⟨y 0, y 1, eq_ix2 y⟩
  have ht := lt32 t
  have e : ((cfg0.win 21).blk t).view.emb (ix2 r k) = ix2 (⟨512 * t.val + r.val, by omega⟩ : Fin 16384) k := by
    obtain ⟨e0, e1⟩ := idx21 t
    funext a; apply Fin.ext
    match a with
    | ⟨0, _⟩ => show win0_21.index t 0 * 512 + 1 * r.val = 512 * t.val + r.val; omega
    | ⟨1, _⟩ => show win0_21.index t 1 * 1024 + 1 * k.val = k.val; omega
  show (out0_21 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r k) : EReal)
    = (arrU (argX m c) (argS m c) (argM m c) (argWk m c) (argKk m c)) (((cfg0.win 21).blk t).view.emb (ix2 r k))
  rw [e]
  rw [out21_at, coord]
  rw [prod5 m c t r (by omega)]
  exact congrArg (fun z => unit _ z k) (funext fun q => (blk15_eq m c t 0 q).trans (kk_at m c q))

theorem mem21 (t : Fin cfg0.N) (i : (main_v21_4 : Ref sig .tc).ty.Idx) :
    i ∈ ((cfg0.win 21).blk t).view.set ↔ ∀ a : Fin 2, win0_21.index t a * win0_21.size a ≤ (i a).val ∧ (i a).val < win0_21.index t a * win0_21.size a + win0_21.size a := by
  show i ∈ ((View.whole main_v21_4).slice (win0_21.rect t)).set ↔ _
  rw [View.set_slice_whole, Rect.mem_set_unit]
  exact Iff.rfl

theorem final21 (c : Dev nD) : (dats m 0 c).arrAt 21 cfg0.N = arrU (argX m c) (argS m c) (argM m c) (argWk m c) (argKk m c) :=
  (dats m 0 c).arrAt_eq_of_cover 21 _ (fun t _ => flushed21_eq m c t) fun i => by
    have h0 : (i 0).val < 16384 := (i 0).isLt
    have h1 : (i 1).val < 1024 := (i 1).isLt
    have hN : cfg0.N = 32 := N_0
    refine ⟨⟨(i 0).val / 512, by omega⟩, flush0_21 _, ?_⟩
    rw [mem21]
    obtain ⟨e0, e1⟩ := idx21 ⟨(i 0).val / 512, by omega⟩
    intro a
    match a with
    | ⟨0, _⟩ => show win0_21.index _ 0 * 512 ≤ (i 0).val ∧ (i 0).val < win0_21.index _ 0 * 512 + 512
                rw [e0]; dsimp only; omega
    | ⟨1, _⟩ => show win0_21.index _ 1 * 1024 ≤ (i 1).val ∧ (i 1).val < win0_21.index _ 1 * 1024 + 1024
                rw [e1]; omega

theorem flushed22_eq (c : Dev nD) (t : Fin cfg0.N) : (dats m 0 c).flushed 22 t = ((cfg0.win 22).blk t).view.read (Elt Ideal) (arrA sigT (argX m c) (argS m c) (argM m c) (argA0 m c) (argA1 m c) (argA2 m c)) := by
  rw [Value.flushed22]
  funext y
  obtain ⟨r, k, rfl⟩ : ∃ (r : Fin 512) (k : Fin 1024), y = ix2 r k := ⟨y 0, y 1, eq_ix2 y⟩
  have ht := lt32 t
  have e : ((cfg0.win 22).blk t).view.emb (ix2 r k) = ix2 (⟨512 * t.val + r.val, by omega⟩ : Fin 16384) k := by
    obtain ⟨e0, e1⟩ := idx22 t
    funext a; apply Fin.ext
    match a with
    | ⟨0, _⟩ => show win0_22.index t 0 * 512 + 1 * r.val = 512 * t.val + r.val; omega
    | ⟨1, _⟩ => show win0_22.index t 1 * 1024 + 1 * k.val = k.val; omega
  show (out0_22 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r k) : EReal)
    = (arrA sigT (argX m c) (argS m c) (argM m c) (argA0 m c) (argA1 m c) (argA2 m c)) (((cfg0.win 22).blk t).view.emb (ix2 r k))
  rw [e]
  rw [out22_at, coord]
  exact gate_at m c t r (by omega) k

theorem mem22 (t : Fin cfg0.N) (i : (main_v21_5 : Ref sig .tc).ty.Idx) :
    i ∈ ((cfg0.win 22).blk t).view.set ↔ ∀ a : Fin 2, win0_22.index t a * win0_22.size a ≤ (i a).val ∧ (i a).val < win0_22.index t a * win0_22.size a + win0_22.size a := by
  show i ∈ ((View.whole main_v21_5).slice (win0_22.rect t)).set ↔ _
  rw [View.set_slice_whole, Rect.mem_set_unit]
  exact Iff.rfl

theorem final22 (c : Dev nD) : (dats m 0 c).arrAt 22 cfg0.N = arrA sigT (argX m c) (argS m c) (argM m c) (argA0 m c) (argA1 m c) (argA2 m c) :=
  (dats m 0 c).arrAt_eq_of_cover 22 _ (fun t _ => flushed22_eq m c t) fun i => by
    have h0 : (i 0).val < 16384 := (i 0).isLt
    have h1 : (i 1).val < 1024 := (i 1).isLt
    have hN : cfg0.N = 32 := N_0
    refine ⟨⟨(i 0).val / 512, by omega⟩, flush0_22 _, ?_⟩
    rw [mem22]
    obtain ⟨e0, e1⟩ := idx22 ⟨(i 0).val / 512, by omega⟩
    intro a
    match a with
    | ⟨0, _⟩ => show win0_22.index _ 0 * 512 ≤ (i 0).val ∧ (i 0).val < win0_22.index _ 0 * 512 + 512
                rw [e0]; dsimp only; omega
    | ⟨1, _⟩ => show win0_22.index _ 1 * 1024 ≤ (i 1).val ∧ (i 1).val < win0_22.index _ 1 * 1024 + 1024
                rw [e1]; omega

theorem flushed23_eq (c : Dev nD) (t : Fin cfg0.N) : (dats m 0 c).flushed 23 t = ((cfg0.win 23).blk t).view.read (Elt Ideal) (arrG sigT (argX m c) (argS m c) (argM m c) (argG1 m c) (argG2 m c)) := by
  rw [Value.flushed23]
  funext y
  obtain ⟨r, k, rfl⟩ : ∃ (r : Fin 512) (k : Fin 1024), y = ix2 r k := ⟨y 0, y 1, eq_ix2 y⟩
  have ht := lt32 t
  have e : ((cfg0.win 23).blk t).view.emb (ix2 r k) = ix2 (⟨512 * t.val + r.val, by omega⟩ : Fin 16384) k := by
    obtain ⟨e0, e1⟩ := idx23 t
    funext a; apply Fin.ext
    match a with
    | ⟨0, _⟩ => show win0_23.index t 0 * 512 + 1 * r.val = 512 * t.val + r.val; omega
    | ⟨1, _⟩ => show win0_23.index t 1 * 1024 + 1 * k.val = k.val; omega
  show (out0_23 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r k) : EReal)
    = (arrG sigT (argX m c) (argS m c) (argM m c) (argG1 m c) (argG2 m c)) (((cfg0.win 23).blk t).view.emb (ix2 r k))
  rw [e]
  rw [out23_at, coord]
  exact outgate_at m c t r (by omega) k

theorem mem23 (t : Fin cfg0.N) (i : (main_v21_6 : Ref sig .tc).ty.Idx) :
    i ∈ ((cfg0.win 23).blk t).view.set ↔ ∀ a : Fin 2, win0_23.index t a * win0_23.size a ≤ (i a).val ∧ (i a).val < win0_23.index t a * win0_23.size a + win0_23.size a := by
  show i ∈ ((View.whole main_v21_6).slice (win0_23.rect t)).set ↔ _
  rw [View.set_slice_whole, Rect.mem_set_unit]
  exact Iff.rfl

theorem final23 (c : Dev nD) : (dats m 0 c).arrAt 23 cfg0.N = arrG sigT (argX m c) (argS m c) (argM m c) (argG1 m c) (argG2 m c) :=
  (dats m 0 c).arrAt_eq_of_cover 23 _ (fun t _ => flushed23_eq m c t) fun i => by
    have h0 : (i 0).val < 16384 := (i 0).isLt
    have h1 : (i 1).val < 1024 := (i 1).isLt
    have hN : cfg0.N = 32 := N_0
    refine ⟨⟨(i 0).val / 512, by omega⟩, flush0_23 _, ?_⟩
    rw [mem23]
    obtain ⟨e0, e1⟩ := idx23 ⟨(i 0).val / 512, by omega⟩
    intro a
    match a with
    | ⟨0, _⟩ => show win0_23.index _ 0 * 512 ≤ (i 0).val ∧ (i 0).val < win0_23.index _ 0 * 512 + 512
                rw [e0]; dsimp only; omega
    | ⟨1, _⟩ => show win0_23.index _ 1 * 1024 ≤ (i 1).val ∧ (i 1).val < win0_23.index _ 1 * 1024 + 1024
                rw [e1]; omega

/-- The run, read: the results as functions of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v21_0) = arrP (argX m c) (argS m c) (argM m c) 0 (argWr m c)
      ∧ r.2.mem ((c : Thread nD τ).loc main_v21_2) = arrK RwIn.sig (argX m c) (argS m c) (argM m c) (argWk m c) (argA0 m c) (argA1 m c) (argA2 m c) (argKa m c)
      ∧ r.2.mem ((c : Thread nD τ).loc main_v21_3) = arrP (argX m c) (argS m c) (argM m c) 3 (argWv m c)
      ∧ r.2.mem ((c : Thread nD τ).loc main_v21_4) = arrU (argX m c) (argS m c) (argM m c) (argWk m c) (argKk m c)
      ∧ r.2.mem ((c : Thread nD τ).loc main_v21_5) = arrA RwIn.sig (argX m c) (argS m c) (argM m c) (argA0 m c) (argA1 m c) (argA2 m c)
      ∧ r.2.mem ((c : Thread nD τ).loc main_v21_6) = arrG RwIn.sig (argX m c) (argS m c) (argM m c) (argG1 m c) (argG2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun _ h c => by
    obtain ⟨h0, _, h1, h2, h3, h4, h5, hk⟩ := h c
    have es : sigT = RwIn.sig := funext sigT_eq
    rw [← es]
    exact ⟨h0.trans (final17 m c), h1.trans (final19 m c), h2.trans (final20 m c), h3.trans (final21 m c), h4.trans (final22 m c), h5.trans (final23 m c), hk⟩)
    (Value.run_blocks m ρ)

end Layer.RwInKernel
-- ==== Proof.RwInPlain.lean ====
/-
  The entry of the second mixer as the plain program computes it: its results are the same functions of the arguments.
-/
module

public import proofs.«01_k».proof.Proof.Gen.RwInRefIdeal.Run
public import proofs.«01_k».proof.Proof.RwInRow

@[expose] public section
set_option maxRecDepth 16384

noncomputable section
namespace Layer.RwInPlain
open Idealize.ShloMosaic Idealize.ShloMosaic.TcCoe Idealize.SL.Sem Layer.RwIn
open Cert.RwInRefIdeal Cert.RwInRefIdeal.Gen

variable (m : (ℓ : Loc nD τ sig) → Buf (Elt Ideal) ℓ)

abbrev argX (c : Dev nD) : V2 16384 1024 := m ((c : Thread nD τ).loc main_arg0)
abbrev argS (c : Dev nD) : V2 8 1024 := m ((c : Thread nD τ).loc main_arg1)
abbrev argM (c : Dev nD) : V2 6 1024 := m ((c : Thread nD τ).loc main_arg2)
abbrev argWr (c : Dev nD) : V2 1024 1024 := m ((c : Thread nD τ).loc main_arg3)
abbrev argWk (c : Dev nD) : V2 1024 1024 := m ((c : Thread nD τ).loc main_arg4)
abbrev argWv (c : Dev nD) : V2 1024 1024 := m ((c : Thread nD τ).loc main_arg5)
abbrev argD0 (c : Dev nD) : V1 1024 := m ((c : Thread nD τ).loc main_arg6)
abbrev argD1 (c : Dev nD) : V2 1024 64 := m ((c : Thread nD τ).loc main_arg7)
abbrev argD2 (c : Dev nD) : V2 64 1024 := m ((c : Thread nD τ).loc main_arg8)
abbrev argA0 (c : Dev nD) : V1 1024 := m ((c : Thread nD τ).loc main_arg9)
abbrev argA1 (c : Dev nD) : V2 1024 64 := m ((c : Thread nD τ).loc main_arg10)
abbrev argA2 (c : Dev nD) : V2 64 1024 := m ((c : Thread nD τ).loc main_arg11)
abbrev argG1 (c : Dev nD) : V2 1024 160 := m ((c : Thread nD τ).loc main_arg12)
abbrev argG2 (c : Dev nD) : V2 160 1024 := m ((c : Thread nD τ).loc main_arg13)
abbrev argKk (c : Dev nD) : V1 1024 := m ((c : Thread nD τ).loc main_arg14)
abbrev argKa (c : Dev nD) : V1 1024 := m ((c : Thread nD τ).loc main_arg15)

/-! ## The steps of the plain program -/

/-- The rows, a block for each sequence. -/
def rowsH (c : Dev nD) : FVec Ideal S8x2048x1024 .f32 := shapeCast _ (extf .f32 (m ((c.tc : Thread nD τ).loc main_arg0)) bitsLt_bf16_f32) shapeCasts_S16384x1024_S8x2048x1024

theorem rowsH_at (c : Dev nD) (b : Fin 8) (t : Fin 2048) (k : Fin 1024) : (rowsH m c (ix3 b t k) : EReal) = argX m c (ix2 ⟨2048 * b.val + t.val, by omega⟩ k) := by
  show (shapeCast S8x2048x1024 (argX m c) shapeCasts_S16384x1024_S8x2048x1024 (ix3 b t k) : EReal) = _
  generalize argX m c = x
  pointwise
  exact congrArg (fun z => x (ix2 z k)) (Fin.ext (by dsimp only; omega))

/-- The rows put behind the carried ones. -/
def catH (c : Dev nD) : FVec Ideal S8x2048x1024 .f32 := concatenate S8x2048x1024 1 [⟨S8x1x1024, (broadcastInDim S8x1x1024 ![0, 2] bcast_S8x1024_S8x1x1024_0_2 (m ((c.tc : Thread nD τ).loc main_arg1)))⟩, ⟨S8x2047x1024, (extractStridedSlice S8x2047x1024 ![0, 0, 0] (rowsH m c) slices_S8x2048x1024_S8x2047x1024_0_0_0)⟩] concatenates_S8x1x1024_S8x2047x1024_S8x2048x1024_d1

theorem catH_at (c : Dev nD) (b : Fin 8) (t : Fin 2048) (k : Fin 1024) : (catH m c (ix3 b t k) : EReal) = if h : t.val < 1 then argS m c (ix2 b k) else rowsH m c (ix3 b ⟨t.val - 1, by omega⟩ k) := by
  pointwise [catH]

/-- The rows before. -/
def prevH (c : Dev nD) : FVec Ideal S16384x1024 .f32 := shapeCast _ (catH m c) shapeCasts_S8x2048x1024_S16384x1024

theorem prevH_at (c : Dev nD) (r : Fin 16384) (k : Fin 1024) : (prevH m c (ix2 r k) : EReal) = prev (argX m c) (argS m c) r k := by
  pointwise [prevH, prev]
  rw [catH_at]
  simp only [rowsH_at]
  by_cases h : r.val % 2048 = 0
  · rw [dif_pos (by omega), if_pos h]
  · rw [dif_neg (by omega), if_neg h]
    exact congrArg (fun z => argX m c (ix2 z k)) (Fin.ext (by dsimp only; omega))

/-- The rows mixed for the product 0. -/
def mixH0 (c : Dev nD) : FVec Ideal S16384x1024 .f32 := addf (extf .f32 (m ((c.tc : Thread nD τ).loc main_arg0)) bitsLt_bf16_f32) (mulf (subf (prevH m c) (extf .f32 (m ((c.tc : Thread nD τ).loc main_arg0)) bitsLt_bf16_f32)) (broadcastInDim S16384x1024 ![0, 1] bcast_S1x1024_S16384x1024_0_1 (broadcastInDim S1x1024 ![1] bcast_S1024_S1x1024_1 (shapeCast _ (extractStridedSlice S1x1024 ![0, 0] (m ((c.tc : Thread nD τ).loc main_arg2)) slices_S6x1024_S1x1024_0_0) shapeCasts_S1x1024_S1024))))

theorem mixH0_at (c : Dev nD) (r : Fin 16384) (k : Fin 1024) : (mixH0 m c (ix2 r k) : EReal) = mixed (argX m c) (argS m c) (argM m c) 0 r k := by
  pointwise [mixH0]
  rw [prevH_at]
  rfl

/-- The rows mixed for the product 2. -/
def mixH2 (c : Dev nD) : FVec Ideal S16384x1024 .f32 := addf (extf .f32 (m ((c.tc : Thread nD τ).loc main_arg0)) bitsLt_bf16_f32) (mulf (subf (prevH m c) (extf .f32 (m ((c.tc : Thread nD τ).loc main_arg0)) bitsLt_bf16_f32)) (broadcastInDim S16384x1024 ![0, 1] bcast_S1x1024_S16384x1024_0_1 (broadcastInDim S1x1024 ![1] bcast_S1024_S1x1024_1 (shapeCast _ (extractStridedSlice S1x1024 ![2, 0] (m ((c.tc : Thread nD τ).loc main_arg2)) slices_S6x1024_S1x1024_2_0) shapeCasts_S1x1024_S1024))))

theorem mixH2_at (c : Dev nD) (r : Fin 16384) (k : Fin 1024) : (mixH2 m c (ix2 r k) : EReal) = mixed (argX m c) (argS m c) (argM m c) 2 r k := by
  pointwise [mixH2]
  rw [prevH_at]
  rfl

/-- The rows mixed for the product 3. -/
def mixH3 (c : Dev nD) : FVec Ideal S16384x1024 .f32 := addf (extf .f32 (m ((c.tc : Thread nD τ).loc main_arg0)) bitsLt_bf16_f32) (mulf (subf (prevH m c) (extf .f32 (m ((c.tc : Thread nD τ).loc main_arg0)) bitsLt_bf16_f32)) (broadcastInDim S16384x1024 ![0, 1] bcast_S1x1024_S16384x1024_0_1 (broadcastInDim S1x1024 ![1] bcast_S1024_S1x1024_1 (shapeCast _ (extractStridedSlice S1x1024 ![3, 0] (m ((c.tc : Thread nD τ).loc main_arg2)) slices_S6x1024_S1x1024_3_0) shapeCasts_S1x1024_S1024))))

theorem mixH3_at (c : Dev nD) (r : Fin 16384) (k : Fin 1024) : (mixH3 m c (ix2 r k) : EReal) = mixed (argX m c) (argS m c) (argM m c) 3 r k := by
  pointwise [mixH3]
  rw [prevH_at]
  rfl

/-- The rows mixed for the product 4. -/
def mixH4 (c : Dev nD) : FVec Ideal S16384x1024 .f32 := addf (extf .f32 (m ((c.tc : Thread nD τ).loc main_arg0)) bitsLt_bf16_f32) (mulf (subf (prevH m c) (extf .f32 (m ((c.tc : Thread nD τ).loc main_arg0)) bitsLt_bf16_f32)) (broadcastInDim S16384x1024 ![0, 1] bcast_S1x1024_S16384x1024_0_1 (broadcastInDim S1x1024 ![1] bcast_S1024_S1x1024_1 (shapeCast _ (extractStridedSlice S1x1024 ![4, 0] (m ((c.tc : Thread nD τ).loc main_arg2)) slices_S6x1024_S1x1024_4_0) shapeCasts_S1x1024_S1024))))

theorem mixH4_at (c : Dev nD) (r : Fin 16384) (k : Fin 1024) : (mixH4 m c (ix2 r k) : EReal) = mixed (argX m c) (argS m c) (argM m c) 4 r k := by
  pointwise [mixH4]
  rw [prevH_at]
  rfl

/-- The rows mixed for the product 5. -/
def mixH5 (c : Dev nD) : FVec Ideal S16384x1024 .f32 := addf (extf .f32 (m ((c.tc : Thread nD τ).loc main_arg0)) bitsLt_bf16_f32) (mulf (subf (prevH m c) (extf .f32 (m ((c.tc : Thread nD τ).loc main_arg0)) bitsLt_bf16_f32)) (broadcastInDim S16384x1024 ![0, 1] bcast_S1x1024_S16384x1024_0_1 (broadcastInDim S1x1024 ![1] bcast_S1024_S1x1024_1 (shapeCast _ (extractStridedSlice S1x1024 ![5, 0] (m ((c.tc : Thread nD τ).loc main_arg2)) slices_S6x1024_S1x1024_5_0) shapeCasts_S1x1024_S1024))))

theorem mixH5_at (c : Dev nD) (r : Fin 16384) (k : Fin 1024) : (mixH5 m c (ix2 r k) : EReal) = mixed (argX m c) (argS m c) (argM m c) 5 r k := by
  pointwise [mixH5]
  rw [prevH_at]
  rfl

/-- The keys before they are gated. -/
def keyH (c : Dev nD) : FVec Ideal S16384x1024 .f32 := Host.dotGeneral (φ₂ := .f32) dot_S16384x1024_S1024x1024_S16384x1024_1_0_0_1_n_n none (mixH2 m c) (m ((c.tc : Thread nD τ).loc main_arg4))

theorem keyH_at (c : Dev nD) (r : Fin 16384) (k : Fin 1024) : (keyH m c (ix2 r k) : EReal) = prod (argX m c) (argS m c) (argM m c) 2 (argWk m c) r k := by
  pointwise [keyH]
  simp only [mixH2_at]
  rfl

/-- The gate on the keys. -/
def gateH (c : Dev nD) : FVec Ideal S16384x1024 .f32 := Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf (broadcastInDim S16384x1024 ![0, 1] bcast_S1x1024_S16384x1024_0_1 (broadcastInDim S1x1024 ![1] bcast_S1024_S1x1024_1 (m ((c.tc : Thread nD τ).loc main_arg9)))) (Host.dotGeneral (φ₂ := .f32) dot_S16384x64_S64x1024_S16384x1024_1_0_0_1_n_n none (Host.dotGeneral (φ₂ := .f32) dot_S16384x1024_S1024x64_S16384x64_1_0_0_1_n_n none (mixH4 m c) (m ((c.tc : Thread nD τ).loc main_arg10))) (m ((c.tc : Thread nD τ).loc main_arg11)))))))

theorem gateH_at (c : Dev nD) (r : Fin 16384) (k : Fin 1024) : (gateH m c (ix2 r k) : EReal) = gate RwIn.sig (argX m c) (argS m c) (argM m c) (argA0 m c) (argA1 m c) (argA2 m c) r k := by
  pointwise [gateH]
  simp only [mixH4_at]
  rfl

/-- The keys scaled channel by channel. -/
def ukH (c : Dev nD) : FVec Ideal S16384x1024 .f32 := mulf (keyH m c) (broadcastInDim S16384x1024 ![0, 1] bcast_S1x1024_S16384x1024_0_1 (broadcastInDim S1x1024 ![1] bcast_S1024_S1x1024_1 (m ((c.tc : Thread nD τ).loc main_arg14))))

theorem ukH_at (c : Dev nD) (r : Fin 16384) (k : Fin 1024) : (ukH m c (ix2 r k) : EReal) = keyH m c (ix2 r k) * argKk m c (ix1 k) := by
  pointwise [ukH]

/-- The first product. -/
def rH (c : Dev nD) : FVec Ideal S16384x1024 .f32 := Host.dotGeneral (φ₂ := .f32) dot_S16384x1024_S1024x1024_S16384x1024_1_0_0_1_n_n none (mixH0 m c) (m ((c.tc : Thread nD τ).loc main_arg3))

theorem out86 (c : Dev nD) : (truncf .bf16 (rH m c) bitsLt_bf16_f32 : FVec Ideal S16384x1024 .bf16) = arrP (argX m c) (argS m c) (argM m c) 0 (argWr m c) := by
  funext i
  obtain ⟨r, k, rfl⟩ : ∃ (r : Fin 16384) (k : Fin 1024), i = ix2 r k := ⟨i 0, i 1, eq_ix2 i⟩
  pointwise [rH]
  simp only [mixH0_at]
  rfl

/-- The gated keys. -/
def gkH (c : Dev nD) : FVec Ideal S16384x1024 .f32 := mulf (keyH m c) (addf (broadcastInDim S16384x1024 ![] bcast_S_S16384x1024 (constant S_ .f32 0x3F800000#32)) (mulf (subf (gateH m c) (broadcastInDim S16384x1024 ![] bcast_S_S16384x1024 (constant S_ .f32 0x3F800000#32))) (broadcastInDim S16384x1024 ![0, 1] bcast_S1x1024_S16384x1024_0_1 (broadcastInDim S1x1024 ![1] bcast_S1024_S1x1024_1 (m ((c.tc : Thread nD τ).loc main_arg15))))))

theorem out87 (c : Dev nD) : (truncf .bf16 (gkH m c) bitsLt_bf16_f32 : FVec Ideal S16384x1024 .bf16) = arrK RwIn.sig (argX m c) (argS m c) (argM m c) (argWk m c) (argA0 m c) (argA1 m c) (argA2 m c) (argKa m c) := by
  funext i
  obtain ⟨r, k, rfl⟩ : ∃ (r : Fin 16384) (k : Fin 1024), i = ix2 r k := ⟨i 0, i 1, eq_ix2 i⟩
  pointwise [gkH]
  rw [keyH_at, gateH_at]
  rfl

/-- The third product. -/
def vH (c : Dev nD) : FVec Ideal S16384x1024 .f32 := Host.dotGeneral (φ₂ := .f32) dot_S16384x1024_S1024x1024_S16384x1024_1_0_0_1_n_n none (mixH3 m c) (m ((c.tc : Thread nD τ).loc main_arg5))

theorem out88 (c : Dev nD) : (truncf .bf16 (vH m c) bitsLt_bf16_f32 : FVec Ideal S16384x1024 .bf16) = arrP (argX m c) (argS m c) (argM m c) 3 (argWv m c) := by
  funext i
  obtain ⟨r, k, rfl⟩ : ∃ (r : Fin 16384) (k : Fin 1024), i = ix2 r k := ⟨i 0, i 1, eq_ix2 i⟩
  pointwise [vH]
  simp only [mixH3_at]
  rfl

/-- The unit keys. -/
def unH (c : Dev nD) : FVec Ideal S16384x1024 .f32 := shapeCast _ (Host.divf (shapeCast _ (ukH m c) shapeCasts_S16384x1024_S16384x16x64) (broadcastInDim S16384x16x64 ![0, 1, 2] bcast_S16384x16x1_S16384x16x64_0_1_2 (maximumf (Host.sqrt (broadcastInDim S16384x16x1 ![0, 1] bcast_S16384x16_S16384x16x1_0_1 (Host.reduceAdd (mulf (shapeCast _ (ukH m c) shapeCasts_S16384x1024_S16384x16x64) (shapeCast _ (ukH m c) shapeCasts_S16384x1024_S16384x16x64)) (constant S_ .f32 0x00000000#32) reducesTo_S16384x16x64_S16384x16_d2 h_S_))) (broadcastInDim S16384x16x1 ![] bcast_S_S16384x16x1 (constant S_ .f32 0x2B8CBCCC#32))))) shapeCasts_S16384x16x64_S16384x1024

theorem out89 (c : Dev nD) : (truncf .bf16 (unH m c) bitsLt_bf16_f32 : FVec Ideal S16384x1024 .bf16) = arrU (argX m c) (argS m c) (argM m c) (argWk m c) (argKk m c) := by
  funext i
  obtain ⟨r, k, rfl⟩ : ∃ (r : Fin 16384) (k : Fin 1024), i = ix2 r k := ⟨i 0, i 1, eq_ix2 i⟩
  pointwise [unH]
  simp only [ukH_at, keyH_at, tiny_at]
  have z : ∀ e : Fin 64, (⟨k.val / 64 * 64 + e.val, by omega⟩ : Fin 1024) = ⟨64 * (k.val / 64) + e.val, by omega⟩ := fun e => Fin.ext (by dsimp only; omega)
  simp only [z]
  rfl

theorem out90 (c : Dev nD) : (truncf .bf16 (gateH m c) bitsLt_bf16_f32 : FVec Ideal S16384x1024 .bf16) = arrA RwIn.sig (argX m c) (argS m c) (argM m c) (argA0 m c) (argA1 m c) (argA2 m c) := by
  funext i
  obtain ⟨r, k, rfl⟩ : ∃ (r : Fin 16384) (k : Fin 1024), i = ix2 r k := ⟨i 0, i 1, eq_ix2 i⟩
  pointwise
  exact gateH_at m c _ _

/-- The gate on the output. -/
def oH (c : Dev nD) : FVec Ideal S16384x1024 .f32 := Host.dotGeneral (φ₂ := .f32) dot_S16384x160_S160x1024_S16384x1024_1_0_0_1_n_n none (Host.divf (broadcastInDim S16384x160 ![] bcast_S_S16384x160 (constant S_ .f32 0x3F800000#32)) (addf (broadcastInDim S16384x160 ![] bcast_S_S16384x160 (constant S_ .f32 0x3F800000#32)) (Host.exp (Host.negf (Host.dotGeneral (φ₂ := .f32) dot_S16384x1024_S1024x160_S16384x160_1_0_0_1_n_n none (mixH5 m c) (m ((c.tc : Thread nD τ).loc main_arg12))))))) (m ((c.tc : Thread nD τ).loc main_arg13))

theorem out91 (c : Dev nD) : (truncf .bf16 (oH m c) bitsLt_bf16_f32 : FVec Ideal S16384x1024 .bf16) = arrG RwIn.sig (argX m c) (argS m c) (argM m c) (argG1 m c) (argG2 m c) := by
  funext i
  obtain ⟨r, k, rfl⟩ : ∃ (r : Fin 16384) (k : Fin 1024), i = ix2 r k := ⟨i 0, i 1, eq_ix2 i⟩
  pointwise [oH]
  simp only [mixH5_at]
  rfl

/-- The run, read: the results as functions of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v86) = arrP (argX m c) (argS m c) (argM m c) 0 (argWr m c)
      ∧ r.2.mem ((c : Thread nD τ).loc main_v87) = arrK RwIn.sig (argX m c) (argS m c) (argM m c) (argWk m c) (argA0 m c) (argA1 m c) (argA2 m c) (argKa m c)
      ∧ r.2.mem ((c : Thread nD τ).loc main_v88) = arrP (argX m c) (argS m c) (argM m c) 3 (argWv m c)
      ∧ r.2.mem ((c : Thread nD τ).loc main_v89) = arrU (argX m c) (argS m c) (argM m c) (argWk m c) (argKk m c)
      ∧ r.2.mem ((c : Thread nD τ).loc main_v90) = arrA RwIn.sig (argX m c) (argS m c) (argM m c) (argA0 m c) (argA1 m c) (argA2 m c)
      ∧ r.2.mem ((c : Thread nD τ).loc main_v91) = arrG RwIn.sig (argX m c) (argS m c) (argM m c) (argG1 m c) (argG2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun _ h c => by
    obtain ⟨h0, h1, h2, h3, h4, h5, hk⟩ := h c
    have s0 := out86 m c
    unfold rH mixH0 prevH catH rowsH at s0
    have s1 := out87 m c
    unfold gkH gateH keyH mixH2 mixH4 prevH catH rowsH at s1
    have s2 := out88 m c
    unfold vH mixH3 prevH catH rowsH at s2
    have s3 := out89 m c
    unfold unH ukH keyH mixH2 prevH catH rowsH at s3
    have s4 := out90 m c
    unfold gateH mixH4 prevH catH rowsH at s4
    have s5 := out91 m c
    unfold oH mixH5 prevH catH rowsH at s5
    unfold Value.res_main_v89 at h3
    exact ⟨h0.trans s0, h1.trans s1, h2.trans s2, h3.trans s3, h4.trans s4, h5.trans s5, hk⟩)
    (Value.run m ρ)

end Layer.RwInPlain
-- ==== Proof.lean ====
module

public import proofs.«01_k».proof.Defs
public import proofs.«01_k».proof.Proof.Gen.KernelIdeal.Value
public import proofs.«01_k».proof.Proof.Gen.ReferenceIdeal.Run
public import proofs.«01_k».proof.Proof.In0Kernel
public import proofs.«01_k».proof.Proof.In0Plain
public import proofs.«01_k».proof.Proof.SsdLoop
public import proofs.«01_k».proof.Proof.SsdEnd
public import proofs.«01_k».proof.Proof.MixEnd
public import proofs.«01_k».proof.Proof.RwInKernel
public import proofs.«01_k».proof.Proof.RwInPlain
public import proofs.«01_k».proof.Proof.Gen.In0Ideal.Value
public import proofs.«01_k».proof.Proof.Gen.In0RefIdeal.Run
public import proofs.«01_k».proof.Proof.Gen.In0RefIdeal.Read
public import proofs.«01_k».proof.Proof.Gen.Mix0Ideal.Value
public import proofs.«01_k».proof.Proof.Gen.Mix0RefIdeal.Run
public import proofs.«01_k».proof.Proof.Gen.Mix1Ideal.Value
public import proofs.«01_k».proof.Proof.Gen.Mix1RefIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.In0
public import proofs.«01_k».proof.Proof.Gen.In0.Skeleton
public import proofs.«01_k».proof.Proof.Gen.In0.Launch
public import proofs.«01_k».proof.Proof.Gen.In0.Points
public import proofs.«01_k».proof.Proof.Gen.In0.Frame
public import proofs.«01_k».proof.Proof.Gen.In0Ideal
public import proofs.«01_k».proof.Proof.Gen.In0Ideal.Skeleton
public import proofs.«01_k».proof.Proof.Gen.In0Ideal.Launch
public import proofs.«01_k».proof.Proof.Gen.In0Ideal.Points
public import proofs.«01_k».proof.Proof.Gen.In0Ideal.Frame
public import proofs.«01_k».proof.Proof.Gen.In0RefIdeal
public import proofs.«01_k».proof.Proof.Gen.Mix0
public import proofs.«01_k».proof.Proof.Gen.Mix0.Skeleton
public import proofs.«01_k».proof.Proof.Gen.Mix0.Launch
public import proofs.«01_k».proof.Proof.Gen.Mix0.Points
public import proofs.«01_k».proof.Proof.Gen.Mix0.Frame
public import proofs.«01_k».proof.Proof.Gen.Mix0Ideal
public import proofs.«01_k».proof.Proof.Gen.Mix0Ideal.Skeleton
public import proofs.«01_k».proof.Proof.Gen.Mix0Ideal.Launch
public import proofs.«01_k».proof.Proof.Gen.Mix0Ideal.Points
public import proofs.«01_k».proof.Proof.Gen.Mix0Ideal.Frame
public import proofs.«01_k».proof.Proof.Gen.Mix0RefIdeal
public import proofs.«01_k».proof.Proof.Gen.Mix1
public import proofs.«01_k».proof.Proof.Gen.Mix1.Skeleton
public import proofs.«01_k».proof.Proof.Gen.Mix1.Launch
public import proofs.«01_k».proof.Proof.Gen.Mix1.Points
public import proofs.«01_k».proof.Proof.Gen.Mix1.Frame
public import proofs.«01_k».proof.Proof.Gen.Mix1Ideal
public import proofs.«01_k».proof.Proof.Gen.Mix1Ideal.Skeleton
public import proofs.«01_k».proof.Proof.Gen.Mix1Ideal.Launch
public import proofs.«01_k».proof.Proof.Gen.Mix1Ideal.Points
public import proofs.«01_k».proof.Proof.Gen.Mix1Ideal.Frame
public import proofs.«01_k».proof.Proof.Gen.Mix1RefIdeal
public import Idealize.ShloMosaic.Adequacy
public import proofs.«01_k».proof.Proof.Gen.RwInIdeal.Value
public import proofs.«01_k».proof.Proof.Gen.RwInRefIdeal.Run
public import proofs.«01_k».proof.Proof.Gen.RwIn
public import proofs.«01_k».proof.Proof.Gen.RwIn.Skeleton
public import proofs.«01_k».proof.Proof.Gen.RwIn.Launch
public import proofs.«01_k».proof.Proof.Gen.RwIn.Points
public import proofs.«01_k».proof.Proof.Gen.RwIn.Frame
public import proofs.«01_k».proof.Proof.Gen.RwInIdeal
public import proofs.«01_k».proof.Proof.Gen.RwInIdeal.Skeleton
public import proofs.«01_k».proof.Proof.Gen.RwInIdeal.Launch
public import proofs.«01_k».proof.Proof.Gen.RwInIdeal.Points
public import proofs.«01_k».proof.Proof.Gen.RwInIdeal.Frame
public import proofs.«01_k».proof.Proof.Gen.RwInRefIdeal
public import Idealize.ShloMosaic.Init

@[expose] public section

noncomputable section

namespace Cert.Proof

open Idealize.ShloMosaic Idealize.SL.Sem Cert.Kernel

/-- The input projection: both programs leave the same five arrays. -/
theorem in0 : algebraic_In0Ideal_In0RefIdeal (hIn0Ideal := Cert.In0Ideal.Gen.facts) (hIn0RefIdeal := Cert.In0RefIdeal.Gen.facts) := by
  intro m ρ m' ρ' _ hag
  refine ⟨fun c => Layer.band (Layer.In0.argX m c) (Layer.In0.argG m c) (Layer.In0.argW m c) 0 1024 (by omega),
    fun c => Layer.band (Layer.In0.argX m c) (Layer.In0.argG m c) (Layer.In0.argW m c) 1024 1536 (by omega),
    fun c => Layer.band (Layer.In0.argX m c) (Layer.In0.argG m c) (Layer.In0.argW m c) 2560 1024 (by omega),
    fun c => Layer.band (Layer.In0.argX m c) (Layer.In0.argG m c) (Layer.In0.argW m c) 3600 1024 (by omega),
    fun c => Layer.narrow (Layer.In0.argX m c) (Layer.In0.argG m c) (Layer.In0.argW m c), Layer.In0.run m ρ,
    (θ_run _ _ _).mono (fun _ h c => ?_) (Layer.In0Plain.run m' ρ')⟩
  have e0 : Layer.In0Plain.argX m' c = Layer.In0.argX m c := (hag c).1
  have e1 : Layer.In0Plain.argG m' c = Layer.In0.argG m c := (hag c).2.1
  have e2 : Layer.In0Plain.argW m' c = Layer.In0.argW m c := (hag c).2.2
  have hc := h c
  rw [e0, e1, e2] at hc
  exact hc

/-- The entry of the second recurrence: both programs leave the same six arrays. -/
theorem rwin : algebraic_RwInIdeal_RwInRefIdeal (hRwInIdeal := Cert.RwInIdeal.Gen.facts) (hRwInRefIdeal := Cert.RwInRefIdeal.Gen.facts) := by
  intro m ρ m' ρ' _ hag
  refine ⟨fun c => Layer.RwIn.arrP (Layer.RwInKernel.argX m c) (Layer.RwInKernel.argS m c) (Layer.RwInKernel.argM m c) 0 (Layer.RwInKernel.argWr m c),
    fun c => Layer.RwIn.arrK Layer.RwIn.sig (Layer.RwInKernel.argX m c) (Layer.RwInKernel.argS m c) (Layer.RwInKernel.argM m c) (Layer.RwInKernel.argWk m c) (Layer.RwInKernel.argA0 m c) (Layer.RwInKernel.argA1 m c) (Layer.RwInKernel.argA2 m c) (Layer.RwInKernel.argKa m c),
    fun c => Layer.RwIn.arrP (Layer.RwInKernel.argX m c) (Layer.RwInKernel.argS m c) (Layer.RwInKernel.argM m c) 3 (Layer.RwInKernel.argWv m c),
    fun c => Layer.RwIn.arrU (Layer.RwInKernel.argX m c) (Layer.RwInKernel.argS m c) (Layer.RwInKernel.argM m c) (Layer.RwInKernel.argWk m c) (Layer.RwInKernel.argKk m c),
    fun c => Layer.RwIn.arrA Layer.RwIn.sig (Layer.RwInKernel.argX m c) (Layer.RwInKernel.argS m c) (Layer.RwInKernel.argM m c) (Layer.RwInKernel.argA0 m c) (Layer.RwInKernel.argA1 m c) (Layer.RwInKernel.argA2 m c),
    fun c => Layer.RwIn.arrG Layer.RwIn.sig (Layer.RwInKernel.argX m c) (Layer.RwInKernel.argS m c) (Layer.RwInKernel.argM m c) (Layer.RwInKernel.argG1 m c) (Layer.RwInKernel.argG2 m c),
    Layer.RwInKernel.run m ρ, (θ_run _ _ _).mono (fun _ h c => ?_) (Layer.RwInPlain.run m' ρ')⟩
  have eX : Layer.RwInPlain.argX m' c = Layer.RwInKernel.argX m c := (hag c).1
  have eS : Layer.RwInPlain.argS m' c = Layer.RwInKernel.argS m c := (hag c).2.1
  have eM : Layer.RwInPlain.argM m' c = Layer.RwInKernel.argM m c := (hag c).2.2.1
  have eWr : Layer.RwInPlain.argWr m' c = Layer.RwInKernel.argWr m c := (hag c).2.2.2.1
  have eWk : Layer.RwInPlain.argWk m' c = Layer.RwInKernel.argWk m c := (hag c).2.2.2.2.1
  have eWv : Layer.RwInPlain.argWv m' c = Layer.RwInKernel.argWv m c := (hag c).2.2.2.2.2.1
  have eA0 : Layer.RwInPlain.argA0 m' c = Layer.RwInKernel.argA0 m c := (hag c).2.2.2.2.2.2.2.2.2.1
  have eA1 : Layer.RwInPlain.argA1 m' c = Layer.RwInKernel.argA1 m c := (hag c).2.2.2.2.2.2.2.2.2.2.1
  have eA2 : Layer.RwInPlain.argA2 m' c = Layer.RwInKernel.argA2 m c := (hag c).2.2.2.2.2.2.2.2.2.2.2.1
  have eG1 : Layer.RwInPlain.argG1 m' c = Layer.RwInKernel.argG1 m c := (hag c).2.2.2.2.2.2.2.2.2.2.2.2.1
  have eG2 : Layer.RwInPlain.argG2 m' c = Layer.RwInKernel.argG2 m c := (hag c).2.2.2.2.2.2.2.2.2.2.2.2.2.1
  have eKk : Layer.RwInPlain.argKk m' c = Layer.RwInKernel.argKk m c := (hag c).2.2.2.2.2.2.2.2.2.2.2.2.2.2.1
  have eKa : Layer.RwInPlain.argKa m' c = Layer.RwInKernel.argKa m c := (hag c).2.2.2.2.2.2.2.2.2.2.2.2.2.2.2
  have hc := h c
  rw [eX, eS, eM, eWr, eWk, eWv, eA0, eA1, eA2, eG1, eG2, eKk, eKa] at hc
  exact hc

/-- The plain recurrence: its run leaves the arguments as they were; it declares no semaphore. -/
theorem frame_reference : quiescent_ReferenceIdeal (hReferenceIdeal := Cert.ReferenceIdeal.Gen.facts) := fun m ρ _ =>
  (θ_run _ _ _).mono (fun r h => ⟨fun c => by
    have k := fun b hs hb => (h c b hs).trans (Layer.SsdLoop.arg_kept m c b hb)
    exact ⟨k _ rfl (by simp), k _ rfl (by simp), k _ rfl (by simp), k _ rfl (by simp), k _ rfl (by simp), k _ rfl (by simp), k _ rfl (by simp),
      k _ rfl (by simp), k _ rfl (by simp), k _ rfl (by simp), k _ rfl (by simp), k _ rfl (by simp), k _ rfl (by simp)⟩,
    sem_eq_zero_of_no_sems (by decide) r.2⟩) (Cert.ReferenceIdeal.Value.run_fold m ρ)

/-- The plain input projection likewise. -/
theorem frame_in0 : quiescent_In0RefIdeal (hIn0RefIdeal := Cert.In0RefIdeal.Gen.facts) := fun m ρ _ =>
  (θ_run _ _ _).mono (fun r h => ⟨fun c => (h c).2.2.2.2.2, sem_eq_zero_of_no_sems (by decide) r.2⟩) (Layer.In0Plain.run m ρ)

/-- The plain mix 0 likewise. -/
theorem frame_mix0 : quiescent_Mix0RefIdeal (hMix0RefIdeal := Cert.Mix0RefIdeal.Gen.facts) := fun m ρ _ =>
  (θ_run _ _ _).mono (fun r h => ⟨fun c => (h c).2.2, sem_eq_zero_of_no_sems (by decide) r.2⟩) (Cert.Mix0RefIdeal.Value.run m ρ)

/-- The plain mix 1 likewise. -/
theorem frame_mix1 : quiescent_Mix1RefIdeal (hMix1RefIdeal := Cert.Mix1RefIdeal.Gen.facts) := fun m ρ _ =>
  (θ_run _ _ _).mono (fun r h => ⟨fun c => (h c).2, sem_eq_zero_of_no_sems (by decide) r.2⟩) (Cert.Mix1RefIdeal.Value.run m ρ)

/-- The plain entry of the second recurrence likewise. -/
theorem frame_rwin : quiescent_RwInRefIdeal (hRwInRefIdeal := Cert.RwInRefIdeal.Gen.facts) := fun m ρ _ =>
  (θ_run _ _ _).mono (fun r h => ⟨fun c => (h c).2.2.2.2.2.2, sem_eq_zero_of_no_sems (by decide) r.2⟩) (Layer.RwInPlain.run m ρ)

theorem claim : Cert.Claim := ⟨Cert.Kernel.Gen.facts, Cert.KernelIdeal.Gen.facts, Cert.ReferenceIdeal.Gen.facts, Cert.In0.Gen.facts, Cert.In0Ideal.Gen.facts, Cert.In0RefIdeal.Gen.facts,
  Cert.Mix0.Gen.facts, Cert.Mix0Ideal.Gen.facts, Cert.Mix0RefIdeal.Gen.facts, Cert.Mix1.Gen.facts, Cert.Mix1Ideal.Gen.facts, Cert.Mix1RefIdeal.Gen.facts,
  Cert.RwIn.Gen.facts, Cert.RwInIdeal.Gen.facts, Cert.RwInRefIdeal.Gen.facts,
  Layer.SsdPre.facts, Layer.MixEnd.facts0, Layer.MixEnd.facts1,
  fun m ρ _ => Cert.Kernel.Gen.frame m ρ, fun m ρ _ => Cert.KernelIdeal.Gen.frame m ρ, fun m ρ _ => Cert.KernelIdeal.Gen.frame m ρ, frame_reference, fun m ρ _ => frame_reference m ρ trivial,
  fun m ρ _ => Cert.In0.Gen.frame m ρ, fun m ρ _ => Cert.In0Ideal.Gen.frame m ρ, frame_in0,
  fun m ρ _ => Cert.Mix0.Gen.frame m ρ, fun m ρ _ => Cert.Mix0Ideal.Gen.frame m ρ, fun m ρ _ => Cert.Mix0Ideal.Gen.frame m ρ, frame_mix0, fun m ρ _ => frame_mix0 m ρ trivial,
  fun m ρ _ => Cert.Mix1.Gen.frame m ρ, fun m ρ _ => Cert.Mix1Ideal.Gen.frame m ρ, fun m ρ _ => Cert.Mix1Ideal.Gen.frame m ρ, frame_mix1, fun m ρ _ => frame_mix1 m ρ trivial,
  fun m ρ _ => Cert.RwIn.Gen.frame m ρ, fun m ρ _ => Cert.RwInIdeal.Gen.frame m ρ, frame_rwin,
  IdealRules.named_const.statement Cert.KernelIdeal.κ "mask" .f32 0xF149F2CA#32 ⊥ rfl, Layer.SsdEnd.ssd, trivial, in0, trivial, Layer.MixEnd.mix0, trivial, Layer.MixEnd.mix1,
  IdealRules.named_const.statement Cert.RwInIdeal.κ "tiny_sq" .f32 0x179ABE15#32 ((5316911940649 / 5316911983139663491615228241121378304 : ℝ) : EReal) rfl, rwin⟩

end Cert.Proof

end
